-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v33_6) = v1 c
          ∧ r.2.mem ((c.tc : Thread Cert.ReferenceIdeal.nD Cert.ReferenceIdeal.τ).loc Cert.ReferenceIdeal.main_v33_7) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13)) (v1 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_v16) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v46) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v10)) (v1 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_v12) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5)) (v1 : (c : Dev Cert.Kernel7Ideal.nD) → Buf (Elt Ideal) ((c.tc : Thread Cert.Kernel7Ideal.nD Cert.Kernel7Ideal.τ).loc Cert.Kernel7Ideal.main_v6)) (v2 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_v6) = v1 c
          ∧ r.2.mem ((c.tc : Thread Cert.Kernel7Ideal.nD Cert.Kernel7Ideal.τ).loc Cert.Kernel7Ideal.main_v7) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_v28) = v1 c
          ∧ r.2.mem ((c.tc : Thread Cert.Reference7Ideal.nD Cert.Reference7Ideal.τ).loc Cert.Reference7Ideal.main_v30) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S2x4096x6144 : Shape := ⟨3, ![2, 4096, 6144]⟩
abbrev S2x4096x128 : Shape := ⟨3, ![2, 4096, 128]⟩
abbrev S16 : Shape := ⟨1, ![16]⟩
abbrev S2048 : Shape := ⟨1, ![2048]⟩
abbrev S2x8x128x256 : Shape := ⟨4, ![2, 8, 128, 256]⟩
abbrev S2x8x128 : Shape := ⟨3, ![2, 8, 128]⟩
abbrev S2x8 : Shape := ⟨2, ![2, 8]⟩
abbrev S2x4096x16 : Shape := ⟨3, ![2, 4096, 16]⟩
abbrev S2x16x4096 : Shape := ⟨3, ![2, 16, 4096]⟩
abbrev S_ : Shape := ⟨0, ![]⟩
abbrev S1x128 : Shape := ⟨2, ![1, 128]⟩
abbrev S1 : Shape := ⟨1, ![1]⟩
abbrev S2 : Shape := ⟨1, ![2]⟩
abbrev S16x1 : Shape := ⟨2, ![16, 1]⟩
abbrev S1x2048 : Shape := ⟨2, ![1, 2048]⟩
abbrev S2x8x1 : Shape := ⟨3, ![2, 8, 1]⟩
abbrev S2x4096x2048 : Shape := ⟨3, ![2, 4096, 2048]⟩
abbrev S1x128x6144 : Shape := ⟨3, ![1, 128, 6144]⟩
abbrev S1x128x128 : Shape := ⟨3, ![1, 128, 128]⟩
abbrev S1x16x128 : Shape := ⟨3, ![1, 16, 128]⟩
abbrev S1x8x128x256 : Shape := ⟨4, ![1, 8, 128, 256]⟩
abbrev S1x8x128 : Shape := ⟨3, ![1, 8, 128]⟩
abbrev S1x8x1 : Shape := ⟨3, ![1, 8, 1]⟩
abbrev S1x128x2048 : Shape := ⟨3, ![1, 128, 2048]⟩
abbrev S128x128 : Shape := ⟨2, ![128, 128]⟩
abbrev S16x128 : Shape := ⟨2, ![16, 128]⟩
abbrev S128x1 : Shape := ⟨2, ![128, 1]⟩
abbrev S128 : Shape := ⟨1, ![128]⟩
abbrev S1x1x1 : Shape := ⟨3, ![1, 1, 1]⟩
abbrev S1x1 : Shape := ⟨2, ![1, 1]⟩
abbrev S1x128x256 : Shape := ⟨3, ![1, 128, 256]⟩
abbrev S128x256 : Shape := ⟨2, ![128, 256]⟩
abbrev S1x1x128x256 : Shape := ⟨4, ![1, 1, 128, 256]⟩
abbrev S1x1x128 : Shape := ⟨3, ![1, 1, 128]⟩
abbrev S1x256 : Shape := ⟨2, ![1, 256]⟩

abbrev nBuf : Space → Nat
  | .hbm => 24
  | .vmem => 23
  | .smem => 0
  | _ => 0

abbrev bufTy : (tb : Table) → Fin (tcTables nBuf tb) → BufTy
  | .hbm, ⟨0, _⟩ => ⟨S2x4096x6144, .f32⟩
  | .hbm, ⟨1, _⟩ => ⟨S2x4096x128, .f32⟩
  | .hbm, ⟨2, _⟩ => ⟨S16, .f32⟩
  | .hbm, ⟨3, _⟩ => ⟨S2048, .f32⟩
  | .hbm, ⟨4, _⟩ => ⟨S2x8x128x256, .f32⟩
  | .hbm, ⟨5, _⟩ => ⟨S2x8x128, .f32⟩
  | .hbm, ⟨6, _⟩ => ⟨S2x8, .f32⟩
  | .hbm, ⟨7, _⟩ => ⟨S2x4096x16, .f32⟩
  | .hbm, ⟨8, _⟩ => ⟨S2x16x4096, .f32⟩
  | .hbm, ⟨9, _⟩ => ⟨S_, .f32⟩
  | .hbm, ⟨10, _⟩ => ⟨S1x128, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S1x128, .f32⟩
  | .hbm, ⟨17, _⟩ => ⟨S16x1, .f32⟩
  | .hbm, ⟨18, _⟩ => ⟨S1x2048, .f32⟩
  | .hbm, ⟨19, _⟩ => ⟨S2x8x1, .f32⟩
  | .hbm, ⟨20, _⟩ => ⟨S2x4096x2048, .bf16⟩
  | .hbm, ⟨21, _⟩ => ⟨S2x8x128x256, .f32⟩
  | .hbm, ⟨22, _⟩ => ⟨S2x8x128, .f32⟩
  | .hbm, ⟨23, _⟩ => ⟨S2x8x1, .f32⟩
  | .local _ .vmem, ⟨0, _⟩ => ⟨S1x128x6144, .f32⟩
  | .local _ .vmem, ⟨1, _⟩ => ⟨S1x128x6144, .f32⟩
  | .local _ .vmem, ⟨2, _⟩ => ⟨S1x128x128, .f32⟩
  | .local _ .vmem, ⟨3, _⟩ => ⟨S1x128x128, .f32⟩
  | .local _ .vmem, ⟨4, _⟩ => ⟨S1x16x128, .f32⟩
  | .local _ .vmem, ⟨5, _⟩ => ⟨S1x16x128, .f32⟩
  | .local _ .vmem, ⟨6, _⟩ => ⟨S1x128, .f32⟩
  | .local _ .vmem, ⟨7, _⟩ => ⟨S16x1, .f32⟩
  | .local _ .vmem, ⟨8, _⟩ => ⟨S1x2048, .f32⟩
  | .local _ .vmem, ⟨9, _⟩ => ⟨S1x8x128x256, .f32⟩
  | .local _ .vmem, ⟨10, _⟩ => ⟨S1x8x128x256, .f32⟩
  | .local _ .vmem, ⟨11, _⟩ => ⟨S1x8x128, .f32⟩
  | .local _ .vmem, ⟨12, _⟩ => ⟨S1x8x128, .f32⟩
  | .local _ .vmem, ⟨13, _⟩ => ⟨S1x8x1, .f32⟩
  | .local _ .vmem, ⟨14, _⟩ => ⟨S1x8x1, .f32⟩
  | .local _ .vmem, ⟨15, _⟩ => ⟨S1x128x2048, .bf16⟩
  | .local _ .vmem, ⟨16, _⟩ => ⟨S1x128x2048, .bf16⟩
  | .local _ .vmem, ⟨17, _⟩ => ⟨S1x8x128x256, .f32⟩
  | .local _ .vmem, ⟨18, _⟩ => ⟨S1x8x128x256, .f32⟩
  | .local _ .vmem, ⟨19, _⟩ => ⟨S1x8x128, .f32⟩
  | .local _ .vmem, ⟨20, _⟩ => ⟨S1x8x128, .f32⟩
  | .local _ .vmem, ⟨21, _⟩ => ⟨S1x8x1, .f32⟩
  | .local _ .vmem, ⟨22, _⟩ => ⟨S1x8x1, .f32⟩
  | _, _ => ⟨S2x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S2x4096x6144 : Shape := ⟨3, ![2, 4096, 6144]⟩
abbrev S2x4096x128 : Shape := ⟨3, ![2, 4096, 128]⟩
abbrev S16 : Shape := ⟨1, ![16]⟩
abbrev S2048 : Shape := ⟨1, ![2048]⟩
abbrev S2x8x128x256 : Shape := ⟨4, ![2, 8, 128, 256]⟩
abbrev S2x8x128 : Shape := ⟨3, ![2, 8, 128]⟩
abbrev S2x8 : Shape := ⟨2, ![2, 8]⟩
abbrev S2x4096x1024 : Shape := ⟨3, ![2, 4096, 1024]⟩
abbrev S2x4096x8x128 : Shape := ⟨4, ![2, 4096, 8, 128]⟩
abbrev S2x8x4096x128 : Shape := ⟨4, ![2, 8, 4096, 128]⟩
abbrev S_ : Shape := ⟨0, ![]⟩
abbrev S2x4096x2048 : Shape := ⟨3, ![2, 4096, 2048]⟩
abbrev S2x4096x8x256 : Shape := ⟨4, ![2, 4096, 8, 256]⟩
abbrev S2x8x4096x256 : Shape := ⟨4, ![2, 8, 4096, 256]⟩
abbrev S2x4096x16 : Shape := ⟨3, ![2, 4096, 16]⟩
abbrev S1x1x16 : Shape := ⟨3, ![1, 1, 16]⟩
abbrev S2x4096x8 : Shape := ⟨3, ![2, 4096, 8]⟩
abbrev S2x8x4096 : Shape := ⟨3, ![2, 8, 4096]⟩
abbrev S2x8x32x128x128 : Shape := ⟨5, ![2, 8, 32, 128, 128]⟩
abbrev S32x2x8x128x128 : Shape := ⟨5, ![32, 2, 8, 128, 128]⟩
abbrev S2x8x32x128x256 : Shape := ⟨5, ![2, 8, 32, 128, 256]⟩
abbrev S32x2x8x128x256 : Shape := ⟨5, ![32, 2, 8, 128, 256]⟩
abbrev S2x8x32x128 : Shape := ⟨4, ![2, 8, 32, 128]⟩
abbrev S32x2x8x128 : Shape := ⟨4, ![32, 2, 8, 128]⟩
abbrev S1x2x8x128x128 : Shape := ⟨5, ![1, 2, 8, 128, 128]⟩
abbrev S2x8x128x128 : Shape := ⟨4, ![2, 8, 128, 128]⟩
abbrev S1x2x8x128x256 : Shape := ⟨5, ![1, 2, 8, 128, 256]⟩
abbrev S1x2x8x128 : Shape := ⟨4, ![1, 2, 8, 128]⟩
abbrev S128x128 : Shape := ⟨2, ![128, 128]⟩
abbrev S2x8x128x1 : Shape := ⟨4, ![2, 8, 128, 1]⟩
abbrev S2x8x1x128 : Shape := ⟨4, ![2, 8, 1, 128]⟩
abbrev S2x8x1 : Shape := ⟨3, ![2, 8, 1]⟩
abbrev S2x8x1x1 : Shape := ⟨4, ![2, 8, 1, 1]⟩
abbrev S2x4096x8x1 : Shape := ⟨4, ![2, 4096, 8, 1]⟩
abbrev S1x1x2048 : Shape := ⟨3, ![1, 1, 2048]⟩

abbrev nBuf : Space → Nat
  | .hbm => 227
  | .vmem => 0
  | .smem => 0
  | _ => 0

abbrev hbmTy0_0 (i : Nat) : BufTy := match i % 128 with
  | 0 => ⟨S2x4096x6144, .f32⟩
  | 1 => ⟨S2x4096x128, .f32⟩
  | 2 => ⟨S16, .f32⟩
  | 3 => ⟨S2048, .f32⟩
  | 4 => ⟨S2x8x128x256, .f32⟩
  | 5 => ⟨S2x8x128, .f32⟩
  | 6 => ⟨S2x8, .f32⟩
  | 7 => ⟨S2x4096x1024, .f32⟩
  | 8 => ⟨S2x4096x8x128, .f32⟩
  | 9 => ⟨S2x8x4096x128, .f32⟩
  | 10 => ⟨S_, .f32⟩
  | 11 => ⟨S2x8x4096x128, .f32⟩
  | 12 => ⟨S2x8x4096x128, .f32⟩
  | 13 => ⟨S2x4096x1024, .f32⟩
  | 14 => ⟨S2x4096x8x128, .f32⟩
  | 15 => ⟨S2x8x4096x128, .f32⟩
  | 16 => ⟨S2x4096x2048, .f32⟩
  | 17 => ⟨S2x4096x8x256, .f32⟩
  | 18 => ⟨S2x8x4096x256, .f32⟩
  | 19 => ⟨S2x4096x16, .f32⟩
  | 20 => ⟨S1x1x16, .f32⟩
  | 21 => ⟨S2x4096x16, .f32⟩
  | 22 => ⟨S2x4096x16, .f32⟩
  | 23 => ⟨S2x4096x8, .f32⟩
  | 24 => ⟨S2x8x4096, .f32⟩
  | 25 => ⟨S2x4096x8, .f32⟩
  | 26 => ⟨S2x4096x8, .f32⟩
  | 27 => ⟨S_, .f32⟩
  | 28 => ⟨S2x4096x8, .f32⟩
  | 29 => ⟨S2x4096x8, .f32⟩
  | 30 => ⟨S2x4096x8, .f32⟩
  | 31 => ⟨S2x4096x8, .f32⟩
  | 32 => ⟨S2x4096x8, .i1⟩
  | 33 => ⟨S2x4096x8, .f32⟩
  | 34 => ⟨S2x4096x8, .f32⟩
  | 35 => ⟨S2x4096x8, .f32⟩
  | 36 => ⟨S2x4096x8, .f32⟩
  | 37 => ⟨S2x4096x8, .f32⟩
  | 38 => ⟨S2x4096x8, .f32⟩
  | 39 => ⟨S2x4096x8, .f32⟩
  | 40 => ⟨S2x4096x8, .f32⟩
  | 41 => ⟨S2x8x4096, .f32⟩
  | 42 => ⟨S2x8x4096, .f32⟩
  | 43 => ⟨S2x8x32x128x128, .f32⟩
  | 44 => ⟨S32x2x8x128x128, .f32⟩
  | 45 => ⟨S2x8x32x128x128, .f32⟩
  | 46 => ⟨S32x2x8x128x128, .f32⟩
  | 47 => ⟨S2x8x32x128x256, .f32⟩
  | 48 => ⟨S32x2x8x128x256, .f32⟩
  | 49 => ⟨S2x8x32x128, .f32⟩
  | 50 => ⟨S32x2x8x128, .f32⟩
  | 51 => ⟨S2x8x32x128, .f32⟩
  | 52 => ⟨S32x2x8x128, .f32⟩
  | 53 => ⟨S_, .f32⟩
  | 54 => ⟨S32x2x8x128x256, .f32⟩
  | 55 => ⟨S_, .i32⟩
  | 56 => ⟨S32x2x8x128x128, .f32⟩
  | 57 => ⟨S32x2x8x128x128, .f32⟩
  | 58 => ⟨S32x2x8x128x256, .f32⟩
  | 59 => ⟨S32x2x8x128, .f32⟩
  | 60 => ⟨S32x2x8x128, .f32⟩
  | 61 => ⟨S_, .i32⟩
  | 62 => ⟨S2x8x128x256, .f32⟩
  | 63 => ⟨S2x8x128, .f32⟩
  | 64 => ⟨S2x8, .f32⟩
  | 65 => ⟨S32x2x8x128x256, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S1x2x8x128x128, .f32⟩
  | 73 => ⟨S2x8x128x128, .f32⟩
  | 74 => ⟨S_, .i32⟩
  | 75 => ⟨S_, .i32⟩
  | 76 => ⟨S_, .i32⟩
  | 77 => ⟨S_, .i32⟩
  | 78 => ⟨S1x2x8x128x128, .f32⟩
  | 79 => ⟨S2x8x128x128, .f32⟩
  | 80 => ⟨S_, .i32⟩
  | 81 => ⟨S_, .i32⟩
  | 82 => ⟨S_, .i32⟩
  | 83 => ⟨S_, .i32⟩
  | 84 => ⟨S1x2x8x128x256, .f32⟩
  | 85 => ⟨S2x8x128x256, .f32⟩
  | 86 => ⟨S_, .i32⟩
  | 87 => ⟨S_, .i32⟩
  | 88 => ⟨S_, .i32⟩
  | 89 => ⟨S1x2x8x128, .f32⟩
  | 90 => ⟨S2x8x128, .f32⟩
  | 91 => ⟨S_, .i32⟩
  | 92 => ⟨S_, .i32⟩
  | 93 => ⟨S_, .i32⟩
  | 94 => ⟨S1x2x8x128, .f32⟩
  | 95 => ⟨S2x8x128, .f32⟩
  | 96 => ⟨S_, .f32⟩
  | 97 => ⟨S_, .f32⟩
  | 98 => ⟨S2x8x128, .f32⟩
  | 99 => ⟨S_, .i1⟩
  | 100 => ⟨S128x128, .i1⟩
  | 101 => ⟨S128x128, .i32⟩
  | 102 => ⟨S_, .i32⟩
  | 103 => ⟨S128x128, .i32⟩
  | 104 => ⟨S128x128, .i32⟩
  | 105 => ⟨S128x128, .i32⟩
  | 106 => ⟨S128x128, .i1⟩
  | 107 => ⟨S_, .i1⟩
  | 108 => ⟨S128x128, .i1⟩
  | 109 => ⟨S128x128, .i1⟩
  | 110 => ⟨S2x8x128x1, .f32⟩
  | 111 => ⟨S2x8x1x128, .f32⟩
  | 112 => ⟨S2x8x128x128, .f32⟩
  | 113 => ⟨S2x8x128x128, .f32⟩
  | 114 => ⟨S2x8x128x128, .f32⟩
  | 115 => ⟨S2x8x1x128, .f32⟩
  | 116 => ⟨S2x8x128x128, .f32⟩
  | 117 => ⟨S2x8x128x128, .f32⟩
  | 118 => ⟨S_, .f32⟩
  | 119 => ⟨S_, .f32⟩
  | 120 => ⟨S2x8x128x128, .i1⟩
  | 121 => ⟨S2x8x128x128, .f32⟩
  | 122 => ⟨S2x8x128x128, .f32⟩
  | 123 => ⟨S2x8x1, .f32⟩
  | 124 => ⟨S2x8x128, .f32⟩
  | 125 => ⟨S2x8x128, .f32⟩
  | 126 => ⟨S_, .f32⟩
  | 127 => ⟨S2x8x128, .f32⟩
  | _ => ⟨S2x4096x6144, .f32⟩

abbrev hbmTy0_1 (i : Nat) : BufTy := match i % 128 with
  | 0 => ⟨S2x8x128, .f32⟩
  | 1 => ⟨S2x8x128x1, .f32⟩
  | 2 => ⟨S2x8x128x128, .f32⟩
  | 3 => ⟨S2x8x128x128, .f32⟩
  | 4 => ⟨S2x8x128x128, .f32⟩
  | 5 => ⟨S2x8x1, .f32⟩
  | 6 => ⟨S2x8x128, .f32⟩
  | 7 => ⟨S2x8x128, .f32⟩
  | 8 => ⟨S2x8x128, .f32⟩
  | 9 => ⟨S2x8x128, .f32⟩
  | 10 => ⟨S2x8x128x128, .f32⟩
  | 11 => ⟨S2x8x128x128, .f32⟩
  | 12 => ⟨S2x8x128x1, .f32⟩
  | 13 => ⟨S2x8x128x256, .f32⟩
  | 14 => ⟨S2x8x128x256, .f32⟩
  | 15 => ⟨S2x8x128x256, .f32⟩
  | 16 => ⟨S2x8x128x256, .f32⟩
  | 17 => ⟨S2x8x128x256, .f32⟩
  | 18 => ⟨S2x8x128, .f32⟩
  | 19 => ⟨S2x8x128, .f32⟩
  | 20 => ⟨S_, .f32⟩
  | 21 => ⟨S2x8x128, .f32⟩
  | 22 => ⟨S2x8x128, .f32⟩
  | 23 => ⟨S2x8x128, .f32⟩
  | 24 => ⟨S2x8x128, .f32⟩
  | 25 => ⟨S2x8x128, .f32⟩
  | 26 => ⟨S2x8x128, .f32⟩
  | 27 => ⟨S2x8x128x1, .f32⟩
  | 28 => ⟨S2x8x128x256, .f32⟩
  | 29 => ⟨S2x8x128x256, .f32⟩
  | 30 => ⟨S2x8x1, .f32⟩
  | 31 => ⟨S2x8, .f32⟩
  | 32 => ⟨S2x8x1, .f32⟩
  | 33 => ⟨S2x8x128, .f32⟩
  | 34 => ⟨S2x8x128, .f32⟩
  | 35 => ⟨S2x8x128, .f32⟩
  | 36 => ⟨S2x8x1, .f32⟩
  | 37 => ⟨S2x8x128, .f32⟩
  | 38 => ⟨S2x8x128, .f32⟩
  | 39 => ⟨S2x8x128, .f32⟩
  | 40 => ⟨S2x8x1, .f32⟩
  | 41 => ⟨S2x8, .f32⟩
  | 42 => ⟨S2x8, .f32⟩
  | 43 => ⟨S2x8, .f32⟩
  | 44 => ⟨S2x8, .f32⟩
  | 45 => ⟨S2x8x128x1, .f32⟩
  | 46 => ⟨S2x8x128x128, .f32⟩
  | 47 => ⟨S2x8x128x128, .f32⟩
  | 48 => ⟨S2x8x1x1, .f32⟩
  | 49 => ⟨S2x8x128x256, .f32⟩
  | 50 => ⟨S2x8x128x256, .f32⟩
  | 51 => ⟨S2x8x128x256, .f32⟩
  | 52 => ⟨S2x8x128x256, .f32⟩
  | 53 => ⟨S2x8x1, .f32⟩
  | 54 => ⟨S2x8x128, .f32⟩
  | 55 => ⟨S2x8x128, .f32⟩
  | 56 => ⟨S_, .f32⟩
  | 57 => ⟨S2x8x128, .f32⟩
  | 58 => ⟨S2x8x128, .f32⟩
  | 59 => ⟨S1x2x8x128x256, .f32⟩
  | 60 => ⟨S_, .i32⟩
  | 61 => ⟨S_, .i32⟩
  | 62 => ⟨S_, .i32⟩
  | 63 => ⟨S_, .i32⟩
  | 64 => ⟨S32x2x8x128x256, .f32⟩
  | 65 => ⟨S_, .i32⟩
  | 66 => ⟨S_, .i32⟩
  | 67 => ⟨S2x8x32x128x256, .f32⟩
  | 68 => ⟨S2x8x4096x256, .f32⟩
  | 69 => ⟨S2x4096x8x256, .f32⟩
  | 70 => ⟨S2x4096x8x256, .f32⟩
  | 71 => ⟨S_, .f32⟩
  | 72 => ⟨S2x4096x8, .f32⟩
  | 73 => ⟨S2x4096x8x1, .f32⟩
  | 74 => ⟨S_, .f32⟩
  | 75 => ⟨S2x4096x8x1, .f32⟩
  | 76 => ⟨S2x4096x8x1, .f32⟩
  | 77 => ⟨S_, .f32⟩
  | 78 => ⟨S2x4096x8x1, .f32⟩
  | 79 => ⟨S2x4096x8x1, .f32⟩
  | 80 => ⟨S2x4096x8x1, .f32⟩
  | 81 => ⟨S2x4096x8x256, .f32⟩
  | 82 => ⟨S2x4096x8x256, .f32⟩
  | 83 => ⟨S2x4096x2048, .f32⟩
  | 84 => ⟨S2x4096x2048, .f32⟩
  | 85 => ⟨S2x4096x2048, .f32⟩
  | 86 => ⟨S_, .f32⟩
  | 87 => ⟨S2x4096x2048, .f32⟩
  | 88 => ⟨S2x4096x2048, .f32⟩
  | 89 => ⟨S_, .f32⟩
  | 90 => ⟨S2x4096x2048, .f32⟩
  | 91 => ⟨S2x4096x2048, .f32⟩
  | 92 => ⟨S2x4096x2048, .f32⟩
  | 93 => ⟨S1x1x2048, .f32⟩
  | 94 => ⟨S2x4096x2048, .f32⟩
  | 95 => ⟨S2x4096x2048, .f32⟩
  | 96 => ⟨S2x4096x2048, .f32⟩
  | 97 => ⟨S2x4096x2048, .bf16⟩
  | 98 => ⟨S2x8x1, .f32⟩
  | _ => ⟨S2x4096x6144, .f32⟩

abbrev hbmTy (i : Nat) : BufTy := match i / 128 with
  | 0 => hbmTy0_0 i
  | 1 => hbmTy0_1 i
  | _ => ⟨S2x4096x6144, .f32⟩

abbrev bufTy : (tb : Table) → Fin (tcTables nBuf tb) → BufTy
  | .hbm, ⟨i, _⟩ => hbmTy i
  | _, _ => ⟨S2x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_0 : Ref sig .tc := ⟨.hbm, 53, rfl⟩
abbrev main_v32 : Ref sig .tc := ⟨.hbm, 54, rfl⟩
abbrev main_c : Ref sig .tc := ⟨.hbm, 55, rfl⟩
abbrev main_v33_0 : Ref sig .tc := ⟨.hbm, 56, rfl⟩
abbrev main_v33_1 : Ref sig .tc := ⟨.hbm, 57, rfl⟩
abbrev main_v33_2 : Ref sig .tc := ⟨.hbm, 58, rfl⟩
abbrev main_v33_3 : Ref sig .tc := ⟨.hbm, 59, rfl⟩
abbrev main_v33_4 : Ref sig .tc := ⟨.hbm, 60, rfl⟩
abbrev main_v33_5 : Ref sig .tc := ⟨.hbm, 61, rfl⟩
abbrev main_v33_6 : Ref sig .tc := ⟨.hbm, 62, rfl⟩
abbrev main_v33_7 : Ref sig .tc := ⟨.hbm, 63, rfl⟩
abbrev main_v33_8 : Ref sig .tc := ⟨.hbm, 64, rfl⟩
abbrev main_v33_9 : Ref sig .tc := ⟨.hbm, 65, rfl⟩
abbrev main_while0c_c_15 : Ref sig .tc := ⟨.hbm, 66, rfl⟩
abbrev main_while0c_v61 : Ref sig .tc := ⟨.hbm, 67, rfl⟩
abbrev main_while0b_call1_c : Ref sig .tc := ⟨.hbm, 68, rfl⟩
abbrev main_while0b_call1_c_0 : Ref sig .tc := ⟨.hbm, 69, rfl⟩
abbrev main_while0b_call1_c_1 : Ref sig .tc := ⟨.hbm, 70, rfl⟩
abbrev main_while0b_call1_c_2 : Ref sig .tc := ⟨.hbm, 71, rfl⟩
abbrev main_while0b_call1_v0 : Ref sig .tc := ⟨.hbm, 72, rfl⟩
abbrev main_while0b_v61 : Ref sig .tc := ⟨.hbm, 73, rfl⟩
abbrev main_while0b_call2_c : Ref sig .tc := ⟨.hbm, 74, rfl⟩
abbrev main_while0b_call2_c_0 : Ref sig .tc := ⟨.hbm, 75, rfl⟩
abbrev main_while0b_call2_c_1 : Ref sig .tc := ⟨.hbm, 76, rfl⟩
abbrev main_while0b_call2_c_2 : Ref sig .tc := ⟨.hbm, 77, rfl⟩
abbrev main_while0b_call2_v0 : Ref sig .tc := ⟨.hbm, 78, rfl⟩
abbrev main_while0b_v62 : Ref sig .tc := ⟨.hbm, 79, rfl⟩
abbrev main_while0b_call3_c : Ref sig .tc := ⟨.hbm, 80, rfl⟩
abbrev main_while0b_call3_c_0 : Ref sig .tc := ⟨.hbm, 81, rfl⟩
abbrev main_while0b_call3_c_1 : Ref sig .tc := ⟨.hbm, 82, rfl⟩
abbrev main_while0b_call3_c_2 : Ref sig .tc := ⟨.hbm, 83, rfl⟩
abbrev main_while0b_call3_v0 : Ref sig .tc := ⟨.hbm, 84, rfl⟩
abbrev main_while0b_v63 : Ref sig .tc := ⟨.hbm, 85, rfl⟩
abbrev main_while0b_call4_c : Ref sig .tc := ⟨.hbm, 86, rfl⟩
abbrev main_while0b_call4_c_0 : Ref sig .tc := ⟨.hbm, 87, rfl⟩
abbrev main_while0b_call4_c_1 : Ref sig .tc := ⟨.hbm, 88, rfl⟩
abbrev main_while0b_call4_v0 : Ref sig .tc := ⟨.hbm, 89, rfl⟩
abbrev main_while0b_v64 : Ref sig .tc := ⟨.hbm, 90, rfl⟩
abbrev main_while0b_call5_c : Ref sig .tc := ⟨.hbm, 91, rfl⟩
abbrev main_while0b_call5_c_0 : Ref sig .tc := ⟨.hbm, 92, rfl⟩
abbrev main_while0b_call5_c_1 : Ref sig .tc := ⟨.hbm, 93, rfl⟩
abbrev main_while0b_call5_v0 : Ref sig .tc := ⟨.hbm, 94, rfl⟩
abbrev main_while0b_v65 : Ref sig .tc := ⟨.hbm, 95, rfl⟩
abbrev main_while0b_call6_call0_cst : Ref sig .tc := ⟨.hbm, 96, rfl⟩
abbrev main_while0b_call6_call0_v0 : Ref sig .tc := ⟨.hbm, 97, rfl⟩
abbrev main_while0b_v66 : Ref sig .tc := ⟨.hbm, 98, rfl⟩
abbrev main_while0b_c_15 : Ref sig .tc := ⟨.hbm, 99, rfl⟩
abbrev main_while0b_v67 : Ref sig .tc := ⟨.hbm, 100, rfl⟩
abbrev main_while0b_call7_v0 : Ref sig .tc := ⟨.hbm, 101, rfl⟩
abbrev main_while0b_call7_c : Ref sig .tc := ⟨.hbm, 102, rfl⟩
abbrev main_while0b_call7_v1 : Ref sig .tc := ⟨.hbm, 103, rfl⟩
abbrev main_while0b_call7_v2 : Ref sig .tc := ⟨.hbm, 104, rfl⟩
abbrev main_while0b_call7_v3 : Ref sig .tc := ⟨.hbm, 105, rfl⟩
abbrev main_while0b_call7_v4 : Ref sig .tc := ⟨.hbm, 106, rfl⟩
abbrev main_while0b_call7_c_0 : Ref sig .tc := ⟨.hbm, 107, rfl⟩
abbrev main_while0b_call7_v5 : Ref sig .tc := ⟨.hbm, 108, rfl⟩
abbrev main_while0b_v68 : Ref sig .tc := ⟨.hbm, 109, rfl⟩
abbrev main_while0b_v69 : Ref sig .tc := ⟨.hbm, 110, rfl⟩
abbrev main_while0b_v70 : Ref sig .tc := ⟨.hbm, 111, rfl⟩
abbrev main_while0b_v71 : Ref sig .tc := ⟨.hbm, 112, rfl⟩
abbrev main_while0b_v72 : Ref sig .tc := ⟨.hbm, 113, rfl⟩
abbrev main_while0b_v73 : Ref sig .tc := ⟨.hbm, 114, rfl⟩
abbrev main_while0b_v74 : Ref sig .tc := ⟨.hbm, 115, rfl⟩
abbrev main_while0b_v75 : Ref sig .tc := ⟨.hbm, 116, rfl⟩
abbrev main_while0b_v76 : Ref sig .tc := ⟨.hbm, 117, rfl⟩
abbrev main_while0b_cst_16 : Ref sig .tc := ⟨.hbm, 118, rfl⟩
abbrev main_while0b_call8_v0 : Ref sig .tc := ⟨.hbm, 119, rfl⟩
abbrev main_while0b_call8_v1 : Ref sig .tc := ⟨.hbm, 120, rfl⟩
abbrev main_while0b_call8_v2 : Ref sig .tc := ⟨.hbm, 121, rfl⟩
abbrev main_while0b_v77 : Ref sig .tc := ⟨.hbm, 122, rfl⟩
abbrev main_while0b_v78 : Ref sig .tc := ⟨.hbm, 123, rfl⟩
abbrev main_while0b_v79 : Ref sig .tc := ⟨.hbm, 124, rfl⟩
abbrev main_while0b_v80 : Ref sig .tc := ⟨.hbm, 125, rfl⟩
abbrev main_while0b_cst_17 : Ref sig .tc := ⟨.hbm, 126, rfl⟩
abbrev main_while0b_v81 : Ref sig .tc := ⟨.hbm, 127, rfl⟩
abbrev main_while0b_v82 : Ref sig .tc := ⟨.hbm, 128, rfl⟩
abbrev main_while0b_v83 : Ref sig .tc := ⟨.hbm, 129, rfl⟩
abbrev main_while0b_v84 : Ref sig .tc := ⟨.hbm, 130, rfl⟩
abbrev main_while0b_v85 : Ref sig .tc := ⟨.hbm, 131, rfl⟩
abbrev main_while0b_v86 : Ref sig .tc := ⟨.hbm, 132, rfl⟩
abbrev main_while0b_v87 : Ref sig .tc := ⟨.hbm, 133, rfl⟩
abbrev main_while0b_v88 : Ref sig .tc := ⟨.hbm, 134, rfl⟩
abbrev main_while0b_v89 : Ref sig .tc := ⟨.hbm, 135, rfl⟩
abbrev main_while0b_v90 : Ref sig .tc := ⟨.hbm, 136, rfl⟩
abbrev main_while0b_v91 : Ref sig .tc := ⟨.hbm, 137, rfl⟩
abbrev main_while0b_v92 : Ref sig .tc := ⟨.hbm, 138, rfl⟩
abbrev main_while0b_v93 : Ref sig .tc := ⟨.hbm, 139, rfl⟩
abbrev main_while0b_v94 : Ref sig .tc := ⟨.hbm, 140, rfl⟩
abbrev main_while0b_v95 : Ref sig .tc := ⟨.hbm, 141, rfl⟩
abbrev main_while0b_v96 : Ref sig .tc := ⟨.hbm, 142, rfl⟩
abbrev main_while0b_v97 : Ref sig .tc := ⟨.hbm, 143, rfl⟩
abbrev main_while0b_v98 : Ref sig .tc := ⟨.hbm, 144, rfl⟩
abbrev main_while0b_v99 : Ref sig .tc := ⟨.hbm, 145, rfl⟩
abbrev main_while0b_v100 : Ref sig .tc := ⟨.hbm, 146, rfl⟩
abbrev main_while0b_v101 : Ref sig .tc := ⟨.hbm, 147, rfl⟩
abbrev main_while0b_cst_18 : Ref sig .tc := ⟨.hbm, 148, rfl⟩
abbrev main_while0b_v102 : Ref sig .tc := ⟨.hbm, 149, rfl⟩
abbrev main_while0b_v103 : Ref sig .tc := ⟨.hbm, 150, rfl⟩
abbrev main_while0b_v104 : Ref sig .tc := ⟨.hbm, 151, rfl⟩
abbrev main_while0b_v105 : Ref sig .tc := ⟨.hbm, 152, rfl⟩
abbrev main_while0b_v106 : Ref sig .tc := ⟨.hbm, 153, rfl⟩
abbrev main_while0b_v107 : Ref sig .tc := ⟨.hbm, 154, rfl⟩
abbrev main_while0b_v108 : Ref sig .tc := ⟨.hbm, 155, rfl⟩
abbrev main_while0b_v109 : Ref sig .tc := ⟨.hbm, 156, rfl⟩
abbrev main_while0b_v110 : Ref sig .tc := ⟨.hbm, 157, rfl⟩
abbrev main_while0b_v111 : Ref sig .tc := ⟨.hbm, 158, rfl⟩
abbrev main_while0b_v112 : Ref sig .tc := ⟨.hbm, 159, rfl⟩
abbrev main_while0b_v113 : Ref sig .tc := ⟨.hbm, 160, rfl⟩
abbrev main_while0b_v114 : Ref sig .tc := ⟨.hbm, 161, rfl⟩
abbrev main_while0b_v115 : Ref sig .tc := ⟨.hbm, 162, rfl⟩
abbrev main_while0b_v116 : Ref sig .tc := ⟨.hbm, 163, rfl⟩
abbrev main_while0b_v117 : Ref sig .tc := ⟨.hbm, 164, rfl⟩
abbrev main_while0b_v118 : Ref sig .tc := ⟨.hbm, 165, rfl⟩
abbrev main_while0b_v119 : Ref sig .tc := ⟨.hbm, 166, rfl⟩
abbrev main_while0b_v120 : Ref sig .tc := ⟨.hbm, 167, rfl⟩
abbrev main_while0b_v121 : Ref sig .tc := ⟨.hbm, 168, rfl⟩
abbrev main_while0b_v122 : Ref sig .tc := ⟨.hbm, 169, rfl⟩
abbrev main_while0b_v123 : Ref sig .tc := ⟨.hbm, 170, rfl⟩
abbrev main_while0b_v124 : Ref sig .tc := ⟨.hbm, 171, rfl⟩
abbrev main_while0b_v125 : Ref sig .tc := ⟨.hbm, 172, rfl⟩
abbrev main_while0b_v126 : Ref sig .tc := ⟨.hbm, 173, rfl⟩
abbrev main_while0b_v127 : Ref sig .tc := ⟨.hbm, 174, rfl⟩
abbrev main_while0b_v128 : Ref sig .tc := ⟨.hbm, 175, rfl⟩
abbrev main_while0b_v129 : Ref sig .tc := ⟨.hbm, 176, rfl⟩
abbrev main_while0b_v130 : Ref sig .tc := ⟨.hbm, 177, rfl⟩
abbrev main_while0b_v131 : Ref sig .tc := ⟨.hbm, 178, rfl⟩
abbrev main_while0b_v132 : Ref sig .tc := ⟨.hbm, 179, rfl⟩
abbrev main_while0b_v133 : Ref sig .tc := ⟨.hbm, 180, rfl⟩
abbrev main_while0b_v134 : Ref sig .tc := ⟨.hbm, 181, rfl⟩
abbrev main_while0b_v135 : Ref sig .tc := ⟨.hbm, 182, rfl⟩
abbrev main_while0b_v136 : Ref sig .tc := ⟨.hbm, 183, rfl⟩
abbrev main_while0b_cst_19 : Ref sig .tc := ⟨.hbm, 184, rfl⟩
abbrev main_while0b_v137 : Ref sig .tc := ⟨.hbm, 185, rfl⟩
abbrev main_while0b_v138 : Ref sig .tc := ⟨.hbm, 186, rfl⟩
abbrev main_while0b_call9_v0 : Ref sig .tc := ⟨.hbm, 187, rfl⟩
abbrev main_while0b_call9_c : Ref sig .tc := ⟨.hbm, 188, rfl⟩
abbrev main_while0b_call9_c_0 : Ref sig .tc := ⟨.hbm, 189, rfl⟩
abbrev main_while0b_call9_c_1 : Ref sig .tc := ⟨.hbm, 190, rfl⟩
abbrev main_while0b_call9_c_2 : Ref sig .tc := ⟨.hbm, 191, rfl⟩
abbrev main_while0b_v139 : Ref sig .tc := ⟨.hbm, 192, rfl⟩
abbrev main_while0b_c_20 : Ref sig .tc := ⟨.hbm, 193, rfl⟩
abbrev main_while0b_v140 : Ref sig .tc := ⟨.hbm, 194, rfl⟩
abbrev main_v34 : Ref sig .tc := ⟨.hbm, 195, rfl⟩
abbrev main_v35 : Ref sig .tc := ⟨.hbm, 196, rfl⟩
abbrev main_v36 : Ref sig .tc := ⟨.hbm, 197, rfl⟩
abbrev main_v37 : Ref sig .tc := ⟨.hbm, 198, rfl⟩
abbrev main_cst_1 : Ref sig .tc := ⟨.hbm, 199, rfl⟩
abbrev main_v38 : Ref sig .tc := ⟨.hbm, 200, rfl⟩
abbrev main_v39 : Ref sig .tc := ⟨.hbm, 201, rfl⟩
abbrev main_cst_2 : Ref sig .tc := ⟨.hbm, 202, rfl⟩
abbrev main_v40 : Ref sig .tc := ⟨.hbm, 203, rfl⟩
abbrev main_v41 : Ref sig .tc := ⟨.hbm, 204, rfl⟩
abbrev main_cst_3 : Ref sig .tc := ⟨.hbm, 205, rfl⟩
abbrev main_v42 : Ref sig .tc := ⟨.hbm, 206, rfl⟩
abbrev main_v43 : Ref sig .tc := ⟨.hbm, 207, rfl⟩
abbrev main_v44 : Ref sig .tc := ⟨.hbm, 208, rfl⟩
abbrev main_v45 : Ref sig .tc := ⟨.hbm, 209, rfl⟩
abbrev main_v46 : Ref sig .tc := ⟨.hbm, 210, rfl⟩
abbrev main_v47 : Ref sig .tc := ⟨.hbm, 211, rfl⟩
abbrev main_v48 : Ref sig .tc := ⟨.hbm, 212, rfl⟩
abbrev main_v49 : Ref sig .tc := ⟨.hbm, 213, rfl⟩
abbrev main_cst_4 : Ref sig .tc := ⟨.hbm, 214, rfl⟩
abbrev main_v50 : Ref sig .tc := ⟨.hbm, 215, rfl⟩
abbrev main_v51 : Ref sig .tc := ⟨.hbm, 216, rfl⟩
abbrev main_cst_5 : Ref sig .tc := ⟨.hbm, 217, rfl⟩
abbrev main_v52 : Ref sig .tc := ⟨.hbm, 218, rfl⟩
abbrev main_v53 : Ref sig .tc := ⟨.hbm, 219, rfl⟩
abbrev main_v54 : Ref sig .tc := ⟨.hbm, 220, rfl⟩
abbrev main_v55 : Ref sig .tc := ⟨.hbm, 221, rfl⟩
abbrev main_v56 : Ref sig .tc := ⟨.hbm, 222, rfl⟩
abbrev main_v57 : Ref sig .tc := ⟨.hbm, 223, rfl⟩
abbrev main_v58 : Ref sig .tc := ⟨.hbm, 224, rfl⟩
abbrev main_v59 : Ref sig .tc := ⟨.hbm, 225, rfl⟩
abbrev main_v60 : Ref sig .tc := ⟨.hbm, 226, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S2x4096x2048 : Shape := ⟨3, ![2, 4096, 2048]⟩
abbrev S2048 : Shape := ⟨1, ![2048]⟩
abbrev S2048x11008 : Shape := ⟨2, ![2048, 11008]⟩
abbrev S3x5504 : Shape := ⟨2, ![3, 5504]⟩
abbrev S5504 : Shape := ⟨1, ![5504]⟩
abbrev S8192x2048 : Shape := ⟨2, ![8192, 2048]⟩
abbrev S2048x5504 : Shape := ⟨2, ![2048, 5504]⟩
abbrev S_ : Shape := ⟨0, ![]⟩
abbrev S2048x5632 : Shape := ⟨2, ![2048, 5632]⟩
abbrev S3x5632 : Shape := ⟨2, ![3, 5632]⟩
abbrev S5632 : Shape := ⟨1, ![5632]⟩
abbrev S1x2048 : Shape := ⟨2, ![1, 2048]⟩
abbrev S1x5632 : Shape := ⟨2, ![1, 5632]⟩
abbrev S8192x5632 : Shape := ⟨2, ![8192, 5632]⟩
abbrev S8x8x5632 : Shape := ⟨3, ![8, 8, 5632]⟩
abbrev S1024x2048 : Shape := ⟨2, ![1024, 2048]⟩
abbrev S8x2048 : Shape := ⟨2, ![8, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S1x8x512 : Shape := ⟨3, ![1, 8, 512]⟩
abbrev S1024 : Shape := ⟨1, ![1024]⟩
abbrev S1024x1 : Shape := ⟨2, ![1024, 1]⟩
abbrev S8 : Shape := ⟨1, ![8]⟩
abbrev S8x1 : Shape := ⟨2, ![8, 1]⟩
abbrev S2048x256 : Shape := ⟨2, ![2048, 256]⟩
abbrev S1024x256 : Shape := ⟨2, ![1024, 256]⟩
abbrev S8x256 : Shape := ⟨2, ![8, 256]⟩
abbrev S1x256 : Shape := ⟨2, ![1, 256]⟩
abbrev S1016x256 : Shape := ⟨2, ![1016, 256]⟩
abbrev S1x8x256 : Shape := ⟨3, ![1, 8, 256]⟩
abbrev S2x4096x5632 : Shape := ⟨3, ![2, 4096, 5632]⟩
abbrev S2x4096x5504 : Shape := ⟨3, ![2, 4096, 5504]⟩
abbrev S2x4x8x5632 : Shape := ⟨4, ![2, 4, 8, 5632]⟩
abbrev S2x1x2x5504 : Shape := ⟨4, ![2, 1, 2, 5504]⟩
abbrev S2x2x5504 : Shape := ⟨3, ![2, 2, 5504]⟩

abbrev nBuf : Space → Nat
  | .hbm => 31
  | .vmem => 19
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x11008, .f32⟩
  | .hbm, ⟨3, _⟩ => ⟨S3x5504, .f32⟩
  | .hbm, ⟨4, _⟩ => ⟨S5504, .f32⟩
  | .hbm, ⟨5, _⟩ => ⟨S8192x2048, .f32⟩
  | .hbm, ⟨6, _⟩ => ⟨S2048x5504, .f32⟩
  | .hbm, ⟨7, _⟩ => ⟨S2048x5504, .bf16⟩
  | .hbm, ⟨8, _⟩ => ⟨S_, .i32⟩
  | .hbm, ⟨9, _⟩ => ⟨S_, .bf16⟩
  | .hbm, ⟨10, _⟩ => ⟨S2048x5632, .bf16⟩
  | .hbm, ⟨11, _⟩ => ⟨S2048x5504, .f32⟩
  | .hbm, ⟨12, _⟩ => ⟨S2048x5504, .bf16⟩
  | .hbm, ⟨13, _⟩ => ⟨S_, .i32⟩
  | .hbm, ⟨14, _⟩ => ⟨S_, .bf16⟩
  | .hbm, ⟨15, _⟩ => ⟨S2048x5632, .bf16⟩
  | .hbm, ⟨16, _⟩ => ⟨S_, .i32⟩
  | .hbm, ⟨17, _⟩ => ⟨S_, .f32⟩
  | .hbm, ⟨18, _⟩ => ⟨S3x5632, .f32⟩
  | .hbm, ⟨19, _⟩ => ⟨S_, .i32⟩
  | .hbm, ⟨20, _⟩ => ⟨S_, .f32⟩
  | .hbm, ⟨21, _⟩ => ⟨S5632, .f32⟩
  | .hbm, ⟨22, _⟩ => ⟨S1x2048, .f32⟩
  | .hbm, ⟨23, _⟩ => ⟨S1x5632, .f32⟩
  | .hbm, ⟨24, _⟩ => ⟨S8192x5632, .bf16⟩
  | .hbm, ⟨25, _⟩ => ⟨S8x8x5632, .f32⟩
  | .hbm, ⟨26, _⟩ => ⟨S2x4096x5632, .bf16⟩
  | .hbm, ⟨27, _⟩ => ⟨S2x4096x5504, .bf16⟩
  | .hbm, ⟨28, _⟩ => ⟨S2x4x8x5632, .f32⟩
  | .hbm, ⟨29, _⟩ => ⟨S2x1x2x5504, .f32⟩
  | .hbm, ⟨30, _⟩ => ⟨S2x2x5504, .f32⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S1024x512, .bf16⟩
  | .local _ .vmem, ⟨14, _⟩ => ⟨S1024x512, .bf16⟩
  | .local _ .vmem, ⟨15, _⟩ => ⟨S1x8x512, .f32⟩
  | .local _ .vmem, ⟨16, _⟩ => ⟨S1x8x512, .f32⟩
  | .local _ .vmem, ⟨17, _⟩ => ⟨S1024x2048, .bf16⟩
  | .local _ .vmem, ⟨18, _⟩ => ⟨S8x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_c_2 : Ref sig .tc := ⟨.hbm, 19, rfl⟩
abbrev main_call3_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S2x4096x2048 : Shape := ⟨3, ![2, 4096, 2048]⟩
abbrev S2048 : Shape := ⟨1, ![2048]⟩
abbrev S2048x11008 : Shape := ⟨2, ![2048, 11008]⟩
abbrev S3x5504 : Shape := ⟨2, ![3, 5504]⟩
abbrev S5504 : Shape := ⟨1, ![5504]⟩
abbrev S_ : Shape := ⟨0, ![]⟩
abbrev S2x2x5504 : Shape := ⟨3, ![2, 2, 5504]⟩
abbrev S2x4096 : Shape := ⟨2, ![2, 4096]⟩
abbrev S2x4096x1 : Shape := ⟨3, ![2, 4096, 1]⟩
abbrev S1x1x2048 : Shape := ⟨3, ![1, 1, 2048]⟩
abbrev S2x4096x11008 : Shape := ⟨3, ![2, 4096, 11008]⟩
abbrev S2x4096x5504 : Shape := ⟨3, ![2, 4096, 5504]⟩
abbrev S2x4098x5504 : Shape := ⟨3, ![2, 4098, 5504]⟩
abbrev S1x5504 : Shape := ⟨2, ![1, 5504]⟩
abbrev S1x1x5504 : Shape := ⟨3, ![1, 1, 5504]⟩

abbrev nBuf : Space → Nat
  | .hbm => 65
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x11008, .f32⟩
  | .hbm, ⟨3, _⟩ => ⟨S3x5504, .f32⟩
  | .hbm, ⟨4, _⟩ => ⟨S5504, .f32⟩
  | .hbm, ⟨5, _⟩ => ⟨S_, .f32⟩
  | .hbm, ⟨6, _⟩ => ⟨S2x2x5504, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2x4096x11008, .f32⟩
  | .hbm, ⟨24, _⟩ => ⟨S2x4096x5504, .f32⟩
  | .hbm, ⟨25, _⟩ => ⟨S2x4096x5504, .f32⟩
  | .hbm, ⟨26, _⟩ => ⟨S2x4098x5504, .f32⟩
  | .hbm, ⟨27, _⟩ => ⟨S2x4096x5504, .f32⟩
  | .hbm, ⟨28, _⟩ => ⟨S1x5504, .f32⟩
  | .hbm, ⟨29, _⟩ => ⟨S5504, .f32⟩
  | .hbm, ⟨30, _⟩ => ⟨S1x1x5504, .f32⟩
  | .hbm, ⟨31, _⟩ => ⟨S2x4096x5504, .f32⟩
  | .hbm, ⟨32, _⟩ => ⟨S2x4096x5504, .f32⟩
  | .hbm, ⟨33, _⟩ => ⟨S_, .f32⟩
  | .hbm, ⟨34, _⟩ => ⟨S2x4096x5504, .f32⟩
  | .hbm, ⟨35, _⟩ => ⟨S2x4096x5504, .f32⟩
  | .hbm, ⟨36, _⟩ => ⟨S2x4096x5504, .f32⟩
  | .hbm, ⟨37, _⟩ => ⟨S1x5504, .f32⟩
  | .hbm, ⟨38, _⟩ => ⟨S5504, .f32⟩
  | .hbm, ⟨39, _⟩ => ⟨S1x1x5504, .f32⟩
  | .hbm, ⟨40, _⟩ => ⟨S2x4096x5504, .f32⟩
  | .hbm, ⟨41, _⟩ => ⟨S2x4096x5504, .f32⟩
  | .hbm, ⟨42, _⟩ => ⟨S2x4096x5504, .f32⟩
  | .hbm, ⟨43, _⟩ => ⟨S2x4096x5504, .f32⟩
  | .hbm, ⟨44, _⟩ => ⟨S1x5504, .f32⟩
  | .hbm, ⟨45, _⟩ => ⟨S5504, .f32⟩
  | .hbm, ⟨46, _⟩ => ⟨S1x1x5504, .f32⟩
  | .hbm, ⟨47, _⟩ => ⟨S2x4096x5504, .f32⟩
  | .hbm, ⟨48, _⟩ => ⟨S2x4096x5504, .f32⟩
  | .hbm, ⟨49, _⟩ => ⟨S2x4096x5504, .f32⟩
  | .hbm, ⟨50, _⟩ => ⟨S1x1x5504, .f32⟩
  | .hbm, ⟨51, _⟩ => ⟨S2x4096x5504, .f32⟩
  | .hbm, ⟨52, _⟩ => ⟨S2x4096x5504, .f32⟩
  | .hbm, ⟨53, _⟩ => ⟨S2x4096x5504, .f32⟩
  | .hbm, ⟨54, _⟩ => ⟨S2x4096x5504, .f32⟩
  | .hbm, ⟨55, _⟩ => ⟨S_, .f32⟩
  | .hbm, ⟨56, _⟩ => ⟨S2x4096x5504, .f32⟩
  | .hbm, ⟨57, _⟩ => ⟨S2x4096x5504, .f32⟩
  | .hbm, ⟨58, _⟩ => ⟨S_, .f32⟩
  | .hbm, ⟨59, _⟩ => ⟨S2x4096x5504, .f32⟩
  | .hbm, ⟨60, _⟩ => ⟨S2x4096x5504, .f32⟩
  | .hbm, ⟨61, _⟩ => ⟨S2x4096x5504, .f32⟩
  | .hbm, ⟨62, _⟩ => ⟨S2x4096x5504, .f32⟩
  | .hbm, ⟨63, _⟩ => ⟨S2x4096x5504, .bf16⟩
  | .hbm, ⟨64, _⟩ => ⟨S2x2x5504, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Kernel3.lean ====
abbrev S8192x5632 : Shape := ⟨2, ![8192, 5632]⟩
abbrev S5504x2048 : Shape := ⟨2, ![5504, 2048]⟩
abbrev S2x4096x2048 : Shape := ⟨3, ![2, 4096, 2048]⟩
abbrev S_ : Shape := ⟨0, ![]⟩
abbrev S5632x2048 : Shape := ⟨2, ![5632, 2048]⟩
abbrev S8192x2048 : Shape := ⟨2, ![8192, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 10
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5504x2048, .f32⟩
  | .hbm, ⟨2, _⟩ => ⟨S2x4096x2048, .f32⟩
  | .hbm, ⟨3, _⟩ => ⟨S5504x2048, .bf16⟩
  | .hbm, ⟨4, _⟩ => ⟨S_, .i32⟩
  | .hbm, ⟨5, _⟩ => ⟨S_, .bf16⟩
  | .hbm, ⟨6, _⟩ => ⟨S5632x2048, .bf16⟩
  | .hbm, ⟨7, _⟩ => ⟨S8192x2048, .f32⟩
  | .hbm, ⟨8, _⟩ => ⟨S8192x2048, .f32⟩
  | .hbm, ⟨9, _⟩ => ⟨S2x4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x5632 : Shape := ⟨2, ![8192, 5632]⟩
abbrev S5504x2048 : Shape := ⟨2, ![5504, 2048]⟩
abbrev S2x4096x2048 : Shape := ⟨3, ![2, 4096, 2048]⟩
abbrev S2x4096x5632 : Shape := ⟨3, ![2, 4096, 5632]⟩
abbrev S2x4096x5504 : Shape := ⟨3, ![2, 4096, 5504]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5504x2048, .f32⟩
  | .hbm, ⟨2, _⟩ => ⟨S2x4096x2048, .f32⟩
  | .hbm, ⟨3, _⟩ => ⟨S2x4096x5632, .bf16⟩
  | .hbm, ⟨4, _⟩ => ⟨S2x4096x5504, .bf16⟩
  | .hbm, ⟨5, _⟩ => ⟨S2x4096x5504, .f32⟩
  | .hbm, ⟨6, _⟩ => ⟨S2x4096x2048, .f32⟩
  | .hbm, ⟨7, _⟩ => ⟨S2x4096x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S2x4096x2048 : Shape := ⟨3, ![2, 4096, 2048]⟩
abbrev S2048 : Shape := ⟨1, ![2048]⟩
abbrev S2048x6160 : Shape := ⟨2, ![2048, 6160]⟩
abbrev S8192x2048 : Shape := ⟨2, ![8192, 2048]⟩
abbrev S2048x6144 : Shape := ⟨2, ![2048, 6144]⟩
abbrev S_ : Shape := ⟨0, ![]⟩
abbrev S2048x128 : Shape := ⟨2, ![2048, 128]⟩
abbrev S2048x16 : Shape := ⟨2, ![2048, 16]⟩
abbrev S1 : Shape := ⟨1, ![1]⟩
abbrev S1x2048 : Shape := ⟨2, ![1, 2048]⟩
abbrev S8192x6144 : Shape := ⟨2, ![8192, 6144]⟩
abbrev S8192x128 : Shape := ⟨2, ![8192, 128]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S2x4096x6144 : Shape := ⟨3, ![2, 4096, 6144]⟩
abbrev S2x4096x128 : Shape := ⟨3, ![2, 4096, 128]⟩
abbrev S2x4096x16 : Shape := ⟨3, ![2, 4096, 16]⟩

abbrev nBuf : Space → Nat
  | .hbm => 19
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x6160, .f32⟩
  | .hbm, ⟨3, _⟩ => ⟨S8192x2048, .f32⟩
  | .hbm, ⟨4, _⟩ => ⟨S2048x6144, .f32⟩
  | .hbm, ⟨5, _⟩ => ⟨S2048x6144, .bf16⟩
  | .hbm, ⟨6, _⟩ => ⟨S_, .bf16⟩
  | .hbm, ⟨7, _⟩ => ⟨S2048x128, .bf16⟩
  | .hbm, ⟨8, _⟩ => ⟨S2048x16, .f32⟩
  | .hbm, ⟨9, _⟩ => ⟨S2048x16, .bf16⟩
  | .hbm, ⟨10, _⟩ => ⟨S_, .i32⟩
  | .hbm, ⟨11, _⟩ => ⟨S1, .i32⟩
  | .hbm, ⟨12, _⟩ => ⟨S2048x128, .bf16⟩
  | .hbm, ⟨13, _⟩ => ⟨S1x2048, .f32⟩
  | .hbm, ⟨14, _⟩ => ⟨S8192x6144, .f32⟩
  | .hbm, ⟨15, _⟩ => ⟨S8192x128, .f32⟩
  | .hbm, ⟨16, _⟩ => ⟨S2x4096x6144, .f32⟩
  | .hbm, ⟨17, _⟩ => ⟨S2x4096x128, .f32⟩
  | .hbm, ⟨18, _⟩ => ⟨S2x4096x16, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1024x1024, .f32⟩
  | .local _ .vmem, ⟨7, _⟩ => ⟨S1024x1024, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S2x4096x2048 : Shape := ⟨3, ![2, 4096, 2048]⟩
abbrev S2048 : Shape := ⟨1, ![2048]⟩
abbrev S2048x6160 : Shape := ⟨2, ![2048, 6160]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x6160 : Shape := ⟨3, ![2, 4096, 6160]⟩
abbrev S2x4096x6144 : Shape := ⟨3, ![2, 4096, 6144]⟩
abbrev S2x4096x16 : Shape := ⟨3, ![2, 4096, 16]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x6160, .f32⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S2x4096x6160, .f32⟩
  | .hbm, ⟨20, _⟩ => ⟨S2x4096x6144, .f32⟩
  | .hbm, ⟨21, _⟩ => ⟨S2x4096x16, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S2x4096x2048 : Shape := ⟨3, ![2, 4096, 2048]⟩
abbrev S2048x2048 : Shape := ⟨2, ![2048, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x4096x2048, .bf16⟩
  | .hbm, ⟨1, _⟩ => ⟨S2048x2048, .f32⟩
  | .hbm, ⟨2, _⟩ => ⟨S2x4096x2048, .f32⟩
  | .hbm, ⟨3, _⟩ => ⟨S2048x2048, .bf16⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S2x4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2x4096x2048 : Shape := ⟨3, ![2, 4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x2048, .f32⟩
  | .hbm, ⟨2, _⟩ => ⟨S2x4096x2048, .f32⟩
  | .hbm, ⟨3, _⟩ => ⟨S2x4096x2048, .f32⟩
  | .hbm, ⟨4, _⟩ => ⟨S2x4096x2048, .f32⟩
  | .hbm, ⟨5, _⟩ => ⟨S2x4096x2048, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S2x4096x2048 : Shape := ⟨3, ![2, 4096, 2048]⟩
abbrev S2048 : Shape := ⟨1, ![2048]⟩
abbrev S2048x2048 : Shape := ⟨2, ![2048, 2048]⟩
abbrev S128 : Shape := ⟨1, ![128]⟩
abbrev S8192x2048 : Shape := ⟨2, ![8192, 2048]⟩
abbrev S1x2048 : Shape := ⟨2, ![1, 2048]⟩
abbrev S1x128 : Shape := ⟨2, ![1, 128]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S1024x128 : Shape := ⟨2, ![1024, 128]⟩

abbrev nBuf : Space → Nat
  | .hbm => 10
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x2048, .f32⟩
  | .hbm, ⟨3, _⟩ => ⟨S128, .f32⟩
  | .hbm, ⟨4, _⟩ => ⟨S2048x2048, .bf16⟩
  | .hbm, ⟨5, _⟩ => ⟨S8192x2048, .f32⟩
  | .hbm, ⟨6, _⟩ => ⟨S1x2048, .f32⟩
  | .hbm, ⟨7, _⟩ => ⟨S1x128, .f32⟩
  | .hbm, ⟨8, _⟩ => ⟨S8192x2048, .f32⟩
  | .hbm, ⟨9, _⟩ => ⟨S2x4096x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x128, .f32⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S2x4096x2048 : Shape := ⟨3, ![2, 4096, 2048]⟩
abbrev S2048 : Shape := ⟨1, ![2048]⟩
abbrev S2048x2048 : Shape := ⟨2, ![2048, 2048]⟩
abbrev S128 : Shape := ⟨1, ![128]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x16x128 : Shape := ⟨4, ![2, 4096, 16, 128]⟩
abbrev S2x4096x16 : Shape := ⟨3, ![2, 4096, 16]⟩
abbrev S2x4096x16x1 : Shape := ⟨4, ![2, 4096, 16, 1]⟩
abbrev S1x1x1x128 : Shape := ⟨4, ![1, 1, 1, 128]⟩

abbrev nBuf : Space → Nat
  | .hbm => 42
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x2048, .f32⟩
  | .hbm, ⟨3, _⟩ => ⟨S128, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2x4096x2048, .f32⟩
  | .hbm, ⟨21, _⟩ => ⟨S2x4096x16x128, .f32⟩
  | .hbm, ⟨22, _⟩ => ⟨S2x4096x16x128, .f32⟩
  | .hbm, ⟨23, _⟩ => ⟨S_, .f32⟩
  | .hbm, ⟨24, _⟩ => ⟨S2x4096x16, .f32⟩
  | .hbm, ⟨25, _⟩ => ⟨S2x4096x16x1, .f32⟩
  | .hbm, ⟨26, _⟩ => ⟨S_, .f32⟩
  | .hbm, ⟨27, _⟩ => ⟨S2x4096x16x1, .f32⟩
  | .hbm, ⟨28, _⟩ => ⟨S2x4096x16x1, .f32⟩
  | .hbm, ⟨29, _⟩ => ⟨S_, .f32⟩
  | .hbm, ⟨30, _⟩ => ⟨S2x4096x16x1, .f32⟩
  | .hbm, ⟨31, _⟩ => ⟨S2x4096x16x1, .f32⟩
  | .hbm, ⟨32, _⟩ => ⟨S2x4096x16x1, .f32⟩
  | .hbm, ⟨33, _⟩ => ⟨S2x4096x16x128, .f32⟩
  | .hbm, ⟨34, _⟩ => ⟨S2x4096x16x128, .f32⟩
  | .hbm, ⟨35, _⟩ => ⟨S1x1x1x128, .f32⟩
  | .hbm, ⟨36, _⟩ => ⟨S2x4096x16x128, .f32⟩
  | .hbm, ⟨37, _⟩ => ⟨S2x4096x16x128, .f32⟩
  | .hbm, ⟨38, _⟩ => ⟨S_, .f32⟩
  | .hbm, ⟨39, _⟩ => ⟨S2x4096x16x128, .f32⟩
  | .hbm, ⟨40, _⟩ => ⟨S2x4096x16x128, .f32⟩
  | .hbm, ⟨41, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel7.lean ====
abbrev S2x4096x2048 : Shape := ⟨3, ![2, 4096, 2048]⟩
abbrev S2048 : Shape := ⟨1, ![2048]⟩
abbrev S2048x4096 : Shape := ⟨2, ![2048, 4096]⟩
abbrev S128 : Shape := ⟨1, ![128]⟩
abbrev S8192x2048 : Shape := ⟨2, ![8192, 2048]⟩
abbrev S1x2048 : Shape := ⟨2, ![1, 2048]⟩
abbrev S1x128 : Shape := ⟨2, ![1, 128]⟩
abbrev S8192x4096 : Shape := ⟨2, ![8192, 4096]⟩
abbrev S8192x16x128 : Shape := ⟨3, ![8192, 16, 128]⟩
abbrev S512x2048 : Shape := ⟨2, ![512, 2048]⟩
abbrev S2048x1024 : Shape := ⟨2, ![2048, 1024]⟩
abbrev S512x1024 : Shape := ⟨2, ![512, 1024]⟩
abbrev S512x8x128 : Shape := ⟨3, ![512, 8, 128]⟩
abbrev S512 : Shape := ⟨1, ![512]⟩
abbrev S512x1 : Shape := ⟨2, ![512, 1]⟩
abbrev S512x128 : Shape := ⟨2, ![512, 128]⟩
abbrev S512x1x128 : Shape := ⟨3, ![512, 1, 128]⟩
abbrev S2x4096x4096 : Shape := ⟨3, ![2, 4096, 4096]⟩
abbrev S2x4096x16x128 : Shape := ⟨4, ![2, 4096, 16, 128]⟩

abbrev nBuf : Space → Nat
  | .hbm => 14
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x4096, .f32⟩
  | .hbm, ⟨3, _⟩ => ⟨S128, .f32⟩
  | .hbm, ⟨4, _⟩ => ⟨S2048x4096, .bf16⟩
  | .hbm, ⟨5, _⟩ => ⟨S8192x2048, .f32⟩
  | .hbm, ⟨6, _⟩ => ⟨S1x2048, .f32⟩
  | .hbm, ⟨7, _⟩ => ⟨S1x128, .f32⟩
  | .hbm, ⟨8, _⟩ => ⟨S8192x4096, .f32⟩
  | .hbm, ⟨9, _⟩ => ⟨S8192x16x128, .f32⟩
  | .hbm, ⟨10, _⟩ => ⟨S8192x16x128, .f32⟩
  | .hbm, ⟨11, _⟩ => ⟨S2x4096x4096, .f32⟩
  | .hbm, ⟨12, _⟩ => ⟨S2x4096x16x128, .f32⟩
  | .hbm, ⟨13, _⟩ => ⟨S2x4096x16x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S512x8x128, .f32⟩
  | .local _ .vmem, ⟨9, _⟩ => ⟨S512x8x128, .f32⟩
  | .local _ .vmem, ⟨10, _⟩ => ⟨S512x8x128, .f32⟩
  | .local _ .vmem, ⟨11, _⟩ => ⟨S512x8x128, .f32⟩
  | .local _ .vmem, ⟨12, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32_5 : BitVec 32 := 2#32
  let v10 : BitVec 1 := Scalar.cmpi .sge arg1 c2_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S2x4096x2048 : Shape := ⟨3, ![2, 4096, 2048]⟩
abbrev S2048 : Shape := ⟨1, ![2048]⟩
abbrev S2048x4096 : Shape := ⟨2, ![2048, 4096]⟩
abbrev S128 : Shape := ⟨1, ![128]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x4096 : Shape := ⟨3, ![2, 4096, 4096]⟩
abbrev S2x4096x16x128 : Shape := ⟨4, ![2, 4096, 16, 128]⟩
abbrev S2x4096x16 : Shape := ⟨3, ![2, 4096, 16]⟩
abbrev S2x4096x16x1 : Shape := ⟨4, ![2, 4096, 16, 1]⟩
abbrev S1x1x1x128 : Shape := ⟨4, ![1, 1, 1, 128]⟩

abbrev nBuf : Space → Nat
  | .hbm => 44
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x4096, .f32⟩
  | .hbm, ⟨3, _⟩ => ⟨S128, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2x4096x4096, .f32⟩
  | .hbm, ⟨21, _⟩ => ⟨S2x4096x2048, .f32⟩
  | .hbm, ⟨22, _⟩ => ⟨S2x4096x16x128, .f32⟩
  | .hbm, ⟨23, _⟩ => ⟨S2x4096x16x128, .f32⟩
  | .hbm, ⟨24, _⟩ => ⟨S_, .f32⟩
  | .hbm, ⟨25, _⟩ => ⟨S2x4096x16, .f32⟩
  | .hbm, ⟨26, _⟩ => ⟨S2x4096x16x1, .f32⟩
  | .hbm, ⟨27, _⟩ => ⟨S_, .f32⟩
  | .hbm, ⟨28, _⟩ => ⟨S2x4096x16x1, .f32⟩
  | .hbm, ⟨29, _⟩ => ⟨S2x4096x16x1, .f32⟩
  | .hbm, ⟨30, _⟩ => ⟨S_, .f32⟩
  | .hbm, ⟨31, _⟩ => ⟨S2x4096x16x1, .f32⟩
  | .hbm, ⟨32, _⟩ => ⟨S2x4096x16x1, .f32⟩
  | .hbm, ⟨33, _⟩ => ⟨S2x4096x16x1, .f32⟩
  | .hbm, ⟨34, _⟩ => ⟨S2x4096x16x128, .f32⟩
  | .hbm, ⟨35, _⟩ => ⟨S2x4096x16x128, .f32⟩
  | .hbm, ⟨36, _⟩ => ⟨S1x1x1x128, .f32⟩
  | .hbm, ⟨37, _⟩ => ⟨S2x4096x16x128, .f32⟩
  | .hbm, ⟨38, _⟩ => ⟨S2x4096x16x128, .f32⟩
  | .hbm, ⟨39, _⟩ => ⟨S2x4096x2048, .f32⟩
  | .hbm, ⟨40, _⟩ => ⟨S2x4096x16x128, .f32⟩
  | .hbm, ⟨41, _⟩ => ⟨S2x4096x2048, .f32⟩
  | .hbm, ⟨42, _⟩ => ⟨S2x4096x2048, .f32⟩
  | .hbm, ⟨43, _⟩ => ⟨S2x4096x4096, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Proof.RefRun.lean ====
/-
  The reference's run over the step of its loop (Gen/ReferenceIdeal/Run.lean, Step.lean): a memory that holds a state
  holds, after one trip, the state one `step` on, one lemma per value of the trip; before the loop it holds `init`; and the
  results are what the operations after the loop make of the thirty-second state.
-/
module

public import proofs.«01_k».proof.Proof.Gen.ReferenceIdeal.Run
public import proofs.«01_k».proof.Proof.Gen.ReferenceIdeal.Step

@[expose] public section

noncomputable section

namespace Cert.ReferenceIdeal.LoopRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v33_6) = s.main_v33_6
  f_7 : V0 (Proc.devRef .tc main_v33_7) = s.main_v33_7
  f_8 : V0 (Proc.devRef .tc main_v33_8) = s.main_v33_8
  f_9 : V0 (Proc.devRef .tc main_v33_9) = s.main_v33_9
  f_0 : V0 (Proc.devRef .tc main_v33_0) = s.main_v33_0
  f_1 : V0 (Proc.devRef .tc main_v33_1) = s.main_v33_1
  f_2 : V0 (Proc.devRef .tc main_v33_2) = s.main_v33_2
  f_3 : V0 (Proc.devRef .tc main_v33_3) = s.main_v33_3
  f_4 : V0 (Proc.devRef .tc main_v33_4) = s.main_v33_4
  n_5 : V0 (Proc.devRef .tc main_v33_5) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call1_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call1_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x2x8x128x128 (V0 (Proc.devRef .tc main_v33_0)) (fun k => (((![V0 (Proc.devRef .tc main_v33_5), constantI S_ 32 0#32, constantI S_ 32 0#32, constantI S_ 32 0#32, constantI S_ 32 0#32] : Fin 5 → (⟨S_, .i32⟩ : BufTy).Contents (Elt F))) k (Shape.Idx.first h_S_)).toInt) sliceFits_S32x2x8x128x128_S1x2x8x128x128 : (Proc.devRef .tc main_while0b_call1_v0 : DevRef τ sig).ty.Contents (Elt F)) = Cert.ReferenceIdeal.Step.b4 j s := by
  unfold Cert.ReferenceIdeal.Step.b4
  rw [← al_0 h, ← al_1 h, ← al_2 h, ← al_3 h, h.f_0, h.n_5]
  try rfl
set_option maxRecDepth 8192 in
theorem al_5 (h : Holds V0 s j) : (res_main_while0b_v61 V0 : (Proc.devRef .tc main_while0b_v61 : DevRef τ sig).ty.Contents (Elt F)) = Cert.ReferenceIdeal.Step.b5 j s := by
  unfold res_main_while0b_v61 Cert.ReferenceIdeal.Step.b5
  rw [← al_4 h]
  try rfl
set_option maxRecDepth 8192 in
theorem al_6 (h : Holds V0 s j) : (constantI S_ 32 0#32 : (Proc.devRef .tc main_while0b_call2_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call2_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call2_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call2_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x2x8x128x128 (V0 (Proc.devRef .tc main_v33_1)) (fun k => (((![V0 (Proc.devRef .tc main_v33_5), constantI S_ 32 0#32, constantI S_ 32 0#32, constantI S_ 32 0#32, constantI S_ 32 0#32] : Fin 5 → (⟨S_, .i32⟩ : BufTy).Contents (Elt F))) k (Shape.Idx.first h_S_)).toInt) sliceFits_S32x2x8x128x128_S1x2x8x128x128 : (Proc.devRef .tc main_while0b_call2_v0 : DevRef τ sig).ty.Contents (Elt F)) = Cert.ReferenceIdeal.Step.b10 j s := by
  unfold Cert.ReferenceIdeal.Step.b10
  rw [← al_6 h, ← al_7 h, ← al_8 h, ← al_9 h, h.f_1, h.n_5]
  try rfl
set_option maxRecDepth 8192 in
theorem al_11 (h : Holds V0 s j) : (res_main_while0b_v62 V0 : (Proc.devRef .tc main_while0b_v62 : DevRef τ sig).ty.Contents (Elt F)) = Cert.ReferenceIdeal.Step.b11 j s := by
  unfold res_main_while0b_v62 Cert.ReferenceIdeal.Step.b11
  rw [← al_10 h]
  try rfl
set_option maxRecDepth 8192 in
theorem al_12 (h : Holds V0 s j) : (constantI S_ 32 0#32 : (Proc.devRef .tc main_while0b_call3_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call3_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call3_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call3_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x2x8x128x256 (V0 (Proc.devRef .tc main_v33_2)) (fun k => (((![V0 (Proc.devRef .tc main_v33_5), constantI S_ 32 0#32, constantI S_ 32 0#32, constantI S_ 32 0#32, constantI S_ 32 0#32] : Fin 5 → (⟨S_, .i32⟩ : BufTy).Contents (Elt F))) k (Shape.Idx.first h_S_)).toInt) sliceFits_S32x2x8x128x256_S1x2x8x128x256 : (Proc.devRef .tc main_while0b_call3_v0 : DevRef τ sig).ty.Contents (Elt F)) = Cert.ReferenceIdeal.Step.b16 j s := by
  unfold Cert.ReferenceIdeal.Step.b16
  rw [← al_12 h, ← al_13 h, ← al_14 h, ← al_15 h, h.f_2, h.n_5]
  try rfl
set_option maxRecDepth 8192 in
theorem al_17 (h : Holds V0 s j) : (res_main_while0b_v63 V0 : (Proc.devRef .tc main_while0b_v63 : DevRef τ sig).ty.Contents (Elt F)) = Cert.ReferenceIdeal.Step.b17 j s := by
  unfold res_main_while0b_v63 Cert.ReferenceIdeal.Step.b17
  rw [← al_16 h]
  try rfl
set_option maxRecDepth 8192 in
theorem al_18 (h : Holds V0 s j) : (constantI S_ 32 0#32 : (Proc.devRef .tc main_while0b_call4_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call4_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call4_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x2x8x128 (V0 (Proc.devRef .tc main_v33_3)) (fun k => (((![V0 (Proc.devRef .tc main_v33_5), constantI S_ 32 0#32, constantI S_ 32 0#32, constantI S_ 32 0#32] : Fin 4 → (⟨S_, .i32⟩ : BufTy).Contents (Elt F))) k (Shape.Idx.first h_S_)).toInt) sliceFits_S32x2x8x128_S1x2x8x128 : (Proc.devRef .tc main_while0b_call4_v0 : DevRef τ sig).ty.Contents (Elt F)) = Cert.ReferenceIdeal.Step.b21 j s := by
  unfold Cert.ReferenceIdeal.Step.b21
  rw [← al_18 h, ← al_19 h, ← al_20 h, h.f_3, h.n_5]
  try rfl
set_option maxRecDepth 8192 in
theorem al_22 (h : Holds V0 s j) : (res_main_while0b_v64 V0 : (Proc.devRef .tc main_while0b_v64 : DevRef τ sig).ty.Contents (Elt F)) = Cert.ReferenceIdeal.Step.b22 j s := by
  unfold res_main_while0b_v64 Cert.ReferenceIdeal.Step.b22
  rw [← al_21 h]
  try rfl
set_option maxRecDepth 8192 in
theorem al_23 (h : Holds V0 s j) : (constantI S_ 32 0#32 : (Proc.devRef .tc main_while0b_call5_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call5_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call5_c_1 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x2x8x128 (V0 (Proc.devRef .tc main_v33_4)) (fun k => (((![V0 (Proc.devRef .tc main_v33_5), constantI S_ 32 0#32, constantI S_ 32 0#32, constantI S_ 32 0#32] : Fin 4 → (⟨S_, .i32⟩ : BufTy).Contents (Elt F))) k (Shape.Idx.first h_S_)).toInt) sliceFits_S32x2x8x128_S1x2x8x128 : (Proc.devRef .tc main_while0b_call5_v0 : DevRef τ sig).ty.Contents (Elt F)) = Cert.ReferenceIdeal.Step.b26 j s := by
  unfold Cert.ReferenceIdeal.Step.b26
  rw [← al_23 h, ← al_24 h, ← al_25 h, h.f_4, h.n_5]
  try rfl
set_option maxRecDepth 8192 in
theorem al_27 (h : Holds V0 s j) : (shapeCast S2x8x128 (Host.dynamicSlice S1x2x8x128 (V0 (Proc.devRef .tc main_v33_4)) (fun k => (((![V0 (Proc.devRef .tc main_v33_5), constantI S_ 32 0#32, constantI S_ 32 0#32, constantI S_ 32 0#32] : Fin 4 → (⟨S_, .i32⟩ : BufTy).Contents (Elt F))) k (Shape.Idx.first h_S_)).toInt) sliceFits_S32x2x8x128_S1x2x8x128) shapeCasts_S1x2x8x128_S2x8x128 : (Proc.devRef .tc main_while0b_v65 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (constant S_ .f32 0x00000000#32 : (Proc.devRef .tc main_while0b_call6_call0_cst : DevRef τ sig).ty.Contents (Elt F)) = Cert.ReferenceIdeal.Step.b28 j s := by
  unfold Cert.ReferenceIdeal.Step.b28
  rfl
set_option maxRecDepth 8192 in
theorem al_29 (h : Holds V0 s j) : (broadcastInDim S_ ![] bcast_S_S_ (constant S_ .f32 0x00000000#32) : (Proc.devRef .tc main_while0b_call6_call0_v0 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (res_main_while0b_v66 V0 : (Proc.devRef .tc main_while0b_v66 : DevRef τ sig).ty.Contents (Elt F)) = Cert.ReferenceIdeal.Step.b30 j s := by
  unfold res_main_while0b_v66 Cert.ReferenceIdeal.Step.b30
  rw [← al_27 h, ← al_29 h]
  try rfl
set_option maxRecDepth 8192 in
theorem al_31 (h : Holds V0 s j) : (constantI S_ 1 1#1 : (Proc.devRef .tc main_while0b_c_15 : DevRef τ sig).ty.Contents (Elt F)) = Cert.ReferenceIdeal.Step.b31 j s := by
  unfold Cert.ReferenceIdeal.Step.b31
  rfl
set_option maxRecDepth 8192 in
theorem al_32 (h : Holds V0 s j) : (broadcastInDim S128x128 ![] bcast_S_S128x128 (constantI S_ 1 1#1) : (Proc.devRef .tc main_while0b_v67 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (iotaInDim S128x128 32 0 : (Proc.devRef .tc main_while0b_call7_v0 : DevRef τ sig).ty.Contents (Elt F)) = Cert.ReferenceIdeal.Step.b33 j s := by
  unfold Cert.ReferenceIdeal.Step.b33
  rfl
set_option maxRecDepth 8192 in
theorem al_34 (h : Holds V0 s j) : (constantI S_ 32 0#32 : (Proc.devRef .tc main_while0b_call7_c : DevRef τ sig).ty.Contents (Elt F)) = Cert.ReferenceIdeal.Step.b34 j s := by
  unfold Cert.ReferenceIdeal.Step.b34
  rfl
set_option maxRecDepth 8192 in
theorem al_35 (h : Holds V0 s j) : (broadcastInDim S128x128 ![] bcast_S_S128x128 (constantI S_ 32 0#32) : (Proc.devRef .tc main_while0b_call7_v1 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (addi (iotaInDim S128x128 32 0) (broadcastInDim S128x128 ![] bcast_S_S128x128 (constantI S_ 32 0#32)) : (Proc.devRef .tc main_while0b_call7_v2 : DevRef τ sig).ty.Contents (Elt F)) = Cert.ReferenceIdeal.Step.b36 j s := by
  unfold Cert.ReferenceIdeal.Step.b36
  rw [← al_33 h, ← al_35 h]
  try rfl
set_option maxRecDepth 8192 in
theorem al_37 (h : Holds V0 s j) : (iotaInDim S128x128 32 1 : (Proc.devRef .tc main_while0b_call7_v3 : DevRef τ sig).ty.Contents (Elt F)) = Cert.ReferenceIdeal.Step.b37 j s := by
  unfold Cert.ReferenceIdeal.Step.b37
  rfl
set_option maxRecDepth 8192 in
theorem al_38 (h : Holds V0 s j) : (cmpi .sge (addi (iotaInDim S128x128 32 0) (broadcastInDim S128x128 ![] bcast_S_S128x128 (constantI S_ 32 0#32))) (iotaInDim S128x128 32 1) : (Proc.devRef .tc main_while0b_call7_v4 : DevRef τ sig).ty.Contents (Elt F)) = Cert.ReferenceIdeal.Step.b38 j s := by
  unfold Cert.ReferenceIdeal.Step.b38
  rw [← al_36 h, ← al_37 h]
  try rfl
set_option maxRecDepth 8192 in
theorem al_39 (h : Holds V0 s j) : (constantI S_ 1 0#1 : (Proc.devRef .tc main_while0b_call7_c_0 : DevRef τ sig).ty.Contents (Elt F)) = Cert.ReferenceIdeal.Step.b39 j s := by
  unfold Cert.ReferenceIdeal.Step.b39
  rfl
set_option maxRecDepth 8192 in
theorem al_40 (h : Holds V0 s j) : (broadcastInDim S128x128 ![] bcast_S_S128x128 (constantI S_ 1 0#1) : (Proc.devRef .tc main_while0b_call7_v5 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)) : (Proc.devRef .tc main_while0b_v68 : DevRef τ sig).ty.Contents (Elt F)) = Cert.ReferenceIdeal.Step.b41 j s := by
  unfold Cert.ReferenceIdeal.Step.b41
  rw [← al_38 h, ← al_32 h, ← al_40 h]
  try rfl
set_option maxRecDepth 8192 in
theorem al_42 (h : Holds V0 s j) : (broadcastInDim S2x8x128x1 ![0, 1, 2] bcast_S2x8x128_S2x8x128x1_0_1_2 (res_main_while0b_v66 V0) : (Proc.devRef .tc main_while0b_v69 : DevRef τ sig).ty.Contents (Elt F)) = Cert.ReferenceIdeal.Step.b42 j s := by
  unfold Cert.ReferenceIdeal.Step.b42
  rw [← al_30 h]
  try rfl
set_option maxRecDepth 8192 in
theorem al_43 (h : Holds V0 s j) : (broadcastInDim S2x8x1x128 ![0, 1, 3] bcast_S2x8x128_S2x8x1x128_0_1_3 (res_main_while0b_v66 V0) : (Proc.devRef .tc main_while0b_v70 : DevRef τ sig).ty.Contents (Elt F)) = Cert.ReferenceIdeal.Step.b43 j s := by
  unfold Cert.ReferenceIdeal.Step.b43
  rw [← al_30 h]
  try rfl
set_option maxRecDepth 8192 in
theorem al_44 (h : Holds V0 s j) : (broadcastInDim S2x8x128x128 ![0, 1, 2, 3] bcast_S2x8x128x1_S2x8x128x128_0_1_2_3 (broadcastInDim S2x8x128x1 ![0, 1, 2] bcast_S2x8x128_S2x8x128x1_0_1_2 (res_main_while0b_v66 V0)) : (Proc.devRef .tc main_while0b_v71 : DevRef τ sig).ty.Contents (Elt F)) = Cert.ReferenceIdeal.Step.b44 j s := by
  unfold Cert.ReferenceIdeal.Step.b44
  rw [← al_42 h]
  try rfl
set_option maxRecDepth 8192 in
theorem al_45 (h : Holds V0 s j) : (broadcastInDim S2x8x128x128 ![0, 1, 2, 3] bcast_S2x8x1x128_S2x8x128x128_0_1_2_3 (broadcastInDim S2x8x1x128 ![0, 1, 3] bcast_S2x8x128_S2x8x1x128_0_1_3 (res_main_while0b_v66 V0)) : (Proc.devRef .tc main_while0b_v72 : DevRef τ sig).ty.Contents (Elt F)) = Cert.ReferenceIdeal.Step.b45 j s := by
  unfold Cert.ReferenceIdeal.Step.b45
  rw [← al_43 h]
  try rfl
set_option maxRecDepth 8192 in
theorem al_46 (h : Holds V0 s j) : (subf (broadcastInDim S2x8x128x128 ![0, 1, 2, 3] bcast_S2x8x128x1_S2x8x128x128_0_1_2_3 (broadcastInDim S2x8x128x1 ![0, 1, 2] bcast_S2x8x128_S2x8x128x1_0_1_2 (res_main_while0b_v66 V0))) (broadcastInDim S2x8x128x128 ![0, 1, 2, 3] bcast_S2x8x1x128_S2x8x128x128_0_1_2_3 (broadcastInDim S2x8x1x128 ![0, 1, 3] bcast_S2x8x128_S2x8x1x128_0_1_3 (res_main_while0b_v66 V0))) : (Proc.devRef .tc main_while0b_v73 : DevRef τ sig).ty.Contents (Elt F)) = Cert.ReferenceIdeal.Step.b46 j s := by
  unfold Cert.ReferenceIdeal.Step.b46
  rw [← al_44 h, ← al_45 h]
  try rfl
set_option maxRecDepth 8192 in
theorem al_47 (h : Holds V0 s j) : (broadcastInDim S2x8x1x128 ![0, 1, 3] bcast_S2x8x128_S2x8x1x128_0_1_3 (res_main_while0b_v64 V0) : (Proc.devRef .tc main_while0b_v74 : DevRef τ sig).ty.Contents (Elt F)) = Cert.ReferenceIdeal.Step.b47 j s := by
  unfold Cert.ReferenceIdeal.Step.b47
  rw [← al_22 h]
  try rfl
set_option maxRecDepth 8192 in
theorem al_48 (h : Holds V0 s j) : (broadcastInDim S2x8x128x128 ![0, 1, 2, 3] bcast_S2x8x1x128_S2x8x128x128_0_1_2_3 (broadcastInDim S2x8x1x128 ![0, 1, 3] bcast_S2x8x128_S2x8x1x128_0_1_3 (res_main_while0b_v64 V0)) : (Proc.devRef .tc main_while0b_v75 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (addf (subf (broadcastInDim S2x8x128x128 ![0, 1, 2, 3] bcast_S2x8x128x1_S2x8x128x128_0_1_2_3 (broadcastInDim S2x8x128x1 ![0, 1, 2] bcast_S2x8x128_S2x8x128x1_0_1_2 (res_main_while0b_v66 V0))) (broadcastInDim S2x8x128x128 ![0, 1, 2, 3] bcast_S2x8x1x128_S2x8x128x128_0_1_2_3 (broadcastInDim S2x8x1x128 ![0, 1, 3] bcast_S2x8x128_S2x8x1x128_0_1_3 (res_main_while0b_v66 V0)))) (broadcastInDim S2x8x128x128 ![0, 1, 2, 3] bcast_S2x8x1x128_S2x8x128x128_0_1_2_3 (broadcastInDim S2x8x1x128 ![0, 1, 3] bcast_S2x8x128_S2x8x1x128_0_1_3 (res_main_while0b_v64 V0))) : (Proc.devRef .tc main_while0b_v76 : DevRef τ sig).ty.Contents (Elt F)) = Cert.ReferenceIdeal.Step.b49 j s := by
  unfold Cert.ReferenceIdeal.Step.b49
  rw [← al_46 h, ← al_48 h]
  try rfl
set_option maxRecDepth 8192 in
theorem al_50 (h : Holds V0 s j) : (constant S_ .f32 0xF149F2CA#32 : (Proc.devRef .tc main_while0b_cst_16 : DevRef τ sig).ty.Contents (Elt F)) = Cert.ReferenceIdeal.Step.b50 j s := by
  unfold Cert.ReferenceIdeal.Step.b50
  rfl
set_option maxRecDepth 8192 in
theorem al_51 (h : Holds V0 s j) : (id (constant S_ .f32 0xF149F2CA#32) : (Proc.devRef .tc main_while0b_call8_v0 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (broadcastInDim S2x8x128x128 ![2, 3] bcast_S128x128_S2x8x128x128_2_3 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))) : (Proc.devRef .tc main_while0b_call8_v1 : DevRef τ sig).ty.Contents (Elt F)) = Cert.ReferenceIdeal.Step.b52 j s := by
  unfold Cert.ReferenceIdeal.Step.b52
  rw [← al_41 h]
  try rfl
set_option maxRecDepth 8192 in
theorem al_53 (h : Holds V0 s j) : (broadcastInDim S2x8x128x128 ![] bcast_S_S2x8x128x128 (id (constant S_ .f32 0xF149F2CA#32)) : (Proc.devRef .tc main_while0b_call8_v2 : DevRef τ sig).ty.Contents (Elt F)) = Cert.ReferenceIdeal.Step.b53 j s := by
  unfold Cert.ReferenceIdeal.Step.b53
  rw [← al_51 h]
  try rfl
set_option maxRecDepth 8192 in
theorem al_54 (h : Holds V0 s j) : (res_main_while0b_v77 V0 : (Proc.devRef .tc main_while0b_v77 : DevRef τ sig).ty.Contents (Elt F)) = Cert.ReferenceIdeal.Step.b54 j s := by
  unfold res_main_while0b_v77 Cert.ReferenceIdeal.Step.b54
  rw [← al_52 h, ← al_49 h, ← al_53 h]
  try rfl
set_option maxRecDepth 8192 in
theorem al_55 (h : Holds V0 s j) : (broadcastInDim S2x8x1 ![0, 1] bcast_S2x8_S2x8x1_0_1 (V0 (Proc.devRef .tc main_v33_8)) : (Proc.devRef .tc main_while0b_v78 : DevRef τ sig).ty.Contents (Elt F)) = Cert.ReferenceIdeal.Step.b55 j s := by
  unfold Cert.ReferenceIdeal.Step.b55
  rw [h.f_8]
  try rfl
set_option maxRecDepth 8192 in
theorem al_56 (h : Holds V0 s j) : (broadcastInDim S2x8x128 ![0, 1, 2] bcast_S2x8x1_S2x8x128_0_1_2 (broadcastInDim S2x8x1 ![0, 1] bcast_S2x8_S2x8x1_0_1 (V0 (Proc.devRef .tc main_v33_8))) : (Proc.devRef .tc main_while0b_v79 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (addf (res_main_while0b_v66 V0) (broadcastInDim S2x8x128 ![0, 1, 2] bcast_S2x8x1_S2x8x128_0_1_2 (broadcastInDim S2x8x1 ![0, 1] bcast_S2x8_S2x8x1_0_1 (V0 (Proc.devRef .tc main_v33_8)))) : (Proc.devRef .tc main_while0b_v80 : DevRef τ sig).ty.Contents (Elt F)) = Cert.ReferenceIdeal.Step.b57 j s := by
  unfold Cert.ReferenceIdeal.Step.b57
  rw [← al_30 h, ← al_56 h]
  try rfl
set_option maxRecDepth 8192 in
theorem al_58 (h : Holds V0 s j) : (constant S_ .f32 0xFF800000#32 : (Proc.devRef .tc main_while0b_cst_17 : DevRef τ sig).ty.Contents (Elt F)) = Cert.ReferenceIdeal.Step.b58 j s := by
  unfold Cert.ReferenceIdeal.Step.b58
  rfl
set_option maxRecDepth 8192 in
theorem al_59 (h : Holds V0 s j) : (Host.reduce FloatOps.maximumf (res_main_while0b_v77 V0) (constant S_ .f32 0xFF800000#32) reducesTo_S2x8x128x128_S2x8x128_d3 h_S_ : (Proc.devRef .tc main_while0b_v81 : DevRef τ sig).ty.Contents (Elt F)) = Cert.ReferenceIdeal.Step.b59 j s := by
  unfold Cert.ReferenceIdeal.Step.b59
  rw [← al_54 h, ← al_58 h]
  try rfl
set_option maxRecDepth 8192 in
theorem al_60 (h : Holds V0 s j) : (res_main_while0b_v82 V0 : (Proc.devRef .tc main_while0b_v82 : DevRef τ sig).ty.Contents (Elt F)) = Cert.ReferenceIdeal.Step.b60 j s := by
  unfold res_main_while0b_v82 Cert.ReferenceIdeal.Step.b60
  rw [← al_57 h, ← al_59 h]
  try rfl
set_option maxRecDepth 8192 in
theorem al_61 (h : Holds V0 s j) : (broadcastInDim S2x8x128x1 ![0, 1, 2] bcast_S2x8x128_S2x8x128x1_0_1_2 (res_main_while0b_v82 V0) : (Proc.devRef .tc main_while0b_v83 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (broadcastInDim S2x8x128x128 ![0, 1, 2, 3] bcast_S2x8x128x1_S2x8x128x128_0_1_2_3 (broadcastInDim S2x8x128x1 ![0, 1, 2] bcast_S2x8x128_S2x8x128x1_0_1_2 (res_main_while0b_v82 V0)) : (Proc.devRef .tc main_while0b_v84 : DevRef τ sig).ty.Contents (Elt F)) = Cert.ReferenceIdeal.Step.b62 j s := by
  unfold Cert.ReferenceIdeal.Step.b62
  rw [← al_61 h]
  try rfl
set_option maxRecDepth 8192 in
theorem al_63 (h : Holds V0 s j) : (subf (res_main_while0b_v77 V0) (broadcastInDim S2x8x128x128 ![0, 1, 2, 3] bcast_S2x8x128x1_S2x8x128x128_0_1_2_3 (broadcastInDim S2x8x128x1 ![0, 1, 2] bcast_S2x8x128_S2x8x128x1_0_1_2 (res_main_while0b_v82 V0))) : (Proc.devRef .tc main_while0b_v85 : DevRef τ sig).ty.Contents (Elt F)) = Cert.ReferenceIdeal.Step.b63 j s := by
  unfold Cert.ReferenceIdeal.Step.b63
  rw [← al_54 h, ← al_62 h]
  try rfl
set_option maxRecDepth 8192 in
theorem al_64 (h : Holds V0 s j) : (Host.exp (subf (res_main_while0b_v77 V0) (broadcastInDim S2x8x128x128 ![0, 1, 2, 3] bcast_S2x8x128x1_S2x8x128x128_0_1_2_3 (broadcastInDim S2x8x128x1 ![0, 1, 2] bcast_S2x8x128_S2x8x128x1_0_1_2 (res_main_while0b_v82 V0)))) : (Proc.devRef .tc main_while0b_v86 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (broadcastInDim S2x8x1 ![0, 1] bcast_S2x8_S2x8x1_0_1 (V0 (Proc.devRef .tc main_v33_8)) : (Proc.devRef .tc main_while0b_v87 : DevRef τ sig).ty.Contents (Elt F)) = Cert.ReferenceIdeal.Step.b65 j s := by
  unfold Cert.ReferenceIdeal.Step.b65
  rw [h.f_8]
  try rfl
set_option maxRecDepth 8192 in
theorem al_66 (h : Holds V0 s j) : (broadcastInDim S2x8x128 ![0, 1, 2] bcast_S2x8x1_S2x8x128_0_1_2 (broadcastInDim S2x8x1 ![0, 1] bcast_S2x8_S2x8x1_0_1 (V0 (Proc.devRef .tc main_v33_8))) : (Proc.devRef .tc main_while0b_v88 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (addf (res_main_while0b_v66 V0) (broadcastInDim S2x8x128 ![0, 1, 2] bcast_S2x8x1_S2x8x128_0_1_2 (broadcastInDim S2x8x1 ![0, 1] bcast_S2x8_S2x8x1_0_1 (V0 (Proc.devRef .tc main_v33_8)))) : (Proc.devRef .tc main_while0b_v89 : DevRef τ sig).ty.Contents (Elt F)) = Cert.ReferenceIdeal.Step.b67 j s := by
  unfold Cert.ReferenceIdeal.Step.b67
  rw [← al_30 h, ← al_66 h]
  try rfl
set_option maxRecDepth 8192 in
theorem al_68 (h : Holds V0 s j) : (subf (addf (res_main_while0b_v66 V0) (broadcastInDim S2x8x128 ![0, 1, 2] bcast_S2x8x1_S2x8x128_0_1_2 (broadcastInDim S2x8x1 ![0, 1] bcast_S2x8_S2x8x1_0_1 (V0 (Proc.devRef .tc main_v33_8))))) (res_main_while0b_v82 V0) : (Proc.devRef .tc main_while0b_v90 : DevRef τ sig).ty.Contents (Elt F)) = Cert.ReferenceIdeal.Step.b68 j s := by
  unfold Cert.ReferenceIdeal.Step.b68
  rw [← al_67 h, ← al_60 h]
  try rfl
set_option maxRecDepth 8192 in
theorem al_69 (h : Holds V0 s j) : (res_main_while0b_v91 V0 : (Proc.devRef .tc main_while0b_v91 : DevRef τ sig).ty.Contents (Elt F)) = Cert.ReferenceIdeal.Step.b69 j s := by
  unfold res_main_while0b_v91 Cert.ReferenceIdeal.Step.b69
  rw [← al_68 h]
  try rfl
set_option maxRecDepth 8192 in
theorem al_70 (h : Holds V0 s j) : (Host.dotGeneral dot_S2x8x128x128_S2x8x128x128_S2x8x128x128_3_3_2_2_01_01 none (res_main_while0b_v61 V0) (res_main_while0b_v62 V0) : (Proc.devRef .tc main_while0b_v92 : DevRef τ sig).ty.Contents (Elt F)) = Cert.ReferenceIdeal.Step.b70 j s := by
  unfold Cert.ReferenceIdeal.Step.b70
  rw [← al_5 h, ← al_11 h]
  try rfl
set_option maxRecDepth 8192 in
theorem al_71 (h : Holds V0 s j) : (res_main_while0b_v93 V0 : (Proc.devRef .tc main_while0b_v93 : DevRef τ sig).ty.Contents (Elt F)) = Cert.ReferenceIdeal.Step.b71 j s := by
  unfold res_main_while0b_v93 Cert.ReferenceIdeal.Step.b71
  rw [← al_70 h, ← al_64 h]
  try rfl
set_option maxRecDepth 8192 in
theorem al_72 (h : Holds V0 s j) : (broadcastInDim S2x8x128x1 ![0, 1, 2] bcast_S2x8x128_S2x8x128x1_0_1_2 (res_main_while0b_v91 V0) : (Proc.devRef .tc main_while0b_v94 : DevRef τ sig).ty.Contents (Elt F)) = Cert.ReferenceIdeal.Step.b72 j s := by
  unfold Cert.ReferenceIdeal.Step.b72
  rw [← al_69 h]
  try rfl
set_option maxRecDepth 8192 in
theorem al_73 (h : Holds V0 s j) : (Host.dotGeneral dot_S2x8x128x128_S2x8x128x256_S2x8x128x256_3_2_2_3_01_01 none (res_main_while0b_v61 V0) (V0 (Proc.devRef .tc main_v33_6)) : (Proc.devRef .tc main_while0b_v95 : DevRef τ sig).ty.Contents (Elt F)) = Cert.ReferenceIdeal.Step.b73 j s := by
  unfold Cert.ReferenceIdeal.Step.b73
  rw [← al_5 h, h.f_6]
  try rfl
set_option maxRecDepth 8192 in
theorem al_74 (h : Holds V0 s j) : (broadcastInDim S2x8x128x256 ![0, 1, 2, 3] bcast_S2x8x128x1_S2x8x128x256_0_1_2_3 (broadcastInDim S2x8x128x1 ![0, 1, 2] bcast_S2x8x128_S2x8x128x1_0_1_2 (res_main_while0b_v91 V0)) : (Proc.devRef .tc main_while0b_v96 : DevRef τ sig).ty.Contents (Elt F)) = Cert.ReferenceIdeal.Step.b74 j s := by
  unfold Cert.ReferenceIdeal.Step.b74
  rw [← al_72 h]
  try rfl
set_option maxRecDepth 8192 in
theorem al_75 (h : Holds V0 s j) : (mulf (broadcastInDim S2x8x128x256 ![0, 1, 2, 3] bcast_S2x8x128x1_S2x8x128x256_0_1_2_3 (broadcastInDim S2x8x128x1 ![0, 1, 2] bcast_S2x8x128_S2x8x128x1_0_1_2 (res_main_while0b_v91 V0))) (Host.dotGeneral dot_S2x8x128x128_S2x8x128x256_S2x8x128x256_3_2_2_3_01_01 none (res_main_while0b_v61 V0) (V0 (Proc.devRef .tc main_v33_6))) : (Proc.devRef .tc main_while0b_v97 : DevRef τ sig).ty.Contents (Elt F)) = Cert.ReferenceIdeal.Step.b75 j s := by
  unfold Cert.ReferenceIdeal.Step.b75
  rw [← al_74 h, ← al_73 h]
  try rfl
set_option maxRecDepth 8192 in
theorem al_76 (h : Holds V0 s j) : (Host.dotGeneral dot_S2x8x128x128_S2x8x128x256_S2x8x128x256_3_2_2_3_01_01 none (res_main_while0b_v93 V0) (res_main_while0b_v63 V0) : (Proc.devRef .tc main_while0b_v98 : DevRef τ sig).ty.Contents (Elt F)) = Cert.ReferenceIdeal.Step.b76 j s := by
  unfold Cert.ReferenceIdeal.Step.b76
  rw [← al_71 h, ← al_17 h]
  try rfl
set_option maxRecDepth 8192 in
theorem al_77 (h : Holds V0 s j) : (addf (mulf (broadcastInDim S2x8x128x256 ![0, 1, 2, 3] bcast_S2x8x128x1_S2x8x128x256_0_1_2_3 (broadcastInDim S2x8x128x1 ![0, 1, 2] bcast_S2x8x128_S2x8x128x1_0_1_2 (res_main_while0b_v91 V0))) (Host.dotGeneral dot_S2x8x128x128_S2x8x128x256_S2x8x128x256_3_2_2_3_01_01 none (res_main_while0b_v61 V0) (V0 (Proc.devRef .tc main_v33_6)))) (Host.dotGeneral dot_S2x8x128x128_S2x8x128x256_S2x8x128x256_3_2_2_3_01_01 none (res_main_while0b_v93 V0) (res_main_while0b_v63 V0)) : (Proc.devRef .tc main_while0b_v99 : DevRef τ sig).ty.Contents (Elt F)) = Cert.ReferenceIdeal.Step.b77 j s := by
  unfold Cert.ReferenceIdeal.Step.b77
  rw [← al_75 h, ← al_76 h]
  try rfl
set_option maxRecDepth 8192 in
theorem al_78 (h : Holds V0 s j) : (Host.dotGeneral dot_S2x8x128x128_S2x8x128_S2x8x128_3_2_2_n_01_01 none (res_main_while0b_v61 V0) (V0 (Proc.devRef .tc main_v33_7)) : (Proc.devRef .tc main_while0b_v100 : DevRef τ sig).ty.Contents (Elt F)) = Cert.ReferenceIdeal.Step.b78 j s := by
  unfold Cert.ReferenceIdeal.Step.b78
  rw [← al_5 h, h.f_7]
  try rfl
set_option maxRecDepth 8192 in
theorem al_79 (h : Holds V0 s j) : (mulf (res_main_while0b_v91 V0) (Host.dotGeneral dot_S2x8x128x128_S2x8x128_S2x8x128_3_2_2_n_01_01 none (res_main_while0b_v61 V0) (V0 (Proc.devRef .tc main_v33_7))) : (Proc.devRef .tc main_while0b_v101 : DevRef τ sig).ty.Contents (Elt F)) = Cert.ReferenceIdeal.Step.b79 j s := by
  unfold Cert.ReferenceIdeal.Step.b79
  rw [← al_69 h, ← al_78 h]
  try rfl
set_option maxRecDepth 8192 in
theorem al_80 (h : Holds V0 s j) : (constant S_ .f32 0x00000000#32 : (Proc.devRef .tc main_while0b_cst_18 : DevRef τ sig).ty.Contents (Elt F)) = Cert.ReferenceIdeal.Step.b80 j s := by
  unfold Cert.ReferenceIdeal.Step.b80
  rfl
set_option maxRecDepth 8192 in
theorem al_81 (h : Holds V0 s j) : (Host.reduceAdd (res_main_while0b_v93 V0) (constant S_ .f32 0x00000000#32) reducesTo_S2x8x128x128_S2x8x128_d3 h_S_ : (Proc.devRef .tc main_while0b_v102 : DevRef τ sig).ty.Contents (Elt F)) = Cert.ReferenceIdeal.Step.b81 j s := by
  unfold Cert.ReferenceIdeal.Step.b81
  rw [← al_71 h, ← al_80 h]
  try rfl
set_option maxRecDepth 8192 in
theorem al_82 (h : Holds V0 s j) : (addf (mulf (res_main_while0b_v91 V0) (Host.dotGeneral dot_S2x8x128x128_S2x8x128_S2x8x128_3_2_2_n_01_01 none (res_main_while0b_v61 V0) (V0 (Proc.devRef .tc main_v33_7)))) (Host.reduceAdd (res_main_while0b_v93 V0) (constant S_ .f32 0x00000000#32) reducesTo_S2x8x128x128_S2x8x128_d3 h_S_) : (Proc.devRef .tc main_while0b_v103 : DevRef τ sig).ty.Contents (Elt F)) = Cert.ReferenceIdeal.Step.b82 j s := by
  unfold Cert.ReferenceIdeal.Step.b82
  rw [← al_79 h, ← al_81 h]
  try rfl
set_option maxRecDepth 8192 in
theorem al_83 (h : Holds V0 s j) : (Host.absf (addf (mulf (res_main_while0b_v91 V0) (Host.dotGeneral dot_S2x8x128x128_S2x8x128_S2x8x128_3_2_2_n_01_01 none (res_main_while0b_v61 V0) (V0 (Proc.devRef .tc main_v33_7)))) (Host.reduceAdd (res_main_while0b_v93 V0) (constant S_ .f32 0x00000000#32) reducesTo_S2x8x128x128_S2x8x128_d3 h_S_)) : (Proc.devRef .tc main_while0b_v104 : DevRef τ sig).ty.Contents (Elt F)) = Cert.ReferenceIdeal.Step.b83 j s := by
  unfold Cert.ReferenceIdeal.Step.b83
  rw [← al_82 h]
  try rfl
set_option maxRecDepth 8192 in
theorem al_84 (h : Holds V0 s j) : (Host.negf (res_main_while0b_v82 V0) : (Proc.devRef .tc main_while0b_v105 : DevRef τ sig).ty.Contents (Elt F)) = Cert.ReferenceIdeal.Step.b84 j s := by
  unfold Cert.ReferenceIdeal.Step.b84
  rw [← al_60 h]
  try rfl
set_option maxRecDepth 8192 in
theorem al_85 (h : Holds V0 s j) : (Host.exp (Host.negf (res_main_while0b_v82 V0)) : (Proc.devRef .tc main_while0b_v106 : DevRef τ sig).ty.Contents (Elt F)) = Cert.ReferenceIdeal.Step.b85 j s := by
  unfold Cert.ReferenceIdeal.Step.b85
  rw [← al_84 h]
  try rfl
set_option maxRecDepth 8192 in
theorem al_86 (h : Holds V0 s j) : (maximumf (Host.absf (addf (mulf (res_main_while0b_v91 V0) (Host.dotGeneral dot_S2x8x128x128_S2x8x128_S2x8x128_3_2_2_n_01_01 none (res_main_while0b_v61 V0) (V0 (Proc.devRef .tc main_v33_7)))) (Host.reduceAdd (res_main_while0b_v93 V0) (constant S_ .f32 0x00000000#32) reducesTo_S2x8x128x128_S2x8x128_d3 h_S_))) (Host.exp (Host.negf (res_main_while0b_v82 V0))) : (Proc.devRef .tc main_while0b_v107 : DevRef τ sig).ty.Contents (Elt F)) = Cert.ReferenceIdeal.Step.b86 j s := by
  unfold Cert.ReferenceIdeal.Step.b86
  rw [← al_83 h, ← al_85 h]
  try rfl
set_option maxRecDepth 8192 in
theorem al_87 (h : Holds V0 s j) : (broadcastInDim S2x8x128x1 ![0, 1, 2] bcast_S2x8x128_S2x8x128x1_0_1_2 (maximumf (Host.absf (addf (mulf (res_main_while0b_v91 V0) (Host.dotGeneral dot_S2x8x128x128_S2x8x128_S2x8x128_3_2_2_n_01_01 none (res_main_while0b_v61 V0) (V0 (Proc.devRef .tc main_v33_7)))) (Host.reduceAdd (res_main_while0b_v93 V0) (constant S_ .f32 0x00000000#32) reducesTo_S2x8x128x128_S2x8x128_d3 h_S_))) (Host.exp (Host.negf (res_main_while0b_v82 V0)))) : (Proc.devRef .tc main_while0b_v108 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (broadcastInDim S2x8x128x256 ![0, 1, 2, 3] bcast_S2x8x128x1_S2x8x128x256_0_1_2_3 (broadcastInDim S2x8x128x1 ![0, 1, 2] bcast_S2x8x128_S2x8x128x1_0_1_2 (maximumf (Host.absf (addf (mulf (res_main_while0b_v91 V0) (Host.dotGeneral dot_S2x8x128x128_S2x8x128_S2x8x128_3_2_2_n_01_01 none (res_main_while0b_v61 V0) (V0 (Proc.devRef .tc main_v33_7)))) (Host.reduceAdd (res_main_while0b_v93 V0) (constant S_ .f32 0x00000000#32) reducesTo_S2x8x128x128_S2x8x128_d3 h_S_))) (Host.exp (Host.negf (res_main_while0b_v82 V0))))) : (Proc.devRef .tc main_while0b_v109 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (Host.divf (addf (mulf (broadcastInDim S2x8x128x256 ![0, 1, 2, 3] bcast_S2x8x128x1_S2x8x128x256_0_1_2_3 (broadcastInDim S2x8x128x1 ![0, 1, 2] bcast_S2x8x128_S2x8x128x1_0_1_2 (res_main_while0b_v91 V0))) (Host.dotGeneral dot_S2x8x128x128_S2x8x128x256_S2x8x128x256_3_2_2_3_01_01 none (res_main_while0b_v61 V0) (V0 (Proc.devRef .tc main_v33_6)))) (Host.dotGeneral dot_S2x8x128x128_S2x8x128x256_S2x8x128x256_3_2_2_3_01_01 none (res_main_while0b_v93 V0) (res_main_while0b_v63 V0))) (broadcastInDim S2x8x128x256 ![0, 1, 2, 3] bcast_S2x8x128x1_S2x8x128x256_0_1_2_3 (broadcastInDim S2x8x128x1 ![0, 1, 2] bcast_S2x8x128_S2x8x128x1_0_1_2 (maximumf (Host.absf (addf (mulf (res_main_while0b_v91 V0) (Host.dotGeneral dot_S2x8x128x128_S2x8x128_S2x8x128_3_2_2_n_01_01 none (res_main_while0b_v61 V0) (V0 (Proc.devRef .tc main_v33_7)))) (Host.reduceAdd (res_main_while0b_v93 V0) (constant S_ .f32 0x00000000#32) reducesTo_S2x8x128x128_S2x8x128_d3 h_S_))) (Host.exp (Host.negf (res_main_while0b_v82 V0)))))) : (Proc.devRef .tc main_while0b_v110 : DevRef τ sig).ty.Contents (Elt F)) = Cert.ReferenceIdeal.Step.b89 j s := by
  unfold Cert.ReferenceIdeal.Step.b89
  rw [← al_77 h, ← al_88 h]
  try rfl
set_option maxRecDepth 8192 in
theorem al_90 (h : Holds V0 s j) : (extractStridedSlice S2x8x1 ![0, 0, 127] (res_main_while0b_v82 V0) slices_S2x8x128_S2x8x1_0_0_127 : (Proc.devRef .tc main_while0b_v111 : DevRef τ sig).ty.Contents (Elt F)) = Cert.ReferenceIdeal.Step.b90 j s := by
  unfold Cert.ReferenceIdeal.Step.b90
  rw [← al_60 h]
  try rfl
set_option maxRecDepth 8192 in
theorem al_91 (h : Holds V0 s j) : (res_main_while0b_v112 V0 : (Proc.devRef .tc main_while0b_v112 : DevRef τ sig).ty.Contents (Elt F)) = Cert.ReferenceIdeal.Step.b91 j s := by
  unfold res_main_while0b_v112 Cert.ReferenceIdeal.Step.b91
  rw [← al_90 h]
  try rfl
set_option maxRecDepth 8192 in
theorem al_92 (h : Holds V0 s j) : (extractStridedSlice S2x8x1 ![0, 0, 127] (res_main_while0b_v66 V0) slices_S2x8x128_S2x8x1_0_0_127 : (Proc.devRef .tc main_while0b_v113 : DevRef τ sig).ty.Contents (Elt F)) = Cert.ReferenceIdeal.Step.b92 j s := by
  unfold Cert.ReferenceIdeal.Step.b92
  rw [← al_30 h]
  try rfl
set_option maxRecDepth 8192 in
theorem al_93 (h : Holds V0 s j) : (broadcastInDim S2x8x128 ![0, 1, 2] bcast_S2x8x1_S2x8x128_0_1_2 (extractStridedSlice S2x8x1 ![0, 0, 127] (res_main_while0b_v66 V0) slices_S2x8x128_S2x8x1_0_0_127) : (Proc.devRef .tc main_while0b_v114 : DevRef τ sig).ty.Contents (Elt F)) = Cert.ReferenceIdeal.Step.b93 j s := by
  unfold Cert.ReferenceIdeal.Step.b93
  rw [← al_92 h]
  try rfl
set_option maxRecDepth 8192 in
theorem al_94 (h : Holds V0 s j) : (subf (broadcastInDim S2x8x128 ![0, 1, 2] bcast_S2x8x1_S2x8x128_0_1_2 (extractStridedSlice S2x8x1 ![0, 0, 127] (res_main_while0b_v66 V0) slices_S2x8x128_S2x8x1_0_0_127)) (res_main_while0b_v66 V0) : (Proc.devRef .tc main_while0b_v115 : DevRef τ sig).ty.Contents (Elt F)) = Cert.ReferenceIdeal.Step.b94 j s := by
  unfold Cert.ReferenceIdeal.Step.b94
  rw [← al_93 h, ← al_30 h]
  try rfl
set_option maxRecDepth 8192 in
theorem al_95 (h : Holds V0 s j) : (addf (subf (broadcastInDim S2x8x128 ![0, 1, 2] bcast_S2x8x1_S2x8x128_0_1_2 (extractStridedSlice S2x8x1 ![0, 0, 127] (res_main_while0b_v66 V0) slices_S2x8x128_S2x8x1_0_0_127)) (res_main_while0b_v66 V0)) (res_main_while0b_v64 V0) : (Proc.devRef .tc main_while0b_v116 : DevRef τ sig).ty.Contents (Elt F)) = Cert.ReferenceIdeal.Step.b95 j s := by
  unfold Cert.ReferenceIdeal.Step.b95
  rw [← al_94 h, ← al_22 h]
  try rfl
set_option maxRecDepth 8192 in
theorem al_96 (h : Holds V0 s j) : (broadcastInDim S2x8x1 ![0, 1] bcast_S2x8_S2x8x1_0_1 (res_main_while0b_v112 V0) : (Proc.devRef .tc main_while0b_v117 : DevRef τ sig).ty.Contents (Elt F)) = Cert.ReferenceIdeal.Step.b96 j s := by
  unfold Cert.ReferenceIdeal.Step.b96
  rw [← al_91 h]
  try rfl
set_option maxRecDepth 8192 in
theorem al_97 (h : Holds V0 s j) : (broadcastInDim S2x8x128 ![0, 1, 2] bcast_S2x8x1_S2x8x128_0_1_2 (broadcastInDim S2x8x1 ![0, 1] bcast_S2x8_S2x8x1_0_1 (res_main_while0b_v112 V0)) : (Proc.devRef .tc main_while0b_v118 : DevRef τ sig).ty.Contents (Elt F)) = Cert.ReferenceIdeal.Step.b97 j s := by
  unfold Cert.ReferenceIdeal.Step.b97
  rw [← al_96 h]
  try rfl
set_option maxRecDepth 8192 in
theorem al_98 (h : Holds V0 s j) : (subf (addf (subf (broadcastInDim S2x8x128 ![0, 1, 2] bcast_S2x8x1_S2x8x128_0_1_2 (extractStridedSlice S2x8x1 ![0, 0, 127] (res_main_while0b_v66 V0) slices_S2x8x128_S2x8x1_0_0_127)) (res_main_while0b_v66 V0)) (res_main_while0b_v64 V0)) (broadcastInDim S2x8x128 ![0, 1, 2] bcast_S2x8x1_S2x8x128_0_1_2 (broadcastInDim S2x8x1 ![0, 1] bcast_S2x8_S2x8x1_0_1 (res_main_while0b_v112 V0))) : (Proc.devRef .tc main_while0b_v119 : DevRef τ sig).ty.Contents (Elt F)) = Cert.ReferenceIdeal.Step.b98 j s := by
  unfold Cert.ReferenceIdeal.Step.b98
  rw [← al_95 h, ← al_97 h]
  try rfl
set_option maxRecDepth 8192 in
theorem al_99 (h : Holds V0 s j) : (Host.exp (subf (addf (subf (broadcastInDim S2x8x128 ![0, 1, 2] bcast_S2x8x1_S2x8x128_0_1_2 (extractStridedSlice S2x8x1 ![0, 0, 127] (res_main_while0b_v66 V0) slices_S2x8x128_S2x8x1_0_0_127)) (res_main_while0b_v66 V0)) (res_main_while0b_v64 V0)) (broadcastInDim S2x8x128 ![0, 1, 2] bcast_S2x8x1_S2x8x128_0_1_2 (broadcastInDim S2x8x1 ![0, 1] bcast_S2x8_S2x8x1_0_1 (res_main_while0b_v112 V0)))) : (Proc.devRef .tc main_while0b_v120 : DevRef τ sig).ty.Contents (Elt F)) = Cert.ReferenceIdeal.Step.b99 j s := by
  unfold Cert.ReferenceIdeal.Step.b99
  rw [← al_98 h]
  try rfl
set_option maxRecDepth 8192 in
theorem al_100 (h : Holds V0 s j) : (extractStridedSlice S2x8x1 ![0, 0, 127] (res_main_while0b_v66 V0) slices_S2x8x128_S2x8x1_0_0_127 : (Proc.devRef .tc main_while0b_v121 : DevRef τ sig).ty.Contents (Elt F)) = Cert.ReferenceIdeal.Step.b100 j s := by
  unfold Cert.ReferenceIdeal.Step.b100
  rw [← al_30 h]
  try rfl
set_option maxRecDepth 8192 in
theorem al_101 (h : Holds V0 s j) : (shapeCast S2x8 (extractStridedSlice S2x8x1 ![0, 0, 127] (res_main_while0b_v66 V0) slices_S2x8x128_S2x8x1_0_0_127) shapeCasts_S2x8x1_S2x8 : (Proc.devRef .tc main_while0b_v122 : DevRef τ sig).ty.Contents (Elt F)) = Cert.ReferenceIdeal.Step.b101 j s := by
  unfold Cert.ReferenceIdeal.Step.b101
  rw [← al_100 h]
  try rfl
set_option maxRecDepth 8192 in
theorem al_102 (h : Holds V0 s j) : (addf (shapeCast S2x8 (extractStridedSlice S2x8x1 ![0, 0, 127] (res_main_while0b_v66 V0) slices_S2x8x128_S2x8x1_0_0_127) shapeCasts_S2x8x1_S2x8) (V0 (Proc.devRef .tc main_v33_8)) : (Proc.devRef .tc main_while0b_v123 : DevRef τ sig).ty.Contents (Elt F)) = Cert.ReferenceIdeal.Step.b102 j s := by
  unfold Cert.ReferenceIdeal.Step.b102
  rw [← al_101 h, h.f_8]
  try rfl
set_option maxRecDepth 8192 in
theorem al_103 (h : Holds V0 s j) : (subf (addf (shapeCast S2x8 (extractStridedSlice S2x8x1 ![0, 0, 127] (res_main_while0b_v66 V0) slices_S2x8x128_S2x8x1_0_0_127) shapeCasts_S2x8x1_S2x8) (V0 (Proc.devRef .tc main_v33_8))) (res_main_while0b_v112 V0) : (Proc.devRef .tc main_while0b_v124 : DevRef τ sig).ty.Contents (Elt F)) = Cert.ReferenceIdeal.Step.b103 j s := by
  unfold Cert.ReferenceIdeal.Step.b103
  rw [← al_102 h, ← al_91 h]
  try rfl
set_option maxRecDepth 8192 in
theorem al_104 (h : Holds V0 s j) : (res_main_while0b_v125 V0 : (Proc.devRef .tc main_while0b_v125 : DevRef τ sig).ty.Contents (Elt F)) = Cert.ReferenceIdeal.Step.b104 j s := by
  unfold res_main_while0b_v125 Cert.ReferenceIdeal.Step.b104
  rw [← al_103 h]
  try rfl
set_option maxRecDepth 8192 in
theorem al_105 (h : Holds V0 s j) : (broadcastInDim S2x8x128x1 ![0, 1, 2] bcast_S2x8x128_S2x8x128x1_0_1_2 (Host.exp (subf (addf (subf (broadcastInDim S2x8x128 ![0, 1, 2] bcast_S2x8x1_S2x8x128_0_1_2 (extractStridedSlice S2x8x1 ![0, 0, 127] (res_main_while0b_v66 V0) slices_S2x8x128_S2x8x1_0_0_127)) (res_main_while0b_v66 V0)) (res_main_while0b_v64 V0)) (broadcastInDim S2x8x128 ![0, 1, 2] bcast_S2x8x1_S2x8x128_0_1_2 (broadcastInDim S2x8x1 ![0, 1] bcast_S2x8_S2x8x1_0_1 (res_main_while0b_v112 V0))))) : (Proc.devRef .tc main_while0b_v126 : DevRef τ sig).ty.Contents (Elt F)) = Cert.ReferenceIdeal.Step.b105 j s := by
  unfold Cert.ReferenceIdeal.Step.b105
  rw [← al_99 h]
  try rfl
set_option maxRecDepth 8192 in
theorem al_106 (h : Holds V0 s j) : (broadcastInDim S2x8x128x128 ![0, 1, 2, 3] bcast_S2x8x128x1_S2x8x128x128_0_1_2_3 (broadcastInDim S2x8x128x1 ![0, 1, 2] bcast_S2x8x128_S2x8x128x1_0_1_2 (Host.exp (subf (addf (subf (broadcastInDim S2x8x128 ![0, 1, 2] bcast_S2x8x1_S2x8x128_0_1_2 (extractStridedSlice S2x8x1 ![0, 0, 127] (res_main_while0b_v66 V0) slices_S2x8x128_S2x8x1_0_0_127)) (res_main_while0b_v66 V0)) (res_main_while0b_v64 V0)) (broadcastInDim S2x8x128 ![0, 1, 2] bcast_S2x8x1_S2x8x128_0_1_2 (broadcastInDim S2x8x1 ![0, 1] bcast_S2x8_S2x8x1_0_1 (res_main_while0b_v112 V0)))))) : (Proc.devRef .tc main_while0b_v127 : DevRef τ sig).ty.Contents (Elt F)) = Cert.ReferenceIdeal.Step.b106 j s := by
  unfold Cert.ReferenceIdeal.Step.b106
  rw [← al_105 h]
  try rfl
set_option maxRecDepth 8192 in
theorem al_107 (h : Holds V0 s j) : (res_main_while0b_v128 V0 : (Proc.devRef .tc main_while0b_v128 : DevRef τ sig).ty.Contents (Elt F)) = Cert.ReferenceIdeal.Step.b107 j s := by
  unfold res_main_while0b_v128 Cert.ReferenceIdeal.Step.b107
  rw [← al_106 h, ← al_11 h]
  try rfl
set_option maxRecDepth 8192 in
theorem al_108 (h : Holds V0 s j) : (broadcastInDim S2x8x1x1 ![0, 1] bcast_S2x8_S2x8x1x1_0_1 (res_main_while0b_v125 V0) : (Proc.devRef .tc main_while0b_v129 : DevRef τ sig).ty.Contents (Elt F)) = Cert.ReferenceIdeal.Step.b108 j s := by
  unfold Cert.ReferenceIdeal.Step.b108
  rw [← al_104 h]
  try rfl
set_option maxRecDepth 8192 in
theorem al_109 (h : Holds V0 s j) : (broadcastInDim S2x8x128x256 ![0, 1, 2, 3] bcast_S2x8x1x1_S2x8x128x256_0_1_2_3 (broadcastInDim S2x8x1x1 ![0, 1] bcast_S2x8_S2x8x1x1_0_1 (res_main_while0b_v125 V0)) : (Proc.devRef .tc main_while0b_v130 : DevRef τ sig).ty.Contents (Elt F)) = Cert.ReferenceIdeal.Step.b109 j s := by
  unfold Cert.ReferenceIdeal.Step.b109
  rw [← al_108 h]
  try rfl
set_option maxRecDepth 8192 in
theorem al_110 (h : Holds V0 s j) : (mulf (broadcastInDim S2x8x128x256 ![0, 1, 2, 3] bcast_S2x8x1x1_S2x8x128x256_0_1_2_3 (broadcastInDim S2x8x1x1 ![0, 1] bcast_S2x8_S2x8x1x1_0_1 (res_main_while0b_v125 V0))) (V0 (Proc.devRef .tc main_v33_6)) : (Proc.devRef .tc main_while0b_v131 : DevRef τ sig).ty.Contents (Elt F)) = Cert.ReferenceIdeal.Step.b110 j s := by
  unfold Cert.ReferenceIdeal.Step.b110
  rw [← al_109 h, h.f_6]
  try rfl
set_option maxRecDepth 8192 in
theorem al_111 (h : Holds V0 s j) : (Host.dotGeneral dot_S2x8x128x128_S2x8x128x256_S2x8x128x256_2_2_3_3_01_01 none (res_main_while0b_v128 V0) (res_main_while0b_v63 V0) : (Proc.devRef .tc main_while0b_v132 : DevRef τ sig).ty.Contents (Elt F)) = Cert.ReferenceIdeal.Step.b111 j s := by
  unfold Cert.ReferenceIdeal.Step.b111
  rw [← al_107 h, ← al_17 h]
  try rfl
set_option maxRecDepth 8192 in
theorem al_112 (h : Holds V0 s j) : (addf (mulf (broadcastInDim S2x8x128x256 ![0, 1, 2, 3] bcast_S2x8x1x1_S2x8x128x256_0_1_2_3 (broadcastInDim S2x8x1x1 ![0, 1] bcast_S2x8_S2x8x1x1_0_1 (res_main_while0b_v125 V0))) (V0 (Proc.devRef .tc main_v33_6))) (Host.dotGeneral dot_S2x8x128x128_S2x8x128x256_S2x8x128x256_2_2_3_3_01_01 none (res_main_while0b_v128 V0) (res_main_while0b_v63 V0)) : (Proc.devRef .tc main_while0b_v133 : DevRef τ sig).ty.Contents (Elt F)) = Cert.ReferenceIdeal.Step.b112 j s := by
  unfold Cert.ReferenceIdeal.Step.b112
  rw [← al_110 h, ← al_111 h]
  try rfl
set_option maxRecDepth 8192 in
theorem al_113 (h : Holds V0 s j) : (broadcastInDim S2x8x1 ![0, 1] bcast_S2x8_S2x8x1_0_1 (res_main_while0b_v125 V0) : (Proc.devRef .tc main_while0b_v134 : DevRef τ sig).ty.Contents (Elt F)) = Cert.ReferenceIdeal.Step.b113 j s := by
  unfold Cert.ReferenceIdeal.Step.b113
  rw [← al_104 h]
  try rfl
set_option maxRecDepth 8192 in
theorem al_114 (h : Holds V0 s j) : (broadcastInDim S2x8x128 ![0, 1, 2] bcast_S2x8x1_S2x8x128_0_1_2 (broadcastInDim S2x8x1 ![0, 1] bcast_S2x8_S2x8x1_0_1 (res_main_while0b_v125 V0)) : (Proc.devRef .tc main_while0b_v135 : DevRef τ sig).ty.Contents (Elt F)) = Cert.ReferenceIdeal.Step.b114 j s := by
  unfold Cert.ReferenceIdeal.Step.b114
  rw [← al_113 h]
  try rfl
set_option maxRecDepth 8192 in
theorem al_115 (h : Holds V0 s j) : (mulf (broadcastInDim S2x8x128 ![0, 1, 2] bcast_S2x8x1_S2x8x128_0_1_2 (broadcastInDim S2x8x1 ![0, 1] bcast_S2x8_S2x8x1_0_1 (res_main_while0b_v125 V0))) (V0 (Proc.devRef .tc main_v33_7)) : (Proc.devRef .tc main_while0b_v136 : DevRef τ sig).ty.Contents (Elt F)) = Cert.ReferenceIdeal.Step.b115 j s := by
  unfold Cert.ReferenceIdeal.Step.b115
  rw [← al_114 h, h.f_7]
  try rfl
set_option maxRecDepth 8192 in
theorem al_116 (h : Holds V0 s j) : (constant S_ .f32 0x00000000#32 : (Proc.devRef .tc main_while0b_cst_19 : DevRef τ sig).ty.Contents (Elt F)) = Cert.ReferenceIdeal.Step.b116 j s := by
  unfold Cert.ReferenceIdeal.Step.b116
  rfl
set_option maxRecDepth 8192 in
theorem al_117 (h : Holds V0 s j) : (Host.reduceAdd (res_main_while0b_v128 V0) (constant S_ .f32 0x00000000#32) reducesTo_S2x8x128x128_S2x8x128_d2 h_S_ : (Proc.devRef .tc main_while0b_v137 : DevRef τ sig).ty.Contents (Elt F)) = Cert.ReferenceIdeal.Step.b117 j s := by
  unfold Cert.ReferenceIdeal.Step.b117
  rw [← al_107 h, ← al_116 h]
  try rfl
set_option maxRecDepth 8192 in
theorem al_118 (h : Holds V0 s j) : (addf (mulf (broadcastInDim S2x8x128 ![0, 1, 2] bcast_S2x8x1_S2x8x128_0_1_2 (broadcastInDim S2x8x1 ![0, 1] bcast_S2x8_S2x8x1_0_1 (res_main_while0b_v125 V0))) (V0 (Proc.devRef .tc main_v33_7))) (Host.reduceAdd (res_main_while0b_v128 V0) (constant S_ .f32 0x00000000#32) reducesTo_S2x8x128x128_S2x8x128_d2 h_S_) : (Proc.devRef .tc main_while0b_v138 : DevRef τ sig).ty.Contents (Elt F)) = Cert.ReferenceIdeal.Step.b118 j s := by
  unfold Cert.ReferenceIdeal.Step.b118
  rw [← al_115 h, ← al_117 h]
  try rfl
set_option maxRecDepth 8192 in
theorem al_119 (h : Holds V0 s j) : (broadcastInDim S1x2x8x128x256 ![1, 2, 3, 4] bcast_S2x8x128x256_S1x2x8x128x256_1_2_3_4 (Host.divf (addf (mulf (broadcastInDim S2x8x128x256 ![0, 1, 2, 3] bcast_S2x8x128x1_S2x8x128x256_0_1_2_3 (broadcastInDim S2x8x128x1 ![0, 1, 2] bcast_S2x8x128_S2x8x128x1_0_1_2 (res_main_while0b_v91 V0))) (Host.dotGeneral dot_S2x8x128x128_S2x8x128x256_S2x8x128x256_3_2_2_3_01_01 none (res_main_while0b_v61 V0) (V0 (Proc.devRef .tc main_v33_6)))) (Host.dotGeneral dot_S2x8x128x128_S2x8x128x256_S2x8x128x256_3_2_2_3_01_01 none (res_main_while0b_v93 V0) (res_main_while0b_v63 V0))) (broadcastInDim S2x8x128x256 ![0, 1, 2, 3] bcast_S2x8x128x1_S2x8x128x256_0_1_2_3 (broadcastInDim S2x8x128x1 ![0, 1, 2] bcast_S2x8x128_S2x8x128x1_0_1_2 (maximumf (Host.absf (addf (mulf (res_main_while0b_v91 V0) (Host.dotGeneral dot_S2x8x128x128_S2x8x128_S2x8x128_3_2_2_n_01_01 none (res_main_while0b_v61 V0) (V0 (Proc.devRef .tc main_v33_7)))) (Host.reduceAdd (res_main_while0b_v93 V0) (constant S_ .f32 0x00000000#32) reducesTo_S2x8x128x128_S2x8x128_d3 h_S_))) (Host.exp (Host.negf (res_main_while0b_v82 V0))))))) : (Proc.devRef .tc main_while0b_call9_v0 : DevRef τ sig).ty.Contents (Elt F)) = Cert.ReferenceIdeal.Step.b119 j s := by
  unfold Cert.ReferenceIdeal.Step.b119
  rw [← al_89 h]
  try rfl
set_option maxRecDepth 8192 in
theorem al_120 (h : Holds V0 s j) : (constantI S_ 32 0#32 : (Proc.devRef .tc main_while0b_call9_c : DevRef τ sig).ty.Contents (Elt F)) = Cert.ReferenceIdeal.Step.b120 j s := by
  unfold Cert.ReferenceIdeal.Step.b120
  rfl
set_option maxRecDepth 8192 in
theorem al_121 (h : Holds V0 s j) : (constantI S_ 32 0#32 : (Proc.devRef .tc main_while0b_call9_c_0 : DevRef τ sig).ty.Contents (Elt F)) = Cert.ReferenceIdeal.Step.b121 j s := by
  unfold Cert.ReferenceIdeal.Step.b121
  rfl
set_option maxRecDepth 8192 in
theorem al_122 (h : Holds V0 s j) : (constantI S_ 32 0#32 : (Proc.devRef .tc main_while0b_call9_c_1 : DevRef τ sig).ty.Contents (Elt F)) = Cert.ReferenceIdeal.Step.b122 j s := by
  unfold Cert.ReferenceIdeal.Step.b122
  rfl
set_option maxRecDepth 8192 in
theorem al_123 (h : Holds V0 s j) : (constantI S_ 32 0#32 : (Proc.devRef .tc main_while0b_call9_c_2 : DevRef τ sig).ty.Contents (Elt F)) = Cert.ReferenceIdeal.Step.b123 j s := by
  unfold Cert.ReferenceIdeal.Step.b123
  rfl
set_option maxRecDepth 8192 in
theorem al_124 (h : Holds V0 s j) : (Host.dynamicUpdateSlice (V0 (Proc.devRef .tc main_v33_9)) (broadcastInDim S1x2x8x128x256 ![1, 2, 3, 4] bcast_S2x8x128x256_S1x2x8x128x256_1_2_3_4 (Host.divf (addf (mulf (broadcastInDim S2x8x128x256 ![0, 1, 2, 3] bcast_S2x8x128x1_S2x8x128x256_0_1_2_3 (broadcastInDim S2x8x128x1 ![0, 1, 2] bcast_S2x8x128_S2x8x128x1_0_1_2 (res_main_while0b_v91 V0))) (Host.dotGeneral dot_S2x8x128x128_S2x8x128x256_S2x8x128x256_3_2_2_3_01_01 none (res_main_while0b_v61 V0) (V0 (Proc.devRef .tc main_v33_6)))) (Host.dotGeneral dot_S2x8x128x128_S2x8x128x256_S2x8x128x256_3_2_2_3_01_01 none (res_main_while0b_v93 V0) (res_main_while0b_v63 V0))) (broadcastInDim S2x8x128x256 ![0, 1, 2, 3] bcast_S2x8x128x1_S2x8x128x256_0_1_2_3 (broadcastInDim S2x8x128x1 ![0, 1, 2] bcast_S2x8x128_S2x8x128x1_0_1_2 (maximumf (Host.absf (addf (mulf (res_main_while0b_v91 V0) (Host.dotGeneral dot_S2x8x128x128_S2x8x128_S2x8x128_3_2_2_n_01_01 none (res_main_while0b_v61 V0) (V0 (Proc.devRef .tc main_v33_7)))) (Host.reduceAdd (res_main_while0b_v93 V0) (constant S_ .f32 0x00000000#32) reducesTo_S2x8x128x128_S2x8x128_d3 h_S_))) (Host.exp (Host.negf (res_main_while0b_v82 V0)))))))) (fun k => (((![V0 (Proc.devRef .tc main_v33_5), constantI S_ 32 0#32, constantI S_ 32 0#32, constantI S_ 32 0#32, constantI S_ 32 0#32] : Fin 5 → (⟨S_, .i32⟩ : BufTy).Contents (Elt F))) k (Shape.Idx.first h_S_)).toInt) updateFits_S32x2x8x128x256_S1x2x8x128x256 : (Proc.devRef .tc main_while0b_v139 : DevRef τ sig).ty.Contents (Elt F)) = Cert.ReferenceIdeal.Step.b124 j s := by
  unfold Cert.ReferenceIdeal.Step.b124
  rw [← al_119 h, ← al_120 h, ← al_121 h, ← al_122 h, ← al_123 h, h.f_9, h.n_5]
  try rfl

/-! One trip's step of the carried values is `step`, field by field; a counter steps to the next number. -/

theorem step_6 (h : Holds V0 s j) : step_main_v33_6 V0 = (step j s).main_v33_6 := by
  unfold step_main_v33_6 Cert.ReferenceIdeal.Step.step
  show id (addf (mulf (broadcastInDim S2x8x128x256 ![0, 1, 2, 3] bcast_S2x8x1x1_S2x8x128x256_0_1_2_3 (broadcastInDim S2x8x1x1 ![0, 1] bcast_S2x8_S2x8x1x1_0_1 (res_main_while0b_v125 V0))) (V0 (Proc.devRef .tc main_v33_6))) (Host.dotGeneral dot_S2x8x128x128_S2x8x128x256_S2x8x128x256_2_2_3_3_01_01 none (res_main_while0b_v128 V0) (res_main_while0b_v63 V0))) = _
  rw [al_112 h]
  try rfl
theorem step_7 (h : Holds V0 s j) : step_main_v33_7 V0 = (step j s).main_v33_7 := by
  unfold step_main_v33_7 Cert.ReferenceIdeal.Step.step
  show id (addf (mulf (broadcastInDim S2x8x128 ![0, 1, 2] bcast_S2x8x1_S2x8x128_0_1_2 (broadcastInDim S2x8x1 ![0, 1] bcast_S2x8_S2x8x1_0_1 (res_main_while0b_v125 V0))) (V0 (Proc.devRef .tc main_v33_7))) (Host.reduceAdd (res_main_while0b_v128 V0) (constant S_ .f32 0x00000000#32) reducesTo_S2x8x128x128_S2x8x128_d2 h_S_)) = _
  rw [al_118 h]
  try rfl
theorem step_8 (h : Holds V0 s j) : step_main_v33_8 V0 = (step j s).main_v33_8 := by
  unfold step_main_v33_8 Cert.ReferenceIdeal.Step.step
  show id (res_main_while0b_v112 V0) = _
  rw [al_91 h]
  try rfl
theorem step_9 (h : Holds V0 s j) : step_main_v33_9 V0 = (step j s).main_v33_9 := by
  unfold step_main_v33_9 Cert.ReferenceIdeal.Step.step
  exact al_124 h
theorem step_5 (h : Holds V0 s j) : step_main_v33_5 V0 = constantI S_ 32 (BitVec.ofNat 32 (j + 1)) := by
  unfold step_main_v33_5
  rw [h.n_5]
  funext i
  show BitVec.ofNat 32 j + 1#32 = BitVec.ofNat 32 (j + 1)
  simp only [BitVec.ofNat_add]

set_option maxRecDepth 8192 in
theorem out_main_v59_holds (h : Holds V0 s j) {x_main_arg0 : (⟨S2x4096x6144, .f32⟩ : BufTy).Contents (Elt F)} (h_main_arg0 : V0 (Proc.devRef .tc main_arg0) = x_main_arg0) {x_main_arg3 : (⟨S2048, .f32⟩ : BufTy).Contents (Elt F)} (h_main_arg3 : V0 (Proc.devRef .tc main_arg3) = x_main_arg3) : out_main_v59 V0 = Cert.ReferenceIdeal.Step.R_main_v59 s x_main_arg0 x_main_arg3 := by
  unfold out_main_v59 Cert.ReferenceIdeal.Step.R_main_v59
  rw [h.f_9, h_main_arg0, h_main_arg3]
  try rfl

set_option maxRecDepth 8192 in
theorem out_main_v60_holds (h : Holds V0 s j) : out_main_v60 V0 = Cert.ReferenceIdeal.Step.R_main_v60 s := by
  unfold out_main_v60 Cert.ReferenceIdeal.Step.R_main_v60
  rw [h.f_8]
  try rfl

/-- One trip keeps the valuation holding: `step` of the state, the same set-up values, the next number. -/
theorem holds_step (h : Holds V0 s j) : Holds (STEP V0) (step j s) (j + 1) where
  f_6 := (STEP_main_v33_6 V0).trans (step_6 h)
  f_7 := (STEP_main_v33_7 V0).trans (step_7 h)
  f_8 := (STEP_main_v33_8 V0).trans (step_8 h)
  f_9 := (STEP_main_v33_9 V0).trans (step_9 h)
  n_5 := (STEP_main_v33_5 V0).trans (step_5 h)
  f_0 := (STEP_main_v33_0 V0).trans h.f_0
  f_1 := (STEP_main_v33_1 V0).trans h.f_1
  f_2 := (STEP_main_v33_2 V0).trans h.f_2
  f_3 := (STEP_main_v33_3 V0).trans h.f_3
  f_4 := (STEP_main_v33_4 V0).trans h.f_4

/-- The state the first trip starts from, of the memory the run starts from. -/
abbrev initState (m : (ℓ : Loc nD τ sig) → Buf (Elt F) ℓ) (c : Dev nD) : State F :=
  init (m ((c.tc : Thread nD τ).loc main_arg4)) (m ((c.tc : Thread nD τ).loc main_arg5)) (m ((c.tc : Thread nD τ).loc main_arg6)) (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v59) = Cert.ReferenceIdeal.Step.R_main_v59 (it c 32) (m ((c.tc : Thread nD τ).loc main_arg0)) (m ((c.tc : Thread nD τ).loc main_arg3))
      ∧ r.2.mem ((c.tc : Thread nD τ).loc main_v33_6) = (it c 32).main_v33_6
      ∧ r.2.mem ((c.tc : Thread nD τ).loc main_v33_7) = (it c 32).main_v33_7
      ∧ r.2.mem ((c.tc : Thread nD τ).loc main_v60) = Cert.ReferenceIdeal.Step.R_main_v60 (it c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 32
    ⟨(h c).1.trans (out_main_v59_holds hk (iter_main_arg0 m c 32) (iter_main_arg3 m c 32)), (h c).2.1.trans hk.f_6, (h c).2.2.1.trans hk.f_7, (h c).2.2.2.1.trans (out_main_v60_holds hk), (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩) (Value.run m ρ)

end Cert.ReferenceIdeal.LoopRun

end
-- ==== Proof.Spec.lean ====
/-
  One head of one chunk of the recurrence in numbers: what the chunk's 128 steps read (queries, keys, values, the two
  gates before their nonlinearity), the state they start from, and what they leave. Extended reals throughout.
-/
module

public import Idealize.ShloMosaic.Lib.Pointwise

@[expose] public section

noncomputable section

namespace Cert.Mlstm

open Idealize.ShloMosaic

/-- The scale of the queries. -/
def sq : EReal := Ideal.ofBits .f32 0x3DB504F3#32
/-- The log weight of a later step. -/
def neg : EReal := Ideal.ofBits .f32 0xF149F2CA#32
/-- The number a maximum starts from. -/
def ninf : EReal := Ideal.ofBits .f32 0xFF800000#32
/-- The log of the logistic function. -/
def ls (x : EReal) : EReal := min x 0 - Ideal.log (1 + Ideal.exp (0 - (FloatOps.absf (F := Ideal) (φ := .f32) x : EReal)))

/-- What a chunk reads of one head: queries, keys, values and the gates' inputs. -/
structure Chunk where
  q : Fin 128 → Fin 128 → EReal
  k : Fin 128 → Fin 128 → EReal
  v : Fin 128 → Fin 256 → EReal
  xi : Fin 128 → EReal
  xf : Fin 128 → EReal

/-- The state of one head. -/
@[ext] structure St where
  C : Fin 128 → Fin 256 → EReal
  n : Fin 128 → EReal
  m : EReal

section
variable (x : Chunk) (s : St)

/-- The sum of the log forget gates up to and including step `t`. -/
def bsum (t : Fin 128) : EReal := ∑ u : Fin 128, if u ≤ t then ls (x.xf u) else 0
/-- The log weight of step `u` at step `t`. -/
def logd (t u : Fin 128) : EReal := if u ≤ t then bsum x t - bsum x u + x.xi u else neg
/-- The stabiliser of step `t`. -/
def mt (t : Fin 128) : EReal := max (bsum x t + s.m) (Finset.fold max ninf (fun u => logd x t u) Finset.univ)
/-- The weight of the incoming state at step `t`. -/
def inter (t : Fin 128) : EReal := Ideal.exp (bsum x t + s.m - mt x s t)
/-- The weight of step `t` in the outgoing state. -/
def ws (t : Fin 128) : EReal := Ideal.exp (bsum x 127 - bsum x t + x.xi t - mt x s 127)
/-- The weight of the incoming state in the outgoing one. -/
def decay : EReal := Ideal.exp (bsum x 127 + s.m - mt x s 127)
/-- The weighted score of step `u` at step `t`. -/
def w (t u : Fin 128) : EReal := (∑ d, x.q t d * sq * x.k u d) * Ideal.exp (logd x t u - mt x s t)
/-- The numerator of step `t`. -/
def num (t : Fin 128) (e : Fin 256) : EReal :=
  inter x s t * (∑ d, x.q t d * sq * s.C d e) + ∑ u, w x s t u * x.v u e
/-- The denominator of step `t`. -/
def den (t : Fin 128) : EReal :=
  max (FloatOps.absf (F := Ideal) (φ := .f32) (inter x s t * (∑ d, x.q t d * sq * s.n d) + ∑ u, w x s t u) : EReal)
    (Ideal.exp (0 - mt x s t))
/-- The output of step `t`. -/
def hid (t : Fin 128) (e : Fin 256) : EReal := Ideal.div (num x s t e) (den x s t)
/-- The state after the chunk. -/
def next : St where
  C d e := decay x s * s.C d e + ∑ t, x.k t d * ws x s t * x.v t e
  n d := decay x s * s.n d + ∑ t, x.k t d * ws x s t
  m := mt x s 127
end

/-- An output normalised over the head, scaled and gated. -/
def gated (h : Fin 256 → EReal) (hg og : EReal) (e : Fin 256) : EReal :=
  h e * Ideal.rsqrt (Ideal.div (∑ j, h j * h j) (Ideal.ofBits .f32 0x43800000#32) + Ideal.ofBits .f32 0x358637BD#32) * hg *
    Ideal.div 1 (1 + Ideal.exp (0 - og))

theorem sle_iff (a b : Fin 128) : (BitVec.ofNat 32 a.val).sle (BitVec.ofNat 32 b.val) = decide (a ≤ b) := by
  revert a b; decide +kernel

/-- The comparison of two step numbers, as words, decides as the numbers do. -/
theorem select_sle {α : Type} (a b : Fin 128) (p q : α) :
    Scalar.select (IntOp.cmpi .sle (BitVec.ofNat 32 a.val) (BitVec.ofNat 32 b.val)) p q = if a ≤ b then p else q := by
  have e : IntOp.cmpi .sle (BitVec.ofNat 32 a.val) (BitVec.ofNat 32 b.val) = BitVec.ofBool (decide (a ≤ b)) :=
    congrArg BitVec.ofBool (sle_iff a b)
  rw [e]
  by_cases h : a ≤ b
  · rw [if_pos h, decide_eq_true h]; exact if_pos rfl
  · rw [if_neg h, decide_eq_false h]; exact if_neg (by decide)

end Cert.Mlstm
-- ==== Proof.Chain.lean ====
/-
  The recurrence over a sequence's chunks in numbers: the chunks read off the arguments, and the state of each head
  before each chunk.
-/
module

public import proofs.«01_k».proof.Proof.Spec

@[expose] public section

noncomputable section

namespace Cert.Mlstm

open Idealize.ShloMosaic

/-- The layer's arguments: projections, gates, biases, gains and the state. -/
structure Args where
  p : Fin 2 → Fin 4096 → Fin 6144 → EReal
  g : Fin 2 → Fin 4096 → Fin 128 → EReal
  bias : Fin 16 → EReal
  hg : Fin 2048 → EReal
  c : Fin 2 → Fin 8 → Fin 128 → Fin 256 → EReal
  n : Fin 2 → Fin 8 → Fin 128 → EReal
  m : Fin 2 → Fin 8 → EReal

/-- Step `t` of chunk `j` among a sequence's steps. -/
def row (j : Fin 32) (t : Fin 128) : Fin 4096 := ⟨128 * j.val + t.val, by omega⟩

namespace Args
variable (A : Args) (b : Fin 2) (h : Fin 8)

/-- What chunk `j` of sequence `b` reads for head `h`. -/
def chunk (j : Fin 32) : Chunk where
  q t d := A.p b (row j t) ⟨128 * h.val + d.val, by omega⟩
  k t d := A.p b (row j t) ⟨1024 + 128 * h.val + d.val, by omega⟩
  v t e := A.p b (row j t) ⟨2048 + 256 * h.val + e.val, by omega⟩
  xi t := A.g b (row j t) ⟨h.val, by omega⟩ + A.bias ⟨h.val, by omega⟩
  xf t := A.g b (row j t) ⟨8 + h.val, by omega⟩ + A.bias ⟨8 + h.val, by omega⟩

/-- The state head `h` of sequence `b` starts from. -/
def st0 : St where
  C := A.c b h
  n := A.n b h
  m := A.m b h

/-- The state before chunk `j`. -/
def st : ℕ → St
  | 0 => A.st0 b h
  | j + 1 => next (A.chunk b h ⟨j % 32, Nat.mod_lt _ (by decide)⟩) (st j)

theorem st_succ (j : Fin 32) : A.st b h (j.val + 1) = next (A.chunk b h j) (A.st b h j.val) := by
  show next (A.chunk b h ⟨j.val % 32, _⟩) _ = _
  rw [show (⟨j.val % 32, Nat.mod_lt _ (by decide)⟩ : Fin 32) = j from Fin.ext (Nat.mod_eq_of_lt j.isLt)]

/-- The output of step `t` of chunk `j` at column `e` of head `h`. -/
def out (j : Fin 32) (t : Fin 128) (e : Fin 256) : EReal :=
  gated (hid (A.chunk b h j) (A.st b h j.val) t) (A.hg ⟨256 * h.val + e.val, by omega⟩)
    (A.p b (row j t) ⟨4096 + 256 * h.val + e.val, by omega⟩) e

/-- Head and column of a column of the output. -/
def hd (x : Fin 2048) : Fin 8 := ⟨x.val / 256, by omega⟩
def col (x : Fin 2048) : Fin 256 := ⟨x.val % 256, by omega⟩
/-- Chunk and step of a step of the sequence. -/
def ch (r : Fin 4096) : Fin 32 := ⟨r.val / 128, by omega⟩
def stp (r : Fin 4096) : Fin 128 := ⟨r.val % 128, by omega⟩
end Args

end Cert.Mlstm
-- ==== Proof.RefIn.lean ====
/-
  What the reference prepares before its loop, read at an index: the queries, keys, values and gates of a chunk.
-/
module

public import proofs.«01_k».proof.Proof.Gen.ReferenceIdeal.Step
public import proofs.«01_k».proof.Proof.Chain

@[expose] public section

noncomputable section

namespace Cert.ReferenceIdeal.Read

open Idealize.ShloMosaic Idealize.ShloMosaic.Tactic Cert.ReferenceIdeal Cert.ReferenceIdeal.Gen Cert.ReferenceIdeal.Step Cert.Mlstm

/-- The arguments as numbers. -/
def args (a0 : FVec Ideal S2x4096x6144 .f32) (a1 : FVec Ideal S2x4096x128 .f32) (a2 : FVec Ideal S16 .f32) (a3 : FVec Ideal S2048 .f32)
    (a4 : FVec Ideal S2x8x128x256 .f32) (a5 : FVec Ideal S2x8x128 .f32) (a6 : FVec Ideal S2x8 .f32) : Args where
  p b r c := a0 (ix3 b r c)
  g b r c := a1 (ix3 b r c)
  bias c := a2 (ix1 c)
  hg c := a3 (ix1 c)
  c b h d e := a4 (ix4 b h d e)
  n b h d := a5 (ix3 b h d)
  m b h := a6 (ix2 b h)

theorem exp_nonneg (x : EReal) : 0 ≤ Ideal.exp x := by
  induction x with
  | bot => exact le_refl _
  | top => exact le_top
  | coe r => exact EReal.coe_nonneg.2 (Real.exp_pos r).le

theorem log_ne_bot (y : EReal) (h : 1 ≤ y) : Ideal.log y ≠ ⊥ := by
  induction y with
  | bot => exact absurd h (by decide)
  | top => exact bot_ne_top.symm
  | coe r =>
    have hr : (1 : ℝ) ≤ r := by exact_mod_cast h
    show (if r ≤ 0 then (⊥ : EReal) else (Real.log r : EReal)) ≠ ⊥
    rw [if_neg (by linarith)]
    exact EReal.coe_ne_bot _

theorem neg_max_neg (x : EReal) : -max (-x) 0 = min x 0 := by
  rcases le_total x 0 with hx | hx
  · rw [min_eq_left hx, max_eq_left (by simpa using EReal.neg_le_neg_iff.2 hx), neg_neg]
  · rw [min_eq_right hx, max_eq_right (by simpa using EReal.neg_le_neg_iff.2 hx), neg_zero]

/-- The log of the logistic function is minus the softplus of minus its argument. -/
theorem ls_eq (x : EReal) :
    -(if -x ≠ -x then -x else max (-x) 0 + Ideal.log1p (Ideal.exp (-(FloatOps.absf (F := Ideal) (φ := .f32) (-x) : EReal)))) = ls x := by
  have ha : (FloatOps.absf (F := Ideal) (φ := .f32) (-x) : EReal) = FloatOps.absf (F := Ideal) (φ := .f32) x := by
    show max (-x) (- -x) = max x (-x)
    rw [neg_neg, max_comm]
  rw [if_neg (not_not.2 rfl), ha]
  unfold Ideal.log1p ls
  rw [zero_sub]
  have hc := log_ne_bot _ (le_add_of_nonneg_right (a := (1 : EReal)) (exp_nonneg (-(FloatOps.absf (F := Ideal) (φ := .f32) x : EReal))))
  generalize Ideal.log (1 + Ideal.exp (-(FloatOps.absf (F := Ideal) (φ := .f32) x : EReal))) = c at hc ⊢
  have h0 : max (-x) 0 ≠ ⊥ := fun e => absurd (le_max_right (-x) 0) (by rw [e]; decide)
  rw [EReal.neg_add (Or.inl h0) (Or.inr hc), neg_max_neg]

/-! The reshapes at an index. -/

theorem cast_heads (x : FVec Ideal S2x4096x1024 .f32) (hc : S2x4096x1024.ShapeCasts S2x4096x8x128) (b : Fin 2) (r : Fin 4096) (h : Fin 8) (d : Fin 128) :
    shapeCast S2x4096x8x128 x hc (ix4 b r h d) = x (ix3 b r ⟨128 * h.val + d.val, by omega⟩) :=
  shapeCast_apply x hc _ _ (by
    rw [Shape.rowMajor_val_four, Shape.rowMajor_val_three]
    show (b.val * 4096 + r.val) * 1024 + (128 * h.val + d.val) = ((b.val * 4096 + r.val) * 8 + h.val) * 128 + d.val
    omega)
theorem cast_heads2 (x : FVec Ideal S2x4096x2048 .f32) (hc : S2x4096x2048.ShapeCasts S2x4096x8x256) (b : Fin 2) (r : Fin 4096) (h : Fin 8) (d : Fin 256) :
    shapeCast S2x4096x8x256 x hc (ix4 b r h d) = x (ix3 b r ⟨256 * h.val + d.val, by omega⟩) :=
  shapeCast_apply x hc _ _ (by
    rw [Shape.rowMajor_val_four, Shape.rowMajor_val_three]
    show (b.val * 4096 + r.val) * 2048 + (256 * h.val + d.val) = ((b.val * 4096 + r.val) * 8 + h.val) * 256 + d.val
    omega)
theorem cast_chunks (x : FVec Ideal S2x8x4096x128 .f32) (hc : S2x8x4096x128.ShapeCasts S2x8x32x128x128) (b : Fin 2) (h : Fin 8) (j : Fin 32) (t d : Fin 128) :
    shapeCast S2x8x32x128x128 x hc (ix5 b h j t d) = x (ix4 b h (row j t) d) :=
  shapeCast_apply x hc _ _ (by
    rw [Shape.rowMajor_val_five, Shape.rowMajor_val_four]
    show ((b.val * 8 + h.val) * 4096 + (128 * j.val + t.val)) * 128 + d.val = (((b.val * 8 + h.val) * 32 + j.val) * 128 + t.val) * 128 + d.val
    omega)
theorem cast_chunks2 (x : FVec Ideal S2x8x4096x256 .f32) (hc : S2x8x4096x256.ShapeCasts S2x8x32x128x256) (b : Fin 2) (h : Fin 8) (j : Fin 32) (t : Fin 128) (d : Fin 256) :
    shapeCast S2x8x32x128x256 x hc (ix5 b h j t d) = x (ix4 b h (row j t) d) :=
  shapeCast_apply x hc _ _ (by
    rw [Shape.rowMajor_val_five, Shape.rowMajor_val_four]
    show ((b.val * 8 + h.val) * 4096 + (128 * j.val + t.val)) * 256 + d.val = (((b.val * 8 + h.val) * 32 + j.val) * 128 + t.val) * 256 + d.val
    omega)
theorem cast_steps (x : FVec Ideal S2x8x4096 .f32) (hc : S2x8x4096.ShapeCasts S2x8x32x128) (b : Fin 2) (h : Fin 8) (j : Fin 32) (t : Fin 128) :
    shapeCast S2x8x32x128 x hc (ix4 b h j t) = x (ix3 b h (row j t)) :=
  shapeCast_apply x hc _ _ (by
    rw [Shape.rowMajor_val_four, Shape.rowMajor_val_three]
    show (b.val * 8 + h.val) * 4096 + (128 * j.val + t.val) = ((b.val * 8 + h.val) * 32 + j.val) * 128 + t.val
    omega)

section
variable (a0 : FVec Ideal S2x4096x6144 .f32) (a1 : FVec Ideal S2x4096x128 .f32) (a2 : FVec Ideal S16 .f32) (a3 : FVec Ideal S2048 .f32)
    (a4 : FVec Ideal S2x8x128x256 .f32) (a5 : FVec Ideal S2x8x128 .f32) (a6 : FVec Ideal S2x8 .f32)
    (j : Fin 32) (b : Fin 2) (h : Fin 8) (t d : Fin 128) (e : Fin 256)

theorem q_apply : (A_main_v23 (F := Ideal) a0 a1 a2 (ix5 j b h t d) : EReal) = ((args a0 a1 a2 a3 a4 a5 a6).chunk b h j).q t d * Mlstm.sq := by
  pointwise [A_main_v23, A_main_v22, A_main_v4, K_main_v3, K_main_cst, cast_chunks]
  pointwise [A_main_v2, A_main_v1, cast_heads, A_main_v0]
  rfl
theorem k_apply : (A_main_v25 (F := Ideal) a0 a1 a2 (ix5 j b h t d) : EReal) = ((args a0 a1 a2 a3 a4 a5 a6).chunk b h j).k t d := by
  pointwise [A_main_v25, A_main_v24, A_main_v7, cast_chunks]
  pointwise [A_main_v6, cast_heads, A_main_v5]
  exact congrArg (fun c => a0 (ix3 b (row j t) c)) (Fin.ext (by show 1024 + (128 * h.val + d.val) = 1024 + 128 * h.val + d.val; omega))
theorem v_apply : (A_main_v27 (F := Ideal) a0 a1 a2 (ix5 j b h t e) : EReal) = ((args a0 a1 a2 a3 a4 a5 a6).chunk b h j).v t e := by
  pointwise [A_main_v27, A_main_v26, A_main_v10, cast_chunks2]
  pointwise [A_main_v9, cast_heads2, A_main_v8]
  exact congrArg (fun c => a0 (ix3 b (row j t) c)) (Fin.ext (by show 2048 + (256 * h.val + e.val) = 2048 + 256 * h.val + e.val; omega))
theorem i_apply : (A_main_v29 (F := Ideal) a0 a1 a2 (ix4 j b h t) : EReal) = ((args a0 a1 a2 a3 a4 a5 a6).chunk b h j).xi t := by
  pointwise [A_main_v29, A_main_v28, cast_steps]
  pointwise [A_main_v16, A_main_v15, A_main_v14, A_main_v13, A_main_v12, A_main_v11]
  rfl
theorem f_apply : (A_main_v31 (F := Ideal) a0 a1 a2 (ix4 j b h t) : EReal) = ls (((args a0 a1 a2 a3 a4 a5 a6).chunk b h j).xf t) := by
  pointwise [A_main_v31, A_main_v30, cast_steps]
  pointwise [A_main_v21, A_main_v20, A_main_v19, A_main_v18, A_main_v17, A_main_v14, A_main_v13, A_main_v12, A_main_v11,
    A_main_call0_v1, A_main_call0_v3, A_main_call0_v4, A_main_call0_v6, A_main_call0_v7, A_main_call0_v8, A_main_call0_v9, A_main_call0_v10, A_main_call0_v11,
    K_main_call0_v0, K_main_call0_v2, K_main_call0_v5, K_main_call0_cst]
  exact ls_eq _
end
end Cert.ReferenceIdeal.Read
-- ==== Proof.RefCum.lean ====
/-
  The running sum of a chunk's log forget gates, as the reference states it: a window of 128 steps padded low by 127 is
  the sum of the steps up to and including the current one.
-/
module

public import Idealize.ShloMosaic.Lib.Pointwise

@[expose] public section

noncomputable section

namespace Cert.Mlstm

open Idealize.ShloMosaic

/-- The window's positions are its last coordinate's. -/
def winEquiv : Fin 128 ≃ (⟨3, ![1, 1, 128]⟩ : Shape).Idx where
  toFun w := ix3 (0 : Fin 1) (0 : Fin 1) w
  invFun i := i 2
  left_inv _ := rfl
  right_inv i := by
    funext a
    match a with
    | ⟨0, _⟩ => exact Subsingleton.elim (α := Fin 1) _ _
    | ⟨1, _⟩ => exact Subsingleton.elim (α := Fin 1) _ _
    | ⟨2, _⟩ => rfl

theorem foldl_add_eq_sum {n : ℕ} (g : Fin n → EReal) : (List.finRange n).foldl (fun r i => r + g i) 0 = ∑ i, g i := by
  rw [Fin.sum_univ_def, ← List.foldl_map (f := g) (g := fun r y => r + y), List.sum_eq_foldl]

/-- The steps a window reaches are those up to the current one. -/
theorem sum_window (f : Fin 128 → EReal) (t : Fin 128) :
    (∑ w : Fin 128, if h : 127 ≤ t.val + w.val then f ⟨t.val + w.val - 127, by omega⟩ else 0) = ∑ u : Fin 128, if u ≤ t then f u else 0 := by
  have e : ∀ w : Fin 128, (if h : 127 ≤ t.val + w.val then f ⟨t.val + w.val - 127, by omega⟩ else 0)
      = if 127 ≤ t.val + w.val then f ⟨t.val + w.val - 127, by omega⟩ else 0 := fun w => by split <;> rfl
  rw [Finset.sum_congr rfl fun w _ => e w, ← Finset.sum_filter, ← Finset.sum_filter]
  refine Finset.sum_bij' (fun w _ => ⟨t.val + w.val - 127, by omega⟩) (fun u _ => ⟨(u.val + 127 - t.val) % 128, Nat.mod_lt _ (by decide)⟩) ?_ ?_ ?_ ?_ ?_
  · intro w hw; rw [Finset.mem_filter] at hw ⊢
    exact ⟨Finset.mem_univ _, Fin.le_def.2 (by show t.val + w.val - 127 ≤ t.val; omega)⟩
  · intro u hu; rw [Finset.mem_filter, Fin.le_def] at hu; rw [Finset.mem_filter]
    refine ⟨Finset.mem_univ _, ?_⟩
    show 127 ≤ t.val + (u.val + 127 - t.val) % 128
    omega
  · intro w hw; rw [Finset.mem_filter] at hw
    refine Fin.ext ?_
    show ((t.val + w.val - 127) + 127 - t.val) % 128 = w.val
    omega
  · intro u hu; rw [Finset.mem_filter, Fin.le_def] at hu
    refine Fin.ext ?_
    show t.val + (u.val + 127 - t.val) % 128 - 127 = u.val
    omega
  · intro w hw; rfl

/-- What a window's position holds: the step it reaches, or nothing. -/
def winG (x : FVec Ideal ⟨3, ![2, 8, 128]⟩ .f32) (b : Fin 2) (k : Fin 8) (t : Fin 128) (i : (⟨3, ![1, 1, 128]⟩ : Shape).Idx) : EReal :=
  if hin : ∀ a : Fin 3, (![0, 0, 127] : Fin 3 → Nat) a ≤ ((ix3 b k t : (⟨3, ![2, 8, 128]⟩ : Shape).Idx) a).val * (![1, 1, 1] : Fin 3 → Nat) a + (i a).val
      ∧ ((ix3 b k t : (⟨3, ![2, 8, 128]⟩ : Shape).Idx) a).val * (![1, 1, 1] : Fin 3 → Nat) a + (i a).val - (![0, 0, 127] : Fin 3 → Nat) a < (![2, 8, 128] : Fin 3 → Nat) a
    then x (fun a => ⟨((ix3 b k t : (⟨3, ![2, 8, 128]⟩ : Shape).Idx) a).val * (![1, 1, 1] : Fin 3 → Nat) a + (i a).val - (![0, 0, 127] : Fin 3 → Nat) a, (hin a).2⟩) else 0

/-- The running sum along the last axis of a `[2, 8, 128]` array. -/
theorem cumsum_apply {u : Shape} (x : FVec Ideal ⟨3, ![2, 8, 128]⟩ .f32) (init : FVec Ideal u .f32)
    (h : (⟨3, ![2, 8, 128]⟩ : Shape).ReduceWindows ![1, 1, 128] ![1, 1, 1] ![0, 0, 127] ![0, 0, 0] ⟨3, ![2, 8, 128]⟩) (hu : 0 < u.numel)
    (hi : init (Shape.Idx.first hu) = (0 : EReal)) (b : Fin 2) (k : Fin 8) (t : Fin 128) :
    (Host.reduceWindowAdd ![1, 1, 128] ![1, 1, 1] ![0, 0, 127] ![0, 0, 0] x init h hu (ix3 b k t) : EReal)
      = ∑ s : Fin 128, if s ≤ t then (x (ix3 b k s) : EReal) else 0 := by
  show Ideal.hostReduceWindowAdd ![1, 1, 128] ![1, 1, 1] ![0, 0, 127] ![0, 0, 0] h x (init (Shape.Idx.first hu)) (ix3 b k t) = _
  rw [hi]
  unfold Ideal.hostReduceWindowAdd Host.reduceWindow
  dsimp only
  refine (foldl_add_eq_sum _).trans ?_
  refine (Finset.sum_congr rfl fun n _ => (?_ : _ = winG x b k t ((⟨3, ![1, 1, 128]⟩ : Shape).rowMajor.symm n))).trans ?_
  · exact dite_congr rfl (fun _ => rfl) (fun _ => rfl)
  refine ((Equiv.sum_comp (⟨3, ![1, 1, 128]⟩ : Shape).rowMajor.symm (winG x b k t)).trans ((winEquiv.sum_comp (winG x b k t)).symm)).trans ?_
  refine (Finset.sum_congr rfl fun w _ => ?_).trans (sum_window (fun s => x (ix3 b k s)) t)
  unfold winG
  by_cases hw : 127 ≤ t.val + w.val
  · rw [dif_pos hw, dif_pos]
    · refine congrArg x (funext fun a => Fin.ext ?_)
      match a with
      | ⟨0, _⟩ => show b.val * 1 + 0 - 0 = b.val; omega
      | ⟨1, _⟩ => show k.val * 1 + 0 - 0 = k.val; omega
      | ⟨2, _⟩ => show t.val * 1 + w.val - 127 = t.val + w.val - 127; omega
    · intro a
      match a with
      | ⟨0, _⟩ => show 0 ≤ b.val * 1 + 0 ∧ b.val * 1 + 0 - 0 < 2; omega
      | ⟨1, _⟩ => show 0 ≤ k.val * 1 + 0 ∧ k.val * 1 + 0 - 0 < 8; omega
      | ⟨2, _⟩ => show 127 ≤ t.val * 1 + w.val ∧ t.val * 1 + w.val - 127 < 128; omega
  · rw [dif_neg hw, dif_neg]
    intro hin
    have := (hin 2).1
    change 127 ≤ t.val * 1 + w.val at this
    omega

end Cert.Mlstm
-- ==== Proof.RefRead.lean ====
/-
  One trip of the reference's loop, read at an index: for every head it is the recurrence in numbers (Spec.lean) of the
  trip's chunk, from the state the trip starts with.
-/
module

public import proofs.«01_k».proof.Proof.Gen.ReferenceIdeal.Step
public import proofs.«01_k».proof.Proof.Chain
public import proofs.«01_k».proof.Proof.RefCum
public import Idealize.ShloMosaic.Lib.DynamicIndex

@[expose] public section

noncomputable section

namespace Cert.ReferenceIdeal.Read

open Idealize.ShloMosaic Idealize.ShloMosaic.Tactic Cert.ReferenceIdeal Cert.ReferenceIdeal.Gen Cert.ReferenceIdeal.Step Cert.Mlstm

/-- What a loop's state holds before trip `j`, at head `h` of sequence `b`: the trip's chunk at its place in the stacks,
    and the state. -/
structure Has (s : State Ideal) (j : Fin 32) (b : Fin 2) (h : Fin 8) (x : Chunk) (z : St) : Prop where
  q : ∀ t d, s.main_v33_0 (ix5 j b h t d) = x.q t d * Mlstm.sq
  k : ∀ t d, s.main_v33_1 (ix5 j b h t d) = x.k t d
  v : ∀ t e, s.main_v33_2 (ix5 j b h t e) = x.v t e
  i : ∀ t, s.main_v33_3 (ix4 j b h t) = x.xi t
  f : ∀ t, s.main_v33_4 (ix4 j b h t) = ls (x.xf t)
  C : ∀ d e, s.main_v33_6 (ix4 b h d e) = z.C d e
  n : ∀ d, s.main_v33_7 (ix3 b h d) = z.n d
  m : s.main_v33_8 (ix2 b h) = z.m

theorem start_toInt (j : Fin 32) : (BitVec.ofNat 32 j.val).toInt = (j.val : Int) := toInt_ofNat_of_lt (by omega)

theorem select_sge {α : Type} (a b : Fin 128) (p q : α) :
    Scalar.select (IntOp.cmpi .sge (BitVec.ofNat 32 a.val) (BitVec.ofNat 32 b.val)) p q = if b ≤ a then p else q := by
  have e : IntOp.cmpi .sge (BitVec.ofNat 32 a.val) (BitVec.ofNat 32 b.val) = BitVec.ofBool (decide (b ≤ a)) :=
    congrArg BitVec.ofBool (sle_iff b a)
  rw [e]
  by_cases h : b ≤ a
  · rw [if_pos h, decide_eq_true h]; exact if_pos rfl
  · rw [if_neg h, decide_eq_false h]; exact if_neg (by decide)

section
variable {s : State Ideal} {j : Fin 32} {b : Fin 2} {h : Fin 8} {x : Chunk} {z : St} (H : Has s j b h x z)

/-! The dynamic slices of the stacks. -/
theorem slice5 {n : Nat} (w : FVec Ideal ⟨5, ![32, 2, 8, 128, n]⟩ .f32) (st : Fin 5 → Int) (h0 : st 0 = j.val) (h1 : st 1 = 0) (h2 : st 2 = 0) (h3 : st 3 = 0) (h4 : st 4 = 0)
    (hf : (⟨5, ![32, 2, 8, 128, n]⟩ : Shape).Slices (fun _ => 0) ⟨5, ![1, 2, 8, 128, n]⟩) (t : Fin 128) (d : Fin n) :
    Host.dynamicSlice ⟨5, ![1, 2, 8, 128, n]⟩ w st hf (ix5 0 b h t d) = w (ix5 j b h t d) := by
  have hoff : (⟨5, ![32, 2, 8, 128, n]⟩ : Shape).Slices (![j.val, 0, 0, 0, 0] : Fin 5 → Nat) ⟨5, ![1, 2, 8, 128, n]⟩ := ⟨rfl, fun a => by
    match a with
    | ⟨0, _⟩ => show j.val + 1 ≤ 32; omega
    | ⟨1, _⟩ => exact le_refl _
    | ⟨2, _⟩ => exact le_refl _
    | ⟨3, _⟩ => exact le_refl _
    | ⟨4, _⟩ => show 0 + n ≤ n; omega⟩
  rw [Host.dynamicSlice_eq_extractStridedSlice _ w st (![j.val, 0, 0, 0, 0]) hf hoff fun a => by
    match a with
    | ⟨0, _⟩ => exact h0
    | ⟨1, _⟩ => exact h1
    | ⟨2, _⟩ => exact h2
    | ⟨3, _⟩ => exact h3
    | ⟨4, _⟩ => exact h4]
  unfold extractStridedSlice
  refine congrArg w (funext fun a => Fin.ext ?_)
  match a with
  | ⟨0, _⟩ => exact Nat.add_zero _
  | ⟨1, _⟩ => exact Nat.zero_add _
  | ⟨2, _⟩ => exact Nat.zero_add _
  | ⟨3, _⟩ => exact Nat.zero_add _
  | ⟨4, _⟩ => exact Nat.zero_add _
theorem slice4 (w : FVec Ideal ⟨4, ![32, 2, 8, 128]⟩ .f32) (st : Fin 4 → Int) (h0 : st 0 = j.val) (h1 : st 1 = 0) (h2 : st 2 = 0) (h3 : st 3 = 0)
    (hf : (⟨4, ![32, 2, 8, 128]⟩ : Shape).Slices (fun _ => 0) ⟨4, ![1, 2, 8, 128]⟩) (t : Fin 128) :
    Host.dynamicSlice ⟨4, ![1, 2, 8, 128]⟩ w st hf (ix4 0 b h t) = w (ix4 j b h t) := by
  have hoff : (⟨4, ![32, 2, 8, 128]⟩ : Shape).Slices (![j.val, 0, 0, 0] : Fin 4 → Nat) ⟨4, ![1, 2, 8, 128]⟩ := ⟨rfl, fun a => by
    match a with
    | ⟨0, _⟩ => show j.val + 1 ≤ 32; omega
    | ⟨1, _⟩ => exact le_refl _
    | ⟨2, _⟩ => exact le_refl _
    | ⟨3, _⟩ => exact le_refl _⟩
  rw [Host.dynamicSlice_eq_extractStridedSlice _ w st (![j.val, 0, 0, 0]) hf hoff fun a => by
    match a with
    | ⟨0, _⟩ => exact h0
    | ⟨1, _⟩ => exact h1
    | ⟨2, _⟩ => exact h2
    | ⟨3, _⟩ => exact h3]
  pointwise

theorem drop5 {n : Nat} (w : FVec Ideal ⟨5, ![1, 2, 8, 128, n]⟩ .f32) (hc : (⟨5, ![1, 2, 8, 128, n]⟩ : Shape).ShapeCasts ⟨4, ![2, 8, 128, n]⟩) (t : Fin 128) (d : Fin n) :
    shapeCast ⟨4, ![2, 8, 128, n]⟩ w hc (ix4 b h t d) = w (ix5 0 b h t d) :=
  shapeCast_apply w hc _ _ (by
    rw [Shape.rowMajor_val_five, Shape.rowMajor_val_four]
    show (((0 * 2 + b.val) * 8 + h.val) * 128 + t.val) * n + d.val = ((b.val * 8 + h.val) * 128 + t.val) * n + d.val
    rw [Nat.zero_mul, Nat.zero_add])
theorem drop4 (w : FVec Ideal ⟨4, ![1, 2, 8, 128]⟩ .f32) (hc : (⟨4, ![1, 2, 8, 128]⟩ : Shape).ShapeCasts ⟨3, ![2, 8, 128]⟩) (t : Fin 128) :
    shapeCast ⟨3, ![2, 8, 128]⟩ w hc (ix3 b h t) = w (ix4 0 b h t) :=
  shapeCast_apply w hc _ _ (by
    rw [Shape.rowMajor_val_four, Shape.rowMajor_val_three]
    show ((0 * 2 + b.val) * 8 + h.val) * 128 + t.val = (b.val * 8 + h.val) * 128 + t.val
    omega)

include H
theorem b5_apply (t d : Fin 128) : (b5 (F := Ideal) j s (ix4 b h t d) : EReal) = x.q t d * Mlstm.sq := by
  unfold b5 b4; refine (drop5 _ _ t d).trans ((slice5 s.main_v33_0 _ (start_toInt j) rfl rfl rfl rfl _ t d).trans (H.q t d))
theorem b11_apply (t d : Fin 128) : (b11 (F := Ideal) j s (ix4 b h t d) : EReal) = x.k t d := by
  unfold b11 b10; refine (drop5 _ _ t d).trans ((slice5 s.main_v33_1 _ (start_toInt j) rfl rfl rfl rfl _ t d).trans (H.k t d))
theorem b17_apply (t : Fin 128) (e : Fin 256) : (b17 (F := Ideal) j s (ix4 b h t e) : EReal) = x.v t e := by
  unfold b17 b16; refine (drop5 _ _ t e).trans ((slice5 s.main_v33_2 _ (start_toInt j) rfl rfl rfl rfl _ t e).trans (H.v t e))
theorem b22_apply (t : Fin 128) : (b22 (F := Ideal) j s (ix3 b h t) : EReal) = x.xi t := by
  unfold b22 b21; refine (drop4 _ _ t).trans ((slice4 s.main_v33_3 _ (start_toInt j) rfl rfl rfl _ t).trans (H.i t))
theorem b27_apply (t : Fin 128) : (b27 (F := Ideal) j s (ix3 b h t) : EReal) = ls (x.xf t) := by
  unfold b27 b26; refine (drop4 _ _ t).trans ((slice4 s.main_v33_4 _ (start_toInt j) rfl rfl rfl _ t).trans (H.f t))

theorem b30_apply (t : Fin 128) : (b30 (F := Ideal) j s (ix3 b h t) : EReal) = bsum x t := by
  unfold b30
  refine (cumsum_apply _ _ _ _ (by pointwise [b29, b28]) b h t).trans (Finset.sum_congr rfl fun u _ => ?_)
  rw [b27_apply H u]

theorem b54_apply (t u : Fin 128) : (b54 (F := Ideal) j s (ix4 b h t u) : EReal) = logd x t u := by
  pointwise [b54, b53, b52, b51, b50, b49, b48, b47, b46, b45, b44, b43, b42, b41, b40, b39, b38, b37, b36, b35, b34, b33, b32, b31]
  simp only [b30_apply H, b22_apply H]
  rw [show IntOp.addi (BitVec.ofNat 32 t.val) 0#32 = BitVec.ofNat 32 t.val from BitVec.add_zero _, select_sge t u (1#1) (0#1)]
  unfold logd
  by_cases hu : u ≤ t
  · rw [if_pos hu, if_pos hu]; rfl
  · rw [if_neg hu, if_neg hu]; rfl

theorem b60_apply (t : Fin 128) : (b60 (F := Ideal) j s (ix3 b h t) : EReal) = mt x z t := by
  pointwise [b60, b59, b58, b57, b56, b55]
  simp only [b30_apply H, H.m, b54_apply H]
  rfl

theorem b69_apply (t : Fin 128) : (b69 (F := Ideal) j s (ix3 b h t) : EReal) = inter x z t := by
  pointwise [b69, b68, b67, b66, b65]
  simp only [b30_apply H, H.m, b60_apply H]; rfl

theorem b71_apply (t u : Fin 128) : (b71 (F := Ideal) j s (ix4 b h t u) : EReal) = w x z t u := by
  pointwise [b71, b70, b64, b63, b62, b61, dot_S2x8x128x128_S2x8x128x128_S2x8x128x128_3_3_2_2_01_01]
  simp only [b5_apply H, b11_apply H, b54_apply H, b60_apply H]; rfl

theorem b77_apply (t : Fin 128) (e : Fin 256) : (b77 (F := Ideal) j s (ix4 b h t e) : EReal) = num x z t e := by
  pointwise [b77, b76, b75, b74, b73, b72, dot_S2x8x128x128_S2x8x128x256_S2x8x128x256_3_2_2_3_01_01]
  simp only [b69_apply H, b5_apply H, H.C, b71_apply H, b17_apply H]; rfl

theorem b86_apply (t : Fin 128) : (b86 (F := Ideal) j s (ix3 b h t) : EReal) = den x z t := by
  pointwise [b86, b85, b84, b83, b82, b81, b80, b79, b78, dot_S2x8x128x128_S2x8x128_S2x8x128_3_2_2_n_01_01]
  simp only [b69_apply H, b5_apply H, H.n, b71_apply H, b60_apply H]
  rw [← zero_sub]; rfl

theorem b89_apply (t : Fin 128) (e : Fin 256) : (b89 (F := Ideal) j s (ix4 b h t e) : EReal) = hid x z t e := by
  pointwise [b89, b88, b87]
  simp only [b77_apply H, b86_apply H]; rfl

theorem b91_apply : (b91 (F := Ideal) j s (ix2 b h) : EReal) = mt x z 127 := by
  pointwise [b91, b90]
  exact b60_apply H 127

theorem b99_apply (t : Fin 128) : (b99 (F := Ideal) j s (ix3 b h t) : EReal) = ws x z t := by
  pointwise [b99, b98, b97, b96, b95, b94, b93, b92]
  simp only [b91_apply H, b22_apply H, b30_apply H]; rfl

theorem b104_apply : (b104 (F := Ideal) j s (ix2 b h) : EReal) = decay x z := by
  pointwise [b104, b103, b102, b101, b100]
  simp only [b91_apply H, H.m, b30_apply H]; rfl

theorem b107_apply (t d : Fin 128) : (b107 (F := Ideal) j s (ix4 b h t d) : EReal) = x.k t d * ws x z t := by
  pointwise [b107, b106, b105]
  rw [b99_apply H, b11_apply H, mul_comm]

theorem b112_apply (d : Fin 128) (e : Fin 256) : (b112 (F := Ideal) j s (ix4 b h d e) : EReal) = (next x z).C d e := by
  pointwise [b112, b111, b110, b109, b108, dot_S2x8x128x128_S2x8x128x256_S2x8x128x256_2_2_3_3_01_01]
  simp only [b104_apply H, H.C, b107_apply H, b17_apply H]; rfl

theorem b118_apply (d : Fin 128) : (b118 (F := Ideal) j s (ix3 b h d) : EReal) = (next x z).n d := by
  pointwise [b118, b117, b116, b115, b114, b113]
  simp only [b104_apply H, H.n, b107_apply H]
  rfl

/-- What the next trip finds of this head, where its chunk is at its place. -/
theorem step_state : (∀ d e, (step (F := Ideal) j s).main_v33_6 (ix4 b h d e) = (next x z).C d e)
    ∧ (∀ d, (step (F := Ideal) j s).main_v33_7 (ix3 b h d) = (next x z).n d) ∧ (step (F := Ideal) j s).main_v33_8 (ix2 b h) = (next x z).m := by
  rw [step_main_v33_6, step_main_v33_7, step_main_v33_8]
  exact ⟨b112_apply H, b118_apply H, b91_apply H⟩

theorem b119_apply (t : Fin 128) (e : Fin 256) : (b119 (F := Ideal) j s (ix5 0 b h t e) : EReal) = hid x z t e := by
  pointwise [b119]
  exact b89_apply H t e
omit H

/-- The trip writes its chunk's outputs at its place in the stack and leaves the other places. -/
theorem update5 (w : FVec Ideal S32x2x8x128x256 .f32) (up : FVec Ideal S1x2x8x128x256 .f32) (st : Fin 5 → Int) (h0 : st 0 = j.val) (h1 : st 1 = 0) (h2 : st 2 = 0) (h3 : st 3 = 0) (h4 : st 4 = 0)
    (hf : S32x2x8x128x256.Slices (fun _ => 0) S1x2x8x128x256) (i : Fin 32) (t : Fin 128) (e : Fin 256) :
    Host.dynamicUpdateSlice w up st hf (ix5 i b h t e) = if i = j then up (ix5 0 b h t e) else w (ix5 i b h t e) := by
  have hoff : S32x2x8x128x256.Slices (![j.val, 0, 0, 0, 0] : Fin 5 → Nat) S1x2x8x128x256 := ⟨rfl, fun a => by
    match a with
    | ⟨0, _⟩ => show j.val + 1 ≤ 32; omega
    | ⟨1, _⟩ => exact le_refl _
    | ⟨2, _⟩ => exact le_refl _
    | ⟨3, _⟩ => exact le_refl _
    | ⟨4, _⟩ => exact le_refl _⟩
  rw [Host.dynamicUpdateSlice_eq_updateSlice w up st hf (![j.val, 0, 0, 0, 0]) (fun a => by
    match a with
    | ⟨0, _⟩ => show (min (max (st 0) 0) ((32 - 1 : Nat) : Int)).toNat = j.val; rw [h0]; omega
    | ⟨1, _⟩ => show (min (max (st 1) 0) ((2 - 2 : Nat) : Int)).toNat = 0; rw [h1]; omega
    | ⟨2, _⟩ => show (min (max (st 2) 0) ((8 - 8 : Nat) : Int)).toNat = 0; rw [h2]; omega
    | ⟨3, _⟩ => show (min (max (st 3) 0) ((128 - 128 : Nat) : Int)).toNat = 0; rw [h3]; omega
    | ⟨4, _⟩ => show (min (max (st 4) 0) ((256 - 256 : Nat) : Int)).toNat = 0; rw [h4]; omega) hoff]
  unfold updateSlice
  by_cases hi : i = j
  · rw [if_pos hi, dif_pos]
    · refine congrArg up (funext fun a => Fin.ext ?_)
      have hz : i.val - j.val = 0 := by rw [hi]; exact Nat.sub_self _
      match a with
      | ⟨0, _⟩ => exact hz
      | ⟨1, _⟩ => rfl
      | ⟨2, _⟩ => rfl
      | ⟨3, _⟩ => rfl
      | ⟨4, _⟩ => rfl
    · intro a
      match a with
      | ⟨0, _⟩ => rw [hi]; exact ⟨le_refl _, Nat.lt_succ_self _⟩
      | ⟨1, _⟩ => exact ⟨Nat.zero_le _, (Nat.zero_add 2).symm ▸ b.isLt⟩
      | ⟨2, _⟩ => exact ⟨Nat.zero_le _, (Nat.zero_add 8).symm ▸ h.isLt⟩
      | ⟨3, _⟩ => exact ⟨Nat.zero_le _, (Nat.zero_add 128).symm ▸ t.isLt⟩
      | ⟨4, _⟩ => exact ⟨Nat.zero_le _, (Nat.zero_add 256).symm ▸ e.isLt⟩
  · rw [if_neg hi, dif_neg]
    intro hin
    have h5 := hin 0
    change j.val ≤ i.val ∧ i.val < j.val + 1 at h5
    exact hi (Fin.ext (by omega))

theorem b124_apply (i : Fin 32) (t : Fin 128) (e : Fin 256) :
    (b124 (F := Ideal) j s (ix5 i b h t e) : EReal) = if i = j then b119 (F := Ideal) j s (ix5 0 b h t e) else s.main_v33_9 (ix5 i b h t e) := by
  unfold b124
  exact update5 s.main_v33_9 (b119 j s) _ (start_toInt j) rfl rfl rfl rfl _ i t e
end
end Cert.ReferenceIdeal.Read
-- ==== Proof.RefVal.lean ====
/-
  The reference's results in numbers: its loop's state before every trip, and what it makes of the last one.
-/
module

public import proofs.«01_k».proof.Proof.RefIn
public import proofs.«01_k».proof.Proof.RefRead

@[expose] public section

noncomputable section

namespace Cert.ReferenceIdeal.Read

open Idealize.ShloMosaic Idealize.ShloMosaic.Tactic Cert.ReferenceIdeal Cert.ReferenceIdeal.Gen Cert.ReferenceIdeal.Step Cert.Mlstm

section
variable (a0 : FVec Ideal S2x4096x6144 .f32) (a1 : FVec Ideal S2x4096x128 .f32) (a2 : FVec Ideal S16 .f32) (a3 : FVec Ideal S2048 .f32)
    (a4 : FVec Ideal S2x8x128x256 .f32) (a5 : FVec Ideal S2x8x128 .f32) (a6 : FVec Ideal S2x8 .f32)

/-- The loop's state after `n` trips. -/
def iter : ℕ → State Ideal
  | 0 => init a4 a5 a6 a0 a1 a2
  | n + 1 => step n (iter n)

/-- The loop's constants stay what they were. -/
theorem iter_consts (n : ℕ) : (iter a0 a1 a2 a4 a5 a6 n).main_v33_0 = A_main_v23 a0 a1 a2 ∧ (iter a0 a1 a2 a4 a5 a6 n).main_v33_1 = A_main_v25 a0 a1 a2
    ∧ (iter a0 a1 a2 a4 a5 a6 n).main_v33_2 = A_main_v27 a0 a1 a2 ∧ (iter a0 a1 a2 a4 a5 a6 n).main_v33_3 = A_main_v29 a0 a1 a2
    ∧ (iter a0 a1 a2 a4 a5 a6 n).main_v33_4 = A_main_v31 a0 a1 a2 := by
  induction n with
  | zero => exact ⟨rfl, rfl, rfl, rfl, rfl⟩
  | succ n ih => exact ih

/-- The arguments, with the gains left open. -/
theorem iter_state (b : Fin 2) (h : Fin 8) (n : ℕ) (hn : n ≤ 32) :
    (∀ d e, (iter a0 a1 a2 a4 a5 a6 n).main_v33_6 (ix4 b h d e) = ((args a0 a1 a2 a3 a4 a5 a6).st b h n).C d e)
    ∧ (∀ d, (iter a0 a1 a2 a4 a5 a6 n).main_v33_7 (ix3 b h d) = ((args a0 a1 a2 a3 a4 a5 a6).st b h n).n d)
    ∧ (iter a0 a1 a2 a4 a5 a6 n).main_v33_8 (ix2 b h) = ((args a0 a1 a2 a3 a4 a5 a6).st b h n).m := by
  induction n with
  | zero => exact ⟨fun _ _ => rfl, fun _ => rfl, rfl⟩
  | succ n ih =>
    obtain ⟨iC, iN, iM⟩ := ih (by omega)
    obtain ⟨k0, k1, k2, k3, k4⟩ := iter_consts a0 a1 a2 a4 a5 a6 n
    have H : Has (iter a0 a1 a2 a4 a5 a6 n) ⟨n, by omega⟩ b h ((args a0 a1 a2 a3 a4 a5 a6).chunk b h ⟨n, by omega⟩) ((args a0 a1 a2 a3 a4 a5 a6).st b h n) :=
      ⟨fun t d => by rw [k0]; exact q_apply a0 a1 a2 a3 a4 a5 a6 _ b h t d, fun t d => by rw [k1]; exact k_apply a0 a1 a2 a3 a4 a5 a6 _ b h t d,
        fun t e => by rw [k2]; exact v_apply a0 a1 a2 a3 a4 a5 a6 _ b h t e, fun t => by rw [k3]; exact i_apply a0 a1 a2 a3 a4 a5 a6 _ b h t,
        fun t => by rw [k4]; exact f_apply a0 a1 a2 a3 a4 a5 a6 _ b h t, iC, iN, iM⟩
    have S := step_state H
    rw [(args a0 a1 a2 a3 a4 a5 a6).st_succ b h ⟨n, by omega⟩]
    exact S

theorem has (b : Fin 2) (h : Fin 8) (j : Fin 32) :
    Has (iter a0 a1 a2 a4 a5 a6 j) j b h ((args a0 a1 a2 a3 a4 a5 a6).chunk b h j) ((args a0 a1 a2 a3 a4 a5 a6).st b h j) := by
  obtain ⟨iC, iN, iM⟩ := iter_state a0 a1 a2 a3 a4 a5 a6 b h j (by omega)
  obtain ⟨k0, k1, k2, k3, k4⟩ := iter_consts a0 a1 a2 a4 a5 a6 j
  exact ⟨fun t d => by rw [k0]; exact q_apply a0 a1 a2 a3 a4 a5 a6 _ b h t d, fun t d => by rw [k1]; exact k_apply a0 a1 a2 a3 a4 a5 a6 _ b h t d,
        fun t e => by rw [k2]; exact v_apply a0 a1 a2 a3 a4 a5 a6 _ b h t e, fun t => by rw [k3]; exact i_apply a0 a1 a2 a3 a4 a5 a6 _ b h t,
        fun t => by rw [k4]; exact f_apply a0 a1 a2 a3 a4 a5 a6 _ b h t, iC, iN, iM⟩

/-- The outputs' stack holds the outputs of the chunks gone by. -/
theorem iter_out (b : Fin 2) (h : Fin 8) (n : ℕ) (hn : n ≤ 32) (i : Fin 32) (hi : i.val < n) (t : Fin 128) (e : Fin 256) :
    (iter a0 a1 a2 a4 a5 a6 n).main_v33_9 (ix5 i b h t e)
      = hid ((args a0 a1 a2 a3 a4 a5 a6).chunk b h i) ((args a0 a1 a2 a3 a4 a5 a6).st b h i) t e := by
  induction n with
  | zero => omega
  | succ n ih =>
    show (step n (iter a0 a1 a2 a4 a5 a6 n)).main_v33_9 (ix5 i b h t e) = _
    rw [step_main_v33_9]
    refine (b124_apply (j := ⟨n, by omega⟩) i t e).trans ?_
    by_cases hc : i = ⟨n, by omega⟩
    · rw [if_pos hc, hc]
      exact b119_apply (has a0 a1 a2 a3 a4 a5 a6 b h ⟨n, by omega⟩) t e
    · rw [if_neg hc]
      exact ih (by omega) (by have : i.val ≠ n := fun q => hc (Fin.ext q); omega)

/-! The reshapes of the outputs. -/
theorem join_chunks (x : FVec Ideal S2x8x32x128x256 .f32) (hc : S2x8x32x128x256.ShapeCasts S2x8x4096x256) (b : Fin 2) (h : Fin 8) (r : Fin 4096) (e : Fin 256) :
    shapeCast S2x8x4096x256 x hc (ix4 b h r e) = x (ix5 b h (Args.ch r) (Args.stp r) e) :=
  shapeCast_apply x hc _ _ (by
    rw [Shape.rowMajor_val_five, Shape.rowMajor_val_four]
    show (((b.val * 8 + h.val) * 32 + r.val / 128) * 128 + r.val % 128) * 256 + e.val = ((b.val * 8 + h.val) * 4096 + r.val) * 256 + e.val
    omega)
theorem join_heads (x : FVec Ideal S2x4096x8x256 .f32) (hc : S2x4096x8x256.ShapeCasts S2x4096x2048) (b : Fin 2) (r : Fin 4096) (c : Fin 2048) :
    shapeCast S2x4096x2048 x hc (ix3 b r c) = x (ix4 b r (Args.hd c) (Args.col c)) :=
  shapeCast_apply x hc _ _ (by
    rw [Shape.rowMajor_val_four, Shape.rowMajor_val_three]
    show ((b.val * 4096 + r.val) * 8 + c.val / 256) * 256 + c.val % 256 = (b.val * 4096 + r.val) * 2048 + c.val
    omega)

theorem gate_congr (x : EReal) {u u' v v' : EReal} (hu : u = u') (hv : v = v') :
    x * u * Ideal.div 1 (1 + Ideal.exp (0 - v)) = x * u' * Ideal.div 1 (1 + Ideal.exp (0 - v')) := by rw [hu, hv]

/-- What is made of the outputs' stack after the loop. -/
theorem out_of (s : State Ideal)
    (hs : ∀ (b : Fin 2) (h : Fin 8) (i : Fin 32) (t : Fin 128) (e : Fin 256), s.main_v33_9 (ix5 i b h t e)
      = hid ((args a0 a1 a2 a3 a4 a5 a6).chunk b h i) ((args a0 a1 a2 a3 a4 a5 a6).st b h i) t e)
    (b : Fin 2) (r : Fin 4096) (c : Fin 2048) :
    (R_main_v59 s a0 a3 (ix3 b r c) : EReal)
      = (args a0 a1 a2 a3 a4 a5 a6).out b (Args.hd c) (Args.ch r) (Args.stp r) (Args.col c) := by
  pointwise [R_main_v59, join_heads, join_chunks]
  simp only [hs]
  unfold Args.out gated
  have er : row (Args.ch r) (Args.stp r) = r := Fin.ext (by show 128 * (r.val / 128) + r.val % 128 = r.val; omega)
  have ec : 256 * (Args.hd c).val + (Args.col c).val = c.val := by show 256 * (c.val / 256) + c.val % 256 = c.val; omega
  rw [er, ← zero_sub]
  refine gate_congr _ ?_ ?_
  · exact congrArg (fun c => a3 (ix1 c)) (Fin.ext ec.symm)
  · exact congrArg (fun c => a0 (ix3 b r c)) (Fin.ext (by show 4096 + c.val = 4096 + 256 * (Args.hd c).val + (Args.col c).val; omega))

theorem m_of (s : State Ideal) (b : Fin 2) (h : Fin 8) (k : Fin 1) : (R_main_v60 s (ix3 b h k) : EReal) = s.main_v33_8 (ix2 b h) := by
  pointwise [R_main_v60]
end
end Cert.ReferenceIdeal.Read
-- ==== Proof.Core.lean ====
/-
  The arithmetic of ONE head of one chunk, as the kernel writes it, over the vectors it has loaded: the
  head's two gate columns (128 × 1), its two gate rows (1 × 128), its queries, keys and values, the state
  (`c`, `n`, `m`) it starts from, the output gate and the head's gain. No head index appears: the kernel's eight
  heads are this text at eight places.
-/
module

public import proofs.«01_k».proof.Proof.Gen.KernelIdeal

@[expose] public section

noncomputable section

namespace Cert.KernelIdeal.Core

open Idealize.ShloMosaic Cert.KernelIdeal Cert.KernelIdeal.Gen

variable {F : FTy → Type} [FloatOps F]

/-- The number `b` all over a vector. -/
abbrev fill (s : Shape) (b : BitVec 32) : FVec F s .f32 := broadcast s (Scalar.ofBits .f32 b)

/-- The log-sigmoid of a column. -/
def lsCol (x : FVec F S128x1 .f32) : FVec F S128x1 .f32 :=
  subf (minimumf x (fill S128x1 0x00000000#32))
    (log (addf (fill S128x1 0x3F800000#32) (exp (subf (fill S128x1 0x00000000#32) (absf x)))))

/-- The log-sigmoid of a row. -/
def lsRow (x : FVec F S1x128 .f32) : FVec F S1x128 .f32 :=
  subf (minimumf x (fill S1x128 0x00000000#32))
    (log (addf (fill S1x128 0x3F800000#32) (exp (subf (fill S1x128 0x00000000#32) (absf x)))))

/-- The row number at every place of a square. -/
def rows : IVec S128x128 32 := iota .tc S128x128 32 [0] iota_S128x128_d0_w32
/-- The column number at every place of a square. -/
def cols : IVec S128x128 32 := iota .tc S128x128 32 [1] iota_S128x128_d1_w32
/-- Where the column is at most the row. -/
def lower : IVec S128x128 1 := cmpi .sle cols rows
/-- Where the row is at most the column. -/
def upper : IVec S128x128 1 := cmpi .sle rows cols

/-- A row repeated down a square. -/
def rowSq (x : FVec F S1x128 .f32) : FVec F S128x128 .f32 := broadcastTo S128x128 x broadcasts_S1x128_S128x128
/-- A column repeated along a square. -/
def colSq (x : FVec F S128x1 .f32) : FVec F S128x128 .f32 := broadcastTo S128x128 x broadcasts_S128x1_S128x128
/-- A single number repeated down a column. -/
def oneCol (x : FVec F S1x1 .f32) : FVec F S128x1 .f32 := broadcastTo S128x1 x broadcasts_S1x1_S128x1
/-- The sum along each row of a square, as a column. -/
def sumRows (x : FVec F S128x128 .f32) : FVec F S128x1 .f32 :=
  shapeCast S128x1 (multiReduction .add [1] S128 x 0x00000000#32 reduces_S128x128_S128 (.inl rfl) rfl) shapeCasts_S128_S128x1
/-- The sum down each column of a square, as a row. -/
def sumCols (x : FVec F S128x128 .f32) : FVec F S1x128 .f32 :=
  shapeCast S1x128 (multiReduction .add [0] S128 x 0x00000000#32 reduces_S128x128_S128_2 (.inl rfl) rfl) shapeCasts_S128_S1x128
/-- The largest entry of each row of a square, as a column. -/
def maxRows (x : FVec F S128x128 .f32) : FVec F S128x1 .f32 :=
  shapeCast S128x1 (multiReduction .maximumf [1] S128 x 0xFF800000#32 reduces_S128x128_S128 (.inl rfl) rfl) shapeCasts_S128_S128x1
/-- The last entry of a column. -/
def lastOf (x : FVec F S128x1 .f32) : FVec F S1x1 .f32 := extractStridedSlice S1x1 ![127, 0] x slices_S128x1_o127_0_S1x1

/-- The running sum of the log forget gates, as a column: from the row of gates. -/
def bCol (xr : FVec F S1x128 .f32) : FVec F S128x1 .f32 :=
  sumRows (select lower (rowSq (shapeCast S1x128 (lsRow xr) shapeCasts_S1x128_S1x128)) (fill S128x128 0x00000000#32))
/-- The running sum of the log forget gates, as a row: from the column of gates. -/
def bRow (xc : FVec F S128x1 .f32) : FVec F S1x128 .f32 :=
  sumCols (select upper (colSq (shapeCast S128x1 (lsCol xc) shapeCasts_S128x1_S128x1)) (fill S128x128 0x00000000#32))
/-- The log of the weight of step `s` at step `t`. -/
def logD (bc : FVec F S128x1 .f32) (br igr : FVec F S1x128 .f32) : FVec F S128x128 .f32 :=
  select lower (addf (subf (colSq bc) (rowSq br)) (rowSq igr)) (fill S128x128 0xF149F2CA#32)
/-- The stabiliser of each step. -/
def mT (bc : FVec F S128x1 .f32) (m1 : Vec F S1x1x1 .f32) (ld : FVec F S128x128 .f32) : FVec F S128x1 .f32 :=
  maximumf (addf bc (oneCol (shapeCast S1x1 m1 shapeCasts_S1x1x1_S1x1))) (maxRows ld)
/-- The weights within the chunk. -/
def dM (ld : FVec F S128x128 .f32) (mt : FVec F S128x1 .f32) : FVec F S128x128 .f32 := exp (subf ld (colSq mt))
/-- The weight of the incoming state at each step. -/
def inter (bc : FVec F S128x1 .f32) (m1 : Vec F S1x1x1 .f32) (mt : FVec F S128x1 .f32) : FVec F S128x1 .f32 :=
  exp (subf (addf bc (oneCol (shapeCast S1x1 m1 shapeCasts_S1x1x1_S1x1))) mt)
/-- The weight of each step in the outgoing state. -/
def wS (bc igc mt : FVec F S128x1 .f32) : FVec F S128x1 .f32 :=
  exp (subf (addf (subf (oneCol (lastOf bc)) bc) igc) (oneCol (lastOf mt)))
/-- The weight of the incoming state in the outgoing one. -/
def decay (bc : FVec F S128x1 .f32) (m1 : Vec F S1x1x1 .f32) (mt : FVec F S128x1 .f32) : FVec F S1x1 .f32 :=
  exp (subf (addf (lastOf bc) (shapeCast S1x1 m1 shapeCasts_S1x1x1_S1x1)) (lastOf mt))

/-- The scaled queries. -/
def qs (q0 : Vec F S1x128x128 .f32) : FVec F S128x128 .f32 :=
  mulf (shapeCast S128x128 q0 shapeCasts_S1x128x128_S128x128) (fill S128x128 0x3DB504F3#32)
/-- The keys. -/
def ks (k0 : Vec F S1x128x128 .f32) : FVec F S128x128 .f32 := shapeCast S128x128 k0 shapeCasts_S1x128x128_S128x128
/-- The values. -/
def vs (v0 : Vec F S1x128x256 .f32) : FVec F S128x256 .bf16 :=
  truncf .bf16 (shapeCast S128x256 v0 shapeCasts_S1x128x256_S128x256) bitsLt_bf16_f32

/-- The weighted scores within the chunk. -/
def scores (q0 k0 : Vec F S1x128x128 .f32) (d : FVec F S128x128 .f32) : FVec F S128x128 .f32 :=
  mulf (matmul dot_S128x128_S128x128_S128x128_1_1_0_0_n_n none (truncf .bf16 (qs q0) bitsLt_bf16_f32)
    (truncf .bf16 (ks k0) bitsLt_bf16_f32) (constant S128x128 .f32 0x00000000#32)) d

/-- The outgoing matrix state. -/
def cOut (q0 k0 : Vec F S1x128x128 .f32) (v0 : Vec F S1x128x256 .f32) (c1 : Vec F S1x1x128x256 .f32)
    (ws : FVec F S128x1 .f32) (dec : FVec F S1x1 .f32) : Vec F S1x1x128x256 .f32 :=
  shapeCast S1x1x128x256
    (addf (mulf (broadcastTo S128x256 dec broadcasts_S1x1_S128x256) (shapeCast S128x256 c1 shapeCasts_S1x1x128x256_S128x256))
      (matmul dot_S128x128_S128x256_S128x256_0_0_1_1_n_n none (truncf .bf16 (mulf (ks k0) (colSq ws)) bitsLt_bf16_f32) (vs v0)
        (constant S128x256 .f32 0x00000000#32)))
    shapeCasts_S128x256_S1x1x128x256

/-- The outgoing vector state. -/
def nOut (k0 : Vec F S1x128x128 .f32) (n0 : Vec F S1x1x128 .f32) (ws : FVec F S128x1 .f32) (dec : FVec F S1x1 .f32) :
    Vec F S1x1x128 .f32 :=
  shapeCast S1x1x128
    (addf (mulf (broadcastTo S1x128 dec broadcasts_S1x1_S1x128) (shapeCast S1x128 n0 shapeCasts_S1x1x128_S1x128))
      (sumCols (mulf (extf .f32 (truncf .bf16 (ks k0) bitsLt_bf16_f32) bitsLt_bf16_f32)
        (colSq (extf .f32 (truncf .bf16 ws bitsLt_bf16_f32) bitsLt_bf16_f32)))))
    shapeCasts_S1x128_S1x1x128

/-- The outgoing stabiliser. -/
def mOut (mt : FVec F S128x1 .f32) : Vec F S1x1x1 .f32 := shapeCast S1x1x1 (lastOf mt) shapeCasts_S1x1_S1x1x1

/-- The numerator of each step's output. -/
def num (q0 : Vec F S1x128x128 .f32) (v0 : Vec F S1x128x256 .f32) (c0 : Vec F S1x1x128x256 .f32)
    (it : FVec F S128x1 .f32) (w : FVec F S128x128 .f32) : FVec F S128x256 .f32 :=
  addf (mulf (broadcastTo S128x256 it broadcasts_S128x1_S128x256)
      (matmul dot_S128x128_S128x256_S128x256_1_0_0_1_n_n none (truncf .bf16 (qs q0) bitsLt_bf16_f32)
        (truncf .bf16 (shapeCast S128x256 c0 shapeCasts_S1x1x128x256_S128x256) bitsLt_bf16_f32) (constant S128x256 .f32 0x00000000#32)))
    (matmul dot_S128x128_S128x256_S128x256_1_0_0_1_n_n none (truncf .bf16 w bitsLt_bf16_f32) (vs v0) (constant S128x256 .f32 0x00000000#32))

/-- The denominator of each step's output. -/
def den (q0 : Vec F S1x128x128 .f32) (n0 : Vec F S1x1x128 .f32) (it mt : FVec F S128x1 .f32) (w : FVec F S128x128 .f32) :
    FVec F S128x1 .f32 :=
  maximumf
    (absf (addf (mulf it (sumRows (mulf (extf .f32 (truncf .bf16 (qs q0) bitsLt_bf16_f32) bitsLt_bf16_f32)
        (rowSq (extf .f32 (truncf .bf16 (shapeCast S1x128 n0 shapeCasts_S1x1x128_S1x128) bitsLt_bf16_f32) bitsLt_bf16_f32)))))
      (sumRows w)))
    (exp (subf (fill S128x1 0x00000000#32) mt))

/-- Each step's output. -/
def hid (nu : FVec F S128x256 .f32) (de : FVec F S128x1 .f32) : FVec F S128x256 .f32 :=
  divf nu (broadcastTo S128x256 de broadcasts_S128x1_S128x256)

/-- The output normalised over the head, by the head's gain, gated. -/
def hOut (h : FVec F S128x256 .f32) (hg : Vec F S1x256 .f32) (og : Vec F S1x128x256 .f32) : Vec F S1x128x256 .bf16 :=
  shapeCast S1x128x256
    (truncf .bf16
      (mulf
        (mulf
          (mulf h (broadcastTo S128x256
            (rsqrt (addf (divf (shapeCast S128x1 (multiReduction .add [1] S128 (mulf h h) 0x00000000#32 reduces_S128x256_S128 (.inl rfl) rfl)
                shapeCasts_S128_S128x1) (fill S128x1 0x43800000#32)) (fill S128x1 0x358637BD#32)))
            broadcasts_S128x1_S128x256))
          (broadcastTo S128x256 (shapeCast S1x256 hg shapeCasts_S1x256_S1x256) broadcasts_S1x256_S128x256))
        (divf (fill S128x256 0x3F800000#32)
          (addf (fill S128x256 0x3F800000#32)
            (exp (subf (fill S128x256 0x00000000#32) (shapeCast S128x256 og shapeCasts_S1x128x256_S128x256))))))
      bitsLt_bf16_f32)
    shapeCasts_S128x256_S1x128x256

/-! The head's four results from what it loads. -/

section
variable (igc xc : FVec F S128x1 .f32) (igr xr : FVec F S1x128 .f32) (q0 k0 : Vec F S1x128x128 .f32)
  (v0 : Vec F S1x128x256 .f32) (c0 c1 : Vec F S1x1x128x256 .f32) (n0 : Vec F S1x1x128 .f32) (m1 : Vec F S1x1x1 .f32)
  (hg : Vec F S1x256 .f32) (og : Vec F S1x128x256 .f32)

/-- The head's stabilisers. -/
def mts : FVec F S128x1 .f32 := mT (bCol xr) m1 (logD (bCol xr) (bRow xc) igr)

/-- The head's outgoing matrix state. -/
def coreC : Vec F S1x1x128x256 .f32 :=
  cOut q0 k0 v0 c1 (wS (bCol xr) igc (mts xc igr xr m1)) (decay (bCol xr) m1 (mts xc igr xr m1))
/-- The head's outgoing vector state. -/
def coreN : Vec F S1x1x128 .f32 :=
  nOut k0 n0 (wS (bCol xr) igc (mts xc igr xr m1)) (decay (bCol xr) m1 (mts xc igr xr m1))
/-- The head's outgoing stabiliser. -/
def coreM : Vec F S1x1x1 .f32 := mOut (mts xc igr xr m1)
/-- The head's weighted scores. -/
def coreW : FVec F S128x128 .f32 :=
  scores q0 k0 (dM (logD (bCol xr) (bRow xc) igr) (mts xc igr xr m1))
/-- The head's outputs before they are normalised. -/
def coreHid : FVec F S128x256 .f32 :=
  hid (num q0 v0 c0 (inter (bCol xr) m1 (mts xc igr xr m1)) (coreW xc igr xr q0 k0 m1))
    (den q0 n0 (inter (bCol xr) m1 (mts xc igr xr m1)) (mts xc igr xr m1) (coreW xc igr xr q0 k0 m1))
/-- The head's outputs. -/
def coreH : Vec F S1x128x256 .bf16 := hOut (coreHid xc igr xr q0 k0 v0 c0 n0 m1) hg og
end

/-! The gates of a chunk, as columns and as rows. -/

/-- The block of gates, one column a gate, with the bias added. -/
def gCol (g : Vec F S1x128x128 .f32) (b : Vec F S1x128 .f32) : FVec F S128x128 .f32 :=
  addf (shapeCast S128x128 g shapeCasts_S1x128x128_S128x128)
    (broadcastTo S128x128 (shapeCast S1x128 b shapeCasts_S1x128_S1x128) broadcasts_S1x128_S128x128)
/-- The block of gates, one row a gate, with the bias added. -/
def gRow (g : Vec F S1x16x128 .f32) (b : Vec F S16x1 .f32) : FVec F S16x128 .f32 :=
  addf (shapeCast S16x128 g shapeCasts_S1x16x128_S16x128)
    (broadcastTo S16x128 (shapeCast S16x1 b shapeCasts_S16x1_S16x1) broadcasts_S16x1_S16x128)

end Cert.KernelIdeal.Core
-- ==== Proof.Blk.lean ====
/-
  One head of one chunk at its place: the slices of the gates and the loads of the kernel's blocks at head `h`,
  handed to the head's arithmetic (Core.lean).
-/
module

public import proofs.«01_k».proof.Proof.Core
public import Idealize.ShloMosaic.Lib.Pipeline.Value

@[expose] public section

noncomputable section

namespace Cert.KernelIdeal.Core

open Idealize.ShloMosaic Cert.KernelIdeal Cert.KernelIdeal.Gen

variable {F : FTy → Type} [FloatOps F]

theorem slcCol (h : ℕ) (hh : h < 128) : S128x128.Slices ![0, h] S128x1 :=
  ⟨rfl, fun a => by fin_cases a <;> simp [S128x128, S128x1] <;> omega⟩
theorem slcRow (h : ℕ) (hh : h < 16) : S16x128.Slices ![h, 0] S1x128 :=
  ⟨rfl, fun a => by fin_cases a <;> simp [S16x128, S1x128] <;> omega⟩
theorem inbP (o w : ℕ) (ho : o + w ≤ 6144) : ∀ a, (![0, 0, o] : Fin 3 → ℕ) a + (⟨3, ![1, 128, w]⟩ : Shape).size a ≤ S1x128x6144.size a := fun a => by
  fin_cases a <;> simp [S1x128x6144] <;> omega
theorem inbG (o : ℕ) (ho : o + 256 ≤ 2048) : ∀ a, (![0, o] : Fin 2 → ℕ) a + S1x256.size a ≤ S1x2048.size a := fun a => by
  fin_cases a <;> simp [S1x2048, S1x256] <;> omega
theorem inbH (o : ℕ) (ho : o + 256 ≤ 2048) : ∀ a, (![0, 0, o] : Fin 3 → ℕ) a + S1x128x256.size a ≤ S1x128x2048.size a := fun a => by
  fin_cases a <;> simp [S1x128x2048, S1x128x256] <;> omega
theorem inbC (h : ℕ) (ho : h < 8) : ∀ a, (![0, h, 0, 0] : Fin 4 → ℕ) a + S1x1x128x256.size a ≤ S1x8x128x256.size a := fun a => by
  fin_cases a <;> simp [S1x1x128x256, S1x8x128x256] <;> omega
theorem inbN (h : ℕ) (ho : h < 8) : ∀ a, (![0, h, 0] : Fin 3 → ℕ) a + S1x1x128.size a ≤ S1x8x128.size a := fun a => by
  fin_cases a <;> simp [S1x1x128, S1x8x128] <;> omega
theorem inbM (h : ℕ) (ho : h < 8) : ∀ a, (![0, h, 0] : Fin 3 → ℕ) a + S1x1x1.size a ≤ S1x8x1.size a := fun a => by
  fin_cases a <;> simp [S1x1x1, S1x8x1] <;> omega

/-- Head `h`'s place in the block of matrix states. -/
@[implicit_reducible] def rC (h : Fin 8) : Rect S1x8x128x256 := Rect.unit ![0, h.val, 0, 0] S1x1x128x256.size (inbC h.val h.isLt)
/-- Head `h`'s place in the block of vector states. -/
@[implicit_reducible] def rN (h : Fin 8) : Rect S1x8x128 := Rect.unit ![0, h.val, 0] S1x1x128.size (inbN h.val h.isLt)
/-- Head `h`'s place in the block of stabilisers. -/
@[implicit_reducible] def rM (h : Fin 8) : Rect S1x8x1 := Rect.unit ![0, h.val, 0] S1x1x1.size (inbM h.val h.isLt)
/-- Head `h`'s place in the block of outputs. -/
@[implicit_reducible] def rH (h : Fin 8) : Rect S1x128x2048 := Rect.unit ![0, 0, 256 * h.val] S1x128x256.size (inbH _ (by omega))

section
variable (x0 : Vec F S1x128x6144 .f32) (x1 : Vec F S1x128x128 .f32) (x2 : Vec F S1x16x128 .f32) (x3 : Vec F S1x128 .f32)
  (x4 : Vec F S16x1 .f32) (x5 : Vec F S1x2048 .f32) (h : Fin 8)

/-- Head `h`'s input gates as a column. -/
def igcAt : FVec F S128x1 .f32 := extractStridedSlice S128x1 ![0, h.val] (gCol x1 x3) (slcCol _ (by omega))
/-- Head `h`'s forget gates as a column. -/
def xcAt : FVec F S128x1 .f32 := extractStridedSlice S128x1 ![0, 8 + h.val] (gCol x1 x3) (slcCol _ (by omega))
/-- Head `h`'s input gates as a row. -/
def igrAt : FVec F S1x128 .f32 := extractStridedSlice S1x128 ![h.val, 0] (gRow x2 x4) (slcRow _ (by omega))
/-- Head `h`'s forget gates as a row. -/
def xrAt : FVec F S1x128 .f32 := extractStridedSlice S1x128 ![8 + h.val, 0] (gRow x2 x4) (slcRow _ (by omega))
/-- Head `h`'s queries. -/
def qAt : Vec F S1x128x128 .f32 := View.ld x0 (Rect.unit ![0, 0, 128 * h.val] S1x128x128.size (inbP _ 128 (by omega)))
/-- Head `h`'s keys. -/
def kAt : Vec F S1x128x128 .f32 := View.ld x0 (Rect.unit ![0, 0, 1024 + 128 * h.val] S1x128x128.size (inbP _ 128 (by omega)))
/-- Head `h`'s values. -/
def vAt : Vec F S1x128x256 .f32 := View.ld x0 (Rect.unit ![0, 0, 2048 + 256 * h.val] S1x128x256.size (inbP _ 256 (by omega)))
/-- Head `h`'s output gates. -/
def ogAt : Vec F S1x128x256 .f32 := View.ld x0 (Rect.unit ![0, 0, 4096 + 256 * h.val] S1x128x256.size (inbP _ 256 (by omega)))
/-- Head `h`'s gain. -/
def hgAt : Vec F S1x256 .f32 := View.ld x5 (Rect.unit ![0, 256 * h.val] S1x256.size (inbG _ (by omega)))

/-- Head `h`'s outgoing matrix state, from the state it loads. -/
def blkC (c1 : Vec F S1x1x128x256 .f32) (m1 : Vec F S1x1x1 .f32) : Vec F S1x1x128x256 .f32 :=
  coreC (igcAt x1 x3 h) (xcAt x1 x3 h) (igrAt x2 x4 h) (xrAt x2 x4 h) (qAt x0 h) (kAt x0 h) (vAt x0 h) c1 m1
/-- Head `h`'s outgoing vector state. -/
def blkN (n0 : Vec F S1x1x128 .f32) (m1 : Vec F S1x1x1 .f32) : Vec F S1x1x128 .f32 :=
  coreN (igcAt x1 x3 h) (xcAt x1 x3 h) (igrAt x2 x4 h) (xrAt x2 x4 h) (kAt x0 h) n0 m1
/-- Head `h`'s outgoing stabiliser. -/
def blkM (m1 : Vec F S1x1x1 .f32) : Vec F S1x1x1 .f32 := coreM (xcAt x1 x3 h) (igrAt x2 x4 h) (xrAt x2 x4 h) m1
/-- Head `h`'s outputs. -/
def blkH (c0 : Vec F S1x1x128x256 .f32) (n0 : Vec F S1x1x128 .f32) (m1 : Vec F S1x1x1 .f32) : Vec F S1x128x256 .bf16 :=
  coreH (xcAt x1 x3 h) (igrAt x2 x4 h) (xrAt x2 x4 h) (qAt x0 h) (kAt x0 h) (vAt x0 h) c0 n0 m1 (hgAt x5 h) (ogAt x0 h)
end

end Cert.KernelIdeal.Core
-- ==== Proof.PiecesA.lean ====
/-
  What the kernel's body stores at a point (the first of a sequence), as a list of blocks: each head's
  block is that head's arithmetic (Blk.lean) on what it loads.
-/
module

public import proofs.«01_k».proof.Proof.Blk
public import proofs.«01_k».proof.Proof.Gen.KernelIdeal.Value
public import Idealize.ShloMosaic.Lib.Pointwise
public import Idealize.ShloMosaic.Lib.Pipeline.ReadBack

@[expose] public section

set_option maxRecDepth 65536

noncomputable section

namespace Cert.KernelIdeal.Core

open Idealize.ShloMosaic Idealize.ShloMosaic.TcCoe Idealize.ShloMosaic.Tactic
open Cert.KernelIdeal Cert.KernelIdeal.Gen

variable {F : FTy → Type} [FloatOps F]

section
variable (c : Dev nD) (i : grid0.Coords) (arg2 : Memref sig .tc .vmem S1x128x6144 .f32) (harg2 : arg2.IsWhole) (arg3 : Memref sig .tc .vmem S1x128x128 .f32) (harg3 : arg3.IsWhole) (arg4 : Memref sig .tc .vmem S1x16x128 .f32) (harg4 : arg4.IsWhole) (arg5 : Memref sig .tc .vmem S1x128 .f32) (harg5 : arg5.IsWhole) (arg6 : Memref sig .tc .vmem S16x1 .f32) (harg6 : arg6.IsWhole) (arg7 : Memref sig .tc .vmem S1x2048 .f32) (harg7 : arg7.IsWhole) (arg8 : Memref sig .tc .vmem S1x8x128x256 .f32) (harg8 : arg8.IsWhole) (arg9 : Memref sig .tc .vmem S1x8x128 .f32) (harg9 : arg9.IsWhole) (arg10 : Memref sig .tc .vmem S1x8x1 .f32) (harg10 : arg10.IsWhole) (arg11 : Memref sig .tc .vmem S1x128x2048 .bf16) (harg11 : arg11.IsWhole) (arg12 : Memref sig .tc .vmem S1x8x128x256 .f32) (harg12 : arg12.IsWhole) (arg13 : Memref sig .tc .vmem S1x8x128 .f32) (harg13 : arg13.IsWhole) (arg14 : Memref sig .tc .vmem S1x8x1 .f32) (harg14 : arg14.IsWhole)
  (x0 : Vec F S1x128x6144 .f32) (x1 : Vec F S1x128x128 .f32) (x2 : Vec F S1x16x128 .f32) (x3 : Vec F S1x128 .f32) (x4 : Vec F S16x1 .f32) (x5 : Vec F S1x2048 .f32) (x6 : Vec F S1x8x128x256 .f32) (x7 : Vec F S1x8x128 .f32) (x8 : Vec F S1x8x1 .f32)

/-- In output 12, what the stores of a sequence's first point leave: the eight heads' blocks, last head first, over the copy of the initial state. -/
theorem piecesA_12 (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.2.1 =
    ([7, 6, 5, 4, 3, 2, 1, 0] : List (Fin 8)).map (fun h => (⟨rM h, blkM (View.ld (arg3.view.read (Elt F) (harg3.unread x1)) (Rect.unit ![0, 0, 0] S1x128x128.size inb_S1x128x128_S1x128x128_0_0_0)) (View.ld (arg4.view.read (Elt F) (harg4.unread x2)) (Rect.unit ![0, 0, 0] S1x16x128.size inb_S1x16x128_S1x16x128_0_0_0)) (View.ld (arg5.view.read (Elt F) (harg5.unread x3)) (Rect.unit ![0, 0] S1x128.size inb_S1x128_S1x128_0_0)) (View.ld (arg6.view.read (Elt F) (harg6.unread x4)) (Rect.unit ![0, 0] S16x1.size inb_S16x1_S16x1_0_0)) h (View.ld (k0_pay2 (View.ld (arg10.view.read (Elt F) (harg10.unread x8)) (Rect.unit ![0, 0, 0] S1x8x1.size inb_S1x8x1_S1x8x1_0_0_0))) (rM h))⟩ : View.Piece (Elt F) S1x8x1 .f32)) ++ [(⟨Rect.unit ![0, 0, 0] S1x8x1.size inb_S1x8x1_S1x8x1_0_0_0, (k0_pay2 (View.ld (arg10.view.read (Elt F) (harg10.unread x8)) (Rect.unit ![0, 0, 0] S1x8x1.size inb_S1x8x1_S1x8x1_0_0_0)))⟩ : View.Piece (Elt F) S1x8x1 .f32)] := by
  unfold kernelRun0_A
  dsimp only [List.map, List.cons_append, List.nil_append]
  refine congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) rfl
  all_goals
    sl_unfold_words
    sl_unfold_words
    simp (disch := decide) only [↓ View.readCov_skip, ↓ View.readCov_fill]
    unfold_payloads
    dsimp only
    dsimp only [blkC, blkN, blkM, blkH, coreC, coreN, coreM, coreH, coreHid, coreW, mts, hOut, hid, den, num, mOut, nOut, cOut, scores, vs, ks, qs, decay, wS, inter, dM, mT, logD, bRow, bCol, lastOf, maxRows, sumCols, sumRows, oneCol, colSq, rowSq, upper, lower, cols, rows, lsRow, lsCol, fill, gCol, gRow, igcAt, xcAt, igrAt, xrAt, qAt, kAt, vAt, ogAt, hgAt]
    rfl

/-- In output 11, what the stores of a sequence's first point leave: the eight heads' blocks, last head first, over the copy of the initial state. -/
theorem piecesA_11 (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.1 =
    ([7, 6, 5, 4, 3, 2, 1, 0] : List (Fin 8)).map (fun h => (⟨rN h, blkN (arg2.view.read (Elt F) (harg2.unread x0)) (View.ld (arg3.view.read (Elt F) (harg3.unread x1)) (Rect.unit ![0, 0, 0] S1x128x128.size inb_S1x128x128_S1x128x128_0_0_0)) (View.ld (arg4.view.read (Elt F) (harg4.unread x2)) (Rect.unit ![0, 0, 0] S1x16x128.size inb_S1x16x128_S1x16x128_0_0_0)) (View.ld (arg5.view.read (Elt F) (harg5.unread x3)) (Rect.unit ![0, 0] S1x128.size inb_S1x128_S1x128_0_0)) (View.ld (arg6.view.read (Elt F) (harg6.unread x4)) (Rect.unit ![0, 0] S16x1.size inb_S16x1_S16x1_0_0)) h (View.ld (View.ld (arg9.view.read (Elt F) (harg9.unread x7)) (Rect.unit ![0, 0, 0] S1x8x128.size inb_S1x8x128_S1x8x128_0_0_0)) (rN h)) (View.ld (k0_pay2 (View.ld (arg10.view.read (Elt F) (harg10.unread x8)) (Rect.unit ![0, 0, 0] S1x8x1.size inb_S1x8x1_S1x8x1_0_0_0))) (rM h))⟩ : View.Piece (Elt F) S1x8x128 .f32)) ++ [(⟨Rect.unit ![0, 0, 0] S1x8x128.size inb_S1x8x128_S1x8x128_0_0_0, (View.ld (arg9.view.read (Elt F) (harg9.unread x7)) (Rect.unit ![0, 0, 0] S1x8x128.size inb_S1x8x128_S1x8x128_0_0_0))⟩ : View.Piece (Elt F) S1x8x128 .f32)] := by
  unfold kernelRun0_A
  dsimp only [List.map, List.cons_append, List.nil_append]
  refine congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) rfl
  all_goals
    sl_unfold_words
    sl_unfold_words
    simp (disch := decide) only [↓ View.readCov_skip, ↓ View.readCov_fill]
    unfold_payloads
    dsimp only
    dsimp only [blkC, blkN, blkM, blkH, coreC, coreN, coreM, coreH, coreHid, coreW, mts, hOut, hid, den, num, mOut, nOut, cOut, scores, vs, ks, qs, decay, wS, inter, dM, mT, logD, bRow, bCol, lastOf, maxRows, sumCols, sumRows, oneCol, colSq, rowSq, upper, lower, cols, rows, lsRow, lsCol, fill, gCol, gRow, igcAt, xcAt, igrAt, xrAt, qAt, kAt, vAt, ogAt, hgAt]
    rfl

/-- In output 10, what the stores of a sequence's first point leave: the eight heads' blocks, last head first, over the copy of the initial state. -/
theorem piecesA_10 (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.1 =
    ([7, 6, 5, 4, 3, 2, 1, 0] : List (Fin 8)).map (fun h => (⟨rC h, blkC (arg2.view.read (Elt F) (harg2.unread x0)) (View.ld (arg3.view.read (Elt F) (harg3.unread x1)) (Rect.unit ![0, 0, 0] S1x128x128.size inb_S1x128x128_S1x128x128_0_0_0)) (View.ld (arg4.view.read (Elt F) (harg4.unread x2)) (Rect.unit ![0, 0, 0] S1x16x128.size inb_S1x16x128_S1x16x128_0_0_0)) (View.ld (arg5.view.read (Elt F) (harg5.unread x3)) (Rect.unit ![0, 0] S1x128.size inb_S1x128_S1x128_0_0)) (View.ld (arg6.view.read (Elt F) (harg6.unread x4)) (Rect.unit ![0, 0] S16x1.size inb_S16x1_S16x1_0_0)) h (View.ld (View.ld (arg8.view.read (Elt F) (harg8.unread x6)) (Rect.unit ![0, 0, 0, 0] S1x8x128x256.size inb_S1x8x128x256_S1x8x128x256_0_0_0_0)) (rC h)) (View.ld (k0_pay2 (View.ld (arg10.view.read (Elt F) (harg10.unread x8)) (Rect.unit ![0, 0, 0] S1x8x1.size inb_S1x8x1_S1x8x1_0_0_0))) (rM h))⟩ : View.Piece (Elt F) S1x8x128x256 .f32)) ++ [(⟨Rect.unit ![0, 0, 0, 0] S1x8x128x256.size inb_S1x8x128x256_S1x8x128x256_0_0_0_0, (View.ld (arg8.view.read (Elt F) (harg8.unread x6)) (Rect.unit ![0, 0, 0, 0] S1x8x128x256.size inb_S1x8x128x256_S1x8x128x256_0_0_0_0))⟩ : View.Piece (Elt F) S1x8x128x256 .f32)] := by
  unfold kernelRun0_A
  dsimp only [List.map, List.cons_append, List.nil_append]
  refine congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) rfl
  all_goals
    sl_unfold_words
    sl_unfold_words
    simp (disch := decide) only [↓ View.readCov_skip, ↓ View.readCov_fill]
    unfold_payloads
    dsimp only
    dsimp only [blkC, blkN, blkM, blkH, coreC, coreN, coreM, coreH, coreHid, coreW, mts, hOut, hid, den, num, mOut, nOut, cOut, scores, vs, ks, qs, decay, wS, inter, dM, mT, logD, bRow, bCol, lastOf, maxRows, sumCols, sumRows, oneCol, colSq, rowSq, upper, lower, cols, rows, lsRow, lsCol, fill, gCol, gRow, igcAt, xcAt, igrAt, xrAt, qAt, kAt, vAt, ogAt, hgAt]
    rfl

/-- In output 9, what the stores of a sequence's first point leave: the eight heads' blocks, last head first. -/
theorem piecesA_9 (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).1 =
    ([7, 6, 5, 4, 3, 2, 1, 0] : List (Fin 8)).map (fun h => (⟨rH h, blkH (arg2.view.read (Elt F) (harg2.unread x0)) (View.ld (arg3.view.read (Elt F) (harg3.unread x1)) (Rect.unit ![0, 0, 0] S1x128x128.size inb_S1x128x128_S1x128x128_0_0_0)) (View.ld (arg4.view.read (Elt F) (harg4.unread x2)) (Rect.unit ![0, 0, 0] S1x16x128.size inb_S1x16x128_S1x16x128_0_0_0)) (View.ld (arg5.view.read (Elt F) (harg5.unread x3)) (Rect.unit ![0, 0] S1x128.size inb_S1x128_S1x128_0_0)) (View.ld (arg6.view.read (Elt F) (harg6.unread x4)) (Rect.unit ![0, 0] S16x1.size inb_S16x1_S16x1_0_0)) (arg7.view.read (Elt F) (harg7.unread x5)) h (View.ld (View.ld (arg8.view.read (Elt F) (harg8.unread x6)) (Rect.unit ![0, 0, 0, 0] S1x8x128x256.size inb_S1x8x128x256_S1x8x128x256_0_0_0_0)) (rC h)) (View.ld (View.ld (arg9.view.read (Elt F) (harg9.unread x7)) (Rect.unit ![0, 0, 0] S1x8x128.size inb_S1x8x128_S1x8x128_0_0_0)) (rN h)) (View.ld (k0_pay2 (View.ld (arg10.view.read (Elt F) (harg10.unread x8)) (Rect.unit ![0, 0, 0] S1x8x1.size inb_S1x8x1_S1x8x1_0_0_0))) (rM h))⟩ : View.Piece (Elt F) S1x128x2048 .bf16)) ++ [] := by
  unfold kernelRun0_A
  dsimp only [List.map, List.cons_append, List.nil_append]
  refine congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) rfl
  all_goals
    sl_unfold_words
    sl_unfold_words
    simp (disch := decide) only [↓ View.readCov_skip, ↓ View.readCov_fill]
    unfold_payloads
    dsimp only
    dsimp only [blkC, blkN, blkM, blkH, coreC, coreN, coreM, coreH, coreHid, coreW, mts, hOut, hid, den, num, mOut, nOut, cOut, scores, vs, ks, qs, decay, wS, inter, dM, mT, logD, bRow, bCol, lastOf, maxRows, sumCols, sumRows, oneCol, colSq, rowSq, upper, lower, cols, rows, lsRow, lsCol, fill, gCol, gRow, igcAt, xcAt, igrAt, xrAt, qAt, kAt, vAt, ogAt, hgAt]
    rfl

end

end Cert.KernelIdeal.Core
-- ==== Proof.PiecesB.lean ====
/-
  What the kernel's body stores at a point (not the first of a sequence), as a list of blocks: each head's
  block is that head's arithmetic (Blk.lean) on what it loads.
-/
module

public import proofs.«01_k».proof.Proof.Blk
public import proofs.«01_k».proof.Proof.Gen.KernelIdeal.Value
public import Idealize.ShloMosaic.Lib.Pointwise
public import Idealize.ShloMosaic.Lib.Pipeline.ReadBack

@[expose] public section

set_option maxRecDepth 65536

noncomputable section

namespace Cert.KernelIdeal.Core

open Idealize.ShloMosaic Idealize.ShloMosaic.TcCoe Idealize.ShloMosaic.Tactic
open Cert.KernelIdeal Cert.KernelIdeal.Gen

variable {F : FTy → Type} [FloatOps F]

section
variable (c : Dev nD) (i : grid0.Coords) (arg2 : Memref sig .tc .vmem S1x128x6144 .f32) (harg2 : arg2.IsWhole) (arg3 : Memref sig .tc .vmem S1x128x128 .f32) (harg3 : arg3.IsWhole) (arg4 : Memref sig .tc .vmem S1x16x128 .f32) (harg4 : arg4.IsWhole) (arg5 : Memref sig .tc .vmem S1x128 .f32) (harg5 : arg5.IsWhole) (arg6 : Memref sig .tc .vmem S16x1 .f32) (harg6 : arg6.IsWhole) (arg7 : Memref sig .tc .vmem S1x2048 .f32) (harg7 : arg7.IsWhole) (arg8 : Memref sig .tc .vmem S1x8x128x256 .f32) (harg8 : arg8.IsWhole) (arg9 : Memref sig .tc .vmem S1x8x128 .f32) (harg9 : arg9.IsWhole) (arg10 : Memref sig .tc .vmem S1x8x1 .f32) (harg10 : arg10.IsWhole) (arg11 : Memref sig .tc .vmem S1x128x2048 .bf16) (harg11 : arg11.IsWhole) (arg12 : Memref sig .tc .vmem S1x8x128x256 .f32) (harg12 : arg12.IsWhole) (arg13 : Memref sig .tc .vmem S1x8x128 .f32) (harg13 : arg13.IsWhole) (arg14 : Memref sig .tc .vmem S1x8x1 .f32) (harg14 : arg14.IsWhole)
  (x0 : Vec F S1x128x6144 .f32) (x1 : Vec F S1x128x128 .f32) (x2 : Vec F S1x16x128 .f32) (x3 : Vec F S1x128 .f32) (x4 : Vec F S16x1 .f32) (x5 : Vec F S1x2048 .f32) (x6 : Vec F S1x8x128x256 .f32) (x7 : Vec F S1x8x128 .f32) (x8 : Vec F S1x8x1 .f32) (xo10 : Vec F S1x8x128x256 .f32) (xo11 : Vec F S1x8x128 .f32) (xo12 : Vec F S1x8x1 .f32)

/-- In output 12, what the stores of a point in the middle of a sequence leave: the eight heads' blocks, last head first. -/
theorem piecesB_12 (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12).2.2.2.1 =
    ([7, 6, 5, 4, 3, 2, 1, 0] : List (Fin 8)).map (fun h => (⟨rM h, blkM (View.ld (arg3.view.read (Elt F) (harg3.unread x1)) (Rect.unit ![0, 0, 0] S1x128x128.size inb_S1x128x128_S1x128x128_0_0_0)) (View.ld (arg4.view.read (Elt F) (harg4.unread x2)) (Rect.unit ![0, 0, 0] S1x16x128.size inb_S1x16x128_S1x16x128_0_0_0)) (View.ld (arg5.view.read (Elt F) (harg5.unread x3)) (Rect.unit ![0, 0] S1x128.size inb_S1x128_S1x128_0_0)) (View.ld (arg6.view.read (Elt F) (harg6.unread x4)) (Rect.unit ![0, 0] S16x1.size inb_S16x1_S16x1_0_0)) h (View.ld (arg14.view.read (Elt F) (harg14.unread xo12)) (rM h))⟩ : View.Piece (Elt F) S1x8x1 .f32)) := by
  unfold kernelRun0_B
  dsimp only [List.map]
  refine congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) rfl
  all_goals
    sl_unfold_words
    sl_unfold_words
    unfold_payloads
    dsimp only
    dsimp only [blkC, blkN, blkM, blkH, coreC, coreN, coreM, coreH, coreHid, coreW, mts, hOut, hid, den, num, mOut, nOut, cOut, scores, vs, ks, qs, decay, wS, inter, dM, mT, logD, bRow, bCol, lastOf, maxRows, sumCols, sumRows, oneCol, colSq, rowSq, upper, lower, cols, rows, lsRow, lsCol, fill, gCol, gRow, igcAt, xcAt, igrAt, xrAt, qAt, kAt, vAt, ogAt, hgAt]
    rfl

/-- In output 11, what the stores of a point in the middle of a sequence leave: the eight heads' blocks, last head first. -/
theorem piecesB_11 (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12).2.2.1 =
    ([7, 6, 5, 4, 3, 2, 1, 0] : List (Fin 8)).map (fun h => (⟨rN h, blkN (arg2.view.read (Elt F) (harg2.unread x0)) (View.ld (arg3.view.read (Elt F) (harg3.unread x1)) (Rect.unit ![0, 0, 0] S1x128x128.size inb_S1x128x128_S1x128x128_0_0_0)) (View.ld (arg4.view.read (Elt F) (harg4.unread x2)) (Rect.unit ![0, 0, 0] S1x16x128.size inb_S1x16x128_S1x16x128_0_0_0)) (View.ld (arg5.view.read (Elt F) (harg5.unread x3)) (Rect.unit ![0, 0] S1x128.size inb_S1x128_S1x128_0_0)) (View.ld (arg6.view.read (Elt F) (harg6.unread x4)) (Rect.unit ![0, 0] S16x1.size inb_S16x1_S16x1_0_0)) h (View.ld (arg13.view.read (Elt F) (harg13.unread xo11)) (rN h)) (View.ld (arg14.view.read (Elt F) (harg14.unread xo12)) (rM h))⟩ : View.Piece (Elt F) S1x8x128 .f32)) := by
  unfold kernelRun0_B
  dsimp only [List.map]
  refine congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) rfl
  all_goals
    sl_unfold_words
    sl_unfold_words
    unfold_payloads
    dsimp only
    dsimp only [blkC, blkN, blkM, blkH, coreC, coreN, coreM, coreH, coreHid, coreW, mts, hOut, hid, den, num, mOut, nOut, cOut, scores, vs, ks, qs, decay, wS, inter, dM, mT, logD, bRow, bCol, lastOf, maxRows, sumCols, sumRows, oneCol, colSq, rowSq, upper, lower, cols, rows, lsRow, lsCol, fill, gCol, gRow, igcAt, xcAt, igrAt, xrAt, qAt, kAt, vAt, ogAt, hgAt]
    rfl

/-- In output 10, what the stores of a point in the middle of a sequence leave: the eight heads' blocks, last head first. -/
theorem piecesB_10 (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12).2.1 =
    ([7, 6, 5, 4, 3, 2, 1, 0] : List (Fin 8)).map (fun h => (⟨rC h, blkC (arg2.view.read (Elt F) (harg2.unread x0)) (View.ld (arg3.view.read (Elt F) (harg3.unread x1)) (Rect.unit ![0, 0, 0] S1x128x128.size inb_S1x128x128_S1x128x128_0_0_0)) (View.ld (arg4.view.read (Elt F) (harg4.unread x2)) (Rect.unit ![0, 0, 0] S1x16x128.size inb_S1x16x128_S1x16x128_0_0_0)) (View.ld (arg5.view.read (Elt F) (harg5.unread x3)) (Rect.unit ![0, 0] S1x128.size inb_S1x128_S1x128_0_0)) (View.ld (arg6.view.read (Elt F) (harg6.unread x4)) (Rect.unit ![0, 0] S16x1.size inb_S16x1_S16x1_0_0)) h (View.ld (arg12.view.read (Elt F) (harg12.unread xo10)) (rC h)) (View.ld (arg14.view.read (Elt F) (harg14.unread xo12)) (rM h))⟩ : View.Piece (Elt F) S1x8x128x256 .f32)) := by
  unfold kernelRun0_B
  dsimp only [List.map]
  refine congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) rfl
  all_goals
    sl_unfold_words
    sl_unfold_words
    unfold_payloads
    dsimp only
    dsimp only [blkC, blkN, blkM, blkH, coreC, coreN, coreM, coreH, coreHid, coreW, mts, hOut, hid, den, num, mOut, nOut, cOut, scores, vs, ks, qs, decay, wS, inter, dM, mT, logD, bRow, bCol, lastOf, maxRows, sumCols, sumRows, oneCol, colSq, rowSq, upper, lower, cols, rows, lsRow, lsCol, fill, gCol, gRow, igcAt, xcAt, igrAt, xrAt, qAt, kAt, vAt, ogAt, hgAt]
    rfl

/-- In output 9, what the stores of a point in the middle of a sequence leave: the eight heads' blocks, last head first. -/
theorem piecesB_9 (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12).1 =
    ([7, 6, 5, 4, 3, 2, 1, 0] : List (Fin 8)).map (fun h => (⟨rH h, blkH (arg2.view.read (Elt F) (harg2.unread x0)) (View.ld (arg3.view.read (Elt F) (harg3.unread x1)) (Rect.unit ![0, 0, 0] S1x128x128.size inb_S1x128x128_S1x128x128_0_0_0)) (View.ld (arg4.view.read (Elt F) (harg4.unread x2)) (Rect.unit ![0, 0, 0] S1x16x128.size inb_S1x16x128_S1x16x128_0_0_0)) (View.ld (arg5.view.read (Elt F) (harg5.unread x3)) (Rect.unit ![0, 0] S1x128.size inb_S1x128_S1x128_0_0)) (View.ld (arg6.view.read (Elt F) (harg6.unread x4)) (Rect.unit ![0, 0] S16x1.size inb_S16x1_S16x1_0_0)) (arg7.view.read (Elt F) (harg7.unread x5)) h (View.ld (arg12.view.read (Elt F) (harg12.unread xo10)) (rC h)) (View.ld (arg13.view.read (Elt F) (harg13.unread xo11)) (rN h)) (View.ld (arg14.view.read (Elt F) (harg14.unread xo12)) (rM h))⟩ : View.Piece (Elt F) S1x128x2048 .bf16)) := by
  unfold kernelRun0_B
  dsimp only [List.map]
  refine congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) <|
    congrArg₂ List.cons (Sigma.ext rfl (heq_of_eq ?_)) <| congrArg₂ List.cons (Sigma.ext rfl (heq_of_eq ?_)) rfl
  all_goals
    sl_unfold_words
    sl_unfold_words
    unfold_payloads
    dsimp only
    dsimp only [blkC, blkN, blkM, blkH, coreC, coreN, coreM, coreH, coreHid, coreW, mts, hOut, hid, den, num, mOut, nOut, cOut, scores, vs, ks, qs, decay, wS, inter, dM, mT, logD, bRow, bCol, lastOf, maxRows, sumCols, sumRows, oneCol, colSq, rowSq, upper, lower, cols, rows, lsRow, lsCol, fill, gCol, gRow, igcAt, xcAt, igrAt, xrAt, qAt, kAt, vAt, ogAt, hgAt]
    rfl

end

end Cert.KernelIdeal.Core
-- ==== Proof.Outs.lean ====
/-
  What the outputs' buffers hold after a grid point: at each head's place, that head's arithmetic (Blk.lean) on the
  point's input blocks and the head's state, the initial state's at a sequence's first point and otherwise what the
  point before left.
-/
module

public import proofs.«01_k».proof.Proof.PiecesA
public import proofs.«01_k».proof.Proof.PiecesB

@[expose] public section

set_option maxRecDepth 65536

noncomputable section

namespace Cert.KernelIdeal.Core

open Idealize.ShloMosaic Idealize.ShloMosaic.TcCoe Idealize.ShloMosaic.Tactic
open Cert.KernelIdeal Cert.KernelIdeal.Gen

/-- Blocks at eight disjoint places leave, at each place, its block: whatever was written before. -/
theorem canon_heads {Val : EltTy → Type} [∀ e, Nonempty (Val e)] {S : Shape} {e : EltTy} (r : Fin 8 → Rect S)
    (p : ∀ h, (r h).shape.Idx → Val e) (L' : List (View.Piece Val S e))
    (hd : ∀ h h' (x : (r h).shape.Idx), (r h).emb x ∈ (r h').set → h' = h) (h : Fin 8) (x : (r h).shape.Idx) :
    ∀ hs : List (Fin 8), h ∈ hs →
      View.canon (hs.map (fun h => (⟨r h, p h⟩ : View.Piece Val S e)) ++ L') ((r h).emb x) = p h x
  | [], hm => absurd hm List.not_mem_nil
  | h' :: hs, hm => by
    by_cases e : h' = h
    · subst e; exact View.canon_cons_emb _ _ _ x
    · refine (View.canon_cons_of_not_mem _ _ fun hc => e (hd h h' x hc)).trans ?_
      exact canon_heads r p L' hd h x hs ((List.mem_cons.mp hm).resolve_left fun e' => e e'.symm)

theorem mem8 (h : Fin 8) : h ∈ ([7, 6, 5, 4, 3, 2, 1, 0] : List (Fin 8)) := by revert h; decide

theorem embC (h : Fin 8) (d : Fin 128) (e : Fin 256) : (rC h).emb (ix4 0 0 d e) = ix4 0 h d e :=
  funext fun a => Fin.ext (by fin_cases a <;> simp [Rect.emb, rC, Rect.unit, ix4])
theorem embN (h : Fin 8) (d : Fin 128) : (rN h).emb (ix3 0 0 d) = ix3 0 h d :=
  funext fun a => Fin.ext (by fin_cases a <;> simp [Rect.emb, rN, Rect.unit, ix3])
theorem embM (h : Fin 8) : (rM h).emb (ix3 0 0 0) = ix3 0 h 0 :=
  funext fun a => Fin.ext (by fin_cases a <;> simp [Rect.emb, rM, Rect.unit, ix3])

theorem embH (h : Fin 8) (t : Fin 128) (e : Fin 256) : (rH h).emb (ix3 0 t e) = ix3 0 t ⟨256 * h.val + e.val, by omega⟩ :=
  funext fun a => Fin.ext (by fin_cases a <;> simp [Rect.emb, rH, Rect.unit, ix3])

theorem disjC (h h' : Fin 8) (x : (rC h).shape.Idx) (hx : (rC h).emb x ∈ (rC h').set) : h' = h := by
  have e := (Rect.mem_set_unit.mp hx) 1
  have l : (x 1).val < 1 := (x 1).isLt
  rw [Rect.emb_apply] at e
  have e' : h'.val ≤ h.val + 1 * (x 1).val ∧ h.val + 1 * (x 1).val < h'.val + 1 := e
  omega
theorem disjN (h h' : Fin 8) (x : (rN h).shape.Idx) (hx : (rN h).emb x ∈ (rN h').set) : h' = h := by
  have e := (Rect.mem_set_unit.mp hx) 1
  have l : (x 1).val < 1 := (x 1).isLt
  rw [Rect.emb_apply] at e
  have e' : h'.val ≤ h.val + 1 * (x 1).val ∧ h.val + 1 * (x 1).val < h'.val + 1 := e
  omega
theorem disjM (h h' : Fin 8) (x : (rM h).shape.Idx) (hx : (rM h).emb x ∈ (rM h').set) : h' = h := by
  have e := (Rect.mem_set_unit.mp hx) 1
  have l : (x 1).val < 1 := (x 1).isLt
  rw [Rect.emb_apply] at e
  have e' : h'.val ≤ h.val + 1 * (x 1).val ∧ h.val + 1 * (x 1).val < h'.val + 1 := e
  omega
theorem disjH (h h' : Fin 8) (x : (rH h).shape.Idx) (hx : (rH h).emb x ∈ (rH h').set) : h' = h := by
  have e := (Rect.mem_set_unit.mp hx) 2
  have l : (x 2).val < 256 := (x 2).isLt
  rw [Rect.emb_apply] at e
  have e' : 256 * h'.val ≤ 256 * h.val + 1 * (x 2).val ∧ 256 * h.val + 1 * (x 2).val < 256 * h'.val + 256 := e
  omega

theorem z2 : (![0, 0] : Fin 2 → ℕ) = fun _ => 0 := by funext a; fin_cases a <;> rfl
theorem z3 : (![0, 0, 0] : Fin 3 → ℕ) = fun _ => 0 := by funext a; fin_cases a <;> rfl
theorem z4 : (![0, 0, 0, 0] : Fin 4 → ℕ) = fun _ => 0 := by funext a; fin_cases a <;> rfl

variable {F : FTy → Type} [FloatOps F] (m : (ℓ : Loc nD τ sig) → Buf (Elt F) ℓ) (c : Dev nD)

/-- What output 9, 10, 11, 12's buffer holds after point `t`. -/
abbrev oH (n : ℕ) (hn : n < cfg0.N) : Vec F S1x128x2048 .bf16 := (outsAt0 m c n hn).1
abbrev oC (n : ℕ) (hn : n < cfg0.N) : Vec F S1x8x128x256 .f32 := (outsAt0 m c n hn).2.1
abbrev oN (n : ℕ) (hn : n < cfg0.N) : Vec F S1x8x128 .f32 := (outsAt0 m c n hn).2.2.1
abbrev oM (n : ℕ) (hn : n < cfg0.N) : Vec F S1x8x1 .f32 := (outsAt0 m c n hn).2.2.2

/-- The stabilisers a sequence starts from, as the first point copies them. -/
abbrev m0At (t : Fin cfg0.N) : Vec F S1x8x1 .f32 := k0_pay2 (iblk m c 8 t)

theorem outA_C (t : Fin cfg0.N) (h0 : t.val % 32 = 0) (h : Fin 8) (x : (rC h).shape.Idx) :
    oC m c t.val t.isLt ((rC h).emb x) = blkC (iblk m c 0 t) (iblk m c 1 t) (iblk m c 2 t) (iblk m c 3 t) (iblk m c 4 t) h (View.ld (iblk m c 6 t : Vec F S1x8x128x256 .f32) (rC h)) (View.ld (m0At m c t) (rM h)) x := by
  rw [oC, outsAt0_A m c t h0]
  dsimp only
  rw [out0_A_10, View.read_writes_junk_eq_canon, piecesA_10]
  simp only [Memref.IsWhole.read_unread, View.ld_unit_zero (S := S1x128) z2, View.ld_unit_zero (S := S16x1) z2, View.ld_unit_zero (S := S1x128x128) z3, View.ld_unit_zero (S := S1x16x128) z3, View.ld_unit_zero (S := S1x8x128) z3, View.ld_unit_zero (S := S1x8x1) z3, View.ld_unit_zero (S := S1x8x128x256) z4]
  exact canon_heads rC _ _ disjC h x _ (mem8 h)
theorem outA_N (t : Fin cfg0.N) (h0 : t.val % 32 = 0) (h : Fin 8) (x : (rN h).shape.Idx) :
    oN m c t.val t.isLt ((rN h).emb x) = blkN (iblk m c 0 t) (iblk m c 1 t) (iblk m c 2 t) (iblk m c 3 t) (iblk m c 4 t) h (View.ld (iblk m c 7 t : Vec F S1x8x128 .f32) (rN h)) (View.ld (m0At m c t) (rM h)) x := by
  rw [oN, outsAt0_A m c t h0]
  dsimp only
  rw [out0_A_11, View.read_writes_junk_eq_canon, piecesA_11]
  simp only [Memref.IsWhole.read_unread, View.ld_unit_zero (S := S1x128) z2, View.ld_unit_zero (S := S16x1) z2, View.ld_unit_zero (S := S1x128x128) z3, View.ld_unit_zero (S := S1x16x128) z3, View.ld_unit_zero (S := S1x8x128) z3, View.ld_unit_zero (S := S1x8x1) z3, View.ld_unit_zero (S := S1x8x128x256) z4]
  exact canon_heads rN _ _ disjN h x _ (mem8 h)
theorem outA_M (t : Fin cfg0.N) (h0 : t.val % 32 = 0) (h : Fin 8) (x : (rM h).shape.Idx) :
    oM m c t.val t.isLt ((rM h).emb x) = blkM (iblk m c 1 t) (iblk m c 2 t) (iblk m c 3 t) (iblk m c 4 t) h (View.ld (m0At m c t) (rM h)) x := by
  rw [oM, outsAt0_A m c t h0]
  dsimp only
  rw [out0_A_12, View.read_writes_junk_eq_canon, piecesA_12]
  simp only [Memref.IsWhole.read_unread, View.ld_unit_zero (S := S1x128) z2, View.ld_unit_zero (S := S16x1) z2, View.ld_unit_zero (S := S1x128x128) z3, View.ld_unit_zero (S := S1x16x128) z3, View.ld_unit_zero (S := S1x8x128) z3, View.ld_unit_zero (S := S1x8x1) z3, View.ld_unit_zero (S := S1x8x128x256) z4]
  exact canon_heads rM _ _ disjM h x _ (mem8 h)
theorem outA_H (t : Fin cfg0.N) (h0 : t.val % 32 = 0) (h : Fin 8) (x : (rH h).shape.Idx) :
    oH m c t.val t.isLt ((rH h).emb x) = blkH (iblk m c 0 t) (iblk m c 1 t) (iblk m c 2 t) (iblk m c 3 t) (iblk m c 4 t) (iblk m c 5 t) h (View.ld (iblk m c 6 t : Vec F S1x8x128x256 .f32) (rC h)) (View.ld (iblk m c 7 t : Vec F S1x8x128 .f32) (rN h)) (View.ld (m0At m c t) (rM h)) x := by
  rw [oH, outsAt0_A m c t h0]
  dsimp only
  rw [out0_A_9, View.read_writes_junk_eq_canon, piecesA_9]
  simp only [Memref.IsWhole.read_unread, View.ld_unit_zero (S := S1x128) z2, View.ld_unit_zero (S := S16x1) z2, View.ld_unit_zero (S := S1x128x128) z3, View.ld_unit_zero (S := S1x16x128) z3, View.ld_unit_zero (S := S1x8x128) z3, View.ld_unit_zero (S := S1x8x1) z3, View.ld_unit_zero (S := S1x8x128x256) z4]
  exact canon_heads rH _ _ disjH h x _ (mem8 h)

theorem outB_C (t : Fin cfg0.N) (h0 : ¬t.val % 32 = 0) (h : Fin 8) (x : (rC h).shape.Idx) :
    oC m c t.val t.isLt ((rC h).emb x) = blkC (iblk m c 0 t) (iblk m c 1 t) (iblk m c 2 t) (iblk m c 3 t) (iblk m c 4 t) h (View.ld (oC m c (t.val - 1) (Nat.lt_of_le_of_lt (Nat.sub_le _ _) t.isLt)) (rC h)) (View.ld (oM m c (t.val - 1) (Nat.lt_of_le_of_lt (Nat.sub_le _ _) t.isLt)) (rM h)) x := by
  rw [oC, outsAt0_B m c t h0]
  dsimp only
  rw [out0_B_10, View.read_writes_junk_eq_canon, piecesB_10]
  simp only [Memref.IsWhole.read_unread, View.ld_unit_zero (S := S1x128) z2, View.ld_unit_zero (S := S16x1) z2, View.ld_unit_zero (S := S1x128x128) z3, View.ld_unit_zero (S := S1x16x128) z3, View.ld_unit_zero (S := S1x8x128) z3, View.ld_unit_zero (S := S1x8x1) z3, View.ld_unit_zero (S := S1x8x128x256) z4]
  refine (congrFun (congrArg View.canon (List.append_nil _).symm) _).trans ?_
  exact canon_heads rC _ _ disjC h x _ (mem8 h)
theorem outB_N (t : Fin cfg0.N) (h0 : ¬t.val % 32 = 0) (h : Fin 8) (x : (rN h).shape.Idx) :
    oN m c t.val t.isLt ((rN h).emb x) = blkN (iblk m c 0 t) (iblk m c 1 t) (iblk m c 2 t) (iblk m c 3 t) (iblk m c 4 t) h (View.ld (oN m c (t.val - 1) (Nat.lt_of_le_of_lt (Nat.sub_le _ _) t.isLt)) (rN h)) (View.ld (oM m c (t.val - 1) (Nat.lt_of_le_of_lt (Nat.sub_le _ _) t.isLt)) (rM h)) x := by
  rw [oN, outsAt0_B m c t h0]
  dsimp only
  rw [out0_B_11, View.read_writes_junk_eq_canon, piecesB_11]
  simp only [Memref.IsWhole.read_unread, View.ld_unit_zero (S := S1x128) z2, View.ld_unit_zero (S := S16x1) z2, View.ld_unit_zero (S := S1x128x128) z3, View.ld_unit_zero (S := S1x16x128) z3, View.ld_unit_zero (S := S1x8x128) z3, View.ld_unit_zero (S := S1x8x1) z3, View.ld_unit_zero (S := S1x8x128x256) z4]
  refine (congrFun (congrArg View.canon (List.append_nil _).symm) _).trans ?_
  exact canon_heads rN _ _ disjN h x _ (mem8 h)
theorem outB_M (t : Fin cfg0.N) (h0 : ¬t.val % 32 = 0) (h : Fin 8) (x : (rM h).shape.Idx) :
    oM m c t.val t.isLt ((rM h).emb x) = blkM (iblk m c 1 t) (iblk m c 2 t) (iblk m c 3 t) (iblk m c 4 t) h (View.ld (oM m c (t.val - 1) (Nat.lt_of_le_of_lt (Nat.sub_le _ _) t.isLt)) (rM h)) x := by
  rw [oM, outsAt0_B m c t h0]
  dsimp only
  rw [out0_B_12, View.read_writes_junk_eq_canon, piecesB_12]
  simp only [Memref.IsWhole.read_unread, View.ld_unit_zero (S := S1x128) z2, View.ld_unit_zero (S := S16x1) z2, View.ld_unit_zero (S := S1x128x128) z3, View.ld_unit_zero (S := S1x16x128) z3, View.ld_unit_zero (S := S1x8x128) z3, View.ld_unit_zero (S := S1x8x1) z3, View.ld_unit_zero (S := S1x8x128x256) z4]
  refine (congrFun (congrArg View.canon (List.append_nil _).symm) _).trans ?_
  exact canon_heads rM _ _ disjM h x _ (mem8 h)
theorem outB_H (t : Fin cfg0.N) (h0 : ¬t.val % 32 = 0) (h : Fin 8) (x : (rH h).shape.Idx) :
    oH m c t.val t.isLt ((rH h).emb x) = blkH (iblk m c 0 t) (iblk m c 1 t) (iblk m c 2 t) (iblk m c 3 t) (iblk m c 4 t) (iblk m c 5 t) h (View.ld (oC m c (t.val - 1) (Nat.lt_of_le_of_lt (Nat.sub_le _ _) t.isLt)) (rC h)) (View.ld (oN m c (t.val - 1) (Nat.lt_of_le_of_lt (Nat.sub_le _ _) t.isLt)) (rN h)) (View.ld (oM m c (t.val - 1) (Nat.lt_of_le_of_lt (Nat.sub_le _ _) t.isLt)) (rM h)) x := by
  rw [oH, outsAt0_B m c t h0]
  dsimp only
  rw [out0_B_9, View.read_writes_junk_eq_canon, piecesB_9]
  simp only [Memref.IsWhole.read_unread, View.ld_unit_zero (S := S1x128) z2, View.ld_unit_zero (S := S16x1) z2, View.ld_unit_zero (S := S1x128x128) z3, View.ld_unit_zero (S := S1x16x128) z3, View.ld_unit_zero (S := S1x8x128) z3, View.ld_unit_zero (S := S1x8x1) z3, View.ld_unit_zero (S := S1x8x128x256) z4]
  refine (congrFun (congrArg View.canon (List.append_nil _).symm) _).trans ?_
  exact canon_heads rH _ _ disjH h x _ (mem8 h)

end Cert.KernelIdeal.Core
-- ==== Proof.Inputs.lean ====
/-
  What the kernel's blocks hold, in terms of the arguments: point `t = 32 b + j` reads sequence `b`'s chunk `j`.
-/
module

public import proofs.«01_k».proof.Proof.Outs
public import Idealize.ShloMosaic.Lib.Pointwise
public import Idealize.ShloMosaic.Lib.Routing.OpsPair
public import Idealize.ShloMosaic.Lib.Routing.OpsOne

@[expose] public section

set_option maxRecDepth 65536

noncomputable section

namespace Cert.KernelIdeal.Core

open Idealize.ShloMosaic Idealize.ShloMosaic.TcCoe Idealize.ShloMosaic.Tactic
open Cert.KernelIdeal Cert.KernelIdeal.Gen

theorem lt64 (t : Fin cfg0.N) : t.val < 64 := t.isLt

/-- The sequence of point `t`. -/
def bt (t : Fin cfg0.N) : Fin 2 := ⟨t.val / 32, by have := lt64 t; omega⟩
/-- The row of step `r` of point `t`'s chunk. -/
def rt (t : Fin cfg0.N) (r : Fin 128) : Fin 4096 := ⟨128 * (t.val % 32) + r.val, by omega⟩

theorem wx0 : ∀ t : Fin cfg0.N, win0_0.index t 0 = t.val / 32 ∧ win0_0.index t 1 = t.val % 32 ∧ win0_0.index t 2 = 0 := by decide +kernel
theorem wx1 : ∀ t : Fin cfg0.N, win0_1.index t 0 = t.val / 32 ∧ win0_1.index t 1 = t.val % 32 ∧ win0_1.index t 2 = 0 := by decide +kernel
theorem wx2 : ∀ t : Fin cfg0.N, win0_2.index t 0 = t.val / 32 ∧ win0_2.index t 1 = 0 ∧ win0_2.index t 2 = t.val % 32 := by decide +kernel
theorem wx3 : ∀ t : Fin cfg0.N, win0_3.index t 0 = 0 ∧ win0_3.index t 1 = 0 := by decide +kernel
theorem wx4 : ∀ t : Fin cfg0.N, win0_4.index t 0 = 0 ∧ win0_4.index t 1 = 0 := by decide +kernel
theorem wx5 : ∀ t : Fin cfg0.N, win0_5.index t 0 = 0 ∧ win0_5.index t 1 = 0 := by decide +kernel
theorem wx6 : ∀ t : Fin cfg0.N, win0_6.index t 0 = t.val / 32 ∧ win0_6.index t 1 = 0 ∧ win0_6.index t 2 = 0 ∧ win0_6.index t 3 = 0 := by decide +kernel
theorem wx7 : ∀ t : Fin cfg0.N, win0_7.index t 0 = t.val / 32 ∧ win0_7.index t 1 = 0 ∧ win0_7.index t 2 = 0 := by decide +kernel
theorem wx8 : ∀ t : Fin cfg0.N, win0_8.index t 0 = t.val / 32 ∧ win0_8.index t 1 = 0 ∧ win0_8.index t 2 = 0 := by decide +kernel

section
variable {F : FTy → Type} [FloatOps F] (m : (ℓ : Loc nD τ sig) → Buf (Elt F) ℓ) (c : Dev nD) (t : Fin cfg0.N)

theorem iblk0 (r : Fin 128) (k : Fin 6144) : (iblk m c 0 t : Vec F S1x128x6144 .f32) (ix3 0 r k) = (V m c main_arg0 : Vec F S2x4096x6144 .f32) (ix3 (bt t) (rt t r) k) := by
  obtain ⟨h0, h1, h2⟩ := wx0 t
  unfold iblk
  rw [View.read_apply]
  refine congrArg (V m c main_arg0 : Vec F S2x4096x6144 .f32) (funext fun a => Fin.ext ?_)
  match a with
  | ⟨0, _⟩ => show win0_0.index t 0 * 1 + 1 * 0 = t.val / 32; rw [h0]; omega
  | ⟨1, _⟩ => show win0_0.index t 1 * 128 + 1 * r.val = 128 * (t.val % 32) + r.val; rw [h1]; omega
  | ⟨2, _⟩ => show win0_0.index t 2 * 6144 + 1 * k.val = k.val; rw [h2]; omega

theorem iblk1 (r : Fin 128) (k : Fin 128) : (iblk m c 1 t : Vec F S1x128x128 .f32) (ix3 0 r k) = (V m c main_arg1 : Vec F S2x4096x128 .f32) (ix3 (bt t) (rt t r) k) := by
  obtain ⟨h0, h1, h2⟩ := wx1 t
  unfold iblk
  rw [View.read_apply]
  refine congrArg (V m c main_arg1 : Vec F S2x4096x128 .f32) (funext fun a => Fin.ext ?_)
  match a with
  | ⟨0, _⟩ => show win0_1.index t 0 * 1 + 1 * 0 = t.val / 32; rw [h0]; omega
  | ⟨1, _⟩ => show win0_1.index t 1 * 128 + 1 * r.val = 128 * (t.val % 32) + r.val; rw [h1]; omega
  | ⟨2, _⟩ => show win0_1.index t 2 * 128 + 1 * k.val = k.val; rw [h2]; omega

theorem iblk2 (g : Fin 16) (r : Fin 128) : (iblk m c 2 t : Vec F S1x16x128 .f32) (ix3 0 g r) = (V m c main_v1 : Vec F S2x16x4096 .f32) (ix3 (bt t) g (rt t r)) := by
  obtain ⟨h0, h1, h2⟩ := wx2 t
  unfold iblk
  rw [View.read_apply]
  refine congrArg (V m c main_v1 : Vec F S2x16x4096 .f32) (funext fun a => Fin.ext ?_)
  match a with
  | ⟨0, _⟩ => show win0_2.index t 0 * 1 + 1 * 0 = t.val / 32; rw [h0]; omega
  | ⟨1, _⟩ => show win0_2.index t 1 * 16 + 1 * g.val = g.val; rw [h1]; omega
  | ⟨2, _⟩ => show win0_2.index t 2 * 128 + 1 * r.val = 128 * (t.val % 32) + r.val; rw [h2]; omega

theorem iblk3 (k : Fin 128) : (iblk m c 3 t : Vec F S1x128 .f32) (ix2 0 k) = (V m c main_v6 : Vec F S1x128 .f32) (ix2 0 k) := by
  obtain ⟨h0, h1⟩ := wx3 t
  unfold iblk
  rw [View.read_apply]
  refine congrArg (V m c main_v6 : Vec F S1x128 .f32) (funext fun a => Fin.ext ?_)
  match a with
  | ⟨0, _⟩ => show win0_3.index t 0 * 1 + 1 * 0 = 0; rw [h0]
  | ⟨1, _⟩ => show win0_3.index t 1 * 128 + 1 * k.val = k.val; rw [h1]; omega

theorem iblk4 (g : Fin 16) : (iblk m c 4 t : Vec F S16x1 .f32) (ix2 g 0) = (V m c main_v7 : Vec F S16x1 .f32) (ix2 g 0) := by
  obtain ⟨h0, h1⟩ := wx4 t
  unfold iblk
  rw [View.read_apply]
  refine congrArg (V m c main_v7 : Vec F S16x1 .f32) (funext fun a => Fin.ext ?_)
  match a with
  | ⟨0, _⟩ => show win0_4.index t 0 * 16 + 1 * g.val = g.val; rw [h0]; omega
  | ⟨1, _⟩ => show win0_4.index t 1 * 1 + 1 * 0 = 0; rw [h1]

theorem iblk5 (k : Fin 2048) : (iblk m c 5 t : Vec F S1x2048 .f32) (ix2 0 k) = (V m c main_v8 : Vec F S1x2048 .f32) (ix2 0 k) := by
  obtain ⟨h0, h1⟩ := wx5 t
  unfold iblk
  rw [View.read_apply]
  refine congrArg (V m c main_v8 : Vec F S1x2048 .f32) (funext fun a => Fin.ext ?_)
  match a with
  | ⟨0, _⟩ => show win0_5.index t 0 * 1 + 1 * 0 = 0; rw [h0]
  | ⟨1, _⟩ => show win0_5.index t 1 * 2048 + 1 * k.val = k.val; rw [h1]; omega

theorem iblk6 (h : Fin 8) (d : Fin 128) (e : Fin 256) : (iblk m c 6 t : Vec F S1x8x128x256 .f32) (ix4 0 h d e) = (V m c main_arg4 : Vec F S2x8x128x256 .f32) (ix4 (bt t) h d e) := by
  obtain ⟨h0, h1, h2, h3⟩ := wx6 t
  unfold iblk
  rw [View.read_apply]
  refine congrArg (V m c main_arg4 : Vec F S2x8x128x256 .f32) (funext fun a => Fin.ext ?_)
  match a with
  | ⟨0, _⟩ => show win0_6.index t 0 * 1 + 1 * 0 = t.val / 32; rw [h0]; omega
  | ⟨1, _⟩ => show win0_6.index t 1 * 8 + 1 * h.val = h.val; rw [h1]; omega
  | ⟨2, _⟩ => show win0_6.index t 2 * 128 + 1 * d.val = d.val; rw [h2]; omega
  | ⟨3, _⟩ => show win0_6.index t 3 * 256 + 1 * e.val = e.val; rw [h3]; omega

theorem iblk7 (h : Fin 8) (d : Fin 128) : (iblk m c 7 t : Vec F S1x8x128 .f32) (ix3 0 h d) = (V m c main_arg5 : Vec F S2x8x128 .f32) (ix3 (bt t) h d) := by
  obtain ⟨h0, h1, h2⟩ := wx7 t
  unfold iblk
  rw [View.read_apply]
  refine congrArg (V m c main_arg5 : Vec F S2x8x128 .f32) (funext fun a => Fin.ext ?_)
  match a with
  | ⟨0, _⟩ => show win0_7.index t 0 * 1 + 1 * 0 = t.val / 32; rw [h0]; omega
  | ⟨1, _⟩ => show win0_7.index t 1 * 8 + 1 * h.val = h.val; rw [h1]; omega
  | ⟨2, _⟩ => show win0_7.index t 2 * 128 + 1 * d.val = d.val; rw [h2]; omega

theorem iblk8 (h : Fin 8) : (iblk m c 8 t : Vec F S1x8x1 .f32) (ix3 0 h 0) = (V m c main_v9 : Vec F S2x8x1 .f32) (ix3 (bt t) h 0) := by
  obtain ⟨h0, h1, h2⟩ := wx8 t
  unfold iblk
  rw [View.read_apply]
  refine congrArg (V m c main_v9 : Vec F S2x8x1 .f32) (funext fun a => Fin.ext ?_)
  match a with
  | ⟨0, _⟩ => show win0_8.index t 0 * 1 + 1 * 0 = t.val / 32; rw [h0]; omega
  | ⟨1, _⟩ => show win0_8.index t 1 * 8 + 1 * h.val = h.val; rw [h1]; omega
  | ⟨2, _⟩ => show win0_8.index t 2 * 1 + 1 * 0 = 0; rw [h2]

/-! ## The arrays the host prepares -/

theorem V_v1 : (V m c main_v1 : Vec F S2x16x4096 .f32) = transpose S2x16x4096 [0, 2, 1] (extractStridedSlice S2x4096x16 ![0, 0, 0] (m ((c : Thread nD τ).loc main_arg1) : Vec F S2x4096x128 .f32) slices_S2x4096x128_S2x4096x16_0_0_0) transposes_S2x4096x16_S2x16x4096_0_2_1 := by
  unfold V; after_results
theorem V_v6 : (V m c main_v6 : Vec F S1x128 .f32) = Host.scatter scatter_S1x128_S2_S16_0_0_01_0 (fun _ b => b) (broadcastInDim S1x128 ![] bcast_S_S1x128 (constant S_ .f32 0x00000000#32 : Vec F S_ .f32)) (concatenate S2 0 [⟨S1, broadcastInDim S1 ![] bcast_S_S1 (constantI S_ 32 0#32)⟩, ⟨S1, broadcastInDim S1 ![] bcast_S_S1 (constantI S_ 32 0#32)⟩] concatenates_S1_S1_S2_d0) (m ((c : Thread nD τ).loc main_arg2) : Vec F S16 .f32) := by
  unfold V; after_results
theorem V_v7 : (V m c main_v7 : Vec F S16x1 .f32) = shapeCast S16x1 (m ((c : Thread nD τ).loc main_arg2) : Vec F S16 .f32) shapeCasts_S16_S16x1 := by
  unfold V; after_results; rfl
theorem V_v8 : (V m c main_v8 : Vec F S1x2048 .f32) = shapeCast S1x2048 (m ((c : Thread nD τ).loc main_arg3) : Vec F S2048 .f32) shapeCasts_S2048_S1x2048 := by
  unfold V; after_results; rfl
theorem V_v9 : (V m c main_v9 : Vec F S2x8x1 .f32) = shapeCast S2x8x1 (m ((c : Thread nD τ).loc main_arg6) : Vec F S2x8 .f32) shapeCasts_S2x8_S2x8x1 := by
  unfold V; after_results; rfl

/-- The two words saying where the biases go are zero. -/
theorem start_zero (i : S2.Idx) : concatenate S2 0 [⟨S1, broadcastInDim S1 ![] bcast_S_S1 (constantI S_ 32 0#32)⟩, ⟨S1, broadcastInDim S1 ![] bcast_S_S1 (constantI S_ 32 0#32)⟩] concatenates_S1_S1_S2_d0 i = 0#32 := by
  rw [eq_ix1 i]
  generalize i 0 = k
  fin_cases k <;> rfl

/-- Bias `k` lands in column `k` of the row. -/
theorem bias_lands (idx : IVec S2 32) (hz : ∀ i, idx i = 0#32) (k : Fin 16) (g : Fin 128) :
    scatter_S1x128_S2_S16_0_0_01_0.resultIdx? (ix1 k) idx = some (ix2 0 g) ↔ k.val = g.val := by
  have hw0 : scatter_S1x128_S2_S16_0_0_01_0.window (ix1 k) 0 = 0 := rfl
  have hw1 : scatter_S1x128_S2_S16_0_0_01_0.window (ix1 k) 1 = k.val := rfl
  refine (Routing.resultIdx?_ix2 (R := 1) (C := 128) scatter_S1x128_S2_S16_0_0_01_0 (ix1 k) idx 0 g).trans ?_
  rw [Routing.start_pair _ rfl rfl, Routing.start_pair _ rfl rfl, hw0, hw1, hz, hz]
  simp

theorem v6_apply (k : Fin 16) : (V m c main_v6 : Vec F S1x128 .f32) (ix2 0 ⟨k.val, by omega⟩) = (m ((c : Thread nD τ).loc main_arg2) : Vec F S16 .f32) (ix1 k) := by
  rw [V_v6]
  refine Routing.scatter_set_hit _ _ _ _ _ _ (fun k' hk' => ?_) (ix1 k) ((bias_lands _ start_zero k _).2 rfl)
  rw [eq_ix1 k'] at hk' ⊢
  exact congrArg _ (congrArg ix1 (Fin.ext ((bias_lands _ start_zero _ _).1 hk')))
theorem v1_apply (b : Fin 2) (g : Fin 16) (r : Fin 4096) : (V m c main_v1 : Vec F S2x16x4096 .f32) (ix3 b g r) = (m ((c : Thread nD τ).loc main_arg1) : Vec F S2x4096x128 .f32) (ix3 b r ⟨g.val, by omega⟩) := by
  rw [V_v1]; pointwise []
theorem v7_apply (g : Fin 16) : (V m c main_v7 : Vec F S16x1 .f32) (ix2 g 0) = (m ((c : Thread nD τ).loc main_arg2) : Vec F S16 .f32) (ix1 g) := by
  rw [V_v7]; pointwise []
theorem v8_apply (e : Fin 2048) : (V m c main_v8 : Vec F S1x2048 .f32) (ix2 0 e) = (m ((c : Thread nD τ).loc main_arg3) : Vec F S2048 .f32) (ix1 e) := by
  rw [V_v8]; pointwise []
theorem v9_apply (b : Fin 2) (h : Fin 8) : (V m c main_v9 : Vec F S2x8x1 .f32) (ix3 b h 0) = (m ((c : Thread nD τ).loc main_arg6) : Vec F S2x8 .f32) (ix2 b h) := by
  rw [V_v9]; pointwise []
end

end Cert.KernelIdeal.Core
-- ==== Proof.KerRead.lean ====
/-
  The kernel's arithmetic of one head (Core.lean), read at an index: it is the head's recurrence in numbers
  (Spec.lean), whatever the head's inputs are.
-/
module

public import proofs.«01_k».proof.Proof.Core
public import proofs.«01_k».proof.Proof.Spec

@[expose] public section

noncomputable section

namespace Cert.KernelIdeal.Core

open Idealize.ShloMosaic Idealize.ShloMosaic.Tactic Cert.KernelIdeal Cert.KernelIdeal.Gen Cert.Mlstm

theorem lsCol_apply (x : FVec Ideal S128x1 .f32) (t : Fin 128) : lsCol x (ix2 t 0) = ls (x (ix2 t 0)) := by
  pointwise [lsCol, fill, ls]
theorem lsRow_apply (x : FVec Ideal S1x128 .f32) (t : Fin 128) : lsRow x (ix2 0 t) = ls (x (ix2 0 t)) := by
  pointwise [lsRow, fill, ls]

section
variable (x : Chunk) (s : St)
  (igc xc : FVec Ideal S128x1 .f32) (igr xr : FVec Ideal S1x128 .f32) (q0 k0 : Vec Ideal S1x128x128 .f32)
  (v0 : Vec Ideal S1x128x256 .f32) (c0 : Vec Ideal S1x1x128x256 .f32) (n0 : Vec Ideal S1x1x128 .f32) (m1 : Vec Ideal S1x1x1 .f32)
  (hic : ∀ t, igc (ix2 t 0) = x.xi t) (hxc : ∀ t, xc (ix2 t 0) = x.xf t)
  (hir : ∀ t, igr (ix2 0 t) = x.xi t) (hxr : ∀ t, xr (ix2 0 t) = x.xf t)
  (hq : ∀ t d, q0 (ix3 0 t d) = x.q t d) (hk : ∀ t d, k0 (ix3 0 t d) = x.k t d) (hv : ∀ t e, v0 (ix3 0 t e) = x.v t e)
  (hC : ∀ d e, c0 (ix4 0 0 d e) = s.C d e) (hn : ∀ d, n0 (ix3 0 0 d) = s.n d) (hm : m1 (ix3 0 0 0) = s.m)

include hxr in
theorem bCol_apply (t : Fin 128) : bCol xr (ix2 t 0) = bsum x t := by
  pointwise [bCol, sumRows, lower, rows, cols, rowSq, fill, lsRow_apply]
  simp only [select_sle, lsRow_apply, hxr]; rfl

include hxc in
theorem bRow_apply (t : Fin 128) : bRow xc (ix2 0 t) = bsum x t := by
  pointwise [bRow, sumCols, upper, rows, cols, colSq, fill, lsCol_apply]
  simp only [select_sle, lsCol_apply, hxc]; rfl

include hxr hxc hir in
theorem logD_apply (t u : Fin 128) : logD (bCol xr) (bRow xc) igr (ix2 t u) = logd x t u := by
  pointwise [logD, lower, rows, cols, rowSq, colSq, fill]
  simp only [select_sle, hir, bCol_apply x xr hxr, bRow_apply x xc hxc]; rfl

include hxr hxc hir hm in
theorem mts_apply (t : Fin 128) : mts xc igr xr m1 (ix2 t 0) = mt x s t := by
  pointwise [mts, mT, maxRows, oneCol]
  simp only [hm, bCol_apply x xr hxr, logD_apply x xc igr xr hxc hir hxr]; rfl

include hxr hxc hir hm in
theorem inter_apply (t : Fin 128) : inter (bCol xr) m1 (mts xc igr xr m1) (ix2 t 0) = Mlstm.inter x s t := by
  pointwise [inter, oneCol]
  simp only [hm, bCol_apply x xr hxr, mts_apply x s xc igr xr m1 hxc hir hxr hm]; rfl

include hxr hxc hir hm hic in
theorem wS_apply (t : Fin 128) : wS (bCol xr) igc (mts xc igr xr m1) (ix2 t 0) = ws x s t := by
  pointwise [wS, oneCol, lastOf]
  simp only [hic, bCol_apply x xr hxr, mts_apply x s xc igr xr m1 hxc hir hxr hm]; rfl

include hxr hxc hir hm in
theorem decay_apply : decay (bCol xr) m1 (mts xc igr xr m1) (ix2 0 0) = Mlstm.decay x s := by
  pointwise [decay, lastOf]
  simp only [hm, bCol_apply x xr hxr, mts_apply x s xc igr xr m1 hxc hir hxr hm]; rfl

include hxr hxc hir hm hq hk in
theorem coreW_apply (t u : Fin 128) : coreW xc igr xr q0 k0 m1 (ix2 t u) = w x s t u := by
  pointwise [coreW, scores, dM, colSq, qs, ks, fill, dot_S128x128_S128x128_S128x128_1_1_0_0_n_n]
  simp only [hq, hk, logD_apply x xc igr xr hxc hir hxr, mts_apply x s xc igr xr m1 hxc hir hxr hm]; rfl

include hxr hxc hir hm hq hk hv hC in
theorem num_apply (t : Fin 128) (e : Fin 256) :
    num q0 v0 c0 (inter (bCol xr) m1 (mts xc igr xr m1)) (coreW xc igr xr q0 k0 m1) (ix2 t e) = Mlstm.num x s t e := by
  pointwise [num, vs, qs, fill, dot_S128x128_S128x256_S128x256_1_0_0_1_n_n]
  simp only [hq, hv, hC, inter_apply x s xc igr xr m1 hxc hir hxr hm, coreW_apply x s xc igr xr q0 k0 m1 hxc hir hxr hq hk hm]; rfl

include hxr hxc hir hm hq hk hn in
theorem den_apply (t : Fin 128) :
    den q0 n0 (inter (bCol xr) m1 (mts xc igr xr m1)) (mts xc igr xr m1) (coreW xc igr xr q0 k0 m1) (ix2 t 0) = Mlstm.den x s t := by
  pointwise [den, sumRows, qs, rowSq, fill]
  simp only [hq, hn, mts_apply x s xc igr xr m1 hxc hir hxr hm, inter_apply x s xc igr xr m1 hxc hir hxr hm,
    coreW_apply x s xc igr xr q0 k0 m1 hxc hir hxr hq hk hm]; rfl

include hxr hxc hir hm hq hk hv hC hn in
theorem coreHid_apply (t : Fin 128) (e : Fin 256) :
    coreHid xc igr xr q0 k0 v0 c0 n0 m1 (ix2 t e) = Mlstm.hid x s t e := by
  pointwise [coreHid, hid]
  rw [num_apply x s xc igr xr q0 k0 v0 c0 m1 hxc hir hxr hq hk hv hC hm, den_apply x s xc igr xr q0 k0 n0 m1 hxc hir hxr hq hk hn hm]; rfl

include hxr hxc hir hm hq hk hv hC hn in
theorem coreH_apply (hg : Vec Ideal S1x256 .f32) (og : Vec Ideal S1x128x256 .f32) (t : Fin 128) (e : Fin 256) :
    coreH xc igr xr q0 k0 v0 c0 n0 m1 hg og (ix3 0 t e) = gated (Mlstm.hid x s t) (hg (ix2 0 e)) (og (ix3 0 t e)) e := by
  pointwise [coreH, hOut, fill]
  simp only [coreHid_apply x s xc igr xr q0 k0 v0 c0 n0 m1 hxc hir hxr hq hk hv hC hn hm]; rfl

include hic hxr hxc hir hm hk hv hC in
theorem coreC_apply (d : Fin 128) (e : Fin 256) : coreC igc xc igr xr q0 k0 v0 c0 m1 (ix4 0 0 d e) = (next x s).C d e := by
  pointwise [coreC, cOut, vs, ks, colSq, dot_S128x128_S128x256_S128x256_0_0_1_1_n_n]
  simp only [hC, hk, hv, decay_apply x s xc igr xr m1 hxc hir hxr hm, wS_apply x s igc xc igr xr m1 hic hxc hir hxr hm]; rfl

include hic hxr hxc hir hm hk hn in
theorem coreN_apply (d : Fin 128) : coreN igc xc igr xr k0 n0 m1 (ix3 0 0 d) = (next x s).n d := by
  pointwise [coreN, nOut, ks, colSq, sumCols]
  simp only [hn, hk, decay_apply x s xc igr xr m1 hxc hir hxr hm, wS_apply x s igc xc igr xr m1 hic hxc hir hxr hm]; rfl

include hxr hxc hir hm in
theorem coreM_apply : coreM xc igr xr m1 (ix3 0 0 0) = (next x s).m := by
  pointwise [coreM, mOut, lastOf]
  rw [mts_apply x s xc igr xr m1 hxc hir hxr hm]; rfl
end

end Cert.KernelIdeal.Core
-- ==== Proof.KerVal.lean ====
/-
  The kernel's outputs after every grid point are the recurrence's: point `32 b + j` leaves in the state's buffers the
  state of sequence `b` after chunk `j`, and in the output's buffer the chunk's outputs. By induction on the point.
-/
module

public import proofs.«01_k».proof.Proof.Inputs
public import proofs.«01_k».proof.Proof.KerRead
public import proofs.«01_k».proof.Proof.Chain

@[expose] public section

set_option maxRecDepth 65536

noncomputable section

namespace Cert.KernelIdeal.Core

open Idealize.ShloMosaic Idealize.ShloMosaic.TcCoe Idealize.ShloMosaic.Tactic
open Cert.KernelIdeal Cert.KernelIdeal.Gen Cert.Mlstm

/-! ## A head's loads -/

section
variable (x0 : Vec Ideal S1x128x6144 .f32) (x1 : Vec Ideal S1x128x128 .f32) (x2 : Vec Ideal S1x16x128 .f32) (x3 : Vec Ideal S1x128 .f32)
  (x4 : Vec Ideal S16x1 .f32) (x5 : Vec Ideal S1x2048 .f32) (h : Fin 8)

theorem igcAt_apply (t : Fin 128) : igcAt x1 x3 h (ix2 t 0) = x1 (ix3 0 t ⟨h.val, by omega⟩) + x3 (ix2 0 ⟨h.val, by omega⟩) := by
  pointwise [igcAt, gCol]
theorem xcAt_apply (t : Fin 128) : xcAt x1 x3 h (ix2 t 0) = x1 (ix3 0 t ⟨8 + h.val, by omega⟩) + x3 (ix2 0 ⟨8 + h.val, by omega⟩) := by
  pointwise [xcAt, gCol]
theorem igrAt_apply (t : Fin 128) : igrAt x2 x4 h (ix2 0 t) = x2 (ix3 0 ⟨h.val, by omega⟩ t) + x4 (ix2 ⟨h.val, by omega⟩ 0) := by
  pointwise [igrAt, gRow]
theorem xrAt_apply (t : Fin 128) : xrAt x2 x4 h (ix2 0 t) = x2 (ix3 0 ⟨8 + h.val, by omega⟩ t) + x4 (ix2 ⟨8 + h.val, by omega⟩ 0) := by
  pointwise [xrAt, gRow]

theorem qAt_apply (t d : Fin 128) : qAt x0 h (ix3 0 t d) = x0 (ix3 0 t ⟨128 * h.val + d.val, by omega⟩) :=
  congrArg x0 (funext fun a => Fin.ext (by fin_cases a <;> simp [Rect.unit, ix3]))
theorem kAt_apply (t d : Fin 128) : kAt x0 h (ix3 0 t d) = x0 (ix3 0 t ⟨1024 + 128 * h.val + d.val, by omega⟩) :=
  congrArg x0 (funext fun a => Fin.ext (by fin_cases a <;> simp [Rect.unit, ix3]))
theorem vAt_apply (t : Fin 128) (e : Fin 256) : vAt x0 h (ix3 0 t e) = x0 (ix3 0 t ⟨2048 + 256 * h.val + e.val, by omega⟩) :=
  congrArg x0 (funext fun a => Fin.ext (by fin_cases a <;> simp [Rect.unit, ix3]))
theorem ogAt_apply (t : Fin 128) (e : Fin 256) : ogAt x0 h (ix3 0 t e) = x0 (ix3 0 t ⟨4096 + 256 * h.val + e.val, by omega⟩) :=
  congrArg x0 (funext fun a => Fin.ext (by fin_cases a <;> simp [Rect.unit, ix3]))
theorem hgAt_apply (e : Fin 256) : hgAt x5 h (ix2 0 e) = x5 (ix2 0 ⟨256 * h.val + e.val, by omega⟩) :=
  congrArg x5 (funext fun a => Fin.ext (by fin_cases a <;> simp [Rect.unit, ix2]))
end

theorem ldC (y : Vec Ideal S1x8x128x256 .f32) (h : Fin 8) (d : Fin 128) (e : Fin 256) : View.ld y (rC h) (ix4 0 0 d e) = y (ix4 0 h d e) := congrArg y (embC h d e)
theorem ldN (y : Vec Ideal S1x8x128 .f32) (h : Fin 8) (d : Fin 128) : View.ld y (rN h) (ix3 0 0 d) = y (ix3 0 h d) := congrArg y (embN h d)
theorem ldM (y : Vec Ideal S1x8x1 .f32) (h : Fin 8) : View.ld y (rM h) (ix3 0 0 0) = y (ix3 0 h 0) := congrArg y (embM h)

section
variable (m : (ℓ : Loc nD τ sig) → Buf (Elt Ideal) ℓ) (c : Dev nD)

/-- The arguments in numbers. -/
def args : Args where
  p b r k := (m ((c : Thread nD τ).loc main_arg0) : Vec Ideal S2x4096x6144 .f32) (ix3 b r k)
  g b r k := (m ((c : Thread nD τ).loc main_arg1) : Vec Ideal S2x4096x128 .f32) (ix3 b r k)
  bias g := (m ((c : Thread nD τ).loc main_arg2) : Vec Ideal S16 .f32) (ix1 g)
  hg e := (m ((c : Thread nD τ).loc main_arg3) : Vec Ideal S2048 .f32) (ix1 e)
  c b h d e := (m ((c : Thread nD τ).loc main_arg4) : Vec Ideal S2x8x128x256 .f32) (ix4 b h d e)
  n b h d := (m ((c : Thread nD τ).loc main_arg5) : Vec Ideal S2x8x128 .f32) (ix3 b h d)
  m b h := (m ((c : Thread nD τ).loc main_arg6) : Vec Ideal S2x8 .f32) (ix2 b h)

/-- The chunk of point `t`. -/
def jt (t : Fin cfg0.N) : Fin 32 := ⟨t.val % 32, Nat.mod_lt _ (by decide)⟩
/-- What point `t` reads for head `h`. -/
abbrev chunkAt (t : Fin cfg0.N) (h : Fin 8) : Chunk := (args m c).chunk (bt t) h (jt t)

variable (t : Fin cfg0.N) (h : Fin 8)

theorem in_ic (r : Fin 128) : igcAt (iblk m c 1 t) (iblk m c 3 t) h (ix2 r 0) = (chunkAt m c t h).xi r := by
  rw [igcAt_apply, iblk1, iblk3, V_main_arg1]
  exact congrArg (HAdd.hAdd (α := EReal) (β := EReal) _) (v6_apply m c ⟨h.val, by omega⟩)
theorem in_xc (r : Fin 128) : xcAt (iblk m c 1 t) (iblk m c 3 t) h (ix2 r 0) = (chunkAt m c t h).xf r := by
  rw [xcAt_apply, iblk1, iblk3, V_main_arg1]
  exact congrArg (HAdd.hAdd (α := EReal) (β := EReal) _) (v6_apply m c ⟨8 + h.val, by omega⟩)
theorem in_ir (r : Fin 128) : igrAt (iblk m c 2 t) (iblk m c 4 t) h (ix2 0 r) = (chunkAt m c t h).xi r := by
  rw [igrAt_apply, iblk2, iblk4, v1_apply, v7_apply]; rfl
theorem in_xr (r : Fin 128) : xrAt (iblk m c 2 t) (iblk m c 4 t) h (ix2 0 r) = (chunkAt m c t h).xf r := by
  rw [xrAt_apply, iblk2, iblk4, v1_apply, v7_apply]; rfl
theorem in_q (r d : Fin 128) : qAt (iblk m c 0 t) h (ix3 0 r d) = (chunkAt m c t h).q r d := by
  rw [qAt_apply, iblk0, V_main_arg0]; rfl
theorem in_k (r d : Fin 128) : kAt (iblk m c 0 t) h (ix3 0 r d) = (chunkAt m c t h).k r d := by
  rw [kAt_apply, iblk0, V_main_arg0]; rfl
theorem in_v (r : Fin 128) (e : Fin 256) : vAt (iblk m c 0 t) h (ix3 0 r e) = (chunkAt m c t h).v r e := by
  rw [vAt_apply, iblk0, V_main_arg0]; rfl
theorem in_og (r : Fin 128) (e : Fin 256) : ogAt (iblk m c 0 t) h (ix3 0 r e) = (args m c).p (bt t) (row (jt t) r) ⟨4096 + 256 * h.val + e.val, by omega⟩ := by
  rw [ogAt_apply, iblk0, V_main_arg0]; rfl
theorem in_hg (e : Fin 256) : hgAt (iblk m c 5 t) h (ix2 0 e) = (args m c).hg ⟨256 * h.val + e.val, by omega⟩ := by
  rw [hgAt_apply, iblk5, v8_apply]; rfl

variable (s : St) (c1 : Vec Ideal S1x1x128x256 .f32) (n1 : Vec Ideal S1x1x128 .f32) (m1 : Vec Ideal S1x1x1 .f32)
  (hC : ∀ d e, c1 (ix4 0 0 d e) = s.C d e) (hn : ∀ d, n1 (ix3 0 0 d) = s.n d) (hm : m1 (ix3 0 0 0) = s.m)

include hC hm in
theorem blkC_apply (d : Fin 128) (e : Fin 256) : blkC (iblk m c 0 t) (iblk m c 1 t) (iblk m c 2 t) (iblk m c 3 t) (iblk m c 4 t) h c1 m1 (ix4 0 0 d e) = (next (chunkAt m c t h) s).C d e :=
  coreC_apply _ s _ _ _ _ _ _ _ _ _ (in_ic m c t h) (in_xc m c t h) (in_ir m c t h) (in_xr m c t h) (in_k m c t h) (in_v m c t h) hC hm d e
include hn hm in
theorem blkN_apply (d : Fin 128) : blkN (iblk m c 0 t) (iblk m c 1 t) (iblk m c 2 t) (iblk m c 3 t) (iblk m c 4 t) h n1 m1 (ix3 0 0 d) = (next (chunkAt m c t h) s).n d :=
  coreN_apply _ s _ _ _ _ _ _ _ (in_ic m c t h) (in_xc m c t h) (in_ir m c t h) (in_xr m c t h) (in_k m c t h) hn hm d
include hm in
theorem blkM_apply : blkM (iblk m c 1 t) (iblk m c 2 t) (iblk m c 3 t) (iblk m c 4 t) h m1 (ix3 0 0 0) = (next (chunkAt m c t h) s).m :=
  coreM_apply _ s _ _ _ _ (in_xc m c t h) (in_ir m c t h) (in_xr m c t h) hm
include hC hn hm in
theorem blkH_apply (r : Fin 128) (e : Fin 256) : blkH (iblk m c 0 t) (iblk m c 1 t) (iblk m c 2 t) (iblk m c 3 t) (iblk m c 4 t) (iblk m c 5 t) h c1 n1 m1 (ix3 0 r e)
    = gated (Mlstm.hid (chunkAt m c t h) s r) ((args m c).hg ⟨256 * h.val + e.val, by omega⟩) ((args m c).p (bt t) (row (jt t) r) ⟨4096 + 256 * h.val + e.val, by omega⟩) e := by
  refine (coreH_apply _ s _ _ _ _ _ _ _ _ _ (in_xc m c t h) (in_ir m c t h) (in_xr m c t h) (in_q m c t h) (in_k m c t h) (in_v m c t h) hC hn hm _ _ r e).trans ?_
  rw [in_hg m c t h, in_og m c t h]
end
end Cert.KernelIdeal.Core
-- ==== Proof.KerOut.lean ====
/-
  The kernel's outputs after every grid point are the recurrence's: point `32 b + j` leaves in the state's buffers the
  state of sequence `b` after chunk `j`, and in the output's buffer the chunk's outputs. By induction on the point; then
  the four result arrays, block by block.
-/
module

public import proofs.«01_k».proof.Proof.KerVal
public import proofs.«01_k».proof.Proof.Gen.KernelIdeal.Value
public import Idealize.ShloMosaic.Lib.Pipeline.ValueKit

@[expose] public section

set_option maxRecDepth 65536

noncomputable section

namespace Cert.KernelIdeal.Core

open Idealize.ShloMosaic Idealize.ShloMosaic.TcCoe Idealize.ShloMosaic.Tactic
open Cert.KernelIdeal Cert.KernelIdeal.Gen Cert.Mlstm Idealize.SL.Sem

variable (m : (ℓ : Loc nD τ sig) → Buf (Elt Ideal) ℓ) (c : Dev nD)

/-- The state of head `h` before point `t`'s chunk. -/
abbrev stAt (t : Fin cfg0.N) (h : Fin 8) : St := (args m c).st (bt t) h (jt t).val

theorem next_stAt (t : Fin cfg0.N) (h : Fin 8) : next (chunkAt m c t h) (stAt m c t h) = (args m c).st (bt t) h ((jt t).val + 1) :=
  ((args m c).st_succ (bt t) h (jt t)).symm

/-- The state's buffers hold `f h` for each head. -/
def Holds (y1 : Vec Ideal S1x8x128x256 .f32) (y2 : Vec Ideal S1x8x128 .f32) (y3 : Vec Ideal S1x8x1 .f32) (f : Fin 8 → St) : Prop :=
  ∀ h, (∀ d e, y1 (ix4 0 h d e) = (f h).C d e) ∧ (∀ d, y2 (ix3 0 h d) = (f h).n d) ∧ y3 (ix3 0 h 0) = (f h).m

/-- What a point finds: its sequence's initial state at the sequence's first point. -/
theorem start_holds (t : Fin cfg0.N) (h0 : t.val % 32 = 0) : Holds (iblk m c 6 t) (iblk m c 7 t) (m0At m c t) (stAt m c t) := by
  intro h
  have e : (jt t).val = 0 := h0
  unfold stAt
  rw [e]
  refine ⟨fun d e => ?_, fun d => ?_, ?_⟩
  · rw [iblk6, V_main_arg4]; rfl
  · rw [iblk7, V_main_arg5]; rfl
  · unfold m0At k0_pay2
    rw [shapeCast_self, iblk8, v9_apply]; rfl

theorem after_A (t : Fin cfg0.N) (h0 : t.val % 32 = 0) :
    Holds (oC m c t.val t.isLt) (oN m c t.val t.isLt) (oM m c t.val t.isLt) (fun h => (args m c).st (bt t) h ((jt t).val + 1)) := by
  intro h
  have H := start_holds m c t h0
  dsimp only
  rw [← next_stAt]
  have hC : ∀ d e, View.ld (iblk m c 6 t : Vec Ideal S1x8x128x256 .f32) (rC h) (ix4 0 0 d e) = (stAt m c t h).C d e := fun d e => (ldC _ h d e).trans ((H h).1 d e)
  have hn : ∀ d, View.ld (iblk m c 7 t : Vec Ideal S1x8x128 .f32) (rN h) (ix3 0 0 d) = (stAt m c t h).n d := fun d => (ldN _ h d).trans ((H h).2.1 d)
  have hm : View.ld (m0At m c t) (rM h) (ix3 0 0 0) = (stAt m c t h).m := (ldM _ h).trans (H h).2.2
  exact ⟨fun d e => (congrArg _ (embC h d e).symm).trans ((outA_C m c t h0 h _).trans (blkC_apply m c t h _ _ _ hC hm d e)),
    fun d => (congrArg _ (embN h d).symm).trans ((outA_N m c t h0 h _).trans (blkN_apply m c t h _ _ _ hn hm d)),
    (congrArg _ (embM h).symm).trans ((outA_M m c t h0 h _).trans (blkM_apply m c t h _ _ hm))⟩

theorem after_B (t : Fin cfg0.N) (h0 : ¬t.val % 32 = 0) (hp : t.val - 1 < cfg0.N)
    (H : Holds (oC m c (t.val - 1) hp) (oN m c (t.val - 1) hp) (oM m c (t.val - 1) hp) (stAt m c t)) :
    Holds (oC m c t.val t.isLt) (oN m c t.val t.isLt) (oM m c t.val t.isLt) (fun h => (args m c).st (bt t) h ((jt t).val + 1)) := by
  intro h
  dsimp only
  rw [← next_stAt]
  have hC : ∀ d e, View.ld (oC m c (t.val - 1) hp) (rC h) (ix4 0 0 d e) = (stAt m c t h).C d e := fun d e => (ldC _ h d e).trans ((H h).1 d e)
  have hn : ∀ d, View.ld (oN m c (t.val - 1) hp) (rN h) (ix3 0 0 d) = (stAt m c t h).n d := fun d => (ldN _ h d).trans ((H h).2.1 d)
  have hm : View.ld (oM m c (t.val - 1) hp) (rM h) (ix3 0 0 0) = (stAt m c t h).m := (ldM _ h).trans (H h).2.2
  exact ⟨fun d e => (congrArg _ (embC h d e).symm).trans ((outB_C m c t h0 h _).trans (blkC_apply m c t h _ _ _ hC hm d e)),
    fun d => (congrArg _ (embN h d).symm).trans ((outB_N m c t h0 h _).trans (blkN_apply m c t h _ _ _ hn hm d)),
    (congrArg _ (embM h).symm).trans ((outB_M m c t h0 h _).trans (blkM_apply m c t h _ _ hm))⟩

/-- After every point the state's buffers hold the state after the point's chunk. -/
theorem after_holds : ∀ (n : ℕ) (hn : n < cfg0.N),
    Holds (oC m c n hn) (oN m c n hn) (oM m c n hn) (fun h => (args m c).st (bt ⟨n, hn⟩) h ((jt ⟨n, hn⟩).val + 1))
  | 0, hn => after_A m c ⟨0, hn⟩ rfl
  | n + 1, hn => by
    by_cases h0 : (n + 1) % 32 = 0
    · exact after_A m c ⟨n + 1, hn⟩ h0
    · have hp : n < cfg0.N := Nat.lt_of_succ_lt hn
      refine after_B m c ⟨n + 1, hn⟩ h0 hp ?_
      have e : (fun h => (args m c).st (bt ⟨n, hp⟩) h ((jt ⟨n, hp⟩).val + 1)) = stAt m c ⟨n + 1, hn⟩ := by
        funext h
        have e1 : bt ⟨n, hp⟩ = bt ⟨n + 1, hn⟩ := Fin.ext (by show n / 32 = (n + 1) / 32; omega)
        have e2 : (jt ⟨n, hp⟩).val + 1 = (jt ⟨n + 1, hn⟩).val := by show n % 32 + 1 = (n + 1) % 32; omega
        rw [e1, e2]
      exact e ▸ after_holds n hp

/-- After every point the output's buffer holds the chunk's outputs. -/
theorem after_out (t : Fin cfg0.N) (h : Fin 8) (r : Fin 128) (e : Fin 256) :
    oH m c t.val t.isLt (ix3 0 r ⟨256 * h.val + e.val, by omega⟩) = (args m c).out (bt t) h (jt t) r e := by
  by_cases h0 : t.val % 32 = 0
  · have H := start_holds m c t h0
    have hC : ∀ d e, View.ld (iblk m c 6 t : Vec Ideal S1x8x128x256 .f32) (rC h) (ix4 0 0 d e) = (stAt m c t h).C d e := fun d e => (ldC _ h d e).trans ((H h).1 d e)
    have hn : ∀ d, View.ld (iblk m c 7 t : Vec Ideal S1x8x128 .f32) (rN h) (ix3 0 0 d) = (stAt m c t h).n d := fun d => (ldN _ h d).trans ((H h).2.1 d)
    have hm : View.ld (m0At m c t) (rM h) (ix3 0 0 0) = (stAt m c t h).m := (ldM _ h).trans (H h).2.2
    exact (congrArg _ (embH h r e).symm).trans ((outA_H m c t h0 h _).trans (blkH_apply m c t h _ _ _ _ hC hn hm r e))
  · have hp : t.val - 1 < cfg0.N := Nat.lt_of_le_of_lt (Nat.sub_le _ _) t.isLt
    have H' := after_holds m c (t.val - 1) hp
    have e' : (fun h => (args m c).st (bt ⟨t.val - 1, hp⟩) h ((jt ⟨t.val - 1, hp⟩).val + 1)) = stAt m c t := by
      funext h
      have e1 : bt ⟨t.val - 1, hp⟩ = bt t := Fin.ext (by show (t.val - 1) / 32 = t.val / 32; omega)
      have e2 : (jt ⟨t.val - 1, hp⟩).val + 1 = (jt t).val := by show (t.val - 1) % 32 + 1 = t.val % 32; omega
      rw [e1, e2]
    have H := e' ▸ H'
    have hC : ∀ d e, View.ld (oC m c (t.val - 1) hp) (rC h) (ix4 0 0 d e) = (stAt m c t h).C d e := fun d e => (ldC _ h d e).trans ((H h).1 d e)
    have hn : ∀ d, View.ld (oN m c (t.val - 1) hp) (rN h) (ix3 0 0 d) = (stAt m c t h).n d := fun d => (ldN _ h d).trans ((H h).2.1 d)
    have hm : View.ld (oM m c (t.val - 1) hp) (rM h) (ix3 0 0 0) = (stAt m c t h).m := (ldM _ h).trans (H h).2.2
    exact (congrArg _ (embH h r e).symm).trans ((outB_H m c t h0 h _).trans (blkH_apply m c t h _ _ _ _ hC hn hm r _))

/-! ## The four result arrays -/

/-- The layer's output before its last projection. -/
def resH (A : Args) : Vec Ideal S2x4096x2048 .bf16 := fun i => A.out (i 0) (Args.hd (i 2)) (Args.ch (i 1)) (Args.stp (i 1)) (Args.col (i 2))
/-- The matrix states after all chunks. -/
def resC (A : Args) : Vec Ideal S2x8x128x256 .f32 := fun i => (A.st (i 0) (i 1) 32).C (i 2) (i 3)
/-- The vector states. -/
def resN (A : Args) : Vec Ideal S2x8x128 .f32 := fun i => (A.st (i 0) (i 1) 32).n (i 2)
/-- The stabilisers. -/
def resM (A : Args) : Vec Ideal S2x8x1 .f32 := fun i => (A.st (i 0) (i 1) 32).m

theorem wx9 : ∀ t : Fin cfg0.N, win0_9.index t 0 = t.val / 32 ∧ win0_9.index t 1 = t.val % 32 ∧ win0_9.index t 2 = 0 := by decide +kernel
theorem wx10 : ∀ t : Fin cfg0.N, win0_10.index t 0 = t.val / 32 ∧ win0_10.index t 1 = 0 ∧ win0_10.index t 2 = 0 ∧ win0_10.index t 3 = 0 := by decide +kernel
theorem wx11 : ∀ t : Fin cfg0.N, win0_11.index t 0 = t.val / 32 ∧ win0_11.index t 1 = 0 ∧ win0_11.index t 2 = 0 := by decide +kernel
theorem wx12 : ∀ t : Fin cfg0.N, win0_12.index t 0 = t.val / 32 ∧ win0_12.index t 1 = 0 ∧ win0_12.index t 2 = 0 := by decide +kernel

theorem final_H : (dats m 0 c).arrAt 9 cfg0.N = resH (args m c) := by
  refine (dats m 0 c).arrAt_eq_of_covers 9 _ (by decide +kernel) fun t hf y => ?_
  have he : ((cfg0.win 9).blk t).view.emb y = (ix3 (bt t) (rt t (y 1)) (y 2) : S2x4096x2048.Idx) := funext fun a => Fin.ext (by
    obtain ⟨h0, h1, h2⟩ := wx9 t
    have hy : (y 0).val < 1 := (y 0).isLt
    match a with
    | ⟨0, _⟩ => show win0_9.index t 0 * 1 + 1 * (y 0).val = t.val / 32; omega
    | ⟨1, _⟩ => show win0_9.index t 1 * 128 + 1 * (y 1).val = 128 * (t.val % 32) + (y 1).val; omega
    | ⟨2, _⟩ => show win0_9.index t 2 * 2048 + 1 * (y 2).val = (y 2).val; omega)
  rw [he]
  blk_simp
  rw [after0_9]
  have hy0 : (y 0).val < 1 := (y 0).isLt
  have hy1 : (y 1).val < 128 := (y 1).isLt
  have hy2 : (y 2).val < 2048 := (y 2).isLt
  have ey : y = (ix3 0 ⟨(y 1).val, hy1⟩ ⟨256 * ((y 2).val / 256) + (y 2).val % 256, by omega⟩ : S1x128x2048.Idx) := funext fun a => Fin.ext (by
    match a with
    | ⟨0, _⟩ => show (y 0).val = 0; omega
    | ⟨1, _⟩ => rfl
    | ⟨2, _⟩ => show (y 2).val = 256 * ((y 2).val / 256) + (y 2).val % 256; omega)
  refine (congrArg (oH m c t.val t.isLt) ey).trans ((after_out m c t ⟨(y 2).val / 256, by omega⟩ ⟨(y 1).val, hy1⟩ ⟨(y 2).val % 256, by omega⟩).trans ?_)
  show _ = (args m c).out (bt t) (Args.hd ⟨(y 2).val, hy2⟩) (Args.ch (rt t (y 1))) (Args.stp (rt t (y 1))) (Args.col ⟨(y 2).val, hy2⟩)
  rw [show Args.ch (rt t (y 1)) = jt t from Fin.ext (by show (128 * (t.val % 32) + (y 1).val) / 128 = t.val % 32; omega),
    show Args.stp (rt t (y 1)) = ⟨(y 1).val, hy1⟩ from Fin.ext (by show (128 * (t.val % 32) + (y 1).val) % 128 = (y 1).val; omega)]
  rfl

theorem bt_last (t : Fin cfg0.N) (hf : t.val % 32 = 31) : (jt t).val + 1 = 32 := by show t.val % 32 + 1 = 32; omega

theorem final_C : (dats m 0 c).arrAt 10 cfg0.N = resC (args m c) := by
  refine (dats m 0 c).arrAt_eq_of_covers 10 _ (by decide +kernel) fun t hf y => ?_
  have he : ((cfg0.win 10).blk t).view.emb y = (ix4 (bt t) (y 1) (y 2) (y 3) : S2x8x128x256.Idx) := funext fun a => Fin.ext (by
    obtain ⟨h0, h1, h2, h3⟩ := wx10 t
    have hy : (y 0).val < 1 := (y 0).isLt
    match a with
    | ⟨0, _⟩ => show win0_10.index t 0 * 1 + 1 * (y 0).val = t.val / 32; omega
    | ⟨1, _⟩ => show win0_10.index t 1 * 8 + 1 * (y 1).val = (y 1).val; omega
    | ⟨2, _⟩ => show win0_10.index t 2 * 128 + 1 * (y 2).val = (y 2).val; omega
    | ⟨3, _⟩ => show win0_10.index t 3 * 256 + 1 * (y 3).val = (y 3).val; omega)
  rw [he]
  blk_simp
  rw [after0_10]
  have ey : y = (ix4 0 (y 1) (y 2) (y 3) : S1x8x128x256.Idx) := funext fun a => Fin.ext (by
    have hy : (y 0).val < 1 := (y 0).isLt
    match a with
    | ⟨0, _⟩ => show (y 0).val = 0; omega
    | ⟨1, _⟩ => rfl
    | ⟨2, _⟩ => rfl
    | ⟨3, _⟩ => rfl)
  refine (congrArg (oC m c t.val t.isLt) ey).trans (((after_holds m c t.val t.isLt (y 1)).1 (y 2) (y 3)).trans ?_)
  exact congrArg (fun n => ((args m c).st (bt t) (y 1) n).C (y 2) (y 3)) (bt_last t ((flush0_10 t).mp hf))

theorem final_N : (dats m 0 c).arrAt 11 cfg0.N = resN (args m c) := by
  refine (dats m 0 c).arrAt_eq_of_covers 11 _ (by decide +kernel) fun t hf y => ?_
  have he : ((cfg0.win 11).blk t).view.emb y = (ix3 (bt t) (y 1) (y 2) : S2x8x128.Idx) := funext fun a => Fin.ext (by
    obtain ⟨h0, h1, h2⟩ := wx11 t
    have hy : (y 0).val < 1 := (y 0).isLt
    match a with
    | ⟨0, _⟩ => show win0_11.index t 0 * 1 + 1 * (y 0).val = t.val / 32; omega
    | ⟨1, _⟩ => show win0_11.index t 1 * 8 + 1 * (y 1).val = (y 1).val; omega
    | ⟨2, _⟩ => show win0_11.index t 2 * 128 + 1 * (y 2).val = (y 2).val; omega)
  rw [he]
  blk_simp
  rw [after0_11]
  have ey : y = (ix3 0 (y 1) (y 2) : S1x8x128.Idx) := funext fun a => Fin.ext (by
    have hy : (y 0).val < 1 := (y 0).isLt
    match a with
    | ⟨0, _⟩ => show (y 0).val = 0; omega
    | ⟨1, _⟩ => rfl
    | ⟨2, _⟩ => rfl)
  refine (congrArg (oN m c t.val t.isLt) ey).trans (((after_holds m c t.val t.isLt (y 1)).2.1 (y 2)).trans ?_)
  exact congrArg (fun n => ((args m c).st (bt t) (y 1) n).n (y 2)) (bt_last t ((flush0_11 t).mp hf))

theorem final_M : (dats m 0 c).arrAt 12 cfg0.N = resM (args m c) := by
  refine (dats m 0 c).arrAt_eq_of_covers 12 _ (by decide +kernel) fun t hf y => ?_
  have he : ((cfg0.win 12).blk t).view.emb y = (ix3 (bt t) (y 1) (y 2) : S2x8x1.Idx) := funext fun a => Fin.ext (by
    obtain ⟨h0, h1, h2⟩ := wx12 t
    have hy : (y 0).val < 1 := (y 0).isLt
    match a with
    | ⟨0, _⟩ => show win0_12.index t 0 * 1 + 1 * (y 0).val = t.val / 32; omega
    | ⟨1, _⟩ => show win0_12.index t 1 * 8 + 1 * (y 1).val = (y 1).val; omega
    | ⟨2, _⟩ => show win0_12.index t 2 * 1 + 1 * (y 2).val = (y 2).val; omega)
  rw [he]
  blk_simp
  rw [after0_12]
  have ey : y = (ix3 0 (y 1) 0 : S1x8x1.Idx) := funext fun a => Fin.ext (by
    have hy : (y 0).val < 1 := (y 0).isLt
    have hy2 : (y 2).val < 1 := (y 2).isLt
    match a with
    | ⟨0, _⟩ => show (y 0).val = 0; omega
    | ⟨1, _⟩ => rfl
    | ⟨2, _⟩ => show (y 2).val = 0; omega)
  refine (congrArg (oM m c t.val t.isLt) ey).trans (((after_holds m c t.val t.isLt (y 1)).2.2).trans ?_)
  exact congrArg (fun n => ((args m c).st (bt t) (y 1) n).m) (bt_last t ((flush0_12 t).mp hf))

/-- After the kernel's run its four result arrays are the recurrence's, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v10_0) = resH (args m c)
      ∧ r.2.mem ((c : Thread nD τ).loc main_v10_1) = resC (args m c)
      ∧ r.2.mem ((c : Thread nD τ).loc main_v10_2) = resN (args m c)
      ∧ r.2.mem ((c : Thread nD τ).loc main_v10_3) = resM (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => by
    obtain ⟨h1, h2, h3, h4, h5⟩ := h c
    exact ⟨h1.trans (final_H m c), h2.trans (final_C m c), h3.trans (final_N m c), h4.trans (final_M m c), h5⟩) (Value.run_blocks m ρ)

end Cert.KernelIdeal.Core
-- ==== Proof.RefOut.lean ====
/-
  After the reference's run its four result arrays are the recurrence's of its arguments.
-/
module

public import proofs.«01_k».proof.Proof.RefRun
public import proofs.«01_k».proof.Proof.RefVal
public import proofs.«01_k».proof.Proof.KerOut

@[expose] public section

noncomputable section

namespace Cert.ReferenceIdeal.Read

open Idealize.ShloMosaic Idealize.SL.Sem Cert.ReferenceIdeal Cert.ReferenceIdeal.Gen Cert.ReferenceIdeal.Step Cert.Mlstm

variable (m : (ℓ : Loc nD τ sig) → Buf (Elt Ideal) ℓ) (c : Dev nD)

/-- The arguments in numbers, off the memory. -/
def margs : Args := args (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))

/-- The loop's states, off the memory. -/
def miter (n : ℕ) : State Ideal := iter (m ((c.tc : Thread nD τ).loc main_arg0)) (m ((c.tc : Thread nD τ).loc main_arg1)) (m ((c.tc : Thread nD τ).loc main_arg2))
  (m ((c.tc : Thread nD τ).loc main_arg4)) (m ((c.tc : Thread nD τ).loc main_arg5)) (m ((c.tc : Thread nD τ).loc main_arg6)) n

/-- A state of the loop past its last trip. -/
theorem last {s : State Ideal} (hs : s = miter m c 32) :
    (R_main_v59 s (m ((c.tc : Thread nD τ).loc main_arg0)) (m ((c.tc : Thread nD τ).loc main_arg3)) = Cert.KernelIdeal.Core.resH (margs m c))
    ∧ s.main_v33_6 = Cert.KernelIdeal.Core.resC (margs m c) ∧ s.main_v33_7 = Cert.KernelIdeal.Core.resN (margs m c)
    ∧ R_main_v60 s = Cert.KernelIdeal.Core.resM (margs m c) := by
  have hout : ∀ (b : Fin 2) (h : Fin 8) (i : Fin 32) (t : Fin 128) (e : Fin 256), s.main_v33_9 (ix5 i b h t e)
      = hid ((margs m c).chunk b h i) ((margs m c).st b h i) t e := fun b h i t e => by
    rw [hs]; exact iter_out _ _ _ _ _ _ _ b h 32 (le_refl _) i i.isLt t e
  have hst : ∀ (b : Fin 2) (h : Fin 8), (∀ d e, s.main_v33_6 (ix4 b h d e) = ((margs m c).st b h 32).C d e)
      ∧ (∀ d, s.main_v33_7 (ix3 b h d) = ((margs m c).st b h 32).n d) ∧ s.main_v33_8 (ix2 b h) = ((margs m c).st b h 32).m := fun b h => by
    rw [hs]; exact iter_state _ _ _ _ _ _ _ b h 32 (le_refl _)
  clear hs
  refine ⟨funext fun i => ?_, funext fun i => ?_, funext fun i => ?_, funext fun i => ?_⟩
  · rw [eq_ix3 i]
    exact out_of _ _ _ _ _ _ _ s hout (i 0) (i 1) (i 2)
  · rw [eq_ix4 i]
    exact (hst (i 0) (i 1)).1 (i 2) (i 3)
  · rw [eq_ix3 i]
    exact (hst (i 0) (i 1)).2.1 (i 2)
  · rw [eq_ix3 i]
    exact (m_of s (i 0) (i 1) (i 2)).trans (hst (i 0) (i 1)).2.2

theorem run (ρ : Dev nD → PrngReg) : θ_run defs (onTc (τ := τ) (main (F := Ideal))) ⟨m, fun _ => 0, ρ⟩ fun r => ∀ c : Dev nD,
      r.2.mem ((c.tc : Thread nD τ).loc main_v59) = Cert.KernelIdeal.Core.resH (margs m c)
      ∧ r.2.mem ((c.tc : Thread nD τ).loc main_v33_6) = Cert.KernelIdeal.Core.resC (margs m c)
      ∧ r.2.mem ((c.tc : Thread nD τ).loc main_v33_7) = Cert.KernelIdeal.Core.resN (margs m c)
      ∧ r.2.mem ((c.tc : Thread nD τ).loc main_v60) = Cert.KernelIdeal.Core.resM (margs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    obtain ⟨h1, h2, h3, h4, h5⟩ := h c
    obtain ⟨l1, l2, l3, l4⟩ := last m c (rfl : miter m c 32 = miter m c 32)
    exact ⟨h1.trans l1, h2.trans l2, h3.trans l3, h4.trans l4, h5⟩)
    (LoopRun.run_iter m ρ (fun c => miter m c) (fun _ => rfl) (fun _ _ => rfl))

end Cert.ReferenceIdeal.Read
-- ==== Proof.Down.lean ====
/-
  The second product of the feed-forward layer with its residual: the kernel adds to each block of the residual the
  product of a block of rows with a block of columns; the padded rows of the weights are zero, so the sum over the padded
  width is the sum over the layer's own.
-/
module

public import proofs.«01_k».proof.Proof.Gen.Kernel3Ideal.Frame
public import proofs.«01_k».proof.Proof.Gen.Reference3Ideal.Run
public import Idealize.ShloMosaic.Lib.Pipeline.Value
public import Idealize.ShloMosaic.Lib.Pipeline.ValueKit
public import Idealize.ShloMosaic.Lib.Pointwise
public import Idealize.ShloMosaic.Lib.KernelVsHost
public import Idealize.ShloMosaic.Lib.Routing.OpsPair
public import Idealize.ShloMosaic.Lib.Routing.OpsOne

@[expose] public section

set_option maxRecDepth 65536

noncomputable section

namespace Cert.Kernel3Ideal.Down

open Idealize.ShloMosaic Idealize.ShloMosaic.TcCoe Idealize.ShloMosaic.Tactic
open Cert.Kernel3Ideal Cert.Kernel3Ideal.Gen Idealize.SL.Sem

/-- Row `t` of sequence `b` among the rows of both. -/
def rowOf (b : Fin 2) (t : Fin 4096) : Fin 8192 := ⟨4096 * b.val + t.val, by omega⟩
/-- A column of the layer's width among the padded ones. -/
def wide (k : Fin 5504) : Fin 5632 := ⟨k.val, by omega⟩

/-- The layer's second product with the residual. -/
def res (a : Vec Ideal S8192x5632 .bf16) (w : Vec Ideal S5504x2048 .f32) (x : Vec Ideal S2x4096x2048 .f32) : Vec Ideal S2x4096x2048 .f32 :=
  fun i => (x i : EReal) + ∑ k : Fin 5504, (a (ix2 (rowOf (i 0) (i 1)) (wide k)) : EReal) * (w (ix2 k (i 2)) : EReal)

/-- A sum over the padded width whose padded terms vanish. -/
theorem sum_wide (f : Fin 5632 → EReal) (h : ∀ k : Fin 5632, 5504 ≤ k.val → f k = 0) : ∑ k, f k = ∑ k : Fin 5504, f (wide k) := by
  have e := Fin.sum_univ_add (a := 5504) (b := 128) f
  refine e.trans ?_
  rw [Finset.sum_eq_zero (s := Finset.univ) (f := fun i : Fin 128 => f (Fin.natAdd 5504 i)) (fun i _ => h _ (by simp)), add_zero]
  rfl

section
variable (m : (ℓ : Loc nD τ sig) → Buf (Elt Ideal) ℓ) (c : Dev nD)

theorem lt32 (t : Fin cfg0.N) : t.val < 32 := t.isLt

theorem wx0 : ∀ t : Fin cfg0.N, win0_0.index t 0 = t.val / 4 ∧ win0_0.index t 1 = 0 := by decide +kernel
theorem wx1 : ∀ t : Fin cfg0.N, win0_1.index t 0 = 0 ∧ win0_1.index t 1 = t.val % 4 := by decide +kernel
theorem wx2 : ∀ t : Fin cfg0.N, win0_2.index t 0 = t.val / 4 ∧ win0_2.index t 1 = t.val % 4 := by decide +kernel
theorem wx3 : ∀ t : Fin cfg0.N, win0_3.index t 0 = t.val / 4 ∧ win0_3.index t 1 = t.val % 4 := by decide +kernel

/-- Row and column of a place in point `t`'s block. -/
def rt (t : Fin cfg0.N) (r : Fin 1024) : Fin 8192 := ⟨1024 * (t.val / 4) + r.val, by have := lt32 t; omega⟩
def ct (t : Fin cfg0.N) (j : Fin 512) : Fin 2048 := ⟨512 * (t.val % 4) + j.val, by omega⟩

theorem iblk0 (t : Fin cfg0.N) (r : Fin 1024) (k : Fin 5632) : (iblk m c 0 t : Vec Ideal S1024x5632 .bf16) (ix2 r k) = (V m c main_arg0 : Vec Ideal S8192x5632 .bf16) (ix2 (rt t r) k) := by
  obtain ⟨h0, h1⟩ := wx0 t
  unfold iblk
  rw [View.read_apply]
  refine congrArg (V m c main_arg0 : Vec Ideal S8192x5632 .bf16) (funext fun a => Fin.ext ?_)
  match a with
  | ⟨0, _⟩ => show win0_0.index t 0 * 1024 + 1 * r.val = 1024 * (t.val / 4) + r.val; omega
  | ⟨1, _⟩ => show win0_0.index t 1 * 5632 + 1 * k.val = k.val; omega

theorem iblk1 (t : Fin cfg0.N) (k : Fin 5632) (j : Fin 512) : (iblk m c 1 t : Vec Ideal S5632x512 .bf16) (ix2 k j) = (V m c main_v1 : Vec Ideal S5632x2048 .bf16) (ix2 k (ct t j)) := by
  obtain ⟨h0, h1⟩ := wx1 t
  unfold iblk
  rw [View.read_apply]
  refine congrArg (V m c main_v1 : Vec Ideal S5632x2048 .bf16) (funext fun a => Fin.ext ?_)
  match a with
  | ⟨0, _⟩ => show win0_1.index t 0 * 5632 + 1 * k.val = k.val; omega
  | ⟨1, _⟩ => show win0_1.index t 1 * 512 + 1 * j.val = 512 * (t.val % 4) + j.val; omega

theorem iblk2 (t : Fin cfg0.N) (r : Fin 1024) (j : Fin 512) : (iblk m c 2 t : Vec Ideal S1024x512 .f32) (ix2 r j) = (V m c main_v2 : Vec Ideal S8192x2048 .f32) (ix2 (rt t r) (ct t j)) := by
  obtain ⟨h0, h1⟩ := wx2 t
  unfold iblk
  rw [View.read_apply]
  refine congrArg (V m c main_v2 : Vec Ideal S8192x2048 .f32) (funext fun a => Fin.ext ?_)
  match a with
  | ⟨0, _⟩ => show win0_2.index t 0 * 1024 + 1 * r.val = 1024 * (t.val / 4) + r.val; omega
  | ⟨1, _⟩ => show win0_2.index t 1 * 512 + 1 * j.val = 512 * (t.val % 4) + j.val; omega

/-- The arguments. -/
abbrev a0 : Vec Ideal S8192x5632 .bf16 := m ((c : Thread nD τ).loc main_arg0)
abbrev a1 : Vec Ideal S5504x2048 .f32 := m ((c : Thread nD τ).loc main_arg1)
abbrev a2 : Vec Ideal S2x4096x2048 .f32 := m ((c : Thread nD τ).loc main_arg2)
/-- The residual as the kernel finds it. -/
abbrev vx : S8192x2048.Idx → EReal := (V m c main_v2 : Vec Ideal S8192x2048 .f32)

theorem V_v1 : (V m c main_v1 : Vec Ideal S5632x2048 .bf16) = pad S5632x2048 ![0, 0] ![128, 0] ![0, 0] (truncf .bf16 (a1 m c) bitsLt_bf16_f32) (sitofp (F := Ideal) .bf16 (constantI S_ 32 0#32)) pads_S5504x2048_S5632x2048_01280_000 h_S_ := by
  simp only [V, V0, hostOps0, hostOps0_1, hostOps0_2, List.flatten_cons, List.flatten_nil, List.append_nil, List.cons_append, List.nil_append]
  after_results
  rfl
theorem V_v2 : (V m c main_v2 : Vec Ideal S8192x2048 .f32) = shapeCast S8192x2048 (a2 m c) shapeCasts_S2x4096x2048_S8192x2048 := by
  simp only [V, V0, hostOps0, hostOps0_1, hostOps0_2, List.flatten_cons, List.flatten_nil, List.append_nil, List.cons_append, List.nil_append]
  after_results
  rfl

theorem v1_in (k : Fin 5504) (j : Fin 2048) : ((V m c main_v1 : Vec Ideal S5632x2048 .bf16) (ix2 (wide k) j) : EReal) = a1 m c (ix2 k j) := by
  rw [V_v1]
  exact pad_apply_of_inside _ _ _ _ _ _ _ _ (ix2 k j) (fun a => by
    match a with
    | ⟨0, _⟩ => show k.val = 0 + k.val * (0 + 1); omega
    | ⟨1, _⟩ => show j.val = 0 + j.val * (0 + 1); omega)
theorem v1_out (k : Fin 5632) (hk : 5504 ≤ k.val) (j : Fin 2048) : ((V m c main_v1 : Vec Ideal S5632x2048 .bf16) (ix2 k j) : EReal) = (0 : EReal) := by
  rw [V_v1]
  refine (pad_apply_of_not_inside _ _ _ _ _ _ _ _ (0 : Fin 2) (fun h => ?_)).trans ?_
  · have h2 : (k.val - 0) / (0 + 1) < 5504 := h.2.2
    omega
  · show (((0#32 : BitVec 32).toInt : ℝ) : EReal) = 0
    simp
theorem v2_apply (b : Fin 2) (t : Fin 4096) (j : Fin 2048) : (V m c main_v2 : Vec Ideal S8192x2048 .f32) (ix2 (rowOf b t) j) = a2 m c (ix3 b t j) := by
  rw [V_v2]
  refine shapeCast_apply _ _ _ _ ?_
  rw [Shape.rowMajor_val_two, Shape.rowMajor_val_three]
  show (b.val * 4096 + t.val) * 2048 + j.val = (4096 * b.val + t.val) * 2048 + j.val
  omega

theorem z2 : (![0, 0] : Fin 2 → ℕ) = fun _ => 0 := funext fun a => by fin_cases a <;> rfl

/-- What a point leaves in the output's buffer. -/
theorem out_apply (x0 : Vec Ideal S1024x5632 .bf16) (x1 : Vec Ideal S5632x512 .bf16) (x2 : Vec Ideal S1024x512 .f32) (r : Fin 1024) (j : Fin 512) :
    (out0_3 (F := Ideal) x0 x1 x2 (ix2 r j) : EReal) = x2 (ix2 r j) + ∑ k : Fin 5632, (x0 (ix2 r k) : EReal) * x1 (ix2 k j) := by
  unfold out0_3
  rw [View.canon_unit_zero (S := S1024x512) z2]
  simp only [View.ld_unit_zero (S := S1024x512) z2, View.ld_unit_zero (S := S1024x5632) z2, View.ld_unit_zero (S := S5632x512) z2]
  unfold k0_pay1
  pointwise [dot_S1024x5632_S5632x512_S1024x512_1_0_0_1_n_n]

/-- What a point leaves, in terms of the arguments. -/
theorem out_at (t : Fin cfg0.N) (r : Fin 1024) (j : Fin 512) :
    (out0_3 (F := Ideal) (iblk m c 0 t) (iblk m c 1 t) (iblk m c 2 t) (ix2 r j) : EReal)
      = vx m c (ix2 (rt t r) (ct t j)) + ∑ k : Fin 5504, (a0 m c (ix2 (rt t r) (wide k)) : EReal) * a1 m c (ix2 k (ct t j)) := by
  rw [out_apply, iblk2]
  refine congrArg (vx m c (ix2 (rt t r) (ct t j)) + ·) ?_
  refine (sum_wide _ fun k hk => ?_).trans (Finset.sum_congr rfl fun k _ => ?_)
  · rw [iblk1, v1_out m c k hk, mul_zero]
  · rw [iblk0, iblk1, v1_in, V_main_arg0]

/-- The result before its rows are split between the sequences. -/
def flat : Vec Ideal S8192x2048 .f32 := fun i =>
  vx m c i + ∑ k : Fin 5504, (a0 m c (ix2 (i 0) (wide k)) : EReal) * a1 m c (ix2 k (i 1))

theorem final : (dats m 0 c).arrAt 3 cfg0.N = flat m c := by
  refine (dats m 0 c).arrAt_eq_of_covers 3 _ (by decide +kernel) fun t hf y => ?_
  have he : ((cfg0.win 3).blk t).view.emb y = (ix2 (rt t (y 0)) (ct t (y 1)) : S8192x2048.Idx) := funext fun a => Fin.ext (by
    obtain ⟨h0, h1⟩ := wx3 t
    match a with
    | ⟨0, _⟩ => show win0_3.index t 0 * 1024 + 1 * (y 0).val = 1024 * (t.val / 4) + (y 0).val; omega
    | ⟨1, _⟩ => show win0_3.index t 1 * 512 + 1 * (y 1).val = 512 * (t.val % 4) + (y 1).val; omega)
  rw [he]
  blk_simp
  rw [after0_3]
  have ey : y = (ix2 (y 0) (y 1) : S1024x512.Idx) := funext fun a => by
    match a with
    | ⟨0, _⟩ => rfl
    | ⟨1, _⟩ => rfl
  exact (congrArg (out0_3 (F := Ideal) (iblk m c 0 t) (iblk m c 1 t) (iblk m c 2 t)) ey).trans (out_at m c t (y 0) (y 1))

/-- The result array. -/
theorem tail : (Pipeline.afterTail₀ cfgs (dats m) 0 (V0 m) [hostOps1] c main_v4 : Vec Ideal S2x4096x2048 .f32) = res (a0 m c) (a1 m c) (a2 m c) := by
  have e : (Pipeline.afterTail₀ cfgs (dats m) 0 (V0 m) [hostOps1] c main_v4 : Vec Ideal S2x4096x2048 .f32) = shapeCast S2x4096x2048 (flat m c) shapeCasts_S8192x2048_S2x4096x2048 := by
    unfold Pipeline.afterTail₀
    simp only [hostOps1, List.flatten_cons, List.flatten_nil, List.append_nil]
    after_results
    exact congrArg (fun x => shapeCast S2x4096x2048 x shapeCasts_S8192x2048_S2x4096x2048) ((Pipeline.withArrays_arr spec0 winFacts0.arr_inj c (V0 m c) _ 3).trans (final m c))
  rw [e]
  funext i
  refine (shapeCast_apply _ _ _ (ix2 (rowOf (i 0) (i 1)) (i 2)) ?_).trans ?_
  · rw [Shape.rowMajor_val_two, Shape.rowMajor_val_three]
    show (4096 * (i 0).val + (i 1).val) * 2048 + (i 2).val = ((i 0).val * 4096 + (i 1).val) * 2048 + (i 2).val
    omega
  · have hi : i = (ix3 (i 0) (i 1) (i 2) : S2x4096x2048.Idx) := funext fun a => by
      match a with
      | ⟨0, _⟩ => rfl
      | ⟨1, _⟩ => rfl
      | ⟨2, _⟩ => rfl
    have h2 := v2_apply m c (i 0) (i 1) (i 2)
    unfold flat res
    exact congrArg (· + _) (h2.trans (congrArg (a2 m c) hi.symm))

/-- After the kernel's run its result is the layer's, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v4) = res (a0 m c) (a1 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).2 main_v4 (Pipeline.mem_restRefs_of main_v4 (by decide) (by decide))).trans (tail m c), h.2 c⟩)
    (θ_run_and (run_main m ρ) (unchanged m ρ))
end

end Cert.Kernel3Ideal.Down

namespace Cert.Reference3Ideal.Down

open Idealize.ShloMosaic Idealize.ShloMosaic.TcCoe Idealize.ShloMosaic.Tactic
open Cert.Reference3Ideal Cert.Reference3Ideal.Gen

/-- The reference's result. -/
theorem ref (a : Vec Ideal S8192x5632 .bf16) (w : Vec Ideal S5504x2048 .f32) (x : Vec Ideal S2x4096x2048 .f32) :
    (addf (F := Ideal) x (Host.dotGeneral (F := Ideal) (φ₂ := .f32) dot_S2x4096x5504_S5504x2048_S2x4096x2048_2_0_01_1_n_n none (extf .f32 (extractStridedSlice S2x4096x5504 ![0, 0, 0] (shapeCast S2x4096x5632 a shapeCasts_S8192x5632_S2x4096x5632) slices_S2x4096x5632_S2x4096x5504_0_0_0) bitsLt_bf16_f32) w) : Vec Ideal S2x4096x2048 .f32)
      = Cert.Kernel3Ideal.Down.res a w x := by
  funext i
  obtain ⟨b, t, j, rfl⟩ : ∃ b t j, i = (ix3 b t j : S2x4096x2048.Idx) := ⟨i 0, i 1, i 2, funext fun a => by
    match a with
    | ⟨0, _⟩ => rfl
    | ⟨1, _⟩ => rfl
    | ⟨2, _⟩ => rfl⟩
  have hc : ∀ k : Fin 5504, shapeCast S2x4096x5632 a shapeCasts_S8192x5632_S2x4096x5632 (ix3 b t (Cert.Kernel3Ideal.Down.wide k)) = a (ix2 (Cert.Kernel3Ideal.Down.rowOf b t) (Cert.Kernel3Ideal.Down.wide k)) := fun k => by
    refine shapeCast_apply _ _ _ _ ?_
    rw [Shape.rowMajor_val_two, Shape.rowMajor_val_three]
    show (4096 * b.val + t.val) * 5632 + k.val = (b.val * 4096 + t.val) * 5632 + k.val
    omega
  generalize shapeCast S2x4096x5632 a shapeCasts_S8192x5632_S2x4096x5632 = a' at hc ⊢
  have hr : (Cert.Kernel3Ideal.Down.res a w x (ix3 b t j) : EReal) = x (ix3 b t j) + ∑ k : Fin 5504, (a' (ix3 b t (Cert.Kernel3Ideal.Down.wide k)) : EReal) * w (ix2 k j) := by
    unfold Cert.Kernel3Ideal.Down.res
    exact congrArg (_ + ·) (Finset.sum_congr rfl fun k _ => congrArg (· * _) (hc k).symm)
  refine Eq.trans ?_ hr.symm
  pointwise [dot_S2x4096x5504_S5504x2048_S2x4096x2048_2_0_01_1_n_n]
  rfl

end Cert.Reference3Ideal.Down
-- ==== Proof.UpPieces.lean ====
/-
  What the body of the feed-forward layer's first call stores at a point: in each output two half blocks of columns, the
  same arithmetic on each half (`halfAct`, `halfGt`) of the normalised rows in scratch memory.
-/
module

public import proofs.«01_k».proof.Proof.Gen.Kernel2Ideal.Frame
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 65536

noncomputable section

namespace Cert.Kernel2Ideal.Up

open Idealize.ShloMosaic Idealize.ShloMosaic.TcCoe Idealize.ShloMosaic.Tactic
open Cert.Kernel2Ideal Cert.Kernel2Ideal.Gen

variable {F : FTy → Type} [FloatOps F]

/-- The gated activation of one half block: normalised rows `xn`, the rows before them `xh`, the two weight blocks, the
    convolution's bias and its three taps. -/
def halfAct (i : grid0.Coords) (xn : Vec F S1024x2048 .bf16) (xh : Vec F S8x2048 .bf16) (wu wg : Vec F S2048x256 .bf16) (cb c0 c1 c2 : Vec F S1x256 .f32) : FVec F S1024x256 .bf16 :=
  k0_pay14 (k0_pay4 xn wu) (k0_pay12 (k0_pay5 xn wg) (k0_pay7 i xh wg) (k0_pay8 i xh wg) (iota .tc S8x256 32 [0] iota_S8x256_d0_w32) (k0_pay9 xn wg) (k0_pay10 xn wg) cb c0 c1 c2) k0_pay13
/-- The last rows of the gate's projection in one half block. -/
def halfGt (xn : Vec F S1024x2048 .bf16) (wg : Vec F S2048x256 .bf16) : FVec F S1x8x256 .f32 := k0_pay11 (k0_pay5 xn wg)

section
variable (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x8x512 .f32) (harg10 : arg10.IsWhole) (arg11 : Memref sig .tc .vmem S1024x2048 .bf16) (harg11 : arg11.IsWhole) (arg12 : Memref sig .tc .vmem S8x2048 .bf16) (harg12 : arg12.IsWhole)
  (x0 : Vec F S1024x2048 .f32) (x1 : Vec F S8x2048 .f32) (x2 : Vec F S1x2048 .f32) (x3 : Vec F S2048x512 .bf16) (x4 : Vec F S2048x512 .bf16) (x5 : Vec F S3x512 .f32) (x6 : Vec F S1x512 .f32)

/-- The activation's two half blocks, at a row block’s first point. -/
theorem piecesA_7 (hc0 : cond0_0 i) : (kernelRun0_A c i arg2 harg2 arg3 harg3 arg4 harg4 arg5 harg5 arg6 harg6 arg7 harg7 arg8 harg8 arg9 harg9 arg10 harg10 arg11 harg11 arg12 harg12 hc0 x0 x1 x2 x3 x4 x5 x6).1 =
    [(⟨Rect.unit ![0, 256] S1024x256.size inb_S1024x512_S1024x256_0_256, halfAct i (View.ld (k0_pay2 (View.ld (arg2.view.read (Elt F) (harg2.unread x0)) (Rect.unit ![0, 0] S1024x2048.size inb_S1024x2048_S1024x2048_0_0)) (View.ld (arg4.view.read (Elt F) (harg4.unread x2)) (Rect.unit ![0, 0] S1x2048.size inb_S1x2048_S1x2048_0_0))) (Rect.unit ![0, 0] S1024x2048.size inb_S1024x2048_S1024x2048_0_0)) (View.ld (k0_pay3 (View.ld (arg3.view.read (Elt F) (harg3.unread x1)) (Rect.unit ![0, 0] S8x2048.size inb_S8x2048_S8x2048_0_0)) (View.ld (arg4.view.read (Elt F) (harg4.unread x2)) (Rect.unit ![0, 0] S1x2048.size inb_S1x2048_S1x2048_0_0))) (Rect.unit ![0, 0] S8x2048.size inb_S8x2048_S8x2048_0_0)) (View.ld (arg5.view.read (Elt F) (harg5.unread x3)) (Rect.unit ![0, 256] S2048x256.size inb_S2048x512_S2048x256_0_256)) (View.ld (arg6.view.read (Elt F) (harg6.unread x4)) (Rect.unit ![0, 256] S2048x256.size inb_S2048x512_S2048x256_0_256)) (View.ld (arg8.view.read (Elt F) (harg8.unread x6)) (Rect.unit ![0, 256] S1x256.size inb_S1x512_S1x256_0_256)) (View.ld (arg7.view.read (Elt F) (harg7.unread x5)) (Rect.unit ![0, 256] S1x256.size inb_S3x512_S1x256_0_256)) (View.ld (arg7.view.read (Elt F) (harg7.unread x5)) (Rect.unit ![1, 256] S1x256.size inb_S3x512_S1x256_1_256)) (View.ld (arg7.view.read (Elt F) (harg7.unread x5)) (Rect.unit ![2, 256] S1x256.size inb_S3x512_S1x256_2_256))⟩ : View.Piece (Elt F) S1024x512 .bf16), (⟨Rect.unit ![0, 0] S1024x256.size inb_S1024x512_S1024x256_0_0, halfAct i (View.ld (k0_pay2 (View.ld (arg2.view.read (Elt F) (harg2.unread x0)) (Rect.unit ![0, 0] S1024x2048.size inb_S1024x2048_S1024x2048_0_0)) (View.ld (arg4.view.read (Elt F) (harg4.unread x2)) (Rect.unit ![0, 0] S1x2048.size inb_S1x2048_S1x2048_0_0))) (Rect.unit ![0, 0] S1024x2048.size inb_S1024x2048_S1024x2048_0_0)) (View.ld (k0_pay3 (View.ld (arg3.view.read (Elt F) (harg3.unread x1)) (Rect.unit ![0, 0] S8x2048.size inb_S8x2048_S8x2048_0_0)) (View.ld (arg4.view.read (Elt F) (harg4.unread x2)) (Rect.unit ![0, 0] S1x2048.size inb_S1x2048_S1x2048_0_0))) (Rect.unit ![0, 0] S8x2048.size inb_S8x2048_S8x2048_0_0)) (View.ld (arg5.view.read (Elt F) (harg5.unread x3)) (Rect.unit ![0, 0] S2048x256.size inb_S2048x512_S2048x256_0_0)) (View.ld (arg6.view.read (Elt F) (harg6.unread x4)) (Rect.unit ![0, 0] S2048x256.size inb_S2048x512_S2048x256_0_0)) (View.ld (arg8.view.read (Elt F) (harg8.unread x6)) (Rect.unit ![0, 0] S1x256.size inb_S1x512_S1x256_0_0)) (View.ld (arg7.view.read (Elt F) (harg7.unread x5)) (Rect.unit ![0, 0] S1x256.size inb_S3x512_S1x256_0_0)) (View.ld (arg7.view.read (Elt F) (harg7.unread x5)) (Rect.unit ![1, 0] S1x256.size inb_S3x512_S1x256_1_0)) (View.ld (arg7.view.read (Elt F) (harg7.unread x5)) (Rect.unit ![2, 0] S1x256.size inb_S3x512_S1x256_2_0))⟩ : View.Piece (Elt F) S1024x512 .bf16)] := by
  unfold kernelRun0_A
  dsimp only
  refine congrArg₂ List.cons (Sigma.ext rfl (heq_of_eq ?_)) <| congrArg₂ List.cons (Sigma.ext rfl (heq_of_eq ?_)) rfl
  all_goals
    sl_unfold_words
    sl_unfold_words
    simp (disch := decide) only [↓ View.readCov_skip, ↓ View.readCov_fill]
    rfl

/-- The gate's last rows, at a row block’s first point. -/
theorem piecesA_8 (hc0 : cond0_0 i) : (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.1 =
    [(⟨Rect.unit ![0, 0, 256] S1x8x256.size inb_S1x8x512_S1x8x256_0_0_256, halfGt (View.ld (k0_pay2 (View.ld (arg2.view.read (Elt F) (harg2.unread x0)) (Rect.unit ![0, 0] S1024x2048.size inb_S1024x2048_S1024x2048_0_0)) (View.ld (arg4.view.read (Elt F) (harg4.unread x2)) (Rect.unit ![0, 0] S1x2048.size inb_S1x2048_S1x2048_0_0))) (Rect.unit ![0, 0] S1024x2048.size inb_S1024x2048_S1024x2048_0_0)) (View.ld (arg6.view.read (Elt F) (harg6.unread x4)) (Rect.unit ![0, 256] S2048x256.size inb_S2048x512_S2048x256_0_256))⟩ : View.Piece (Elt F) S1x8x512 .f32), (⟨Rect.unit ![0, 0, 0] S1x8x256.size inb_S1x8x512_S1x8x256_0_0_0, halfGt (View.ld (k0_pay2 (View.ld (arg2.view.read (Elt F) (harg2.unread x0)) (Rect.unit ![0, 0] S1024x2048.size inb_S1024x2048_S1024x2048_0_0)) (View.ld (arg4.view.read (Elt F) (harg4.unread x2)) (Rect.unit ![0, 0] S1x2048.size inb_S1x2048_S1x2048_0_0))) (Rect.unit ![0, 0] S1024x2048.size inb_S1024x2048_S1024x2048_0_0)) (View.ld (arg6.view.read (Elt F) (harg6.unread x4)) (Rect.unit ![0, 0] S2048x256.size inb_S2048x512_S2048x256_0_0))⟩ : View.Piece (Elt F) S1x8x512 .f32)] := by
  unfold kernelRun0_A
  dsimp only
  refine congrArg₂ List.cons (Sigma.ext rfl (heq_of_eq ?_)) <| congrArg₂ List.cons (Sigma.ext rfl (heq_of_eq ?_)) rfl
  all_goals
    sl_unfold_words
    sl_unfold_words
    simp (disch := decide) only [↓ View.readCov_skip, ↓ View.readCov_fill]
    rfl

/-- The activation's two half blocks, later in a row block. -/
theorem piecesB_7 (hc0 : ¬cond0_0 i) (xs0 : Vec F S1024x2048 .bf16) (xs1 : Vec F S8x2048 .bf16) : (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0 xs1).1 =
    [(⟨Rect.unit ![0, 256] S1024x256.size inb_S1024x512_S1024x256_0_256, halfAct i (View.ld (arg11.view.read (Elt F) (harg11.unread xs0)) (Rect.unit ![0, 0] S1024x2048.size inb_S1024x2048_S1024x2048_0_0)) (View.ld (arg12.view.read (Elt F) (harg12.unread xs1)) (Rect.unit ![0, 0] S8x2048.size inb_S8x2048_S8x2048_0_0)) (View.ld (arg5.view.read (Elt F) (harg5.unread x3)) (Rect.unit ![0, 256] S2048x256.size inb_S2048x512_S2048x256_0_256)) (View.ld (arg6.view.read (Elt F) (harg6.unread x4)) (Rect.unit ![0, 256] S2048x256.size inb_S2048x512_S2048x256_0_256)) (View.ld (arg8.view.read (Elt F) (harg8.unread x6)) (Rect.unit ![0, 256] S1x256.size inb_S1x512_S1x256_0_256)) (View.ld (arg7.view.read (Elt F) (harg7.unread x5)) (Rect.unit ![0, 256] S1x256.size inb_S3x512_S1x256_0_256)) (View.ld (arg7.view.read (Elt F) (harg7.unread x5)) (Rect.unit ![1, 256] S1x256.size inb_S3x512_S1x256_1_256)) (View.ld (arg7.view.read (Elt F) (harg7.unread x5)) (Rect.unit ![2, 256] S1x256.size inb_S3x512_S1x256_2_256))⟩ : View.Piece (Elt F) S1024x512 .bf16), (⟨Rect.unit ![0, 0] S1024x256.size inb_S1024x512_S1024x256_0_0, halfAct i (View.ld (arg11.view.read (Elt F) (harg11.unread xs0)) (Rect.unit ![0, 0] S1024x2048.size inb_S1024x2048_S1024x2048_0_0)) (View.ld (arg12.view.read (Elt F) (harg12.unread xs1)) (Rect.unit ![0, 0] S8x2048.size inb_S8x2048_S8x2048_0_0)) (View.ld (arg5.view.read (Elt F) (harg5.unread x3)) (Rect.unit ![0, 0] S2048x256.size inb_S2048x512_S2048x256_0_0)) (View.ld (arg6.view.read (Elt F) (harg6.unread x4)) (Rect.unit ![0, 0] S2048x256.size inb_S2048x512_S2048x256_0_0)) (View.ld (arg8.view.read (Elt F) (harg8.unread x6)) (Rect.unit ![0, 0] S1x256.size inb_S1x512_S1x256_0_0)) (View.ld (arg7.view.read (Elt F) (harg7.unread x5)) (Rect.unit ![0, 0] S1x256.size inb_S3x512_S1x256_0_0)) (View.ld (arg7.view.read (Elt F) (harg7.unread x5)) (Rect.unit ![1, 0] S1x256.size inb_S3x512_S1x256_1_0)) (View.ld (arg7.view.read (Elt F) (harg7.unread x5)) (Rect.unit ![2, 0] S1x256.size inb_S3x512_S1x256_2_0))⟩ : View.Piece (Elt F) S1024x512 .bf16)] := by
  unfold kernelRun0_B
  dsimp only
  refine congrArg₂ List.cons (Sigma.ext rfl (heq_of_eq ?_)) <| congrArg₂ List.cons (Sigma.ext rfl (heq_of_eq ?_)) rfl
  all_goals
    sl_unfold_words
    sl_unfold_words
    rfl

/-- The gate's last rows, later in a row block. -/
theorem piecesB_8 (hc0 : ¬cond0_0 i) (xs0 : Vec F S1024x2048 .bf16) (xs1 : Vec F S8x2048 .bf16) : (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0 xs1).2.1 =
    [(⟨Rect.unit ![0, 0, 256] S1x8x256.size inb_S1x8x512_S1x8x256_0_0_256, halfGt (View.ld (arg11.view.read (Elt F) (harg11.unread xs0)) (Rect.unit ![0, 0] S1024x2048.size inb_S1024x2048_S1024x2048_0_0)) (View.ld (arg6.view.read (Elt F) (harg6.unread x4)) (Rect.unit ![0, 256] S2048x256.size inb_S2048x512_S2048x256_0_256))⟩ : View.Piece (Elt F) S1x8x512 .f32), (⟨Rect.unit ![0, 0, 0] S1x8x256.size inb_S1x8x512_S1x8x256_0_0_0, halfGt (View.ld (arg11.view.read (Elt F) (harg11.unread xs0)) (Rect.unit ![0, 0] S1024x2048.size inb_S1024x2048_S1024x2048_0_0)) (View.ld (arg6.view.read (Elt F) (harg6.unread x4)) (Rect.unit ![0, 0] S2048x256.size inb_S2048x512_S2048x256_0_0))⟩ : View.Piece (Elt F) S1x8x512 .f32)] := by
  unfold kernelRun0_B
  dsimp only
  refine congrArg₂ List.cons (Sigma.ext rfl (heq_of_eq ?_)) <| congrArg₂ List.cons (Sigma.ext rfl (heq_of_eq ?_)) rfl
  all_goals
    sl_unfold_words
    sl_unfold_words
    rfl

/-- The normalised rows the first point leaves in scratch memory. -/
theorem piecesA_s0 (hc0 : cond0_0 i) : (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.1 =
    [(⟨Rect.unit ![0, 0] S1024x2048.size inb_S1024x2048_S1024x2048_0_0, k0_pay2 (View.ld (arg2.view.read (Elt F) (harg2.unread x0)) (Rect.unit ![0, 0] S1024x2048.size inb_S1024x2048_S1024x2048_0_0)) (View.ld (arg4.view.read (Elt F) (harg4.unread x2)) (Rect.unit ![0, 0] S1x2048.size inb_S1x2048_S1x2048_0_0))⟩ : View.Piece (Elt F) S1024x2048 .bf16)] := by
  unfold kernelRun0_A
  dsimp only
  refine congrArg₂ List.cons (Sigma.ext rfl (heq_of_eq ?_)) rfl
  sl_unfold_words
  rfl

/-- And those of the rows before them. -/
theorem piecesA_s1 (hc0 : cond0_0 i) : (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.2.1 =
    [(⟨Rect.unit ![0, 0] S8x2048.size inb_S8x2048_S8x2048_0_0, k0_pay3 (View.ld (arg3.view.read (Elt F) (harg3.unread x1)) (Rect.unit ![0, 0] S8x2048.size inb_S8x2048_S8x2048_0_0)) (View.ld (arg4.view.read (Elt F) (harg4.unread x2)) (Rect.unit ![0, 0] S1x2048.size inb_S1x2048_S1x2048_0_0))⟩ : View.Piece (Elt F) S8x2048 .bf16)] := by
  unfold kernelRun0_A
  dsimp only
  refine congrArg₂ List.cons (Sigma.ext rfl (heq_of_eq ?_)) rfl
  sl_unfold_words
  rfl

end

end Cert.Kernel2Ideal.Up
-- ==== Proof.UpVal.lean ====
/-
  One half block of the feed-forward layer's first call, entry by entry: the normalisation of a row, the projections, the
  three taps of the convolution over a row and the two before it, and the gate.
-/
module

public import proofs.«01_k».proof.Proof.UpPieces
public import Idealize.ShloMosaic.Lib.Pointwise
public import Idealize.ShloMosaic.Lib.Routing.OpsPair
public import Idealize.ShloMosaic.Lib.Routing.OpsOne

@[expose] public section

set_option maxRecDepth 65536

noncomputable section

namespace Cert.Kernel2Ideal.Up

open Idealize.ShloMosaic Idealize.ShloMosaic.TcCoe Idealize.ShloMosaic.Tactic
open Cert.Kernel2Ideal Cert.Kernel2Ideal.Gen

/-- A row divided by its root mean square, times the gain. -/
def nrm (f g : Fin 2048 → EReal) (k : Fin 2048) : EReal :=
  f k * Ideal.rsqrt (Ideal.div (∑ x, f x * f x) (Ideal.ofBits FTy.f32 1157627904#32) + Ideal.ofBits FTy.f32 897988541#32) * g k
/-- The convolution at a row: its own term and those of the two rows before it. -/
def conv (p0 p1 p2 cb c0 c1 c2 : EReal) : EReal := cb + p2 * c0 + p1 * c1 + p0 * c2
/-- The gate applied to the other projection. -/
def gate (g u : EReal) : EReal := g * Ideal.div 1 (1 + Ideal.exp (0 - g)) * u

theorem xn_apply (x : Vec Ideal S1024x2048 .f32) (g : Vec Ideal S1x2048 .f32) (r : Fin 1024) (k : Fin 2048) :
    (k0_pay2 (F := Ideal) x g (ix2 r k) : EReal) = nrm (fun k => x (ix2 r k)) (fun k => g (ix2 0 k)) k := by
  unfold k0_pay2 nrm
  pointwise
theorem xh_apply (x : Vec Ideal S8x2048 .f32) (g : Vec Ideal S1x2048 .f32) (r : Fin 8) (k : Fin 2048) :
    (k0_pay3 (F := Ideal) x g (ix2 r k) : EReal) = nrm (fun k => x (ix2 r k)) (fun k => g (ix2 0 k)) k := by
  unfold k0_pay3 nrm
  pointwise

/-- A row of the projection. -/
def dotN (xn : Vec Ideal S1024x2048 .bf16) (w : Vec Ideal S2048x256 .bf16) (r : Fin 1024) (j : Fin 256) : EReal :=
  ∑ x : Fin 2048, (xn (ix2 r x) : EReal) * (w (ix2 x j) : EReal)
def dotH (xh : Vec Ideal S8x2048 .bf16) (w : Vec Ideal S2048x256 .bf16) (r : Fin 8) (j : Fin 256) : EReal :=
  ∑ x : Fin 2048, (xh (ix2 r x) : EReal) * (w (ix2 x j) : EReal)

theorem pay4_apply (xn : Vec Ideal S1024x2048 .bf16) (w : Vec Ideal S2048x256 .bf16) (r : Fin 1024) (j : Fin 256) :
    (k0_pay4 (F := Ideal) xn w (ix2 r j) : EReal) = dotN xn w r j := by
  unfold k0_pay4 dotN
  pointwise [dot_S1024x2048_S2048x256_S1024x256_1_0_0_1_n_n]
theorem pay5_apply (xn : Vec Ideal S1024x2048 .bf16) (w : Vec Ideal S2048x256 .bf16) (r : Fin 1024) (j : Fin 256) :
    (k0_pay5 (F := Ideal) xn w (ix2 r j) : EReal) = dotN xn w r j := by
  unfold k0_pay5 dotN
  pointwise [dot_S1024x2048_S2048x256_S1024x256_1_0_0_1_n_n]

theorem pick_ofNat {α : Type} (n k : ℕ) (hn : n < 1024) (hk : k < 1024) (a b : α) :
    Scalar.select (IntOp.cmpi .eq (BitVec.ofNat 32 n) (BitVec.ofNat 32 k)) a b = if n = k then a else b := by
  have e : IntOp.cmpi .eq (BitVec.ofNat 32 n) (BitVec.ofNat 32 k) = BitVec.ofBool (decide (n = k)) :=
    congrArg BitVec.ofBool (by
      rw [Bool.eq_iff_iff, beq_iff_eq, decide_eq_true_iff, ← BitVec.toNat_inj, BitVec.toNat_ofNat, BitVec.toNat_ofNat]
      omega)
  rw [e]
  by_cases h : n = k
  · simp [h, Scalar.select]
  · simp [h, Scalar.select]

/-- At a sequence's first row block the rows before the block are not the sequence's: they count as zero. -/
theorem pick_first {α : Type} (q : Fin 8) (a b : α) : Scalar.select
      (Scalar.cmpi CmpIPredicate.eq
        (Scalar.select
          (Scalar.andi
            (Scalar.xori
              (Scalar.cmpi CmpIPredicate.slt
                (Scalar.remsi (BitVec.ofNat 32 ↑q)
                  (Scalar.select (Scalar.cmpi CmpIPredicate.eq 4#32 0#32) 1#32 4#32))
                0#32)
              (Scalar.cmpi CmpIPredicate.slt (Scalar.select (Scalar.cmpi CmpIPredicate.eq 4#32 0#32) 1#32 4#32) 0#32))
            (Scalar.cmpi CmpIPredicate.ne
              (Scalar.remsi (BitVec.ofNat 32 ↑q) (Scalar.select (Scalar.cmpi CmpIPredicate.eq 4#32 0#32) 1#32 4#32))
              0#32))
          (Scalar.addi
            (Scalar.remsi (BitVec.ofNat 32 ↑q) (Scalar.select (Scalar.cmpi CmpIPredicate.eq 4#32 0#32) 1#32 4#32))
            (Scalar.select (Scalar.cmpi CmpIPredicate.eq 4#32 0#32) 1#32 4#32))
          (Scalar.remsi (BitVec.ofNat 32 ↑q) (Scalar.select (Scalar.cmpi CmpIPredicate.eq 4#32 0#32) 1#32 4#32)))
        0#32)
      a b = if q.val % 4 = 0 then a else b := by
  fin_cases q <;> rfl

theorem pay7_apply (i : grid0.Coords) (xh : Vec Ideal S8x2048 .bf16) (w : Vec Ideal S2048x256 .bf16) (j : Fin 256) :
    (k0_pay7 (F := Ideal) i xh w (ix2 0 j) : EReal) = if (i 0).val % 4 = 0 then 0 else dotH xh w 7 j := by
  unfold k0_pay7 k0_pay6 dotH
  pointwise [dot_S8x2048_S2048x256_S8x256_1_0_0_1_n_n]
  exact pick_first (i 0) _ _
theorem pay8_apply (i : grid0.Coords) (xh : Vec Ideal S8x2048 .bf16) (w : Vec Ideal S2048x256 .bf16) (j : Fin 256) :
    (k0_pay8 (F := Ideal) i xh w (ix2 0 j) : EReal) = if (i 0).val % 4 = 0 then 0 else dotH xh w 6 j := by
  unfold k0_pay8 k0_pay6 dotH
  pointwise [dot_S8x2048_S2048x256_S8x256_1_0_0_1_n_n]
  exact pick_first (i 0) _ _

/-- The row `s` before row `r` of the block, or of the rows before the block. -/
def back (g : Fin 1024 → EReal) (h : ℕ → EReal) (s : ℕ) (r : Fin 1024) : EReal :=
  if r.val < s then h (8 + r.val - s) else g ⟨r.val - s, by omega⟩

theorem pay12_apply (v9 : FVec Ideal S1024x256 .f32) (v27 v28 : FVec Ideal S1x256 .f32) (cb c0 c1 c2 : Vec Ideal S1x256 .f32) (r : Fin 1024) (j : Fin 256)
    (h : ℕ → EReal) (h7 : (v27 (ix2 0 j) : EReal) = h 7) (h6 : (v28 (ix2 0 j) : EReal) = h 6) :
    (k0_pay12 (F := Ideal) v9 v27 v28 (iota .tc S8x256 32 [0] iota_S8x256_d0_w32) (dynamicRotate 0 1#32 none v9 rotates_S1024x256_d0) (dynamicRotate 0 2#32 none v9 rotates_S1024x256_d0) cb c0 c1 c2 (ix2 r j) : EReal)
      = conv (v9 (ix2 r j)) (back (fun r => v9 (ix2 r j)) h 1 r) (back (fun r => v9 (ix2 r j)) h 2 r) (cb (ix2 0 j)) (c0 (ix2 0 j)) (c1 (ix2 0 j)) (c2 (ix2 0 j)) := by
  have e1 : ∀ (a : Fin 1024), a.val = r.val - 1 → (v9 (ix2 a j) : EReal) = v9 (ix2 ⟨r.val - 1, by omega⟩ j) := fun a ha => by
    rw [show a = ⟨r.val - 1, by omega⟩ from Fin.ext ha]
  have e2 : ∀ (a : Fin 1024), a.val = r.val - 2 → (v9 (ix2 a j) : EReal) = v9 (ix2 ⟨r.val - 2, by omega⟩ j) := fun a ha => by
    rw [show a = ⟨r.val - 2, by omega⟩ from Fin.ext ha]
  unfold k0_pay12 conv
  pointwise
  refine congrArg (· + _) (congrArg₂ (· + ·) (congrArg (_ + ·) (congrArg (· * _) ?_)) (congrArg (· * _) ?_))
  · unfold back
    by_cases hr : r.val < 8
    · rw [dif_pos hr, pick_ofNat _ 0 r.isLt (by norm_num), pick_ofNat _ 1 r.isLt (by norm_num)]
      by_cases hz : r.val = 0
      · rw [if_pos hz, if_pos (by omega), h6, hz]
      · rw [if_neg hz]
        by_cases ho : r.val = 1
        · rw [if_pos ho, if_pos (by omega), h7, ho]
        · rw [if_neg ho, if_neg (by omega)]
          exact e2 _ (by show (r.val + 1024 - 2) % 1024 = _; omega)
    · rw [dif_neg hr]
      exact (e2 _ (by show (8 + (r.val - 8) + 1024 - 2) % 1024 = _; omega)).trans (if_neg (show ¬ r.val < 2 by omega)).symm
  · unfold back
    by_cases hr : r.val < 8
    · rw [dif_pos hr, pick_ofNat _ 0 r.isLt (by norm_num)]
      by_cases hz : r.val = 0
      · rw [if_pos hz, if_pos (by omega), h7, hz]
      · rw [if_neg hz, if_neg (by omega)]
        exact e1 _ (by show (r.val + 1024 - 1) % 1024 = _; omega)
    · rw [dif_neg hr]
      exact (e1 _ (by show (8 + (r.val - 8) + 1024 - 1) % 1024 = _; omega)).trans (if_neg (show ¬ r.val < 1 by omega)).symm

theorem pay14_apply (v6 v74 : FVec Ideal S1024x256 .f32) (r : Fin 1024) (j : Fin 256) :
    (k0_pay14 (F := Ideal) v6 v74 k0_pay13 (ix2 r j) : EReal) = gate (v74 (ix2 r j)) (v6 (ix2 r j)) := by
  unfold k0_pay14 k0_pay13 gate
  pointwise

/-- The projections of the rows before the block. -/
def halo (q : ℕ) (xh : Vec Ideal S8x2048 .bf16) (w : Vec Ideal S2048x256 .bf16) (j : Fin 256) (n : ℕ) : EReal :=
  if q % 4 = 0 then 0 else dotH xh w (Fin.ofNat 8 n) j

/-- An entry of the activation. -/
theorem halfAct_apply (i : grid0.Coords) (xn : Vec Ideal S1024x2048 .bf16) (xh : Vec Ideal S8x2048 .bf16) (wu wg : Vec Ideal S2048x256 .bf16) (cb c0 c1 c2 : Vec Ideal S1x256 .f32) (r : Fin 1024) (j : Fin 256) :
    (halfAct (F := Ideal) i xn xh wu wg cb c0 c1 c2 (ix2 r j) : EReal)
      = gate (conv (dotN xn wg r j) (back (fun r => dotN xn wg r j) (halo (i 0).val xh wg j) 1 r) (back (fun r => dotN xn wg r j) (halo (i 0).val xh wg j) 2 r)
          (cb (ix2 0 j)) (c0 (ix2 0 j)) (c1 (ix2 0 j)) (c2 (ix2 0 j))) (dotN xn wu r j) := by
  unfold halfAct
  refine (pay14_apply _ _ r j).trans ?_
  rw [pay4_apply]
  refine congrArg (gate · _) ((pay12_apply (k0_pay5 xn wg) (k0_pay7 i xh wg) (k0_pay8 i xh wg) cb c0 c1 c2 r j (halo (i 0).val xh wg j) ?_ ?_).trans ?_)
  · exact pay7_apply i xh wg j
  · exact pay8_apply i xh wg j
  · simp only [pay5_apply]

/-- An entry of the kept rows of the gate's projection. -/
theorem halfGt_apply (xn : Vec Ideal S1024x2048 .bf16) (wg : Vec Ideal S2048x256 .bf16) (s : Fin 8) (j : Fin 256) :
    (halfGt (F := Ideal) xn wg (ix3 0 s j) : EReal) = dotN xn wg ⟨1016 + s.val, by omega⟩ j := by
  unfold halfGt k0_pay11
  pointwise
  exact pay5_apply xn wg ⟨1016 + s.val, by omega⟩ j

end Cert.Kernel2Ideal.Up
-- ==== Proof.UpOuts.lean ====
/-
  What a point of the feed-forward layer's first call leaves in its two outputs' buffers and in the scratch memory it
  carries: the normalised rows are those of the row block at every one of its points, and an output's entry is the gate,
  the convolution and the projections of them.
-/
module

public import proofs.«01_k».proof.Proof.UpVal

@[expose] public section

set_option maxRecDepth 65536

noncomputable section

namespace Cert.Kernel2Ideal.Up

open Idealize.ShloMosaic Idealize.ShloMosaic.TcCoe Idealize.ShloMosaic.Tactic
open Cert.Kernel2Ideal Cert.Kernel2Ideal.Gen

/-- The two halves of a block's columns. -/
def lo (j : Fin 256) : Fin 512 := ⟨j.val, by omega⟩
def hi (j : Fin 256) : Fin 512 := ⟨256 + j.val, by omega⟩

theorem halves (j : Fin 512) : (∃ i, j = lo i) ∨ ∃ i, j = hi i := by
  by_cases h : j.val < 256
  · exact .inl ⟨⟨j.val, h⟩, rfl⟩
  · exact .inr ⟨⟨j.val - 256, by omega⟩, Fin.ext (by show j.val = 256 + (j.val - 256); omega)⟩

theorem ldW0 (w : Vec Ideal S2048x512 .bf16) (k : Fin 2048) (j : Fin 256) : View.ld w (Rect.unit ![0, 0] S2048x256.size inb_S2048x512_S2048x256_0_0) (ix2 k j) = w (ix2 k (lo j)) :=
  congrArg w (funext fun a => Fin.ext (by fin_cases a <;> simp [Rect.emb, Rect.unit, ix2, lo]))
theorem ldW1 (w : Vec Ideal S2048x512 .bf16) (k : Fin 2048) (j : Fin 256) : View.ld w (Rect.unit ![0, 256] S2048x256.size inb_S2048x512_S2048x256_0_256) (ix2 k j) = w (ix2 k (hi j)) :=
  congrArg w (funext fun a => Fin.ext (by fin_cases a <;> simp [Rect.emb, Rect.unit, ix2, hi]))
theorem ldB0 (w : Vec Ideal S1x512 .f32) (j : Fin 256) : View.ld w (Rect.unit ![0, 0] S1x256.size inb_S1x512_S1x256_0_0) (ix2 0 j) = w (ix2 0 (lo j)) :=
  congrArg w (funext fun a => Fin.ext (by fin_cases a <;> simp [Rect.emb, Rect.unit, ix2, lo]))
theorem ldB1 (w : Vec Ideal S1x512 .f32) (j : Fin 256) : View.ld w (Rect.unit ![0, 256] S1x256.size inb_S1x512_S1x256_0_256) (ix2 0 j) = w (ix2 0 (hi j)) :=
  congrArg w (funext fun a => Fin.ext (by fin_cases a <;> simp [Rect.emb, Rect.unit, ix2, hi]))
theorem ldC00 (w : Vec Ideal S3x512 .f32) (j : Fin 256) : View.ld w (Rect.unit ![0, 0] S1x256.size inb_S3x512_S1x256_0_0) (ix2 0 j) = w (ix2 0 (lo j)) :=
  congrArg w (funext fun a => Fin.ext (by fin_cases a <;> simp [Rect.emb, Rect.unit, ix2, lo]))
theorem ldC10 (w : Vec Ideal S3x512 .f32) (j : Fin 256) : View.ld w (Rect.unit ![1, 0] S1x256.size inb_S3x512_S1x256_1_0) (ix2 0 j) = w (ix2 1 (lo j)) :=
  congrArg w (funext fun a => Fin.ext (by fin_cases a <;> simp [Rect.emb, Rect.unit, ix2, lo]))
theorem ldC20 (w : Vec Ideal S3x512 .f32) (j : Fin 256) : View.ld w (Rect.unit ![2, 0] S1x256.size inb_S3x512_S1x256_2_0) (ix2 0 j) = w (ix2 2 (lo j)) :=
  congrArg w (funext fun a => Fin.ext (by fin_cases a <;> simp [Rect.emb, Rect.unit, ix2, lo]))
theorem ldC01 (w : Vec Ideal S3x512 .f32) (j : Fin 256) : View.ld w (Rect.unit ![0, 256] S1x256.size inb_S3x512_S1x256_0_256) (ix2 0 j) = w (ix2 0 (hi j)) :=
  congrArg w (funext fun a => Fin.ext (by fin_cases a <;> simp [Rect.emb, Rect.unit, ix2, hi]))
theorem ldC11 (w : Vec Ideal S3x512 .f32) (j : Fin 256) : View.ld w (Rect.unit ![1, 256] S1x256.size inb_S3x512_S1x256_1_256) (ix2 0 j) = w (ix2 1 (hi j)) :=
  congrArg w (funext fun a => Fin.ext (by fin_cases a <;> simp [Rect.emb, Rect.unit, ix2, hi]))
theorem ldC21 (w : Vec Ideal S3x512 .f32) (j : Fin 256) : View.ld w (Rect.unit ![2, 256] S1x256.size inb_S3x512_S1x256_2_256) (ix2 0 j) = w (ix2 2 (hi j)) :=
  congrArg w (funext fun a => Fin.ext (by fin_cases a <;> simp [Rect.emb, Rect.unit, ix2, hi]))

/-- The halves of the outputs' blocks. -/
abbrev rA0 : Rect S1024x512 := Rect.unit ![0, 0] S1024x256.size inb_S1024x512_S1024x256_0_0
abbrev rA1 : Rect S1024x512 := Rect.unit ![0, 256] S1024x256.size inb_S1024x512_S1024x256_0_256
abbrev rG0 : Rect S1x8x512 := Rect.unit ![0, 0, 0] S1x8x256.size inb_S1x8x512_S1x8x256_0_0_0
abbrev rG1 : Rect S1x8x512 := Rect.unit ![0, 0, 256] S1x8x256.size inb_S1x8x512_S1x8x256_0_0_256
/-- A row of a block's projection, and of the rows before it. -/
def dotB (xn : Vec Ideal S1024x2048 .bf16) (w : Vec Ideal S2048x512 .bf16) (j : Fin 512) (r : Fin 1024) : EReal :=
  ∑ x : Fin 2048, (xn (ix2 r x) : EReal) * (w (ix2 x j) : EReal)
def haloB (q : ℕ) (xh : Vec Ideal S8x2048 .bf16) (w : Vec Ideal S2048x512 .bf16) (j : Fin 512) (n : ℕ) : EReal :=
  if q % 4 = 0 then 0 else ∑ x : Fin 2048, (xh (ix2 (Fin.ofNat 8 n) x) : EReal) * (w (ix2 x j) : EReal)
/-- An entry of a block of the activation. -/
def actB (q : ℕ) (xn : Vec Ideal S1024x2048 .bf16) (xh : Vec Ideal S8x2048 .bf16) (wu wg : Vec Ideal S2048x512 .bf16) (cw : Vec Ideal S3x512 .f32) (cb : Vec Ideal S1x512 .f32) (r : Fin 1024) (j : Fin 512) : EReal :=
  gate (conv (dotB xn wg j r) (back (dotB xn wg j) (haloB q xh wg j) 1 r) (back (dotB xn wg j) (haloB q xh wg j) 2 r)
    (cb (ix2 0 j)) (cw (ix2 0 j)) (cw (ix2 1 j)) (cw (ix2 2 j))) (dotB xn wu j r)

/-- A half block's entry, in the block's columns. -/
theorem half_eq (i : grid0.Coords) (xn : Vec Ideal S1024x2048 .bf16) (xh : Vec Ideal S8x2048 .bf16) (wu' wg' : Vec Ideal S2048x256 .bf16) (cb' c0' c1' c2' : Vec Ideal S1x256 .f32) (r : Fin 1024) (j' : Fin 256)
    (wu wg : Vec Ideal S2048x512 .bf16) (cw : Vec Ideal S3x512 .f32) (cb : Vec Ideal S1x512 .f32) (j : Fin 512)
    (hu : ∀ k, wu' (ix2 k j') = wu (ix2 k j)) (hg : ∀ k, wg' (ix2 k j') = wg (ix2 k j)) (hb : cb' (ix2 0 j') = cb (ix2 0 j))
    (h0 : c0' (ix2 0 j') = cw (ix2 0 j)) (h1 : c1' (ix2 0 j') = cw (ix2 1 j)) (h2 : c2' (ix2 0 j') = cw (ix2 2 j)) :
    (halfAct (F := Ideal) i xn xh wu' wg' cb' c0' c1' c2' (ix2 r j') : EReal) = actB (i 0).val xn xh wu wg cw cb r j := by
  refine (halfAct_apply _ _ _ _ _ _ _ _ _ r j').trans ?_
  unfold actB dotB haloB halo dotN dotH
  simp only [hu, hg, hb, h0, h1, h2]
theorem halfGt_eq (xn : Vec Ideal S1024x2048 .bf16) (wg' : Vec Ideal S2048x256 .bf16) (s : Fin 8) (j' : Fin 256) (wg : Vec Ideal S2048x512 .bf16) (j : Fin 512)
    (hg : ∀ k, wg' (ix2 k j') = wg (ix2 k j)) : (halfGt (F := Ideal) xn wg' (ix3 0 s j') : EReal) = dotB xn wg j ⟨1016 + s.val, by omega⟩ := by
  refine (halfGt_apply _ _ s j').trans ?_
  unfold dotB dotN
  simp only [hg]

/-- The activation's buffer, written as its two halves. -/
theorem act_canon (i : grid0.Coords) (xn : Vec Ideal S1024x2048 .bf16) (xh : Vec Ideal S8x2048 .bf16) (wu wg : Vec Ideal S2048x512 .bf16) (cw : Vec Ideal S3x512 .f32) (cb : Vec Ideal S1x512 .f32) (r : Fin 1024) (j : Fin 512) :
    (View.canon [(⟨Rect.unit ![0, 256] S1024x256.size inb_S1024x512_S1024x256_0_256, halfAct i xn xh (View.ld wu (Rect.unit ![0, 256] S2048x256.size inb_S2048x512_S2048x256_0_256)) (View.ld wg (Rect.unit ![0, 256] S2048x256.size inb_S2048x512_S2048x256_0_256)) (View.ld cb (Rect.unit ![0, 256] S1x256.size inb_S1x512_S1x256_0_256)) (View.ld cw (Rect.unit ![0, 256] S1x256.size inb_S3x512_S1x256_0_256)) (View.ld cw (Rect.unit ![1, 256] S1x256.size inb_S3x512_S1x256_1_256)) (View.ld cw (Rect.unit ![2, 256] S1x256.size inb_S3x512_S1x256_2_256))⟩ : View.Piece (Elt Ideal) S1024x512 .bf16),
      (⟨Rect.unit ![0, 0] S1024x256.size inb_S1024x512_S1024x256_0_0, halfAct i xn xh (View.ld wu (Rect.unit ![0, 0] S2048x256.size inb_S2048x512_S2048x256_0_0)) (View.ld wg (Rect.unit ![0, 0] S2048x256.size inb_S2048x512_S2048x256_0_0)) (View.ld cb (Rect.unit ![0, 0] S1x256.size inb_S1x512_S1x256_0_0)) (View.ld cw (Rect.unit ![0, 0] S1x256.size inb_S3x512_S1x256_0_0)) (View.ld cw (Rect.unit ![1, 0] S1x256.size inb_S3x512_S1x256_1_0)) (View.ld cw (Rect.unit ![2, 0] S1x256.size inb_S3x512_S1x256_2_0))⟩ : View.Piece (Elt Ideal) S1024x512 .bf16)] (ix2 r j) : EReal)
      = actB (i 0).val xn xh wu wg cw cb r j := by
  obtain ⟨j, rfl⟩ | ⟨j, rfl⟩ := halves j
  · have e : (ix2 r (lo j) : S1024x512.Idx) = rA0.emb (ix2 r j) :=
      funext fun a => Fin.ext (by fin_cases a <;> simp [Rect.emb, Rect.unit, ix2, lo])
    rw [e]
    refine (View.canon_cons_of_not_mem _ _ fun hc => ?_).trans ((View.canon_cons_emb _ _ _ _).trans ?_)
    · have hc' : rA0.emb (ix2 r j) ∈ rA1.set := hc
      have h := (Rect.mem_set_unit.mp hc') 1
      rw [← e] at h
      have h' : 256 ≤ j.val := h.1
      omega
    · exact half_eq i xn xh _ _ _ _ _ _ r j _ _ _ _ _ (fun k => ldW0 wu k j) (fun k => ldW0 wg k j) (ldB0 cb j) (ldC00 cw j) (ldC10 cw j) (ldC20 cw j)
  · have e : (ix2 r (hi j) : S1024x512.Idx) = rA1.emb (ix2 r j) :=
      funext fun a => Fin.ext (by fin_cases a <;> simp [Rect.emb, Rect.unit, ix2, hi])
    rw [e]
    refine (View.canon_cons_emb _ _ _ _).trans ?_
    exact half_eq i xn xh _ _ _ _ _ _ r j _ _ _ _ _ (fun k => ldW1 wu k j) (fun k => ldW1 wg k j) (ldB1 cb j) (ldC01 cw j) (ldC11 cw j) (ldC21 cw j)

/-- The kept rows' buffer, written as its two halves. -/
theorem gt_canon (xn : Vec Ideal S1024x2048 .bf16) (wg : Vec Ideal S2048x512 .bf16) (s : Fin 8) (j : Fin 512) :
    (View.canon [(⟨Rect.unit ![0, 0, 256] S1x8x256.size inb_S1x8x512_S1x8x256_0_0_256, halfGt xn (View.ld wg (Rect.unit ![0, 256] S2048x256.size inb_S2048x512_S2048x256_0_256))⟩ : View.Piece (Elt Ideal) S1x8x512 .f32),
      (⟨Rect.unit ![0, 0, 0] S1x8x256.size inb_S1x8x512_S1x8x256_0_0_0, halfGt xn (View.ld wg (Rect.unit ![0, 0] S2048x256.size inb_S2048x512_S2048x256_0_0))⟩ : View.Piece (Elt Ideal) S1x8x512 .f32)] (ix3 0 s j) : EReal)
      = dotB xn wg j ⟨1016 + s.val, by omega⟩ := by
  obtain ⟨j, rfl⟩ | ⟨j, rfl⟩ := halves j
  · have e : (ix3 0 s (lo j) : S1x8x512.Idx) = rG0.emb (ix3 0 s j) :=
      funext fun a => Fin.ext (by fin_cases a <;> simp [Rect.emb, Rect.unit, ix3, lo])
    rw [e]
    refine (View.canon_cons_of_not_mem _ _ fun hc => ?_).trans ((View.canon_cons_emb _ _ _ _).trans ?_)
    · have hc' : rG0.emb (ix3 0 s j) ∈ rG1.set := hc
      have h := (Rect.mem_set_unit.mp hc') 2
      rw [← e] at h
      have h' : 256 ≤ j.val := h.1
      omega
    · exact halfGt_eq xn _ s j _ _ (fun k => ldW0 wg k j)
  · have e : (ix3 0 s (hi j) : S1x8x512.Idx) = rG1.emb (ix3 0 s j) :=
      funext fun a => Fin.ext (by fin_cases a <;> simp [Rect.emb, Rect.unit, ix3, hi])
    rw [e]
    refine (View.canon_cons_emb _ _ _ _).trans ?_
    exact halfGt_eq xn _ s j _ _ (fun k => ldW1 wg k j)

theorem z2 : (![0, 0] : Fin 2 → ℕ) = fun _ => 0 := funext fun a => by fin_cases a <;> rfl

section
variable (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x8x512 .f32) (harg10 : arg10.IsWhole) (arg11 : Memref sig .tc .vmem S1024x2048 .bf16) (harg11 : arg11.IsWhole) (arg12 : Memref sig .tc .vmem S8x2048 .bf16) (harg12 : arg12.IsWhole)
  (x0 : Vec Ideal S1024x2048 .f32) (x1 : Vec Ideal S8x2048 .f32) (x2 : Vec Ideal S1x2048 .f32) (x3 : Vec Ideal S2048x512 .bf16) (x4 : Vec Ideal S2048x512 .bf16) (x5 : Vec Ideal S3x512 .f32) (x6 : Vec Ideal S1x512 .f32)
theorem act_first (hc0 : cond0_0 i) (r : Fin 1024) (j : Fin 512) :
    (View.canon (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6).1 (ix2 r j) : EReal) = actB (i 0).val (k0_pay2 x0 x2) (k0_pay3 x1 x2) x3 x4 x5 x6 r j := by
  rw [piecesA_7]
  simp only [Memref.IsWhole.read_unread, View.ld_unit_zero (S := S1024x2048) z2, View.ld_unit_zero (S := S8x2048) z2, View.ld_unit_zero (S := S1x2048) z2]
  exact act_canon _ _ _ _ _ _ _ r j
theorem gt_first (hc0 : cond0_0 i) (s : Fin 8) (j : Fin 512) :
    (View.canon (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6).2.1 (ix3 0 s j) : EReal) = dotB (k0_pay2 x0 x2) x4 j ⟨1016 + s.val, by omega⟩ := by
  rw [piecesA_8]
  simp only [Memref.IsWhole.read_unread, View.ld_unit_zero (S := S1024x2048) z2, View.ld_unit_zero (S := S8x2048) z2, View.ld_unit_zero (S := S1x2048) z2]
  exact gt_canon _ _ s j
theorem act_later (hc0 : ¬cond0_0 i) (xs0 : Vec Ideal S1024x2048 .bf16) (xs1 : Vec Ideal S8x2048 .bf16) (r : Fin 1024) (j : Fin 512) :
    (View.canon (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0 xs1).1 (ix2 r j) : EReal) = actB (i 0).val xs0 xs1 x3 x4 x5 x6 r j := by
  rw [piecesB_7]
  simp only [Memref.IsWhole.read_unread, View.ld_unit_zero (S := S1024x2048) z2, View.ld_unit_zero (S := S8x2048) z2, View.ld_unit_zero (S := S1x2048) z2]
  exact act_canon _ _ _ _ _ _ _ r j
theorem gt_later (hc0 : ¬cond0_0 i) (xs0 : Vec Ideal S1024x2048 .bf16) (xs1 : Vec Ideal S8x2048 .bf16) (s : Fin 8) (j : Fin 512) :
    (View.canon (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0 xs1).2.1 (ix3 0 s j) : EReal) = dotB xs0 x4 j ⟨1016 + s.val, by omega⟩ := by
  rw [piecesB_8]
  simp only [Memref.IsWhole.read_unread, View.ld_unit_zero (S := S1024x2048) z2, View.ld_unit_zero (S := S8x2048) z2, View.ld_unit_zero (S := S1x2048) z2]
  exact gt_canon _ _ s j
end

section
variable (m : (ℓ : Loc nD τ sig) → Buf (Elt Ideal) ℓ) (c : Dev nD)

/-- What the outputs' buffers and the scratch memory hold after point `n`. -/
abbrev oA (n : ℕ) (hn : n < cfg0.N) : Vec Ideal S1024x512 .bf16 := (outsAt0 m c n hn).1
abbrev oG (n : ℕ) (hn : n < cfg0.N) : Vec Ideal S1x8x512 .f32 := (outsAt0 m c n hn).2.1
abbrev sN (n : ℕ) (hn : n < cfg0.N) : Vec Ideal S1024x2048 .bf16 := (outsAt0 m c n hn).2.2.1
abbrev sH (n : ℕ) (hn : n < cfg0.N) : Vec Ideal S8x2048 .bf16 := (outsAt0 m c n hn).2.2.2

theorem sN_first (t : Fin cfg0.N) (h0 : t.val % 11 = 0) : sN m c t.val t.isLt = k0_pay2 (F := Ideal) (iblk m c 0 t) (iblk m c 2 t) := by
  rw [sN, outsAt0_A m c t h0]
  dsimp only
  rw [sout0_A_0, View.read_writes_junk_eq_canon, piecesA_s0, View.canon_unit_zero (S := S1024x2048) z2]
  simp only [Memref.IsWhole.read_unread, View.ld_unit_zero (S := S1024x2048) z2, View.ld_unit_zero (S := S1x2048) z2]
theorem sH_first (t : Fin cfg0.N) (h0 : t.val % 11 = 0) : sH m c t.val t.isLt = k0_pay3 (F := Ideal) (iblk m c 1 t) (iblk m c 2 t) := by
  rw [sH, outsAt0_A m c t h0]
  dsimp only
  rw [sout0_A_1, View.read_writes_junk_eq_canon, piecesA_s1, View.canon_unit_zero (S := S8x2048) z2]
  simp only [Memref.IsWhole.read_unread, View.ld_unit_zero (S := S8x2048) z2, View.ld_unit_zero (S := S1x2048) z2]
theorem sN_later (t : Fin cfg0.N) (h0 : ¬t.val % 11 = 0) : sN m c t.val t.isLt = sN m c (t.val - 1) (Nat.lt_of_le_of_lt (Nat.sub_le _ _) t.isLt) := by
  rw [sN, outsAt0_B m c t h0]
  rfl
theorem sH_later (t : Fin cfg0.N) (h0 : ¬t.val % 11 = 0) : sH m c t.val t.isLt = sH m c (t.val - 1) (Nat.lt_of_le_of_lt (Nat.sub_le _ _) t.isLt) := by
  rw [sH, outsAt0_B m c t h0]
  rfl

/-- An entry of the activation's buffer after a point. -/
theorem oA_apply (t : Fin cfg0.N) (r : Fin 1024) (j : Fin 512) :
    (oA m c t.val t.isLt (ix2 r j) : EReal) = actB (grid0.coords t 0).val (sN m c t.val t.isLt) (sH m c t.val t.isLt) (iblk m c 3 t) (iblk m c 4 t) (iblk m c 5 t) (iblk m c 6 t) r j := by
  by_cases h0 : t.val % 11 = 0
  · rw [sN_first m c t h0, sH_first m c t h0, oA, outsAt0_A m c t h0]
    dsimp only
    rw [out0_A_7, View.read_writes_junk_eq_canon, act_first]
  · rw [sN_later m c t h0, sH_later m c t h0, oA, outsAt0_B m c t h0]
    dsimp only
    rw [out0_B_7, View.read_writes_junk_eq_canon, act_later]
/-- An entry of the kept rows' buffer after a point. -/
theorem oG_apply (t : Fin cfg0.N) (s : Fin 8) (j : Fin 512) :
    (oG m c t.val t.isLt (ix3 0 s j) : EReal) = dotB (sN m c t.val t.isLt) (iblk m c 4 t) j ⟨1016 + s.val, by omega⟩ := by
  by_cases h0 : t.val % 11 = 0
  · rw [sN_first m c t h0, oG, outsAt0_A m c t h0]
    dsimp only
    rw [out0_A_8, View.read_writes_junk_eq_canon, gt_first]
  · rw [sN_later m c t h0, oG, outsAt0_B m c t h0]
    dsimp only
    rw [out0_B_8, View.read_writes_junk_eq_canon, gt_later]
end

end Cert.Kernel2Ideal.Up
-- ==== Proof.UpKer.lean ====
/-
  The arrays the feed-forward layer's first call leaves: every entry of the activation is the gate, the convolution and the
  projections of the normalised rows of its own sequence, and the kept rows are the gate's projection's.
-/
module

public import proofs.«01_k».proof.Proof.UpOuts

@[expose] public section

set_option maxRecDepth 65536

noncomputable section

namespace Cert.Kernel2Ideal.Up

open Idealize.ShloMosaic Idealize.ShloMosaic.TcCoe Idealize.ShloMosaic.Tactic
open Cert.Kernel2Ideal Cert.Kernel2Ideal.Gen

section
variable (m : (ℓ : Loc nD τ sig) → Buf (Elt Ideal) ℓ) (c : Dev nD)

theorem lt88 (t : Fin cfg0.N) : t.val < 88 := lt_of_lt_of_eq t.isLt (show cfg0.N = 88 from N_0)

theorem cq : ∀ t : Fin cfg0.N, (grid0.coords t 0).val = t.val / 11 := by decide +kernel
theorem wx0 : ∀ t : Fin cfg0.N, win0_0.index t 0 = t.val / 11 ∧ win0_0.index t 1 = 0 := by decide +kernel
theorem wx1 : ∀ t : Fin cfg0.N, win0_1.index t 0 = 128 * (t.val / 11) - 1 ∧ win0_1.index t 1 = 0 := by decide +kernel
theorem wx2 : ∀ t : Fin cfg0.N, win0_2.index t 0 = 0 ∧ win0_2.index t 1 = 0 := by decide +kernel
theorem wx3 : ∀ t : Fin cfg0.N, win0_3.index t 0 = 0 ∧ win0_3.index t 1 = t.val % 11 := by decide +kernel
theorem wx4 : ∀ t : Fin cfg0.N, win0_4.index t 0 = 0 ∧ win0_4.index t 1 = t.val % 11 := by decide +kernel
theorem wx5 : ∀ t : Fin cfg0.N, win0_5.index t 0 = 0 ∧ win0_5.index t 1 = t.val % 11 := by decide +kernel
theorem wx6 : ∀ t : Fin cfg0.N, win0_6.index t 0 = 0 ∧ win0_6.index t 1 = t.val % 11 := by decide +kernel
theorem wx7 : ∀ t : Fin cfg0.N, win0_7.index t 0 = t.val / 11 ∧ win0_7.index t 1 = t.val % 11 := by decide +kernel
theorem wx8 : ∀ t : Fin cfg0.N, win0_8.index t 0 = t.val / 11 ∧ win0_8.index t 1 = 0 ∧ win0_8.index t 2 = t.val % 11 := by decide +kernel

/-- Row and column of a place in point `t`'s block, and the row of a place in the eight rows before it. -/
def rt (t : Fin cfg0.N) (r : Fin 1024) : Fin 8192 := ⟨1024 * (t.val / 11) + r.val, by have := lt88 t; omega⟩
def ht (t : Fin cfg0.N) (s : Fin 8) : Fin 8192 := ⟨8 * (128 * (t.val / 11) - 1) + s.val, by have := lt88 t; omega⟩
def ct (t : Fin cfg0.N) (j : Fin 512) : Fin 5632 := ⟨512 * (t.val % 11) + j.val, by omega⟩

/-- The arrays the region reads. -/
abbrev vx : S8192x2048.Idx → EReal := (V m c main_v0 : Vec Ideal S8192x2048 .f32)
abbrev vg : S1x2048.Idx → EReal := (V m c main_v9 : Vec Ideal S1x2048 .f32)
abbrev vu : S2048x5632.Idx → EReal := (V m c main_v3 : Vec Ideal S2048x5632 .bf16)
abbrev vw : S2048x5632.Idx → EReal := (V m c main_v6 : Vec Ideal S2048x5632 .bf16)
abbrev vc : S3x5632.Idx → EReal := (V m c main_v7 : Vec Ideal S3x5632 .f32)
abbrev vb : S1x5632.Idx → EReal := (V m c main_v10 : Vec Ideal S1x5632 .f32)

theorem iblk0 (t : Fin cfg0.N) (r : Fin 1024) (k : Fin 2048) : ((iblk m c 0 t : Vec Ideal S1024x2048 .f32) (ix2 r k) : EReal) = vx m c (ix2 (rt t r) k) := by
  obtain ⟨h0, h1⟩ := wx0 t
  unfold iblk
  rw [View.read_apply]
  refine congrArg (V m c main_v0 : Vec Ideal S8192x2048 .f32) (funext fun a => Fin.ext ?_)
  match a with
  | ⟨0, _⟩ => show win0_0.index t 0 * 1024 + 1 * r.val = 1024 * (t.val / 11) + r.val; omega
  | ⟨1, _⟩ => show win0_0.index t 1 * 2048 + 1 * k.val = k.val; omega
theorem iblk1 (t : Fin cfg0.N) (s : Fin 8) (k : Fin 2048) : ((iblk m c 1 t : Vec Ideal S8x2048 .f32) (ix2 s k) : EReal) = vx m c (ix2 (ht t s) k) := by
  obtain ⟨h0, h1⟩ := wx1 t
  unfold iblk
  rw [View.read_apply]
  refine congrArg (V m c main_v0 : Vec Ideal S8192x2048 .f32) (funext fun a => Fin.ext ?_)
  match a with
  | ⟨0, _⟩ => show win0_1.index t 0 * 8 + 1 * s.val = 8 * (128 * (t.val / 11) - 1) + s.val; omega
  | ⟨1, _⟩ => show win0_1.index t 1 * 2048 + 1 * k.val = k.val; omega
theorem iblk2 (t : Fin cfg0.N) (k : Fin 2048) : ((iblk m c 2 t : Vec Ideal S1x2048 .f32) (ix2 0 k) : EReal) = vg m c (ix2 0 k) := by
  obtain ⟨h0, h1⟩ := wx2 t
  unfold iblk
  rw [View.read_apply]
  refine congrArg (V m c main_v9 : Vec Ideal S1x2048 .f32) (funext fun a => Fin.ext ?_)
  match a with
  | ⟨0, _⟩ => show win0_2.index t 0 * 1 + 1 * 0 = 0; omega
  | ⟨1, _⟩ => show win0_2.index t 1 * 2048 + 1 * k.val = k.val; omega
theorem iblk3 (t : Fin cfg0.N) (k : Fin 2048) (j : Fin 512) : ((iblk m c 3 t : Vec Ideal S2048x512 .bf16) (ix2 k j) : EReal) = vu m c (ix2 k (ct t j)) := by
  obtain ⟨h0, h1⟩ := wx3 t
  unfold iblk
  rw [View.read_apply]
  refine congrArg (V m c main_v3 : Vec Ideal S2048x5632 .bf16) (funext fun a => Fin.ext ?_)
  match a with
  | ⟨0, _⟩ => show win0_3.index t 0 * 2048 + 1 * k.val = k.val; omega
  | ⟨1, _⟩ => show win0_3.index t 1 * 512 + 1 * j.val = 512 * (t.val % 11) + j.val; omega
theorem iblk4 (t : Fin cfg0.N) (k : Fin 2048) (j : Fin 512) : ((iblk m c 4 t : Vec Ideal S2048x512 .bf16) (ix2 k j) : EReal) = vw m c (ix2 k (ct t j)) := by
  obtain ⟨h0, h1⟩ := wx4 t
  unfold iblk
  rw [View.read_apply]
  refine congrArg (V m c main_v6 : Vec Ideal S2048x5632 .bf16) (funext fun a => Fin.ext ?_)
  match a with
  | ⟨0, _⟩ => show win0_4.index t 0 * 2048 + 1 * k.val = k.val; omega
  | ⟨1, _⟩ => show win0_4.index t 1 * 512 + 1 * j.val = 512 * (t.val % 11) + j.val; omega
theorem iblk5 (t : Fin cfg0.N) (k : Fin 3) (j : Fin 512) : ((iblk m c 5 t : Vec Ideal S3x512 .f32) (ix2 k j) : EReal) = vc m c (ix2 k (ct t j)) := by
  obtain ⟨h0, h1⟩ := wx5 t
  unfold iblk
  rw [View.read_apply]
  refine congrArg (V m c main_v7 : Vec Ideal S3x5632 .f32) (funext fun a => Fin.ext ?_)
  match a with
  | ⟨0, _⟩ => show win0_5.index t 0 * 3 + 1 * k.val = k.val; omega
  | ⟨1, _⟩ => show win0_5.index t 1 * 512 + 1 * j.val = 512 * (t.val % 11) + j.val; omega
theorem iblk6 (t : Fin cfg0.N) (j : Fin 512) : ((iblk m c 6 t : Vec Ideal S1x512 .f32) (ix2 0 j) : EReal) = vb m c (ix2 0 (ct t j)) := by
  obtain ⟨h0, h1⟩ := wx6 t
  unfold iblk
  rw [View.read_apply]
  refine congrArg (V m c main_v10 : Vec Ideal S1x5632 .f32) (funext fun a => Fin.ext ?_)
  match a with
  | ⟨0, _⟩ => show win0_6.index t 0 * 1 + 1 * 0 = 0; omega
  | ⟨1, _⟩ => show win0_6.index t 1 * 512 + 1 * j.val = 512 * (t.val % 11) + j.val; omega

/-- The normalised rows, the projections of a row, the gate's projection `s` rows before in the same sequence, and the
    activation. -/
def nrmF (x : S8192x2048.Idx → EReal) (g : S1x2048.Idx → EReal) (R : Fin 8192) (k : Fin 2048) : EReal := nrm (fun k => x (ix2 R k)) (fun k => g (ix2 0 k)) k
def dotF (x : S8192x2048.Idx → EReal) (g : S1x2048.Idx → EReal) (w : S2048x5632.Idx → EReal) (J : Fin 5632) (R : Fin 8192) : EReal := ∑ k : Fin 2048, nrmF x g R k * w (ix2 k J)
def backF (f : Fin 8192 → EReal) (s : ℕ) (R : Fin 8192) : EReal := if R.val % 4096 < s then 0 else f ⟨R.val - s, by omega⟩
def actF (x : S8192x2048.Idx → EReal) (g : S1x2048.Idx → EReal) (u w : S2048x5632.Idx → EReal) (cw : S3x5632.Idx → EReal) (cb : S1x5632.Idx → EReal) (R : Fin 8192) (J : Fin 5632) : EReal :=
  gate (conv (dotF x g w J R) (backF (dotF x g w J) 1 R) (backF (dotF x g w J) 2 R) (cb (ix2 0 J)) (cw (ix2 0 J)) (cw (ix2 1 J)) (cw (ix2 2 J))) (dotF x g u J R)

/-- The scratch memory holds the row block's normalised rows at each of its points. -/
theorem sN_apply : ∀ (n : ℕ) (hn : n < cfg0.N) (r : Fin 1024) (k : Fin 2048), (sN m c n hn (ix2 r k) : EReal) = nrmF (vx m c) (vg m c) (rt ⟨n, hn⟩ r) k
  | n, hn, r, k => by
    by_cases h0 : n % 11 = 0
    · rw [sN_first m c ⟨n, hn⟩ h0]
      refine (xn_apply _ _ r k).trans ?_
      unfold nrmF
      simp only [iblk0, iblk2]
    · match n, hn, h0 with
      | 0, hn, h0 => exact absurd rfl h0
      | n + 1, hn, h0 =>
        rw [sN_later m c ⟨n + 1, hn⟩ h0]
        refine (sN_apply n (Nat.lt_of_succ_lt hn) r k).trans ?_
        rw [show rt ⟨n, Nat.lt_of_succ_lt hn⟩ r = rt ⟨n + 1, hn⟩ r from Fin.ext (by show 1024 * (n / 11) + r.val = 1024 * ((n + 1) / 11) + r.val; omega)]
/-- And those of the rows before it. -/
theorem sH_apply : ∀ (n : ℕ) (hn : n < cfg0.N) (s : Fin 8) (k : Fin 2048), (sH m c n hn (ix2 s k) : EReal) = nrmF (vx m c) (vg m c) (ht ⟨n, hn⟩ s) k
  | n, hn, s, k => by
    by_cases h0 : n % 11 = 0
    · rw [sH_first m c ⟨n, hn⟩ h0]
      refine (xh_apply _ _ s k).trans ?_
      unfold nrmF
      simp only [iblk1, iblk2]
    · match n, hn, h0 with
      | 0, hn, h0 => exact absurd rfl h0
      | n + 1, hn, h0 =>
        rw [sH_later m c ⟨n + 1, hn⟩ h0]
        refine (sH_apply n (Nat.lt_of_succ_lt hn) s k).trans ?_
        rw [show ht ⟨n, Nat.lt_of_succ_lt hn⟩ s = ht ⟨n + 1, hn⟩ s from Fin.ext (by show 8 * (128 * (n / 11) - 1) + s.val = 8 * (128 * ((n + 1) / 11) - 1) + s.val; omega)]

theorem dotB_g (t : Fin cfg0.N) (j : Fin 512) (r : Fin 1024) : dotB (sN m c t.val t.isLt) (iblk m c 4 t) j r = dotF (vx m c) (vg m c) (vw m c) (ct t j) (rt t r) := by
  unfold dotB dotF
  exact Finset.sum_congr rfl fun k _ => congrArg₂ (· * ·) (sN_apply m c t.val t.isLt r k) (iblk4 m c t k j)
theorem dotB_u (t : Fin cfg0.N) (j : Fin 512) (r : Fin 1024) : dotB (sN m c t.val t.isLt) (iblk m c 3 t) j r = dotF (vx m c) (vg m c) (vu m c) (ct t j) (rt t r) := by
  unfold dotB dotF
  exact Finset.sum_congr rfl fun k _ => congrArg₂ (· * ·) (sN_apply m c t.val t.isLt r k) (iblk3 m c t k j)
theorem haloB_g (t : Fin cfg0.N) (j : Fin 512) (n : ℕ) : haloB (t.val / 11) (sH m c t.val t.isLt) (iblk m c 4 t) j n = if t.val / 11 % 4 = 0 then 0 else dotF (vx m c) (vg m c) (vw m c) (ct t j) (ht t (Fin.ofNat 8 n)) := by
  unfold haloB dotF
  refine congrArg (ite _ _) ?_
  exact Finset.sum_congr rfl fun k _ => congrArg₂ (· * ·) (sH_apply m c t.val t.isLt _ k) (iblk4 m c t k j)

/-- The rows before a row of the block are those before it in its sequence. -/
theorem back_g (t : Fin cfg0.N) (j : Fin 512) (r : Fin 1024) (s : ℕ) (hs : s = 1 ∨ s = 2) :
    back (dotB (sN m c t.val t.isLt) (iblk m c 4 t) j) (haloB (t.val / 11) (sH m c t.val t.isLt) (iblk m c 4 t) j) s r = backF (dotF (vx m c) (vg m c) (vw m c) (ct t j)) s (rt t r) := by
  have hl := lt88 t
  have hv : (rt t r).val = 1024 * (t.val / 11) + r.val := rfl
  unfold back backF
  by_cases hr : r.val < s
  · rw [if_pos hr, haloB_g]
    by_cases hq : t.val / 11 % 4 = 0
    · rw [if_pos hq, if_pos (by rw [hv]; omega)]
    · rw [if_neg hq, if_neg (by rw [hv]; omega)]
      refine congrArg _ (Fin.ext ?_)
      show 8 * (128 * (t.val / 11) - 1) + (8 + r.val - s) % 8 = 1024 * (t.val / 11) + r.val - s
      omega
  · rw [if_neg hr, if_neg (by rw [hv]; omega), dotB_g]
    refine congrArg _ (Fin.ext ?_)
    show 1024 * (t.val / 11) + (r.val - s) = 1024 * (t.val / 11) + r.val - s
    omega

/-- What a point leaves in the outputs' buffers, in terms of the arrays. -/
theorem oA_at (t : Fin cfg0.N) (r : Fin 1024) (j : Fin 512) :
    (oA m c t.val t.isLt (ix2 r j) : EReal) = actF (vx m c) (vg m c) (vu m c) (vw m c) (vc m c) (vb m c) (rt t r) (ct t j) := by
  refine (oA_apply m c t r j).trans ?_
  unfold actB actF
  rw [cq, back_g m c t j r 1 (.inl rfl), back_g m c t j r 2 (.inr rfl), dotB_g, dotB_u, iblk5, iblk5, iblk5, iblk6]
theorem oG_at (t : Fin cfg0.N) (s : Fin 8) (j : Fin 512) :
    (oG m c t.val t.isLt (ix3 0 s j) : EReal) = dotF (vx m c) (vg m c) (vw m c) (ct t j) (rt t ⟨1016 + s.val, by omega⟩) :=
  (oG_apply m c t s j).trans (dotB_g m c t j _)

/-- The two arrays after the region. -/
def flatA : Vec Ideal S8192x5632 .bf16 := fun i => actF (vx m c) (vg m c) (vu m c) (vw m c) (vc m c) (vb m c) (i 0) (i 1)
def flatG : Vec Ideal S8x8x5632 .f32 := fun i => dotF (vx m c) (vg m c) (vw m c) (i 2) ⟨1024 * (i 0).val + (1016 + (i 1).val), by
  have h0 : (i 0).val < 8 := (i 0).isLt
  have h1 : (i 1).val < 8 := (i 1).isLt
  omega⟩

theorem final7 : (dats m 0 c).arrAt 7 cfg0.N = flatA m c := by
  refine (dats m 0 c).arrAt_eq_of_covers 7 _ (by decide +kernel) fun t hf y => ?_
  have he : ((cfg0.win 7).blk t).view.emb y = (ix2 (rt t (y 0)) (ct t (y 1)) : S8192x5632.Idx) := funext fun a => Fin.ext (by
    obtain ⟨h0, h1⟩ := wx7 t
    match a with
    | ⟨0, _⟩ => show win0_7.index t 0 * 1024 + 1 * (y 0).val = 1024 * (t.val / 11) + (y 0).val; omega
    | ⟨1, _⟩ => show win0_7.index t 1 * 512 + 1 * (y 1).val = 512 * (t.val % 11) + (y 1).val; omega)
  rw [he]
  blk_simp
  rw [after0_7]
  have ey : y = (ix2 (y 0) (y 1) : S1024x512.Idx) := funext fun a => by
    match a with
    | ⟨0, _⟩ => rfl
    | ⟨1, _⟩ => rfl
  exact (congrArg (oA m c t.val t.isLt) ey).trans (oA_at m c t (y 0) (y 1))

theorem final8 : (dats m 0 c).arrAt 8 cfg0.N = flatG m c := by
  refine (dats m 0 c).arrAt_eq_of_covers 8 _ (by decide +kernel) fun t hf y => ?_
  have hl := lt88 t
  have hy : (y 0).val < 1 := (y 0).isLt
  have he : ((cfg0.win 8).blk t).view.emb y = (ix3 ⟨t.val / 11, by omega⟩ (y 1) (ct t (y 2)) : S8x8x5632.Idx) := funext fun a => Fin.ext (by
    obtain ⟨h0, h1, h2⟩ := wx8 t
    match a with
    | ⟨0, _⟩ => show win0_8.index t 0 * 1 + 1 * (y 0).val = t.val / 11; omega
    | ⟨1, _⟩ => show win0_8.index t 1 * 8 + 1 * (y 1).val = (y 1).val; omega
    | ⟨2, _⟩ => show win0_8.index t 2 * 512 + 1 * (y 2).val = 512 * (t.val % 11) + (y 2).val; omega)
  rw [he]
  blk_simp
  rw [after0_8]
  have ey : y = (ix3 0 (y 1) (y 2) : S1x8x512.Idx) := funext fun a => by
    match a with
    | ⟨0, _⟩ => exact Fin.ext (by show (y 0).val = 0; omega)
    | ⟨1, _⟩ => rfl
    | ⟨2, _⟩ => rfl
  exact (congrArg (oG m c t.val t.isLt) ey).trans (oG_at m c t (y 1) (y 2))
end

end Cert.Kernel2Ideal.Up
-- ==== Proof.UpTail.lean ====
/-
  The feed-forward layer's first call in the layer's own terms: the projections of the normalised steps, the convolution of
  the gate's over a step and the two before it, and what the kernel returns.
-/
module

public import proofs.«01_k».proof.Proof.UpKer
public import Idealize.ShloMosaic.Lib.KernelVsHost

@[expose] public section

set_option maxRecDepth 65536

noncomputable section

namespace Cert.Kernel2Ideal.Up

open Idealize.ShloMosaic Idealize.ShloMosaic.TcCoe Idealize.ShloMosaic.Tactic
open Cert.Kernel2Ideal Cert.Kernel2Ideal.Gen Idealize.SL.Sem

/-- Step `t` of sequence `b` among the rows of both; a column of the layer's width among the padded ones; a column of each
    half of the weights. -/
def rowOf (b : Fin 2) (t : Fin 4096) : Fin 8192 := ⟨4096 * b.val + t.val, by omega⟩
def wide (j : Fin 5504) : Fin 5632 := ⟨j.val, by omega⟩
def left (j : Fin 5504) : Fin 11008 := ⟨j.val, by omega⟩
def right (j : Fin 5504) : Fin 11008 := ⟨5504 + j.val, by omega⟩

/-- The projection of a normalised step. -/
def proj (x : Vec Ideal S2x4096x2048 .f32) (g : Vec Ideal S2048 .f32) (w : Vec Ideal S2048x11008 .f32) (b : Fin 2) (J : Fin 11008) (t : Fin 4096) : EReal :=
  ∑ k : Fin 2048, nrm (fun k => x (ix3 b t k)) (fun k => g (ix1 k)) k * (w (ix2 k J) : EReal)
/-- The step `s` before, nothing before the first. -/
def ago (f : Fin 4096 → EReal) (s : ℕ) (t : Fin 4096) : EReal := if t.val < s then 0 else f ⟨t.val - s, by omega⟩
/-- An entry of the activation. -/
def actE (x : Vec Ideal S2x4096x2048 .f32) (g : Vec Ideal S2048 .f32) (w : Vec Ideal S2048x11008 .f32) (cw : Vec Ideal S3x5504 .f32) (cb : Vec Ideal S5504 .f32) (b : Fin 2) (t : Fin 4096) (j : Fin 5504) : EReal :=
  gate (conv (proj x g w b (right j) t) (ago (proj x g w b (right j)) 1 t) (ago (proj x g w b (right j)) 2 t) (cb (ix1 j)) (cw (ix2 0 j)) (cw (ix2 1 j)) (cw (ix2 2 j))) (proj x g w b (left j) t)
/-- The activation and the convolution's state after the last step. -/
def act (x : Vec Ideal S2x4096x2048 .f32) (g : Vec Ideal S2048 .f32) (w : Vec Ideal S2048x11008 .f32) (cw : Vec Ideal S3x5504 .f32) (cb : Vec Ideal S5504 .f32) : Vec Ideal S2x4096x5504 .bf16 :=
  fun i => actE x g w cw cb (i 0) (i 1) (i 2)
def state (x : Vec Ideal S2x4096x2048 .f32) (g : Vec Ideal S2048 .f32) (w : Vec Ideal S2048x11008 .f32) : Vec Ideal S2x2x5504 .f32 :=
  fun i => proj x g w (i 0) (right (i 2)) ⟨4094 + (i 1).val, by have h : (i 1).val < 2 := (i 1).isLt; omega⟩

section
variable (m : (ℓ : Loc nD τ sig) → Buf (Elt Ideal) ℓ) (c : Dev nD)

/-- The arguments. -/
abbrev a0 : Vec Ideal S2x4096x2048 .f32 := m ((c : Thread nD τ).loc main_arg0)
abbrev a1 : Vec Ideal S2048 .f32 := m ((c : Thread nD τ).loc main_arg1)
abbrev a2 : Vec Ideal S2048x11008 .f32 := m ((c : Thread nD τ).loc main_arg2)
abbrev a3 : Vec Ideal S3x5504 .f32 := m ((c : Thread nD τ).loc main_arg3)
abbrev a4 : Vec Ideal S5504 .f32 := m ((c : Thread nD τ).loc main_arg4)

theorem V_v0 : (V m c main_v0 : Vec Ideal S8192x2048 .f32) = shapeCast S8192x2048 (a0 m c) shapeCasts_S2x4096x2048_S8192x2048 := by
  simp only [V, V0, hostOps0, hostOps0_1, hostOps0_2, hostOps0_3, hostOps0_4, hostOps0_5, hostOps0_6, hostOps0_7, hostOps0_8, List.flatten_cons, List.flatten_nil, List.append_nil, List.cons_append, List.nil_append]
  after_results
  rfl
theorem V_v3 : (V m c main_v3 : Vec Ideal S2048x5632 .bf16) = pad S2048x5632 ![0, 0] ![0, 128] ![0, 0] (truncf .bf16 (extractStridedSlice S2048x5504 ![0, 0] (a2 m c) slices_S2048x11008_S2048x5504_0_0) bitsLt_bf16_f32) (sitofp (F := Ideal) .bf16 (constantI S_ 32 0#32)) pads_S2048x5504_S2048x5632_000_01280 h_S_ := by
  simp only [V, V0, hostOps0, hostOps0_1, hostOps0_2, hostOps0_3, hostOps0_4, hostOps0_5, hostOps0_6, hostOps0_7, hostOps0_8, List.flatten_cons, List.flatten_nil, List.append_nil, List.cons_append, List.nil_append]
  after_results
  rfl
theorem V_v6 : (V m c main_v6 : Vec Ideal S2048x5632 .bf16) = pad S2048x5632 ![0, 0] ![0, 128] ![0, 0] (truncf .bf16 (extractStridedSlice S2048x5504 ![0, 5504] (a2 m c) slices_S2048x11008_S2048x5504_0_5504) bitsLt_bf16_f32) (sitofp (F := Ideal) .bf16 (constantI S_ 32 0#32)) pads_S2048x5504_S2048x5632_000_01280 h_S_ := by
  simp only [V, V0, hostOps0, hostOps0_1, hostOps0_2, hostOps0_3, hostOps0_4, hostOps0_5, hostOps0_6, hostOps0_7, hostOps0_8, List.flatten_cons, List.flatten_nil, List.append_nil, List.cons_append, List.nil_append]
  after_results
  rfl
theorem V_v7 : (V m c main_v7 : Vec Ideal S3x5632 .f32) = pad S3x5632 ![0, 0] ![0, 128] ![0, 0] (a3 m c) (sitofp (F := Ideal) .f32 (constantI S_ 32 0#32)) pads_S3x5504_S3x5632_000_01280 h_S_ := by
  simp only [V, V0, hostOps0, hostOps0_1, hostOps0_2, hostOps0_3, hostOps0_4, hostOps0_5, hostOps0_6, hostOps0_7, hostOps0_8, List.flatten_cons, List.flatten_nil, List.append_nil, List.cons_append, List.nil_append]
  after_results
  rfl
theorem V_v9 : (V m c main_v9 : Vec Ideal S1x2048 .f32) = shapeCast S1x2048 (a1 m c) shapeCasts_S2048_S1x2048 := by
  simp only [V, V0, hostOps0, hostOps0_1, hostOps0_2, hostOps0_3, hostOps0_4, hostOps0_5, hostOps0_6, hostOps0_7, hostOps0_8, List.flatten_cons, List.flatten_nil, List.append_nil, List.cons_append, List.nil_append]
  after_results
  rfl
theorem V_v10 : (V m c main_v10 : Vec Ideal S1x5632 .f32) = shapeCast S1x5632 (pad S5632 ![0] ![128] ![0] (a4 m c) (sitofp (F := Ideal) .f32 (constantI S_ 32 0#32)) pads_S5504_S5632_01280 h_S_) shapeCasts_S5632_S1x5632 := by
  simp only [V, V0, hostOps0, hostOps0_1, hostOps0_2, hostOps0_3, hostOps0_4, hostOps0_5, hostOps0_6, hostOps0_7, hostOps0_8, List.flatten_cons, List.flatten_nil, List.append_nil, List.cons_append, List.nil_append]
  after_results
  rfl

theorem vx_at (b : Fin 2) (t : Fin 4096) (k : Fin 2048) : vx m c (ix2 (rowOf b t) k) = a0 m c (ix3 b t k) := by
  unfold vx
  rw [V_v0]
  refine shapeCast_apply _ _ _ _ ?_
  rw [Shape.rowMajor_val_two, Shape.rowMajor_val_three]
  show (b.val * 4096 + t.val) * 2048 + k.val = (4096 * b.val + t.val) * 2048 + k.val
  omega
theorem vg_at (k : Fin 2048) : vg m c (ix2 0 k) = a1 m c (ix1 k) := by
  unfold vg
  rw [V_v9]
  refine shapeCast_apply _ _ _ _ ?_
  rw [Shape.rowMajor_val_two, Shape.rowMajor_val_one]
  show k.val = 0 * 2048 + k.val
  omega
theorem vu_at (k : Fin 2048) (j : Fin 5504) : vu m c (ix2 k (wide j)) = a2 m c (ix2 k (left j)) := by
  unfold vu
  rw [V_v3]
  refine (pad_apply_of_inside _ _ _ _ _ _ _ _ (ix2 k j) (fun a => by
    match a with
    | ⟨0, _⟩ => show k.val = 0 + k.val * (0 + 1); omega
    | ⟨1, _⟩ => show j.val = 0 + j.val * (0 + 1); omega)).trans ?_
  refine congrArg (a2 m c) (funext fun a => Fin.ext ?_)
  match a with
  | ⟨0, _⟩ => show 0 + k.val = k.val; omega
  | ⟨1, _⟩ => show 0 + j.val = j.val; omega
theorem vw_at (k : Fin 2048) (j : Fin 5504) : vw m c (ix2 k (wide j)) = a2 m c (ix2 k (right j)) := by
  unfold vw
  rw [V_v6]
  refine (pad_apply_of_inside _ _ _ _ _ _ _ _ (ix2 k j) (fun a => by
    match a with
    | ⟨0, _⟩ => show k.val = 0 + k.val * (0 + 1); omega
    | ⟨1, _⟩ => show j.val = 0 + j.val * (0 + 1); omega)).trans ?_
  refine congrArg (a2 m c) (funext fun a => Fin.ext ?_)
  match a with
  | ⟨0, _⟩ => show 0 + k.val = k.val; omega
  | ⟨1, _⟩ => show 5504 + j.val = 5504 + j.val; omega
theorem vc_at (k : Fin 3) (j : Fin 5504) : vc m c (ix2 k (wide j)) = a3 m c (ix2 k j) := by
  unfold vc
  rw [V_v7]
  exact pad_apply_of_inside _ _ _ _ _ _ _ _ (ix2 k j) (fun a => by
    match a with
    | ⟨0, _⟩ => show k.val = 0 + k.val * (0 + 1); omega
    | ⟨1, _⟩ => show j.val = 0 + j.val * (0 + 1); omega)
theorem vb_at (j : Fin 5504) : vb m c (ix2 0 (wide j)) = a4 m c (ix1 j) := by
  unfold vb
  rw [V_v10]
  refine (shapeCast_apply _ _ _ (ix1 (wide j)) ?_).trans ?_
  · rw [Shape.rowMajor_val_two, Shape.rowMajor_val_one]
    show j.val = 0 * 5632 + j.val
    omega
  · exact pad_apply_of_inside _ _ _ _ _ _ _ _ (ix1 j) (fun a => by
      match a with
      | ⟨0, _⟩ => show j.val = 0 + j.val * (0 + 1); omega)

theorem nrmF_at (b : Fin 2) (t : Fin 4096) (k : Fin 2048) : nrmF (vx m c) (vg m c) (rowOf b t) k = nrm (fun k => a0 m c (ix3 b t k)) (fun k => a1 m c (ix1 k)) k := by
  unfold nrmF
  exact congrArg₂ (fun f g => nrm f g k) (funext fun k => vx_at m c b t k) (funext fun k => vg_at m c k)
theorem dotF_w (b : Fin 2) (t : Fin 4096) (j : Fin 5504) : dotF (vx m c) (vg m c) (vw m c) (wide j) (rowOf b t) = proj (a0 m c) (a1 m c) (a2 m c) b (right j) t := by
  unfold dotF proj
  exact Finset.sum_congr rfl fun k _ => congrArg₂ (· * ·) (nrmF_at m c b t k) (vw_at m c k j)
theorem dotF_u (b : Fin 2) (t : Fin 4096) (j : Fin 5504) : dotF (vx m c) (vg m c) (vu m c) (wide j) (rowOf b t) = proj (a0 m c) (a1 m c) (a2 m c) b (left j) t := by
  unfold dotF proj
  exact Finset.sum_congr rfl fun k _ => congrArg₂ (· * ·) (nrmF_at m c b t k) (vu_at m c k j)
theorem backF_w (b : Fin 2) (t : Fin 4096) (j : Fin 5504) (s : ℕ) : backF (dotF (vx m c) (vg m c) (vw m c) (wide j)) s (rowOf b t) = ago (proj (a0 m c) (a1 m c) (a2 m c) b (right j)) s t := by
  have hv : (rowOf b t).val = 4096 * b.val + t.val := rfl
  unfold backF ago
  by_cases h : t.val < s
  · rw [if_pos h, if_pos (by rw [hv]; omega)]
  · rw [if_neg h, if_neg (by rw [hv]; omega), ← dotF_w]
    refine congrArg _ (Fin.ext ?_)
    show 4096 * b.val + t.val - s = 4096 * b.val + (t.val - s)
    omega

theorem flatA_at (b : Fin 2) (t : Fin 4096) (j : Fin 5504) : (flatA m c (ix2 (rowOf b t) (wide j)) : EReal) = actE (a0 m c) (a1 m c) (a2 m c) (a3 m c) (a4 m c) b t j := by
  show actF (vx m c) (vg m c) (vu m c) (vw m c) (vc m c) (vb m c) (rowOf b t) (wide j) = _
  unfold actF actE
  rw [dotF_w, dotF_u, backF_w, backF_w, vb_at, vc_at, vc_at, vc_at]
theorem flatG_at (b : Fin 2) (s : Fin 2) (j : Fin 5504) : (flatG m c (ix3 ⟨4 * b.val + 3, by omega⟩ ⟨6 + s.val, by omega⟩ (wide j)) : EReal) = proj (a0 m c) (a1 m c) (a2 m c) b (right j) ⟨4094 + s.val, by omega⟩ := by
  refine Eq.trans ?_ (dotF_w m c b ⟨4094 + s.val, by omega⟩ j)
  refine congrArg (dotF (vx m c) (vg m c) (vw m c) (wide j)) (Fin.ext ?_)
  show 1024 * (4 * b.val + 3) + (1016 + (6 + s.val)) = 4096 * b.val + (4094 + s.val)
  omega

/-- The rows split between the sequences, and the kept rows. -/
theorem split_rows (f : Vec Ideal S8192x5632 .bf16) (b : Fin 2) (t : Fin 4096) (j : Fin 5632) : shapeCast S2x4096x5632 f shapeCasts_S8192x5632_S2x4096x5632 (ix3 b t j) = f (ix2 (rowOf b t) j) := by
  refine shapeCast_apply _ _ _ _ ?_
  rw [Shape.rowMajor_val_two, Shape.rowMajor_val_three]
  show (4096 * b.val + t.val) * 5632 + j.val = (b.val * 4096 + t.val) * 5632 + j.val
  omega
theorem split_kept (f : Vec Ideal S8x8x5632 .f32) (b : Fin 2) (q : Fin 4) (s : Fin 8) (j : Fin 5632) : shapeCast S2x4x8x5632 f shapeCasts_S8x8x5632_S2x4x8x5632 (ix4 b q s j) = f (ix3 ⟨4 * b.val + q.val, by omega⟩ s j) := by
  refine shapeCast_apply _ _ _ _ ?_
  rw [Shape.rowMajor_val_three, Shape.rowMajor_val_four]
  show ((4 * b.val + q.val) * 8 + s.val) * 5632 + j.val = ((b.val * 4 + q.val) * 8 + s.val) * 5632 + j.val
  omega
theorem drop_one (f : Vec Ideal S2x1x2x5504 .f32) (b s : Fin 2) (j : Fin 5504) : shapeCast S2x2x5504 f shapeCasts_S2x1x2x5504_S2x2x5504 (ix3 b s j) = f (ix4 b 0 s j) := by
  refine shapeCast_apply _ _ _ _ ?_
  rw [Shape.rowMajor_val_three, Shape.rowMajor_val_four]
  show ((b.val * 1 + 0) * 2 + s.val) * 5504 + j.val = (b.val * 2 + s.val) * 5504 + j.val
  omega
theorem cut_rows (f : Vec Ideal S2x4096x5632 .bf16) (b : Fin 2) (t : Fin 4096) (j : Fin 5504) : extractStridedSlice S2x4096x5504 ![0, 0, 0] f slices_S2x4096x5632_S2x4096x5504_0_0_0 (ix3 b t j) = f (ix3 b t (wide j)) := by
  refine congrArg f (funext fun a => Fin.ext ?_)
  match a with
  | ⟨0, _⟩ => show 0 + b.val = b.val; omega
  | ⟨1, _⟩ => show 0 + t.val = t.val; omega
  | ⟨2, _⟩ => show 0 + j.val = j.val; omega
theorem cut_kept (f : Vec Ideal S2x4x8x5632 .f32) (b s : Fin 2) (j : Fin 5504) : extractStridedSlice S2x1x2x5504 ![0, 3, 6, 0] f slices_S2x4x8x5632_S2x1x2x5504_0_3_6_0 (ix4 b 0 s j) = f (ix4 b 3 ⟨6 + s.val, by omega⟩ (wide j)) := by
  refine congrArg f (funext fun a => Fin.ext ?_)
  match a with
  | ⟨0, _⟩ => show 0 + b.val = b.val; omega
  | ⟨1, _⟩ => rfl
  | ⟨2, _⟩ => rfl
  | ⟨3, _⟩ => show 0 + j.val = j.val; omega

/-- The result arrays. -/
theorem tail0 : (Pipeline.afterTail₀ cfgs (dats m) 0 (V0 m) [hostOps1] c main_v13 : Vec Ideal S2x4096x5504 .bf16) = act (a0 m c) (a1 m c) (a2 m c) (a3 m c) (a4 m c) := by
  have e : (Pipeline.afterTail₀ cfgs (dats m) 0 (V0 m) [hostOps1] c main_v13 : Vec Ideal S2x4096x5504 .bf16) = extractStridedSlice S2x4096x5504 ![0, 0, 0] (shapeCast S2x4096x5632 (flatA m c) shapeCasts_S8192x5632_S2x4096x5632) slices_S2x4096x5632_S2x4096x5504_0_0_0 := by
    have h7 : Pipeline.withArrays (cfgs 0).spec c (V0 m c) (fun w => (dats m 0 c).arrAt w (cfgs 0).N) (Proc.tc.devRef main_v11_0) = flatA m c := (Pipeline.Dat.withArrays_arrAt (dats m 0 c) sharedIn0 (V0 m c) (A_eq m c) 7).trans (final7 m c)
    unfold Pipeline.afterTail₀
    simp only [hostOps1, List.flatten_cons, List.flatten_nil, List.append_nil]
    after_results
    rw [h7]
    generalize flatA m c = f
    rfl
  rw [e]
  funext i
  obtain ⟨b, t, j, rfl⟩ : ∃ b t j, i = (ix3 b t j : S2x4096x5504.Idx) := ⟨i 0, i 1, i 2, funext fun a => by
    match a with
    | ⟨0, _⟩ => rfl
    | ⟨1, _⟩ => rfl
    | ⟨2, _⟩ => rfl⟩
  exact (cut_rows _ b t j).trans ((split_rows _ b t (wide j)).trans (flatA_at m c b t j))

theorem tail1 : (Pipeline.afterTail₀ cfgs (dats m) 0 (V0 m) [hostOps1] c main_v16 : Vec Ideal S2x2x5504 .f32) = state (a0 m c) (a1 m c) (a2 m c) := by
  have e : (Pipeline.afterTail₀ cfgs (dats m) 0 (V0 m) [hostOps1] c main_v16 : Vec Ideal S2x2x5504 .f32) = shapeCast S2x2x5504 (extractStridedSlice S2x1x2x5504 ![0, 3, 6, 0] (shapeCast S2x4x8x5632 (flatG m c) shapeCasts_S8x8x5632_S2x4x8x5632) slices_S2x4x8x5632_S2x1x2x5504_0_3_6_0) shapeCasts_S2x1x2x5504_S2x2x5504 := by
    have h8 : Pipeline.withArrays (cfgs 0).spec c (V0 m c) (fun w => (dats m 0 c).arrAt w (cfgs 0).N) (Proc.tc.devRef main_v11_1) = flatG m c := (Pipeline.Dat.withArrays_arrAt (dats m 0 c) sharedIn0 (V0 m c) (A_eq m c) 8).trans (final8 m c)
    unfold Pipeline.afterTail₀
    simp only [hostOps1, List.flatten_cons, List.flatten_nil, List.append_nil]
    after_results
    rw [h8]
    generalize flatG m c = f
    rfl
  rw [e]
  funext i
  obtain ⟨b, s, j, rfl⟩ : ∃ b s j, i = (ix3 b s j : S2x2x5504.Idx) := ⟨i 0, i 1, i 2, funext fun a => by
    match a with
    | ⟨0, _⟩ => rfl
    | ⟨1, _⟩ => rfl
    | ⟨2, _⟩ => rfl⟩
  exact (drop_one _ b s j).trans ((cut_kept _ b s j).trans ((split_kept _ b 3 _ _).trans (flatG_at m c b s j)))

/-- After the kernel's run its results are the layer's, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v13) = act (a0 m c) (a1 m c) (a2 m c) (a3 m c) (a4 m c)
      ∧ r.2.mem ((c : Thread nD τ).loc main_v16) = state (a0 m c) (a1 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).2 main_v13 (Pipeline.mem_restRefs_of main_v13 (by decide) (by decide))).trans (tail0 m c),
      ((h.1 c).2 main_v16 (Pipeline.mem_restRefs_of main_v16 (by decide) (by decide))).trans (tail1 m c), h.2 c⟩)
    (θ_run_and (run_main m ρ) (unchanged m ρ))
end

end Cert.Kernel2Ideal.Up
-- ==== Proof.UpRef.lean ====
/-
  The reference of the feed-forward layer's first part, entry by entry: the projections of the normalised steps, the
  convolution over the gate's projection with two zero steps before it, and the gate.
-/
module

public import proofs.«01_k».proof.Proof.UpTail
public import proofs.«01_k».proof.Proof.Gen.Reference2Ideal.Run
public import Idealize.ShloMosaic.Lib.Pointwise
public import Idealize.ShloMosaic.Lib.Routing.OpsPair
public import Idealize.ShloMosaic.Lib.Routing.OpsOne

@[expose] public section

set_option maxRecDepth 65536

noncomputable section

namespace Cert.Reference2Ideal.Up

open Idealize.ShloMosaic Idealize.ShloMosaic.TcCoe Idealize.ShloMosaic.Tactic
open Cert.Reference2Ideal Cert.Reference2Ideal.Gen Cert.Reference2Ideal.Value
open Idealize.SL.Sem
open Cert.Kernel2Ideal.Up (nrm conv gate proj ago left right actE act state)

/-- The normalised steps. -/
def xn (x : Vec Ideal S2x4096x2048 .f32) (g : Vec Ideal S2048 .f32) : FVec Ideal S2x4096x2048 .f32 :=
  mulf (F := Ideal) (mulf (F := Ideal) x (broadcastInDim S2x4096x2048 ![0, 1, 2] bcast_S2x4096x1_S2x4096x2048_0_1_2 (Host.rsqrt (addf (F := Ideal) (Host.divf (broadcastInDim S2x4096x1 ![0, 1] bcast_S2x4096_S2x4096x1_0_1 (Host.reduceAdd (F := Ideal) (mulf (F := Ideal) x x) (constant (F := Ideal) S_ .f32 0x00000000#32) reducesTo_S2x4096x2048_S2x4096_d2 h_S_)) (broadcastInDim S2x4096x1 ![] bcast_S_S2x4096x1 (constant (F := Ideal) S_ .f32 0x45000000#32))) (broadcastInDim S2x4096x1 ![] bcast_S_S2x4096x1 (constant (F := Ideal) S_ .f32 0x358637BD#32)))))) (broadcastInDim S2x4096x2048 ![0, 1, 2] bcast_S1x1x2048_S2x4096x2048_0_1_2 (broadcastInDim S1x1x2048 ![2] bcast_S2048_S1x1x2048_2 g))
/-- Both projections. -/
def both (n : FVec Ideal S2x4096x2048 .f32) (w : Vec Ideal S2048x11008 .f32) : FVec Ideal S2x4096x11008 .f32 :=
  Host.dotGeneral (F := Ideal) (φ₂ := .f32) dot_S2x4096x2048_S2048x11008_S2x4096x11008_2_0_01_1_n_n none n w
/-- The gate's projection after two zero steps. -/
def padded (d : FVec Ideal S2x4096x11008 .f32) : FVec Ideal S2x4098x5504 .f32 :=
  concatenate S2x4098x5504 1 [⟨S2x2x5504, (broadcastInDim S2x2x5504 ![] bcast_S_S2x2x5504 (constant (F := Ideal) S_ .f32 0x00000000#32))⟩, ⟨S2x4096x5504, (extractStridedSlice S2x4096x5504 ![0, 0, 5504] d slices_S2x4096x11008_S2x4096x5504_0_0_5504)⟩] concatenates_S2x2x5504_S2x4096x5504_S2x4098x5504_d1
/-- The convolution. -/
def gc (p : FVec Ideal S2x4098x5504 .f32) (cw : Vec Ideal S3x5504 .f32) (cb : Vec Ideal S5504 .f32) : FVec Ideal S2x4096x5504 .f32 :=
  addf (F := Ideal) (broadcastInDim S2x4096x5504 ![0, 1, 2] bcast_S1x1x5504_S2x4096x5504_0_1_2 (broadcastInDim S1x1x5504 ![2] bcast_S5504_S1x1x5504_2 cb))
    (addf (F := Ideal) (addf (F := Ideal) (addf (F := Ideal) (broadcastInDim S2x4096x5504 ![] bcast_S_S2x4096x5504 (constant (F := Ideal) S_ .f32 0x00000000#32))
      (mulf (F := Ideal) (extractStridedSlice S2x4096x5504 ![0, 0, 0] p slices_S2x4098x5504_S2x4096x5504_0_0_0) (broadcastInDim S2x4096x5504 ![0, 1, 2] bcast_S1x1x5504_S2x4096x5504_0_1_2 (broadcastInDim S1x1x5504 ![2] bcast_S5504_S1x1x5504_2 (shapeCast _ (extractStridedSlice S1x5504 ![0, 0] cw slices_S3x5504_S1x5504_0_0) shapeCasts_S1x5504_S5504)))))
      (mulf (F := Ideal) (extractStridedSlice S2x4096x5504 ![0, 1, 0] p slices_S2x4098x5504_S2x4096x5504_0_1_0) (broadcastInDim S2x4096x5504 ![0, 1, 2] bcast_S1x1x5504_S2x4096x5504_0_1_2 (broadcastInDim S1x1x5504 ![2] bcast_S5504_S1x1x5504_2 (shapeCast _ (extractStridedSlice S1x5504 ![1, 0] cw slices_S3x5504_S1x5504_1_0) shapeCasts_S1x5504_S5504)))))
      (mulf (F := Ideal) (extractStridedSlice S2x4096x5504 ![0, 2, 0] p slices_S2x4098x5504_S2x4096x5504_0_2_0) (broadcastInDim S2x4096x5504 ![0, 1, 2] bcast_S1x1x5504_S2x4096x5504_0_1_2 (broadcastInDim S1x1x5504 ![2] bcast_S5504_S1x1x5504_2 (shapeCast _ (extractStridedSlice S1x5504 ![2, 0] cw slices_S3x5504_S1x5504_2_0) shapeCasts_S1x5504_S5504)))))
/-- The gate applied to the other projection. -/
def gated (g : FVec Ideal S2x4096x5504 .f32) (d : FVec Ideal S2x4096x11008 .f32) : FVec Ideal S2x4096x5504 .bf16 :=
  truncf (F := Ideal) .bf16 (mulf (F := Ideal) (mulf (F := Ideal) g (Host.divf (broadcastInDim S2x4096x5504 ![] bcast_S_S2x4096x5504 (constant (F := Ideal) S_ .f32 0x3F800000#32)) (addf (F := Ideal) (broadcastInDim S2x4096x5504 ![] bcast_S_S2x4096x5504 (constant (F := Ideal) S_ .f32 0x3F800000#32)) (Host.exp (Host.negf g)))))
    (extractStridedSlice S2x4096x5504 ![0, 0, 0] d slices_S2x4096x11008_S2x4096x5504_0_0_0)) bitsLt_bf16_f32

theorem xn_apply (x : Vec Ideal S2x4096x2048 .f32) (g : Vec Ideal S2048 .f32) (b : Fin 2) (t : Fin 4096) (k : Fin 2048) :
    (xn x g (ix3 b t k) : EReal) = nrm (fun k => x (ix3 b t k)) (fun k => g (ix1 k)) k := by
  unfold xn nrm
  pointwise
theorem both_apply (n : FVec Ideal S2x4096x2048 .f32) (w : Vec Ideal S2048x11008 .f32) (b : Fin 2) (t : Fin 4096) (J : Fin 11008) :
    (both n w (ix3 b t J) : EReal) = ∑ k : Fin 2048, (n (ix3 b t k) : EReal) * (w (ix2 k J) : EReal) := by
  unfold both
  pointwise [dot_S2x4096x2048_S2048x11008_S2x4096x11008_2_0_01_1_n_n]
theorem both_proj (x : Vec Ideal S2x4096x2048 .f32) (g : Vec Ideal S2048 .f32) (w : Vec Ideal S2048x11008 .f32) (b : Fin 2) (t : Fin 4096) (J : Fin 11008) :
    (both (xn x g) w (ix3 b t J) : EReal) = proj x g w b J t :=
  (both_apply _ w b t J).trans (Finset.sum_congr rfl fun k _ => congrArg (· * _) (xn_apply x g b t k))

theorem padded_apply (d : FVec Ideal S2x4096x11008 .f32) (b : Fin 2) (T : Fin 4098) (j : Fin 5504) :
    (padded d (ix3 b T j) : EReal) = if T.val < 2 then 0 else (d (ix3 b ⟨T.val - 2, by omega⟩ (right j)) : EReal) := by
  unfold padded
  pointwise
  by_cases h : T.val < 2
  · rw [if_pos h]
    exact dif_pos h
  · rw [if_neg h]
    exact dif_neg h

theorem gc_apply (p : FVec Ideal S2x4098x5504 .f32) (cw : Vec Ideal S3x5504 .f32) (cb : Vec Ideal S5504 .f32) (b : Fin 2) (t : Fin 4096) (j : Fin 5504) :
    (gc p cw cb (ix3 b t j) : EReal) = conv (p (ix3 b ⟨2 + t.val, by omega⟩ j)) (p (ix3 b ⟨1 + t.val, by omega⟩ j)) (p (ix3 b ⟨t.val, by omega⟩ j)) (cb (ix1 j)) (cw (ix2 0 j)) (cw (ix2 1 j)) (cw (ix2 2 j)) := by
  unfold gc conv
  pointwise
  simp only [add_assoc]

theorem gated_apply (g : FVec Ideal S2x4096x5504 .f32) (d : FVec Ideal S2x4096x11008 .f32) (b : Fin 2) (t : Fin 4096) (j : Fin 5504) :
    (gated g d (ix3 b t j) : EReal) = gate (g (ix3 b t j)) (d (ix3 b t (left j))) := by
  unfold gated gate
  pointwise
  rw [zero_sub]
  rfl

theorem padded_ago (x : Vec Ideal S2x4096x2048 .f32) (g : Vec Ideal S2048 .f32) (w : Vec Ideal S2048x11008 .f32) (b : Fin 2) (t : Fin 4096) (j : Fin 5504) (s : ℕ) (hs : s ≤ 2) (T : Fin 4098) (hT : T.val + s = t.val + 2) :
    (padded (both (xn x g) w) (ix3 b T j) : EReal) = ago (proj x g w b (right j)) s t := by
  refine (padded_apply _ b T j).trans ?_
  unfold ago
  by_cases h : T.val < 2
  · rw [if_pos h, if_pos (by omega)]
  · rw [if_neg h, if_neg (by omega)]
    refine (both_proj x g w b _ (right j)).trans (congrArg _ (Fin.ext ?_))
    show T.val - 2 = t.val - s
    omega

/-- The activation is the layer's. -/
theorem ref_act (x : Vec Ideal S2x4096x2048 .f32) (g : Vec Ideal S2048 .f32) (w : Vec Ideal S2048x11008 .f32) (cw : Vec Ideal S3x5504 .f32) (cb : Vec Ideal S5504 .f32) :
    (gated (gc (padded (both (xn x g) w)) cw cb) (both (xn x g) w) : Vec Ideal S2x4096x5504 .bf16) = act x g w cw cb := by
  funext i
  obtain ⟨b, t, j, rfl⟩ : ∃ b t j, i = (ix3 b t j : S2x4096x5504.Idx) := ⟨i 0, i 1, i 2, funext fun a => by
    match a with
    | ⟨0, _⟩ => rfl
    | ⟨1, _⟩ => rfl
    | ⟨2, _⟩ => rfl⟩
  refine (gated_apply _ _ b t j).trans ?_
  show _ = actE x g w cw cb b t j
  unfold actE
  rw [gc_apply, both_proj, padded_ago x g w b t j 2 (by omega) ⟨t.val, by omega⟩ rfl, padded_ago x g w b t j 1 (by omega) ⟨1 + t.val, by omega⟩ (by show 1 + t.val + 1 = t.val + 2; omega),
    padded_ago x g w b t j 0 (by omega) ⟨2 + t.val, by omega⟩ (by show 2 + t.val + 0 = t.val + 2; omega)]
  rfl

/-- And the convolution's state. -/
theorem ref_state (x : Vec Ideal S2x4096x2048 .f32) (g : Vec Ideal S2048 .f32) (w : Vec Ideal S2048x11008 .f32) :
    (extractStridedSlice S2x2x5504 ![0, 4096, 0] (padded (both (xn x g) w)) slices_S2x4098x5504_S2x2x5504_0_4096_0 : Vec Ideal S2x2x5504 .f32) = state x g w := by
  funext i
  obtain ⟨b, s, j, rfl⟩ : ∃ b s j, i = (ix3 b s j : S2x2x5504.Idx) := ⟨i 0, i 1, i 2, funext fun a => by
    match a with
    | ⟨0, _⟩ => rfl
    | ⟨1, _⟩ => rfl
    | ⟨2, _⟩ => rfl⟩
  refine (congrArg (padded (both (xn x g) w)) (a₂ := ix3 b ⟨4096 + s.val, by omega⟩ j) (funext fun a => Fin.ext ?_)).trans ?_
  · match a with
    | ⟨0, _⟩ => show 0 + b.val = b.val; omega
    | ⟨1, _⟩ => rfl
    | ⟨2, _⟩ => show 0 + j.val = j.val; omega
  · refine (padded_ago x g w b ⟨4094 + s.val, by omega⟩ j 0 (by omega) _ (by show 4096 + s.val + 0 = 4094 + s.val + 2; omega)).trans ?_
    rfl

section
variable (m : (ℓ : Loc nD τ sig) → Buf (Elt Ideal) ℓ) (c : Dev nD)

abbrev b0 : Vec Ideal S2x4096x2048 .f32 := m ((c : Thread nD τ).loc main_arg0)
abbrev b1 : Vec Ideal S2048 .f32 := m ((c : Thread nD τ).loc main_arg1)
abbrev b2 : Vec Ideal S2048x11008 .f32 := m ((c : Thread nD τ).loc main_arg2)
abbrev b3 : Vec Ideal S3x5504 .f32 := m ((c : Thread nD τ).loc main_arg3)
abbrev b4 : Vec Ideal S5504 .f32 := m ((c : Thread nD τ).loc main_arg4)

/-- After the reference's run its results are the layer's. -/
theorem run (ρ : Dev nD → PrngReg) : θ_run defs (onTc (τ := τ) (main (F := Ideal))) ⟨m, fun _ => 0, ρ⟩ fun r => ∀ c : Dev nD,
      r.2.mem ((c : Thread nD τ).loc main_v45) = act (b0 m c) (b1 m c) (b2 m c) (b3 m c) (b4 m c)
      ∧ r.2.mem ((c : Thread nD τ).loc main_v46) = state (b0 m c) (b1 m c) (b2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((by unfold res_main_v45; rfl : res_main_v45 m c = gated (gc (padded (both (xn (b0 m c) (b1 m c)) (b2 m c))) (b3 m c) (b4 m c)) (both (xn (b0 m c) (b1 m c)) (b2 m c))).trans (ref_act _ _ _ _ _)),
      (h c).2.1.trans (ref_state (b0 m c) (b1 m c) (b2 m c)), (h c).2.2⟩)
    (Cert.Reference2Ideal.Value.run m ρ)
end

end Cert.Reference2Ideal.Up
-- ==== Proof.InRunsIdeal.lean ====
/-
  The mixer's input call: a row block's first column tile normalises the rows and multiplies them with the gates' columns,
  every tile multiplies them with its own columns.
-/
module

public import proofs.«01_k».proof.Proof.Gen.Kernel4Ideal.Frame
public import proofs.«01_k».proof.Proof.Gen.Kernel4Ideal.Skeleton
public import Idealize.ShloMosaic.Lib.Pipeline.TableIdle
public import Idealize.ShloMosaic.Lib.Claim

@[expose] public section

set_option maxRecDepth 16384

noncomputable section

namespace Cert.Kernel4Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

/-- The first column tile of a row block. -/
abbrev cond0_0 (i : grid0.Coords) : Prop := k0_cond1 i = 1#1
theorem hcond0_0 : ∀ t : Fin cfg0.N, cond0_0 (grid0.coords t) ↔ t.val % 6 = 0 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [cond0_0, k0_cond1, e0, e1]
    word_cmp
   : ∀ t : Fin grid0.N, cond0_0 (grid0.coords t) ↔ t.val % 6 = 0)

section
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x2048 .bf16) (harg8 : arg8.IsWhole)
  (x0 : Vec F S1024x2048 .f32) (x1 : Vec F S1x2048 .f32) (x2 : Vec F S2048x1024 .bf16) (x3 : Vec F S2048x128 .bf16)

set_option maxHeartbeats 1000000 in
/-- The body at a first column tile: it normalises the rows into the scratch memory, stores the rows' product with the
    gates' columns and the tile's product. -/
noncomputable def kernelRun0_A (hc0 : cond0_0 i) :
    Σ' (L4 : List (View.Piece (Elt F) S1024x1024 .f32)), Σ' (L5 : List (View.Piece (Elt F) S1024x128 .f32)), { LS0 : List (View.Piece (Elt F) S1024x2048 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_mlstm_in_p i arg2 harg2 arg3 harg3 arg4 harg4 arg5 harg5 arg6 harg6 arg7 harg7 arg8 harg8) K } := by
  refine ⟨?_, ?_, ?_, fun E K => ?run⟩
  case run =>
    simp only [cc0_mlstm_in_p_eq_skeleton]; unfold cc0_mlstm_in_p_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

set_option maxHeartbeats 1000000 in
/-- The body at a later column tile: it stores the tile's product only; the gates' buffer and the scratch memory stay as
    they were. -/
noncomputable def kernelRun0_B (hc0 : ¬cond0_0 i) (xs0 : Vec F S1024x2048 .bf16) :
    { L4 : List (View.Piece (Elt F) S1024x1024 .f32) //
      ∀ (xo5 : Vec F S1024x128 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xo5 ∗ owns (c : Thread nD τ) arg8 fullShare xs0) -∗ K ⟨⟩))
          ⊢ wp frame (wpE (defs₀ (F := F)) Variants.none c none) E (cc0_mlstm_in_p i arg2 harg2 arg3 harg3 arg4 harg4 arg5 harg5 arg6 harg6 arg7 harg7 arg8 harg8) K } := by
  refine ⟨?_, fun xo5 E K => ?run⟩
  case run =>
    simp only [cc0_mlstm_in_p_eq_skeleton]; unfold cc0_mlstm_in_p_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; isplitr; · ipureintro; exact harg8.read_unread _
    iexact HS0

/-- The stores fill their blocks. -/
theorem cover0_A_4 (hc0 : cond0_0 i) (y : S1024x1024.Idx) : ∃ pc ∈ (kernelRun0_A c i arg2 harg2 arg3 harg3 arg4 harg4 arg5 harg5 arg6 harg6 arg7 harg7 arg8 harg8 x0 x1 x2 x3 hc0).1, y ∈ pc.1.set :=
  View.cover_of_tiledL (kernelRun0_A c i arg2 harg2 arg3 harg3 arg4 harg4 arg5 harg5 arg6 harg6 arg7 harg7 arg8 harg8 x0 x1 x2 x3 hc0).1 S1024x1024.size (by sl_kernel_rfl) y
theorem cover0_A_5 (hc0 : cond0_0 i) (y : S1024x128.Idx) : ∃ pc ∈ (kernelRun0_A c i arg2 harg2 arg3 harg3 arg4 harg4 arg5 harg5 arg6 harg6 arg7 harg7 arg8 harg8 x0 x1 x2 x3 hc0).2.1, y ∈ pc.1.set :=
  View.cover_of_tiledL (kernelRun0_A c i arg2 harg2 arg3 harg3 arg4 harg4 arg5 harg5 arg6 harg6 arg7 harg7 arg8 harg8 x0 x1 x2 x3 hc0).2.1 S1024x128.size (by sl_kernel_rfl) y
theorem scover0_A_0 (hc0 : cond0_0 i) (y : S1024x2048.Idx) : ∃ pc ∈ (kernelRun0_A c i arg2 harg2 arg3 harg3 arg4 harg4 arg5 harg5 arg6 harg6 arg7 harg7 arg8 harg8 x0 x1 x2 x3 hc0).2.2.1, y ∈ pc.1.set :=
  View.cover_of_tiledL (kernelRun0_A c i arg2 harg2 arg3 harg3 arg4 harg4 arg5 harg5 arg6 harg6 arg7 harg7 arg8 harg8 x0 x1 x2 x3 hc0).2.2.1 S1024x2048.size (by sl_kernel_rfl) y
theorem cover0_B_4 (hc0 : ¬cond0_0 i) (xs0 : Vec F S1024x2048 .bf16) (y : S1024x1024.Idx) : ∃ pc ∈ (kernelRun0_B c i arg2 harg2 arg3 harg3 arg4 harg4 arg5 harg5 arg6 harg6 arg7 harg7 arg8 harg8 x0 x1 x2 x3 hc0 xs0).1, y ∈ pc.1.set :=
  View.cover_of_tiledL (kernelRun0_B c i arg2 harg2 arg3 harg3 arg4 harg4 arg5 harg5 arg6 harg6 arg7 harg7 arg8 harg8 x0 x1 x2 x3 hc0 xs0).1 S1024x1024.size (by sl_kernel_rfl) y

/-- A buffer of each output, and the scratch memory. -/
abbrev VO0_4 : View sig .tc .vmem S1024x1024 .f32 := (Memref.whole cc0_stg4_0 : Memref sig .tc .vmem S1024x1024 .f32).view
abbrev VO0_5 : View sig .tc .vmem S1024x128 .f32 := (Memref.whole cc0_stg5_0 : Memref sig .tc .vmem S1024x128 .f32).view
abbrev scM0_0 : Memref sig .tc .vmem S1024x2048 .bf16 := Memref.whole cc0_scratch0
abbrev VS0_0 : View sig .tc .vmem S1024x2048 .bf16 := scM0_0.view

/-- What the stores leave in the buffers. -/
def out0_A_4 (hc0 : cond0_0 i) : Vec F S1024x1024 .f32 := VO0_4.read (Elt F) (VO0_4.writes (Elt F) VO0_4.junk (kernelRun0_A c i arg2 harg2 arg3 harg3 arg4 harg4 arg5 harg5 arg6 harg6 arg7 harg7 arg8 harg8 x0 x1 x2 x3 hc0).1)
def out0_A_5 (hc0 : cond0_0 i) : Vec F S1024x128 .f32 := VO0_5.read (Elt F) (VO0_5.writes (Elt F) VO0_5.junk (kernelRun0_A c i arg2 harg2 arg3 harg3 arg4 harg4 arg5 harg5 arg6 harg6 arg7 harg7 arg8 harg8 x0 x1 x2 x3 hc0).2.1)
def sout0_A_0 (hc0 : cond0_0 i) : Vec F S1024x2048 .bf16 := VS0_0.read (Elt F) (VS0_0.writes (Elt F) VS0_0.junk (kernelRun0_A c i arg2 harg2 arg3 harg3 arg4 harg4 arg5 harg5 arg6 harg6 arg7 harg7 arg8 harg8 x0 x1 x2 x3 hc0).2.2.1)
def out0_B_4 (hc0 : ¬cond0_0 i) (xs0 : Vec F S1024x2048 .bf16) : Vec F S1024x1024 .f32 := VO0_4.read (Elt F) (VO0_4.writes (Elt F) VO0_4.junk (kernelRun0_B c i arg2 harg2 arg3 harg3 arg4 harg4 arg5 harg5 arg6 harg6 arg7 harg7 arg8 harg8 x0 x1 x2 x3 hc0 xs0).1)
end

end Cert.Kernel4Ideal.In
-- ==== Proof.InFrameIdeal.lean ====
/-
  The mixer's input call runs to an end with its arguments unchanged: what its buffers hold after each point. The gates'
  buffer is filled at a row block's first tile and written back after its last.
-/
module

public import proofs.«01_k».proof.Proof.InRunsIdeal
public import proofs.«01_k».proof.Proof.Gen.Kernel4Ideal.Skeleton
public import Idealize.ShloMosaic.Lib.Pipeline.TableIdle
public import Idealize.ShloMosaic.Lib.Claim

@[expose] public section

set_option maxRecDepth 16384

noncomputable section

namespace Cert.Kernel4Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

variable (m : (ℓ : Loc nD τ sig) → Buf (Elt F) ℓ) (ρ : Dev nD → PrngReg)

/-- The buffers a point uses. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)

/-- A first column tile's buffers: the tile's product, the gates' product, the normalised rows. -/
def atA (c : Dev nD) (t : Fin cfg0.N) (h : cond0_0 (grid0.coords t)) : Vec F S1024x1024 .f32 × Vec F S1024x128 .f32 × Vec F S1024x2048 .bf16 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) h, out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) h, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) h)
/-- A later tile's: its product, and the other two as the point before left them. -/
def atB (c : Dev nD) (t : Fin cfg0.N) (h : ¬cond0_0 (grid0.coords t)) (p : Vec F S1024x1024 .f32 × Vec F S1024x128 .f32 × Vec F S1024x2048 .bf16) :
    Vec F S1024x1024 .f32 × Vec F S1024x128 .f32 × Vec F S1024x2048 .bf16 :=
  (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) h p.2.2, p.2.1, p.2.2)

/-- The buffers after point `n`. -/
def outsAt0 (c : Dev nD) : (n : ℕ) → n < cfg0.N → Vec F S1024x1024 .f32 × Vec F S1024x128 .f32 × Vec F S1024x2048 .bf16
  | 0, hn => atA m c ⟨0, hn⟩ ((hcond0_0 ⟨0, hn⟩).mpr (Nat.zero_mod _))
  | n + 1, hn =>
    if h0 : (n + 1) % 6 = 0 then atA m c ⟨n + 1, hn⟩ ((hcond0_0 ⟨n + 1, hn⟩).mpr h0)
    else atB m c ⟨n + 1, hn⟩ (fun h => h0 ((hcond0_0 ⟨n + 1, hn⟩).mp h)) (outsAt0 c n (Nat.lt_of_succ_lt hn))

theorem outsAt0_A (c : Dev nD) (t : Fin cfg0.N) (h0 : t.val % 6 = 0) : outsAt0 m c t.val t.isLt = atA m c t ((hcond0_0 t).mpr h0) := by
  obtain ⟨n, hn⟩ := t
  cases n with
  | zero => exact rfl
  | succ n => exact (dif_pos h0).trans rfl
theorem outsAt0_B (c : Dev nD) (t : Fin cfg0.N) (h0 : ¬t.val % 6 = 0) :
    outsAt0 m c t.val t.isLt = atB m c t (fun h => h0 ((hcond0_0 t).mp h)) (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

/-- Between points the scratch memory holds what the point before left there. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2)) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- The arrays as the region finds them, and the buffers after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The gates' buffer is idle at the later tiles. -/
theorem idle0_5_A : ∀ t : Fin cfg0.N, cond0_0 (grid0.coords t) → cfg0.idle 5 (grid0.coords t) = false := by decide +kernel
theorem idle0_5_B : ∀ t : Fin cfg0.N, ¬cond0_0 (grid0.coords t) → cfg0.idle 5 (grid0.coords t) = true := by decide +kernel
/-- It holds nothing stored at the first tiles only. -/
def freshTab0_5 : ℕ → Bool := fun n => n % 6 == 0
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  rw [after0_5, after0_5]
  by_cases h0 : t.val % 6 = 0
  · rw [idle0_5_A t ((hcond0_0 t).mpr h0)] at hi
    exact absurd hi Bool.false_ne_true
  · rw [outsAt0_B m c t h0]
    rfl
/-- At a later tile the gates' buffer still holds what the point before left there. -/
theorem before0_5_B (c : Dev nD) (t : Fin cfg0.N) (h0 : ¬t.val % 6 = 0) (d) :
    (dats m 0 c).before 5 t d = (outsAt0 m c (t.val - 1) (Nat.lt_of_le_of_lt (Nat.sub_le _ _) t.isLt)).2.1 := by
  rw [Dat.before_out_traj _ 5 rfl (fun _ _ => rfl) (hcarry0_5 m c) t.val t rfl d,
    if_neg (by rw [fresh0_5_eq]; simpa [freshTab0_5] using h0)]
  dsimp only [dats]

/-- What the body is called with at a point, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 3200000 in
/-- The body keeps what is said of the buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  rw [show (dats m 0 c).leavesExact 0 t = owns (c : Thread nD τ) (ms0_0 t) fullShare ((dats m 0 c).after 0 t) from by
    unfold Dat.leavesExact; rw [show cfg0.idle 0 (grid0.coords t) = false from rfl], after0_0]
  rw [show (dats m 0 c).leavesExact 1 t = owns (c : Thread nD τ) (ms0_1 t) fullShare ((dats m 0 c).after 1 t) from by
    unfold Dat.leavesExact; rw [show cfg0.idle 1 (grid0.coords t) = false from rfl], after0_1]
  rw [show (dats m 0 c).leavesExact 2 t = owns (c : Thread nD τ) (ms0_2 t) fullShare ((dats m 0 c).after 2 t) from by
    unfold Dat.leavesExact; rw [show cfg0.idle 2 (grid0.coords t) = false from rfl], after0_2]
  rw [show (dats m 0 c).leavesExact 3 t = owns (c : Thread nD τ) (ms0_3 t) fullShare ((dats m 0 c).after 3 t) from by
    unfold Dat.leavesExact; rw [show cfg0.idle 3 (grid0.coords t) = false from rfl], after0_3]
  rw [show (dats m 0 c).leavesExact 4 t = owns (c : Thread nD τ) (ms0_4 t) fullShare ((dats m 0 c).after 4 t) from by
    unfold Dat.leavesExact; rw [show cfg0.idle 4 (grid0.coords t) = false from rfl], after0_4]
  by_cases h0 : t.val % 6 = 0
  · rw [show (dats m 0 c).leavesExact 5 t = owns (c : Thread nD τ) (ms0_5 t) fullShare ((dats m 0 c).after 5 t) from by
      unfold Dat.leavesExact; rw [idle0_5_A t ((hcond0_0 t).mpr h0)], after0_5]
    by_cases hz : t.val = 0
    · rw [PhiS_castSucc m c t, PhiS_zero m c _ _ hz, PhiA0_eq]
      rw [outsAt0_A m c t h0]
      unfold atA out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ (iblk m c 0 t) (iblk m c 1 t) (iblk m c 2 t) (iblk m c 3 t) ((hcond0_0 t).mpr h0)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
    · rw [PhiS_castSucc m c t, PhiS_pos m c _ _ hz]
      rw [outsAt0_A m c t h0]
      unfold atA out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ (iblk m c 0 t) (iblk m c 1 t) (iblk m c 2 t) (iblk m c 3 t) ((hcond0_0 t).mpr h0)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
  · have hl : owns (c : Thread nD τ) (ms0_5 t) fullShare (outsAt0 m c (t.val - 1) (Nat.lt_of_le_of_lt (Nat.sub_le _ _) t.isLt)).2.1 ⊢ (dats m 0 c).leavesExact 5 t := by
      cases hf : (cfg0.win 5).flush t with
      | false =>
        rw [Dat.leavesExact_idle _ 5 t (idle0_5_B t (fun h => h0 ((hcond0_0 t).mp h))) hf]
        simp only [before0_5_B m c t h0]
        iintro H
        iexists (outsAt0 m c (t.val - 1) (Nat.lt_of_le_of_lt (Nat.sub_le _ _) t.isLt)).2.1
        iexact H
      | true =>
        rw [show (dats m 0 c).leavesExact 5 t = owns (c : Thread nD τ) (ms0_5 t) fullShare ((dats m 0 c).after 5 t) from by
          unfold Dat.leavesExact; rw [idle0_5_B t (fun h => h0 ((hcond0_0 t).mp h)), hf], after0_5, outsAt0_B m c t h0]
        exact Idealize.SL.BI.Entails.refl _
    have hz : t.val ≠ 0 := fun h => h0 (by omega)
    rw [PhiS_castSucc m c t, PhiS_pos m c _ _ hz]
    rw [outsAt0_B m c t h0]
    simp only [before0_5_B m c t h0]
    unfold atB out0_B_4; (try dsimp only)
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (iblk m c 0 t) (iblk m c 1 t) (iblk m c 2 t) (iblk m c 3 t) (fun h => h0 ((hcond0_0 t).mp h)) _).2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, ⟨%e4, H4⟩, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _)
    iapply hl
    iexact H5

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
theorem hout (c : Dev nD) : (dats m 0 c).Φ (Fin.last cfg0.N) ⊢ Pipeline.ΦA spec0 c := by
  have ht : (Fin.last cfg0.N).val ≠ 0 := by rw [Fin.val_last]; have : cfg0.N = 48 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

set_option backward.isDefEq.respectTransparency.types false in
set_option maxHeartbeats 800000 in
/-- The program runs to an end, its arrays as the points leave them, every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)
/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel4Ideal.In
-- ==== Proof.InKer.lean ====
/-
  The mixer's input call: its results are the normalised rows' products with the projection's columns and with the gates'.
-/
module

public import proofs.«01_k».proof.Proof.InFrameIdeal
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.Routing.OpsPair
public import Idealize.ShloMosaic.Lib.Routing.OpsOne

@[expose] public section

set_option maxRecDepth 65536

noncomputable section

namespace Cert.Kernel4Ideal.In

open Idealize.ShloMosaic Idealize.ShloMosaic.TcCoe Idealize.ShloMosaic.Tactic
open Cert.Kernel4Ideal Cert.Kernel4Ideal.Gen Idealize.SL.Sem

theorem z2 : (![0, 0] : Fin 2 → ℕ) = fun _ => 0 := funext fun a => by fin_cases a <;> rfl

section
variable {F : FTy → Type} [FloatOps F] (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x2048 .bf16) (harg8 : arg8.IsWhole)
  (x0 : Vec F S1024x2048 .f32) (x1 : Vec F S1x2048 .f32) (x2 : Vec F S2048x1024 .bf16) (x3 : Vec F S2048x128 .bf16)

/-- The whole of a block. -/
abbrev rX : Rect S1024x2048 := Rect.unit ![0, 0] S1024x2048.size inb_S1024x2048_S1024x2048_0_0
abbrev rG : Rect S1x2048 := Rect.unit ![0, 0] S1x2048.size inb_S1x2048_S1x2048_0_0
abbrev rW : Rect S2048x1024 := Rect.unit ![0, 0] S2048x1024.size inb_S2048x1024_S2048x1024_0_0
abbrev rS : Rect S2048x128 := Rect.unit ![0, 0] S2048x128.size inb_S2048x128_S2048x128_0_0
abbrev rO : Rect S1024x1024 := Rect.unit ![0, 0] S1024x1024.size inb_S1024x1024_S1024x1024_0_0
abbrev rT : Rect S1024x128 := Rect.unit ![0, 0] S1024x128.size inb_S1024x128_S1024x128_0_0

theorem piecesA (hc0 : cond0_0 i) : (kernelRun0_A c i arg2 harg2 arg3 harg3 arg4 harg4 arg5 harg5 arg6 harg6 arg7 harg7 arg8 harg8 x0 x1 x2 x3 hc0).1 =
    [(⟨rO, k0_pay4 (View.ld (k0_pay2 (View.ld (arg2.view.read (Elt F) (harg2.unread x0)) rX) (View.ld (arg3.view.read (Elt F) (harg3.unread x1)) rG)) rX) (View.ld (arg4.view.read (Elt F) (harg4.unread x2)) rW)⟩ : View.Piece (Elt F) S1024x1024 .f32)] := by
  unfold kernelRun0_A
  dsimp only
  refine congrArg₂ List.cons (Sigma.ext rfl (heq_of_eq ?_)) rfl
  sl_unfold_words
  sl_unfold_words
  simp (disch := decide) only [↓ View.readCov_skip, ↓ View.readCov_fill]
  rfl
theorem piecesA_g (hc0 : cond0_0 i) : (kernelRun0_A c i arg2 harg2 arg3 harg3 arg4 harg4 arg5 harg5 arg6 harg6 arg7 harg7 arg8 harg8 x0 x1 x2 x3 hc0).2.1 =
    [(⟨rT, k0_pay3 (View.ld (arg2.view.read (Elt F) (harg2.unread x0)) rX) (View.ld (arg3.view.read (Elt F) (harg3.unread x1)) rG) (View.ld (arg5.view.read (Elt F) (harg5.unread x3)) rS)⟩ : View.Piece (Elt F) S1024x128 .f32)] := by
  unfold kernelRun0_A
  dsimp only
  refine congrArg₂ List.cons (Sigma.ext rfl (heq_of_eq ?_)) rfl
  sl_unfold_words
  rfl
theorem piecesA_s (hc0 : cond0_0 i) : (kernelRun0_A c i arg2 harg2 arg3 harg3 arg4 harg4 arg5 harg5 arg6 harg6 arg7 harg7 arg8 harg8 x0 x1 x2 x3 hc0).2.2.1 =
    [(⟨rX, k0_pay2 (View.ld (arg2.view.read (Elt F) (harg2.unread x0)) rX) (View.ld (arg3.view.read (Elt F) (harg3.unread x1)) rG)⟩ : View.Piece (Elt F) S1024x2048 .bf16)] := by
  unfold kernelRun0_A
  dsimp only
  refine congrArg₂ List.cons (Sigma.ext rfl (heq_of_eq ?_)) rfl
  sl_unfold_words
  rfl
theorem piecesB (hc0 : ¬cond0_0 i) (xs0 : Vec F S1024x2048 .bf16) : (kernelRun0_B c i arg2 harg2 arg3 harg3 arg4 harg4 arg5 harg5 arg6 harg6 arg7 harg7 arg8 harg8 x0 x1 x2 x3 hc0 xs0).1 =
    [(⟨rO, k0_pay4 (View.ld (arg8.view.read (Elt F) (harg8.unread xs0)) rX) (View.ld (arg4.view.read (Elt F) (harg4.unread x2)) rW)⟩ : View.Piece (Elt F) S1024x1024 .f32)] := by
  unfold kernelRun0_B
  dsimp only
  refine congrArg₂ List.cons (Sigma.ext rfl (heq_of_eq ?_)) rfl
  sl_unfold_words
  sl_unfold_words
  rfl

theorem out_first (hc0 : cond0_0 i) : View.canon (kernelRun0_A c i arg2 harg2 arg3 harg3 arg4 harg4 arg5 harg5 arg6 harg6 arg7 harg7 arg8 harg8 x0 x1 x2 x3 hc0).1 = k0_pay4 (k0_pay2 x0 x1) x2 := by
  rw [piecesA, View.canon_unit_zero (S := S1024x1024) z2]
  simp only [Memref.IsWhole.read_unread, View.ld_unit_zero (S := S1024x2048) z2, View.ld_unit_zero (S := S1x2048) z2, View.ld_unit_zero (S := S2048x1024) z2]
theorem gate_first (hc0 : cond0_0 i) : View.canon (kernelRun0_A c i arg2 harg2 arg3 harg3 arg4 harg4 arg5 harg5 arg6 harg6 arg7 harg7 arg8 harg8 x0 x1 x2 x3 hc0).2.1 = k0_pay3 x0 x1 x3 := by
  rw [piecesA_g, View.canon_unit_zero (S := S1024x128) z2]
  simp only [Memref.IsWhole.read_unread, View.ld_unit_zero (S := S1024x2048) z2, View.ld_unit_zero (S := S1x2048) z2, View.ld_unit_zero (S := S2048x128) z2]
theorem rows_first (hc0 : cond0_0 i) : View.canon (kernelRun0_A c i arg2 harg2 arg3 harg3 arg4 harg4 arg5 harg5 arg6 harg6 arg7 harg7 arg8 harg8 x0 x1 x2 x3 hc0).2.2.1 = k0_pay2 x0 x1 := by
  rw [piecesA_s, View.canon_unit_zero (S := S1024x2048) z2]
  simp only [Memref.IsWhole.read_unread, View.ld_unit_zero (S := S1024x2048) z2, View.ld_unit_zero (S := S1x2048) z2]
theorem out_later (hc0 : ¬cond0_0 i) (xs0 : Vec F S1024x2048 .bf16) : View.canon (kernelRun0_B c i arg2 harg2 arg3 harg3 arg4 harg4 arg5 harg5 arg6 harg6 arg7 harg7 arg8 harg8 x0 x1 x2 x3 hc0 xs0).1 = k0_pay4 xs0 x2 := by
  rw [piecesB, View.canon_unit_zero (S := S1024x1024) z2]
  simp only [Memref.IsWhole.read_unread, View.ld_unit_zero (S := S1024x2048) z2, View.ld_unit_zero (S := S2048x1024) z2]
end

/-- A row divided by its root mean square, times the gain; and its product with a column. -/
def nrm (f g : Fin 2048 → EReal) (k : Fin 2048) : EReal :=
  f k * Ideal.rsqrt (Ideal.div (∑ x, f x * f x) (Ideal.ofBits FTy.f32 1157627904#32) + Ideal.ofBits FTy.f32 897988541#32) * g k
def ent (f g w : Fin 2048 → EReal) : EReal := ∑ k : Fin 2048, nrm f g k * w k
theorem ent_congr {f f' g g' w w' : Fin 2048 → EReal} (hf : f = f') (hg : g = g') (hw : w = w') : ent f g w = ent f' g' w' := by
  subst hf hg hw
  rfl

/-- The columns of the weights: those of the projection, then those of the gates. -/
def pc (j : Fin 6144) : Fin 6160 := ⟨j.val, by omega⟩
def gc (h : Fin 16) : Fin 6160 := ⟨6144 + h.val, by omega⟩
/-- The projection and the gates. -/
def resP (x : Vec Ideal S2x4096x2048 .f32) (g : Vec Ideal S2048 .f32) (w : Vec Ideal S2048x6160 .f32) : Vec Ideal S2x4096x6144 .f32 :=
  fun i => ent (fun k => x (ix3 (i 0) (i 1) k)) (fun k => g (ix1 k)) (fun k => w (ix2 k (pc (i 2))))
def resG (x : Vec Ideal S2x4096x2048 .f32) (g : Vec Ideal S2048 .f32) (w : Vec Ideal S2048x6160 .f32) : Vec Ideal S2x4096x16 .f32 :=
  fun i => ent (fun k => x (ix3 (i 0) (i 1) k)) (fun k => g (ix1 k)) (fun k => w (ix2 k (gc (i 2))))

theorem xn_apply (x : Vec Ideal S1024x2048 .f32) (g : Vec Ideal S1x2048 .f32) (r : Fin 1024) (k : Fin 2048) :
    (k0_pay2 (F := Ideal) x g (ix2 r k) : EReal) = nrm (fun k => x (ix2 r k)) (fun k => g (ix2 0 k)) k := by
  unfold k0_pay2 k0_pay1 nrm
  pointwise
theorem prod_apply (xn : Vec Ideal S1024x2048 .bf16) (w : Vec Ideal S2048x1024 .bf16) (r : Fin 1024) (j : Fin 1024) :
    (k0_pay4 (F := Ideal) xn w (ix2 r j) : EReal) = ∑ x : Fin 2048, (xn (ix2 r x) : EReal) * (w (ix2 x j) : EReal) := by
  unfold k0_pay4
  pointwise [dot_S1024x2048_S2048x1024_S1024x1024_1_0_0_1_n_n]
theorem side_apply (x : Vec Ideal S1024x2048 .f32) (g : Vec Ideal S1x2048 .f32) (w : Vec Ideal S2048x128 .bf16) (r : Fin 1024) (l : Fin 128) :
    (k0_pay3 (F := Ideal) x g w (ix2 r l) : EReal) = ent (fun k => x (ix2 r k)) (fun k => g (ix2 0 k)) (fun k => w (ix2 k l)) := by
  unfold k0_pay3 k0_pay1 ent nrm
  pointwise [dot_S1024x2048_S2048x128_S1024x128_1_0_0_1_n_n]

/-- Step `t` of sequence `b` among the rows of both. -/
def rowOf (b : Fin 2) (t : Fin 4096) : Fin 8192 := ⟨4096 * b.val + t.val, by omega⟩

section
variable (m : (ℓ : Loc nD τ sig) → Buf (Elt Ideal) ℓ) (c : Dev nD)

theorem lt48 (t : Fin cfg0.N) : t.val < 48 := t.isLt

theorem wx0 : ∀ t : Fin cfg0.N, win0_0.index t 0 = t.val / 6 ∧ win0_0.index t 1 = 0 := by decide +kernel
theorem wx1 : ∀ t : Fin cfg0.N, win0_1.index t 0 = 0 ∧ win0_1.index t 1 = 0 := by decide +kernel
theorem wx2 : ∀ t : Fin cfg0.N, win0_2.index t 0 = 0 ∧ win0_2.index t 1 = t.val % 6 := by decide +kernel
theorem wx3 : ∀ t : Fin cfg0.N, win0_3.index t 0 = 0 ∧ win0_3.index t 1 = 0 := by decide +kernel
theorem wx4 : ∀ t : Fin cfg0.N, win0_4.index t 0 = t.val / 6 ∧ win0_4.index t 1 = t.val % 6 := by decide +kernel
theorem wx5 : ∀ t : Fin cfg0.N, win0_5.index t 0 = t.val / 6 ∧ win0_5.index t 1 = 0 := by decide +kernel

/-- Row and column of a place in point `t`'s block. -/
def rt (t : Fin cfg0.N) (r : Fin 1024) : Fin 8192 := ⟨1024 * (t.val / 6) + r.val, by have := lt48 t; omega⟩
def ct (t : Fin cfg0.N) (j : Fin 1024) : Fin 6144 := ⟨1024 * (t.val % 6) + j.val, by omega⟩

/-- The arguments. -/
abbrev a0 : Vec Ideal S2x4096x2048 .f32 := m ((c : Thread nD τ).loc main_arg0)
abbrev a1 : Vec Ideal S2048 .f32 := m ((c : Thread nD τ).loc main_arg1)
abbrev a2 : Vec Ideal S2048x6160 .f32 := m ((c : Thread nD τ).loc main_arg2)
/-- The arrays the region reads. -/
abbrev vx : S8192x2048.Idx → EReal := (V m c main_v0 : Vec Ideal S8192x2048 .f32)
abbrev vg : S1x2048.Idx → EReal := (V m c main_v8 : Vec Ideal S1x2048 .f32)
abbrev vw : S2048x6144.Idx → EReal := (V m c main_v2 : Vec Ideal S2048x6144 .bf16)
abbrev vs : S2048x128.Idx → EReal := (V m c main_v7 : Vec Ideal S2048x128 .bf16)

theorem iblk0 (t : Fin cfg0.N) (r : Fin 1024) (k : Fin 2048) : ((iblk m c 0 t : Vec Ideal S1024x2048 .f32) (ix2 r k) : EReal) = vx m c (ix2 (rt t r) k) := by
  obtain ⟨h0, h1⟩ := wx0 t
  unfold iblk
  rw [View.read_apply]
  refine congrArg (V m c main_v0 : Vec Ideal S8192x2048 .f32) (funext fun a => Fin.ext ?_)
  match a with
  | ⟨0, _⟩ => show win0_0.index t 0 * 1024 + 1 * r.val = 1024 * (t.val / 6) + r.val; omega
  | ⟨1, _⟩ => show win0_0.index t 1 * 2048 + 1 * k.val = k.val; omega
theorem iblk1 (t : Fin cfg0.N) (k : Fin 2048) : ((iblk m c 1 t : Vec Ideal S1x2048 .f32) (ix2 0 k) : EReal) = vg m c (ix2 0 k) := by
  obtain ⟨h0, h1⟩ := wx1 t
  unfold iblk
  rw [View.read_apply]
  refine congrArg (V m c main_v8 : Vec Ideal S1x2048 .f32) (funext fun a => Fin.ext ?_)
  match a with
  | ⟨0, _⟩ => show win0_1.index t 0 * 1 + 1 * 0 = 0; omega
  | ⟨1, _⟩ => show win0_1.index t 1 * 2048 + 1 * k.val = k.val; omega
theorem iblk2 (t : Fin cfg0.N) (k : Fin 2048) (j : Fin 1024) : ((iblk m c 2 t : Vec Ideal S2048x1024 .bf16) (ix2 k j) : EReal) = vw m c (ix2 k (ct t j)) := by
  obtain ⟨h0, h1⟩ := wx2 t
  unfold iblk
  rw [View.read_apply]
  refine congrArg (V m c main_v2 : Vec Ideal S2048x6144 .bf16) (funext fun a => Fin.ext ?_)
  match a with
  | ⟨0, _⟩ => show win0_2.index t 0 * 2048 + 1 * k.val = k.val; omega
  | ⟨1, _⟩ => show win0_2.index t 1 * 1024 + 1 * j.val = 1024 * (t.val % 6) + j.val; omega
theorem iblk3 (t : Fin cfg0.N) (k : Fin 2048) (l : Fin 128) : ((iblk m c 3 t : Vec Ideal S2048x128 .bf16) (ix2 k l) : EReal) = vs m c (ix2 k l) := by
  obtain ⟨h0, h1⟩ := wx3 t
  unfold iblk
  rw [View.read_apply]
  refine congrArg (V m c main_v7 : Vec Ideal S2048x128 .bf16) (funext fun a => Fin.ext ?_)
  match a with
  | ⟨0, _⟩ => show win0_3.index t 0 * 2048 + 1 * k.val = k.val; omega
  | ⟨1, _⟩ => show win0_3.index t 1 * 128 + 1 * l.val = l.val; omega

/-- What the outputs' buffers and the scratch memory hold after point `n`. -/
abbrev oN (n : ℕ) (hn : n < cfg0.N) : Vec Ideal S1024x1024 .f32 := (outsAt0 m c n hn).1
abbrev gN (n : ℕ) (hn : n < cfg0.N) : Vec Ideal S1024x128 .f32 := (outsAt0 m c n hn).2.1
abbrev sN (n : ℕ) (hn : n < cfg0.N) : Vec Ideal S1024x2048 .bf16 := (outsAt0 m c n hn).2.2

theorem sN_first (t : Fin cfg0.N) (h0 : t.val % 6 = 0) : sN m c t.val t.isLt = k0_pay2 (F := Ideal) (iblk m c 0 t) (iblk m c 1 t) := by
  rw [sN, outsAt0_A m c t h0]
  dsimp only [atA]
  rw [sout0_A_0, View.read_writes_junk_eq_canon, rows_first]
theorem gN_first (t : Fin cfg0.N) (h0 : t.val % 6 = 0) : gN m c t.val t.isLt = k0_pay3 (F := Ideal) (iblk m c 0 t) (iblk m c 1 t) (iblk m c 3 t) := by
  rw [gN, outsAt0_A m c t h0]
  dsimp only [atA]
  rw [out0_A_5, View.read_writes_junk_eq_canon, gate_first]
theorem sN_later (t : Fin cfg0.N) (h0 : ¬t.val % 6 = 0) : sN m c t.val t.isLt = sN m c (t.val - 1) (Nat.lt_of_le_of_lt (Nat.sub_le _ _) t.isLt) := by
  rw [sN, outsAt0_B m c t h0]
  rfl
theorem gN_later (t : Fin cfg0.N) (h0 : ¬t.val % 6 = 0) : gN m c t.val t.isLt = gN m c (t.val - 1) (Nat.lt_of_le_of_lt (Nat.sub_le _ _) t.isLt) := by
  rw [gN, outsAt0_B m c t h0]
  rfl
theorem oN_eq (t : Fin cfg0.N) : oN m c t.val t.isLt = k0_pay4 (F := Ideal) (sN m c t.val t.isLt) (iblk m c 2 t) := by
  by_cases h0 : t.val % 6 = 0
  · rw [sN_first m c t h0, oN, outsAt0_A m c t h0]
    dsimp only [atA]
    rw [out0_A_4, View.read_writes_junk_eq_canon, out_first]
  · rw [sN_later m c t h0, oN, outsAt0_B m c t h0]
    dsimp only [atB]
    rw [out0_B_4, View.read_writes_junk_eq_canon, out_later]

/-- The row of a place does not change from a point to the next in a row block. -/
theorem rt_succ (n : ℕ) (hn : n + 1 < cfg0.N) (h0 : ¬(n + 1) % 6 = 0) (r : Fin 1024) : rt ⟨n, Nat.lt_of_succ_lt hn⟩ r = rt ⟨n + 1, hn⟩ r :=
  Fin.ext (by show 1024 * (n / 6) + r.val = 1024 * ((n + 1) / 6) + r.val; omega)
/-- The scratch memory holds the row block's normalised rows at each of its points. -/
theorem sN_apply : ∀ (n : ℕ) (hn : n < cfg0.N) (r : Fin 1024) (k : Fin 2048), (sN m c n hn (ix2 r k) : EReal) = nrm (fun k => vx m c (ix2 (rt ⟨n, hn⟩ r) k)) (fun k => vg m c (ix2 0 k)) k
  | n, hn, r, k => by
    by_cases h0 : n % 6 = 0
    · rw [sN_first m c ⟨n, hn⟩ h0]
      refine (xn_apply _ _ r k).trans ?_
      simp only [iblk0, iblk1]
    · match n, hn, h0 with
      | 0, hn, h0 => exact absurd rfl h0
      | n + 1, hn, h0 =>
        rw [sN_later m c ⟨n + 1, hn⟩ h0]
        refine (sN_apply n (Nat.lt_of_succ_lt hn) r k).trans ?_
        rw [rt_succ n hn h0 r]
/-- The gates' buffer holds the row block's gates at each of its points. -/
theorem gN_apply : ∀ (n : ℕ) (hn : n < cfg0.N) (r : Fin 1024) (l : Fin 128), (gN m c n hn (ix2 r l) : EReal) = ent (fun k => vx m c (ix2 (rt ⟨n, hn⟩ r) k)) (fun k => vg m c (ix2 0 k)) (fun k => vs m c (ix2 k l))
  | n, hn, r, l => by
    by_cases h0 : n % 6 = 0
    · rw [gN_first m c ⟨n, hn⟩ h0]
      refine (side_apply _ _ _ r l).trans ?_
      exact ent_congr (funext fun k => iblk0 m c ⟨n, hn⟩ r k) (funext fun k => iblk1 m c ⟨n, hn⟩ k) (funext fun k => iblk3 m c ⟨n, hn⟩ k l)
    · match n, hn, h0 with
      | 0, hn, h0 => exact absurd rfl h0
      | n + 1, hn, h0 =>
        rw [gN_later m c ⟨n + 1, hn⟩ h0]
        refine (gN_apply n (Nat.lt_of_succ_lt hn) r l).trans ?_
        rw [rt_succ n hn h0 r]

/-- The results before their rows are split between the sequences. -/
def flatP : Vec Ideal S8192x6144 .f32 := fun i => ent (fun k => vx m c (ix2 (i 0) k)) (fun k => vg m c (ix2 0 k)) (fun k => vw m c (ix2 k (i 1)))
def flatG : Vec Ideal S8192x128 .f32 := fun i => ent (fun k => vx m c (ix2 (i 0) k)) (fun k => vg m c (ix2 0 k)) (fun k => vs m c (ix2 k (i 1)))

theorem oN_at (t : Fin cfg0.N) (r : Fin 1024) (j : Fin 1024) : (oN m c t.val t.isLt (ix2 r j) : EReal) = flatP m c (ix2 (rt t r) (ct t j)) := by
  rw [oN_eq, prod_apply]
  show _ = ent (fun k => vx m c (ix2 (rt t r) k)) (fun k => vg m c (ix2 0 k)) (fun k => vw m c (ix2 k (ct t j)))
  unfold ent
  exact Finset.sum_congr rfl fun k _ => congrArg₂ (· * ·) (sN_apply m c t.val t.isLt r k) (iblk2 m c t k j)

theorem finalP : (dats m 0 c).arrAt 4 cfg0.N = flatP m c := by
  refine (dats m 0 c).arrAt_eq_of_covers 4 _ (by decide +kernel) fun t hf y => ?_
  have he : ((cfg0.win 4).blk t).view.emb y = (ix2 (rt t (y 0)) (ct t (y 1)) : S8192x6144.Idx) := funext fun a => Fin.ext (by
    obtain ⟨h0, h1⟩ := wx4 t
    match a with
    | ⟨0, _⟩ => show win0_4.index t 0 * 1024 + 1 * (y 0).val = 1024 * (t.val / 6) + (y 0).val; omega
    | ⟨1, _⟩ => show win0_4.index t 1 * 1024 + 1 * (y 1).val = 1024 * (t.val % 6) + (y 1).val; omega)
  rw [he]
  blk_simp
  rw [after0_4]
  have ey : y = (ix2 (y 0) (y 1) : S1024x1024.Idx) := funext fun a => by
    match a with
    | ⟨0, _⟩ => rfl
    | ⟨1, _⟩ => rfl
  exact (congrArg (oN m c t.val t.isLt) ey).trans (oN_at m c t (y 0) (y 1))
theorem finalG : (dats m 0 c).arrAt 5 cfg0.N = flatG m c := by
  refine (dats m 0 c).arrAt_eq_of_covers 5 _ (by decide +kernel) fun t hf y => ?_
  have he : ((cfg0.win 5).blk t).view.emb y = (ix2 (rt t (y 0)) (y 1) : S8192x128.Idx) := funext fun a => Fin.ext (by
    obtain ⟨h0, h1⟩ := wx5 t
    match a with
    | ⟨0, _⟩ => show win0_5.index t 0 * 1024 + 1 * (y 0).val = 1024 * (t.val / 6) + (y 0).val; omega
    | ⟨1, _⟩ => show win0_5.index t 1 * 128 + 1 * (y 1).val = (y 1).val; omega)
  rw [he]
  blk_simp
  rw [after0_5]
  have ey : y = (ix2 (y 0) (y 1) : S1024x128.Idx) := funext fun a => by
    match a with
    | ⟨0, _⟩ => rfl
    | ⟨1, _⟩ => rfl
  exact (congrArg (gN m c t.val t.isLt) ey).trans (gN_apply m c t.val t.isLt (y 0) (y 1))

theorem V_v0 : (V m c main_v0 : Vec Ideal S8192x2048 .f32) = shapeCast S8192x2048 (a0 m c) shapeCasts_S2x4096x2048_S8192x2048 := by
  simp only [V, V0, hostOps0, List.flatten_cons, List.flatten_nil, List.append_nil, List.cons_append, List.nil_append]
  after_results
  rfl
theorem V_v2 : (V m c main_v2 : Vec Ideal S2048x6144 .bf16) = (truncf (F := Ideal) .bf16 (extractStridedSlice S2048x6144 ![0, 0] (a2 m c) slices_S2048x6160_S2048x6144_0_0 : Vec Ideal S2048x6144 .f32) bitsLt_bf16_f32 : Vec Ideal S2048x6144 .bf16) := by
  simp only [V, V0, hostOps0, List.flatten_cons, List.flatten_nil, List.append_nil, List.cons_append, List.nil_append]
  after_results
theorem V_v7 : (V m c main_v7 : Vec Ideal S2048x128 .bf16) = Host.scatter scatter_S2048x128_S1_S2048x16_01_n_1_0 (fun _ b => b) (broadcastInDim S2048x128 ![] bcast_S_S2048x128 (constant (F := Ideal) S_ .bf16 0x0000#16 : Vec Ideal S_ .bf16)) (broadcastInDim S1 ![] bcast_S_S1 (constantI S_ 32 0#32)) (truncf (F := Ideal) .bf16 (extractStridedSlice S2048x16 ![0, 6144] (a2 m c) slices_S2048x6160_S2048x16_0_6144 : Vec Ideal S2048x16 .f32) bitsLt_bf16_f32 : Vec Ideal S2048x16 .bf16) := by
  simp only [V, V0, hostOps0, List.flatten_cons, List.flatten_nil, List.append_nil, List.cons_append, List.nil_append]
  after_results
theorem V_v8 : (V m c main_v8 : Vec Ideal S1x2048 .f32) = shapeCast S1x2048 (a1 m c) shapeCasts_S2048_S1x2048 := by
  simp only [V, V0, hostOps0, List.flatten_cons, List.flatten_nil, List.append_nil, List.cons_append, List.nil_append]
  after_results
  rfl

theorem vw_at (k : Fin 2048) (j : Fin 6144) : vw m c (ix2 k j) = a2 m c (ix2 k (pc j)) := by
  unfold vw
  rw [V_v2]
  refine congrArg (a2 m c) (funext fun a => Fin.ext ?_)
  match a with
  | ⟨0, _⟩ => show 0 + k.val = k.val; omega
  | ⟨1, _⟩ => show 0 + j.val = j.val; omega
/-- Entry `(k, h)` of the gates' columns lands in the same place of the wide array. -/
theorem lands (idx : IVec S1 32) (hz : ∀ i, idx i = 0#32) (k : Fin 2048) (h : Fin 16) (k' : Fin 2048) (l : Fin 128) :
    scatter_S2048x128_S1_S2048x16_01_n_1_0.resultIdx? (ix2 k h) idx = some (ix2 k' l) ↔ k.val = k'.val ∧ h.val = l.val := by
  have hw0 : scatter_S2048x128_S1_S2048x16_01_n_1_0.window (ix2 k h) 0 = k.val := rfl
  have hw1 : scatter_S2048x128_S1_S2048x16_01_n_1_0.window (ix2 k h) 1 = h.val := rfl
  have hs0 : scatter_S2048x128_S1_S2048x16_01_n_1_0.start (ix2 k h) idx 0 = 0 := rfl
  have hs1 : scatter_S2048x128_S1_S2048x16_01_n_1_0.start (ix2 k h) idx 1 = 0 := by
    have e : ∃ i, scatter_S2048x128_S1_S2048x16_01_n_1_0.start (ix2 k h) idx 1 = (idx i).toInt := ⟨_, rfl⟩
    obtain ⟨i, e⟩ := e
    rw [e, hz]
    rfl
  refine (Routing.resultIdx?_ix2 (R := 2048) (C := 128) scatter_S2048x128_S1_S2048x16_01_n_1_0 (ix2 k h) idx k' l).trans ?_
  rw [hs0, hs1, hw0, hw1]
  omega
theorem vs_at (k : Fin 2048) (h : Fin 16) : vs m c (ix2 k ⟨h.val, by omega⟩) = a2 m c (ix2 k (gc h)) := by
  unfold vs
  rw [V_v7]
  refine Routing.scatter_set_hit _ _ _ _ _ (a2 m c (ix2 k (gc h))) (fun k' hk' => ?_) (ix2 k h) ((lands _ (fun _ => rfl) k h _ _).2 ⟨rfl, rfl⟩)
  obtain ⟨x, y, rfl⟩ : ∃ x y, k' = (ix2 x y : S2048x16.Idx) := ⟨k' 0, k' 1, funext fun a => by
    match a with
    | ⟨0, _⟩ => rfl
    | ⟨1, _⟩ => rfl⟩
  obtain ⟨e1, e2⟩ := (lands _ (fun _ => rfl) x y _ _).1 hk'
  obtain rfl : x = k := Fin.ext e1
  obtain rfl : y = h := Fin.ext e2
  refine congrArg (a2 m c) (funext fun a => Fin.ext ?_)
  match a with
  | ⟨0, _⟩ => show 0 + x.val = x.val; omega
  | ⟨1, _⟩ => show 6144 + y.val = 6144 + y.val; rfl
theorem vx_at (b : Fin 2) (t : Fin 4096) (j : Fin 2048) : vx m c (ix2 (rowOf b t) j) = a0 m c (ix3 b t j) := by
  unfold vx
  rw [V_v0]
  refine shapeCast_apply _ _ _ _ ?_
  rw [Shape.rowMajor_val_two, Shape.rowMajor_val_three]
  show (b.val * 4096 + t.val) * 2048 + j.val = (4096 * b.val + t.val) * 2048 + j.val
  omega
theorem vg_at (k : Fin 2048) : vg m c (ix2 0 k) = a1 m c (ix1 k) := by
  unfold vg
  rw [V_v8]
  refine shapeCast_apply _ _ _ _ ?_
  rw [Shape.rowMajor_val_two, Shape.rowMajor_val_one]
  show k.val = 0 * 2048 + k.val
  omega

theorem flatP_at (b : Fin 2) (t : Fin 4096) (j : Fin 6144) : (flatP m c (ix2 (rowOf b t) j) : EReal) = resP (a0 m c) (a1 m c) (a2 m c) (ix3 b t j) :=
  ent_congr (funext fun k => vx_at m c b t k) (funext fun k => vg_at m c k) (funext fun k => vw_at m c k j)
theorem flatG_at (b : Fin 2) (t : Fin 4096) (h : Fin 16) : (flatG m c (ix2 (rowOf b t) ⟨h.val, by omega⟩) : EReal) = resG (a0 m c) (a1 m c) (a2 m c) (ix3 b t h) :=
  ent_congr (funext fun k => vx_at m c b t k) (funext fun k => vg_at m c k) (funext fun k => vs_at m c k h)

/-- The result arrays. -/
theorem tailP : (Pipeline.afterTail₀ cfgs (dats m) 0 (V0 m) [hostOps1] c main_v10 : Vec Ideal S2x4096x6144 .f32) = resP (a0 m c) (a1 m c) (a2 m c) := by
  have e : (Pipeline.afterTail₀ cfgs (dats m) 0 (V0 m) [hostOps1] c main_v10 : Vec Ideal S2x4096x6144 .f32) = shapeCast S2x4096x6144 (flatP m c) shapeCasts_S8192x6144_S2x4096x6144 := by
    unfold Pipeline.afterTail₀
    simp only [hostOps1, List.flatten_cons, List.flatten_nil, List.append_nil]
    after_results
    exact congrArg (fun x => shapeCast S2x4096x6144 x shapeCasts_S8192x6144_S2x4096x6144) ((Pipeline.withArrays_arr spec0 winFacts0.arr_inj c (V0 m c) _ 4).trans (finalP m c))
  rw [e]
  funext i
  obtain ⟨b, t, j, rfl⟩ : ∃ b t j, i = (ix3 b t j : S2x4096x6144.Idx) := ⟨i 0, i 1, i 2, funext fun a => by
    match a with
    | ⟨0, _⟩ => rfl
    | ⟨1, _⟩ => rfl
    | ⟨2, _⟩ => rfl⟩
  refine (shapeCast_apply _ _ _ (ix2 (rowOf b t) j) ?_).trans (flatP_at m c b t j)
  rw [Shape.rowMajor_val_two, Shape.rowMajor_val_three]
  show (4096 * b.val + t.val) * 6144 + j.val = (b.val * 4096 + t.val) * 6144 + j.val
  omega
theorem tailG : (Pipeline.afterTail₀ cfgs (dats m) 0 (V0 m) [hostOps1] c main_v12 : Vec Ideal S2x4096x16 .f32) = resG (a0 m c) (a1 m c) (a2 m c) := by
  have e : (Pipeline.afterTail₀ cfgs (dats m) 0 (V0 m) [hostOps1] c main_v12 : Vec Ideal S2x4096x16 .f32) = extractStridedSlice S2x4096x16 ![0, 0, 0] (shapeCast S2x4096x128 (flatG m c) shapeCasts_S8192x128_S2x4096x128 : Vec Ideal S2x4096x128 .f32) slices_S2x4096x128_S2x4096x16_0_0_0 := by
    unfold Pipeline.afterTail₀
    simp only [hostOps1, List.flatten_cons, List.flatten_nil, List.append_nil]
    after_results
    have e2 := (Pipeline.withArrays_arr spec0 winFacts0.arr_inj c (V0 m c) (fun w => (dats m 0 c).arrAt w cfg0.N) 5).trans (finalG m c)
    rw [← e2]
    rfl
  rw [e]
  funext i
  obtain ⟨b, t, h, rfl⟩ : ∃ b t h, i = (ix3 b t h : S2x4096x16.Idx) := ⟨i 0, i 1, i 2, funext fun a => by
    match a with
    | ⟨0, _⟩ => rfl
    | ⟨1, _⟩ => rfl
    | ⟨2, _⟩ => rfl⟩
  refine (extractStridedSlice_apply _ _ _ _ (ix3 b t ⟨h.val, by omega⟩ : S2x4096x128.Idx) (fun a => ?_)).trans ?_
  · match a with
    | ⟨0, _⟩ => exact (Nat.zero_add _).symm
    | ⟨1, _⟩ => exact (Nat.zero_add _).symm
    | ⟨2, _⟩ => exact (Nat.zero_add _).symm
  refine (shapeCast_apply _ _ _ (ix2 (rowOf b t) ⟨h.val, by omega⟩) ?_).trans (flatG_at m c b t h)
  rw [Shape.rowMajor_val_two, Shape.rowMajor_val_three]
  show (4096 * b.val + t.val) * 128 + h.val = (b.val * 4096 + t.val) * 128 + h.val
  omega

/-- After the kernel's run its results are the projection and the gates, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v10) = resP (a0 m c) (a1 m c) (a2 m c)
      ∧ r.2.mem ((c : Thread nD τ).loc main_v12) = resG (a0 m c) (a1 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).2 main_v10 (Pipeline.mem_restRefs_of main_v10 (by decide) (by decide))).trans (tailP m c),
      ((h.1 c).2 main_v12 (Pipeline.mem_restRefs_of main_v12 (by decide) (by decide))).trans (tailG m c), h.2 c⟩)
    (θ_run_and (run_main m ρ) (unchanged m ρ))
end

end Cert.Kernel4Ideal.In
-- ==== Proof.InRef.lean ====
/-
  The input call's reference, entry by entry: the normalised steps times the weights, cut into the projection and the gates.
-/
module

public import proofs.«01_k».proof.Proof.InKer
public import proofs.«01_k».proof.Proof.Gen.Reference4Ideal.Run

@[expose] public section

set_option maxRecDepth 65536

noncomputable section

namespace Cert.Reference4Ideal.In

open Idealize.ShloMosaic Idealize.ShloMosaic.TcCoe Idealize.ShloMosaic.Tactic
open Cert.Reference4Ideal Cert.Reference4Ideal.Gen Cert.Reference4Ideal.Value
open Idealize.SL.Sem
open Cert.Kernel4Ideal.In (nrm ent pc gc resP resG)

/-- The normalised steps, and their product with the weights. -/
def xn (x : Vec Ideal S2x4096x2048 .f32) (g : Vec Ideal S2048 .f32) : FVec Ideal S2x4096x2048 .f32 :=
  mulf (F := Ideal) (mulf (F := Ideal) x (broadcastInDim S2x4096x2048 ![0, 1, 2] bcast_S2x4096x1_S2x4096x2048_0_1_2 (Host.rsqrt (addf (F := Ideal) (Host.divf (broadcastInDim S2x4096x1 ![0, 1] bcast_S2x4096_S2x4096x1_0_1 (Host.reduceAdd (F := Ideal) (mulf (F := Ideal) x x) (constant (F := Ideal) S_ .f32 0x00000000#32) reducesTo_S2x4096x2048_S2x4096_d2 h_S_)) (broadcastInDim S2x4096x1 ![] bcast_S_S2x4096x1 (constant (F := Ideal) S_ .f32 0x45000000#32))) (broadcastInDim S2x4096x1 ![] bcast_S_S2x4096x1 (constant (F := Ideal) S_ .f32 0x358637BD#32)))))) (broadcastInDim S2x4096x2048 ![0, 1, 2] bcast_S1x1x2048_S2x4096x2048_0_1_2 (broadcastInDim S1x1x2048 ![2] bcast_S2048_S1x1x2048_2 g))
def prod (n : FVec Ideal S2x4096x2048 .f32) (w : Vec Ideal S2048x6160 .f32) : FVec Ideal S2x4096x6160 .f32 :=
  Host.dotGeneral (F := Ideal) (φ₂ := .f32) dot_S2x4096x2048_S2048x6160_S2x4096x6160_2_0_01_1_n_n none n w

theorem xn_apply (x : Vec Ideal S2x4096x2048 .f32) (g : Vec Ideal S2048 .f32) (b : Fin 2) (t : Fin 4096) (k : Fin 2048) :
    (xn x g (ix3 b t k) : EReal) = nrm (fun k => x (ix3 b t k)) (fun k => g (ix1 k)) k := by
  unfold xn nrm
  pointwise
theorem prod_apply (n : FVec Ideal S2x4096x2048 .f32) (w : Vec Ideal S2048x6160 .f32) (b : Fin 2) (t : Fin 4096) (J : Fin 6160) :
    (prod n w (ix3 b t J) : EReal) = ∑ k : Fin 2048, (n (ix3 b t k) : EReal) * (w (ix2 k J) : EReal) := by
  unfold prod
  pointwise [dot_S2x4096x2048_S2048x6160_S2x4096x6160_2_0_01_1_n_n]
theorem all_apply (x : Vec Ideal S2x4096x2048 .f32) (g : Vec Ideal S2048 .f32) (w : Vec Ideal S2048x6160 .f32) (b : Fin 2) (t : Fin 4096) (J : Fin 6160) :
    (prod (xn x g) w (ix3 b t J) : EReal) = ent (fun k => x (ix3 b t k)) (fun k => g (ix1 k)) (fun k => w (ix2 k J)) := by
  refine (prod_apply _ w b t J).trans ?_
  unfold ent
  exact Finset.sum_congr rfl fun k _ => congrArg (· * _) (xn_apply x g b t k)

/-- The reference's results are the projection and the gates. -/
theorem refP (x : Vec Ideal S2x4096x2048 .f32) (g : Vec Ideal S2048 .f32) (w : Vec Ideal S2048x6160 .f32) :
    (extractStridedSlice S2x4096x6144 ![0, 0, 0] (prod (xn x g) w) slices_S2x4096x6160_S2x4096x6144_0_0_0 : Vec Ideal S2x4096x6144 .f32) = resP x g w := by
  funext i
  obtain ⟨b, t, j, rfl⟩ : ∃ b t j, i = (ix3 b t j : S2x4096x6144.Idx) := ⟨i 0, i 1, i 2, funext fun a => by
    match a with
    | ⟨0, _⟩ => rfl
    | ⟨1, _⟩ => rfl
    | ⟨2, _⟩ => rfl⟩
  refine (extractStridedSlice_apply _ _ _ _ (ix3 b t (pc j) : S2x4096x6160.Idx) (fun a => ?_)).trans (all_apply x g w b t (pc j))
  match a with
  | ⟨0, _⟩ => exact (Nat.zero_add _).symm
  | ⟨1, _⟩ => exact (Nat.zero_add _).symm
  | ⟨2, _⟩ => exact (Nat.zero_add _).symm
theorem refG (x : Vec Ideal S2x4096x2048 .f32) (g : Vec Ideal S2048 .f32) (w : Vec Ideal S2048x6160 .f32) :
    (extractStridedSlice S2x4096x16 ![0, 0, 6144] (prod (xn x g) w) slices_S2x4096x6160_S2x4096x16_0_0_6144 : Vec Ideal S2x4096x16 .f32) = resG x g w := by
  funext i
  obtain ⟨b, t, h, rfl⟩ : ∃ b t h, i = (ix3 b t h : S2x4096x16.Idx) := ⟨i 0, i 1, i 2, funext fun a => by
    match a with
    | ⟨0, _⟩ => rfl
    | ⟨1, _⟩ => rfl
    | ⟨2, _⟩ => rfl⟩
  refine (extractStridedSlice_apply _ _ _ _ (ix3 b t (gc h) : S2x4096x6160.Idx) (fun a => ?_)).trans (all_apply x g w b t (gc h))
  match a with
  | ⟨0, _⟩ => exact (Nat.zero_add _).symm
  | ⟨1, _⟩ => exact (Nat.zero_add _).symm
  | ⟨2, _⟩ => rfl

section
variable (m : (ℓ : Loc nD τ sig) → Buf (Elt Ideal) ℓ) (c : Dev nD)

abbrev b0 : Vec Ideal S2x4096x2048 .f32 := m ((c : Thread nD τ).loc main_arg0)
abbrev b1 : Vec Ideal S2048 .f32 := m ((c : Thread nD τ).loc main_arg1)
abbrev b2 : Vec Ideal S2048x6160 .f32 := m ((c : Thread nD τ).loc main_arg2)

/-- After the reference's run its results are the projection and the gates. -/
theorem run (ρ : Dev nD → PrngReg) : θ_run defs (onTc (τ := τ) (main (F := Ideal))) ⟨m, fun _ => 0, ρ⟩ fun r => ∀ c : Dev nD,
      r.2.mem ((c : Thread nD τ).loc main_v14) = resP (b0 m c) (b1 m c) (b2 m c)
      ∧ r.2.mem ((c : Thread nD τ).loc main_v15) = resG (b0 m c) (b1 m c) (b2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (refP (b0 m c) (b1 m c) (b2 m c)), (h c).2.1.trans (refG (b0 m c) (b1 m c) (b2 m c)), (h c).2.2⟩)
    (Cert.Reference4Ideal.Value.run m ρ)
end

end Cert.Reference4Ideal.In
-- ==== Proof.MixOut.lean ====
/-
  The product that ends a mixer, with its residual: the kernel adds to each block of the residual the product of a block of
  rows with a block of columns.
-/
module

public import proofs.«01_k».proof.Proof.Gen.Kernel5Ideal.Frame
public import proofs.«01_k».proof.Proof.Gen.Reference5Ideal.Run
public import Idealize.ShloMosaic.Lib.Pipeline.Value
public import Idealize.ShloMosaic.Lib.Pipeline.ValueKit
public import Idealize.ShloMosaic.Lib.Pointwise
public import Idealize.ShloMosaic.Lib.KernelVsHost
public import Idealize.ShloMosaic.Lib.Routing.OpsPair
public import Idealize.ShloMosaic.Lib.Routing.OpsOne

@[expose] public section

set_option maxRecDepth 65536

noncomputable section

namespace Cert.Kernel5Ideal.MixOut

open Idealize.ShloMosaic Idealize.ShloMosaic.TcCoe Idealize.ShloMosaic.Tactic
open Cert.Kernel5Ideal Cert.Kernel5Ideal.Gen Idealize.SL.Sem

/-- Step `t` of sequence `b` among the rows of both. -/
def rowOf (b : Fin 2) (t : Fin 4096) : Fin 8192 := ⟨4096 * b.val + t.val, by omega⟩

/-- The mixer's outputs times the weights, with the residual. -/
def res (a : Vec Ideal S2x4096x2048 .bf16) (w : Vec Ideal S2048x2048 .f32) (x : Vec Ideal S2x4096x2048 .f32) : Vec Ideal S2x4096x2048 .f32 :=
  fun i => (x i : EReal) + ∑ k : Fin 2048, (a (ix3 (i 0) (i 1) k) : EReal) * (w (ix2 k (i 2)) : EReal)

section
variable (m : (ℓ : Loc nD τ sig) → Buf (Elt Ideal) ℓ) (c : Dev nD)

theorem lt16 (t : Fin cfg0.N) : t.val < 16 := t.isLt

theorem wx0 : ∀ t : Fin cfg0.N, win0_0.index t 0 = t.val / 2 ∧ win0_0.index t 1 = 0 := by decide +kernel
theorem wx1 : ∀ t : Fin cfg0.N, win0_1.index t 0 = 0 ∧ win0_1.index t 1 = t.val % 2 := by decide +kernel
theorem wx2 : ∀ t : Fin cfg0.N, win0_2.index t 0 = t.val / 2 ∧ win0_2.index t 1 = t.val % 2 := by decide +kernel
theorem wx3 : ∀ t : Fin cfg0.N, win0_3.index t 0 = t.val / 2 ∧ win0_3.index t 1 = t.val % 2 := by decide +kernel

/-- Row and column of a place in point `t`'s block. -/
def rt (t : Fin cfg0.N) (r : Fin 1024) : Fin 8192 := ⟨1024 * (t.val / 2) + r.val, by have := lt16 t; omega⟩
def ct (t : Fin cfg0.N) (j : Fin 1024) : Fin 2048 := ⟨1024 * (t.val % 2) + j.val, by omega⟩

/-- The arguments. -/
abbrev a0 : Vec Ideal S2x4096x2048 .bf16 := m ((c : Thread nD τ).loc main_arg0)
abbrev a1 : Vec Ideal S2048x2048 .f32 := m ((c : Thread nD τ).loc main_arg1)
abbrev a2 : Vec Ideal S2x4096x2048 .f32 := m ((c : Thread nD τ).loc main_arg2)
/-- The arrays the region reads. -/
abbrev va : S8192x2048.Idx → EReal := (V m c main_v1 : Vec Ideal S8192x2048 .bf16)
abbrev vw : S2048x2048.Idx → EReal := (V m c main_v0 : Vec Ideal S2048x2048 .bf16)
abbrev vx : S8192x2048.Idx → EReal := (V m c main_v2 : Vec Ideal S8192x2048 .f32)

theorem iblk0 (t : Fin cfg0.N) (r : Fin 1024) (k : Fin 2048) : ((iblk m c 0 t : Vec Ideal S1024x2048 .bf16) (ix2 r k) : EReal) = va m c (ix2 (rt t r) k) := by
  obtain ⟨h0, h1⟩ := wx0 t
  unfold iblk
  rw [View.read_apply]
  refine congrArg (V m c main_v1 : Vec Ideal S8192x2048 .bf16) (funext fun a => Fin.ext ?_)
  match a with
  | ⟨0, _⟩ => show win0_0.index t 0 * 1024 + 1 * r.val = 1024 * (t.val / 2) + r.val; omega
  | ⟨1, _⟩ => show win0_0.index t 1 * 2048 + 1 * k.val = k.val; omega
theorem iblk1 (t : Fin cfg0.N) (k : Fin 2048) (j : Fin 1024) : ((iblk m c 1 t : Vec Ideal S2048x1024 .bf16) (ix2 k j) : EReal) = vw m c (ix2 k (ct t j)) := by
  obtain ⟨h0, h1⟩ := wx1 t
  unfold iblk
  rw [View.read_apply]
  refine congrArg (V m c main_v0 : Vec Ideal S2048x2048 .bf16) (funext fun a => Fin.ext ?_)
  match a with
  | ⟨0, _⟩ => show win0_1.index t 0 * 2048 + 1 * k.val = k.val; omega
  | ⟨1, _⟩ => show win0_1.index t 1 * 1024 + 1 * j.val = 1024 * (t.val % 2) + j.val; omega
theorem iblk2 (t : Fin cfg0.N) (r : Fin 1024) (j : Fin 1024) : ((iblk m c 2 t : Vec Ideal S1024x1024 .f32) (ix2 r j) : EReal) = vx m c (ix2 (rt t r) (ct t j)) := by
  obtain ⟨h0, h1⟩ := wx2 t
  unfold iblk
  rw [View.read_apply]
  refine congrArg (V m c main_v2 : Vec Ideal S8192x2048 .f32) (funext fun a => Fin.ext ?_)
  match a with
  | ⟨0, _⟩ => show win0_2.index t 0 * 1024 + 1 * r.val = 1024 * (t.val / 2) + r.val; omega
  | ⟨1, _⟩ => show win0_2.index t 1 * 1024 + 1 * j.val = 1024 * (t.val % 2) + j.val; omega

theorem V_v0 : (V m c main_v0 : Vec Ideal S2048x2048 .bf16) = (truncf (F := Ideal) .bf16 (a1 m c) bitsLt_bf16_f32 : Vec Ideal S2048x2048 .bf16) := by
  simp only [V, V0, hostOps0, List.flatten_cons, List.flatten_nil, List.append_nil, List.cons_append, List.nil_append]
  after_results
theorem V_v1 : (V m c main_v1 : Vec Ideal S8192x2048 .bf16) = shapeCast S8192x2048 (a0 m c) shapeCasts_S2x4096x2048_S8192x2048 := by
  simp only [V, V0, hostOps0, List.flatten_cons, List.flatten_nil, List.append_nil, List.cons_append, List.nil_append]
  after_results
  rfl
theorem V_v2 : (V m c main_v2 : Vec Ideal S8192x2048 .f32) = shapeCast S8192x2048 (a2 m c) shapeCasts_S2x4096x2048_S8192x2048 := by
  simp only [V, V0, hostOps0, List.flatten_cons, List.flatten_nil, List.append_nil, List.cons_append, List.nil_append]
  after_results
  rfl

theorem vw_at (k : Fin 2048) (j : Fin 2048) : vw m c (ix2 k j) = a1 m c (ix2 k j) := by
  unfold vw
  rw [V_v0]
  rfl
theorem va_at (b : Fin 2) (t : Fin 4096) (j : Fin 2048) : va m c (ix2 (rowOf b t) j) = a0 m c (ix3 b t j) := by
  unfold va
  rw [V_v1]
  refine shapeCast_apply _ _ _ _ ?_
  rw [Shape.rowMajor_val_two, Shape.rowMajor_val_three]
  show (b.val * 4096 + t.val) * 2048 + j.val = (4096 * b.val + t.val) * 2048 + j.val
  omega
theorem vx_at (b : Fin 2) (t : Fin 4096) (j : Fin 2048) : vx m c (ix2 (rowOf b t) j) = a2 m c (ix3 b t j) := by
  unfold vx
  rw [V_v2]
  refine shapeCast_apply _ _ _ _ ?_
  rw [Shape.rowMajor_val_two, Shape.rowMajor_val_three]
  show (b.val * 4096 + t.val) * 2048 + j.val = (4096 * b.val + t.val) * 2048 + j.val
  omega

theorem z2 : (![0, 0] : Fin 2 → ℕ) = fun _ => 0 := funext fun a => by fin_cases a <;> rfl

/-- What a point leaves in the output's buffer. -/
theorem out_apply (x0 : Vec Ideal S1024x2048 .bf16) (x1 : Vec Ideal S2048x1024 .bf16) (x2 : Vec Ideal S1024x1024 .f32) (r : Fin 1024) (j : Fin 1024) :
    (out0_3 (F := Ideal) x0 x1 x2 (ix2 r j) : EReal) = x2 (ix2 r j) + ∑ k : Fin 2048, (x0 (ix2 r k) : EReal) * x1 (ix2 k j) := by
  unfold out0_3
  rw [View.canon_unit_zero (S := S1024x1024) z2]
  simp only [View.ld_unit_zero (S := S1024x1024) z2, View.ld_unit_zero (S := S1024x2048) z2, View.ld_unit_zero (S := S2048x1024) z2]
  unfold k0_pay1
  pointwise [dot_S1024x2048_S2048x1024_S1024x1024_1_0_0_1_n_n]

/-- The result before its rows are split between the sequences. -/
def flat : Vec Ideal S8192x2048 .f32 := fun i =>
  vx m c i + ∑ k : Fin 2048, va m c (ix2 (i 0) k) * vw m c (ix2 k (i 1))

/-- What a point leaves, in terms of the arrays. -/
theorem out_at (t : Fin cfg0.N) (r : Fin 1024) (j : Fin 1024) :
    (out0_3 (F := Ideal) (iblk m c 0 t) (iblk m c 1 t) (iblk m c 2 t) (ix2 r j) : EReal) = flat m c (ix2 (rt t r) (ct t j)) := by
  rw [out_apply, iblk2]
  exact congrArg (vx m c (ix2 (rt t r) (ct t j)) + ·) (Finset.sum_congr rfl fun k _ => congrArg₂ (· * ·) (iblk0 m c t r k) (iblk1 m c t k j))

theorem final : (dats m 0 c).arrAt 3 cfg0.N = flat m c := by
  refine (dats m 0 c).arrAt_eq_of_covers 3 _ (by decide +kernel) fun t hf y => ?_
  have he : ((cfg0.win 3).blk t).view.emb y = (ix2 (rt t (y 0)) (ct t (y 1)) : S8192x2048.Idx) := funext fun a => Fin.ext (by
    obtain ⟨h0, h1⟩ := wx3 t
    match a with
    | ⟨0, _⟩ => show win0_3.index t 0 * 1024 + 1 * (y 0).val = 1024 * (t.val / 2) + (y 0).val; omega
    | ⟨1, _⟩ => show win0_3.index t 1 * 1024 + 1 * (y 1).val = 1024 * (t.val % 2) + (y 1).val; omega)
  rw [he]
  blk_simp
  rw [after0_3]
  have ey : y = (ix2 (y 0) (y 1) : S1024x1024.Idx) := funext fun a => by
    match a with
    | ⟨0, _⟩ => rfl
    | ⟨1, _⟩ => rfl
  exact (congrArg (out0_3 (F := Ideal) (iblk m c 0 t) (iblk m c 1 t) (iblk m c 2 t)) ey).trans (out_at m c t (y 0) (y 1))

theorem flat_at (b : Fin 2) (t : Fin 4096) (j : Fin 2048) : (flat m c (ix2 (rowOf b t) j) : EReal) = res (a0 m c) (a1 m c) (a2 m c) (ix3 b t j) :=
  congrArg₂ (· + ·) (vx_at m c b t j) (Finset.sum_congr rfl fun k _ => congrArg₂ (· * ·) (va_at m c b t k) (vw_at m c k j))

/-- The result array. -/
theorem tail : (Pipeline.afterTail₀ cfgs (dats m) 0 (V0 m) [hostOps1] c main_v4 : Vec Ideal S2x4096x2048 .f32) = res (a0 m c) (a1 m c) (a2 m c) := by
  have e : (Pipeline.afterTail₀ cfgs (dats m) 0 (V0 m) [hostOps1] c main_v4 : Vec Ideal S2x4096x2048 .f32) = shapeCast S2x4096x2048 (flat m c) shapeCasts_S8192x2048_S2x4096x2048 := by
    unfold Pipeline.afterTail₀
    simp only [hostOps1, List.flatten_cons, List.flatten_nil, List.append_nil]
    after_results
    exact congrArg (fun x => shapeCast S2x4096x2048 x shapeCasts_S8192x2048_S2x4096x2048) ((Pipeline.withArrays_arr spec0 winFacts0.arr_inj c (V0 m c) _ 3).trans (final m c))
  rw [e]
  funext i
  obtain ⟨b, t, j, rfl⟩ : ∃ b t j, i = (ix3 b t j : S2x4096x2048.Idx) := ⟨i 0, i 1, i 2, funext fun a => by
    match a with
    | ⟨0, _⟩ => rfl
    | ⟨1, _⟩ => rfl
    | ⟨2, _⟩ => rfl⟩
  refine (shapeCast_apply _ _ _ (ix2 (rowOf b t) j) ?_).trans (flat_at m c b t j)
  rw [Shape.rowMajor_val_two, Shape.rowMajor_val_three]
  show (4096 * b.val + t.val) * 2048 + j.val = (b.val * 4096 + t.val) * 2048 + j.val
  omega

/-- After the kernel's run its result is the sum, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v4) = res (a0 m c) (a1 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).2 main_v4 (Pipeline.mem_restRefs_of main_v4 (by decide) (by decide))).trans (tail m c), h.2 c⟩)
    (θ_run_and (run_main m ρ) (unchanged m ρ))
end

end Cert.Kernel5Ideal.MixOut

namespace Cert.Reference5Ideal.MixOut

open Idealize.ShloMosaic Idealize.ShloMosaic.TcCoe Idealize.ShloMosaic.Tactic
open Cert.Reference5Ideal Cert.Reference5Ideal.Gen

/-- The reference's result. -/
theorem ref (a : Vec Ideal S2x4096x2048 .bf16) (w : Vec Ideal S2048x2048 .f32) (x : Vec Ideal S2x4096x2048 .f32) :
    (addf (F := Ideal) x (Host.dotGeneral (F := Ideal) (φ₂ := .f32) dot_S2x4096x2048_S2048x2048_S2x4096x2048_2_0_01_1_n_n none (extf .f32 a bitsLt_bf16_f32) w) : Vec Ideal S2x4096x2048 .f32)
      = Cert.Kernel5Ideal.MixOut.res a w x := by
  funext i
  obtain ⟨b, t, j, rfl⟩ : ∃ b t j, i = (ix3 b t j : S2x4096x2048.Idx) := ⟨i 0, i 1, i 2, funext fun a => by
    match a with
    | ⟨0, _⟩ => rfl
    | ⟨1, _⟩ => rfl
    | ⟨2, _⟩ => rfl⟩
  show _ = (x (ix3 b t j) : EReal) + ∑ k : Fin 2048, (a (ix3 b t k) : EReal) * (w (ix2 k j) : EReal)
  pointwise [dot_S2x4096x2048_S2048x2048_S2x4096x2048_2_0_01_1_n_n]

end Cert.Reference5Ideal.MixOut
-- ==== Proof.QVal.lean ====
/-
  The queries' call, a block: the normalised rows times a block of columns, each head of the product normalised by its own
  root mean square and scaled.
-/
module

public import proofs.«01_k».proof.Proof.Gen.Kernel6Ideal.Frame
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.Routing.OpsPair
public import Idealize.ShloMosaic.Lib.Routing.OpsOne

@[expose] public section

set_option maxRecDepth 65536

noncomputable section

namespace Cert.Kernel6Ideal.Q

open Idealize.ShloMosaic Idealize.ShloMosaic.TcCoe Idealize.ShloMosaic.Tactic
open Cert.Kernel6Ideal Cert.Kernel6Ideal.Gen

/-- The queries of a block: its eight heads side by side. -/
def heads {F : FTy → Type} [FloatOps F] (xn : Vec F S1024x2048 .bf16) (w : Vec F S2048x1024 .bf16) (g : Vec F S1x128 .f32) : FVec F S1024x1024 .f32 :=
  k0_pay1 (k0_pay4 xn w g) (k0_pay6 (k0_pay5 xn w g)) (k0_pay7 (k0_pay3 xn w) g) (k0_pay8 (k0_pay3 xn w) g)
    (k0_pay11 (k0_pay9 (k0_pay3 xn w)) (k0_pay10 (k0_pay3 xn w)) g) (k0_pay12 (k0_pay3 xn w) g) (k0_pay13 (k0_pay3 xn w) g)
    (k0_pay14 (k0_pay3 xn w)) (k0_pay15 (k0_pay3 xn w)) g

section
variable {F : FTy → Type} [FloatOps F] (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x128 .f32) (harg5 : arg5.IsWhole) (arg6 : Memref sig .tc .vmem S1024x1024 .f32) (harg6 : arg6.IsWhole) (arg7 : Memref sig .tc .vmem S1024x2048 .bf16) (harg7 : arg7.IsWhole)
  (x0 : Vec F S1024x2048 .f32) (x1 : Vec F S1x2048 .f32) (x2 : Vec F S2048x1024 .bf16) (x3 : Vec F S1x128 .f32)

/-- The whole of a block. -/
abbrev rX : Rect S1024x2048 := Rect.unit ![0, 0] S1024x2048.size inb_S1024x2048_S1024x2048_0_0
abbrev rG : Rect S1x2048 := Rect.unit ![0, 0] S1x2048.size inb_S1x2048_S1x2048_0_0
abbrev rW : Rect S2048x1024 := Rect.unit ![0, 0] S2048x1024.size inb_S2048x1024_S2048x1024_0_0
abbrev rH : Rect S1x128 := Rect.unit ![0, 0] S1x128.size inb_S1x128_S1x128_0_0
abbrev rO : Rect S1024x1024 := Rect.unit ![0, 0] S1024x1024.size inb_S1024x1024_S1024x1024_0_0

theorem piecesA (hc0 : cond0_0 i) : (kernelRun0_A c i arg2 harg2 arg3 harg3 arg4 harg4 arg5 harg5 arg6 harg6 arg7 harg7 hc0 x0 x1 x2 x3).1 =
    [(⟨rO, heads (View.ld (k0_pay2 (View.ld (arg2.view.read (Elt F) (harg2.unread x0)) rX) (View.ld (arg3.view.read (Elt F) (harg3.unread x1)) rG)) rX) (View.ld (arg4.view.read (Elt F) (harg4.unread x2)) rW) (View.ld (arg5.view.read (Elt F) (harg5.unread x3)) rH)⟩ : View.Piece (Elt F) S1024x1024 .f32)] := by
  unfold kernelRun0_A
  dsimp only
  refine congrArg₂ List.cons (Sigma.ext rfl (heq_of_eq ?_)) rfl
  sl_unfold_words
  sl_unfold_words
  simp (disch := decide) only [↓ View.readCov_skip, ↓ View.readCov_fill]
  rfl
theorem piecesA_s (hc0 : cond0_0 i) : (kernelRun0_A c i arg2 harg2 arg3 harg3 arg4 harg4 arg5 harg5 arg6 harg6 arg7 harg7 hc0 x0 x1 x2 x3).2.1 =
    [(⟨rX, k0_pay2 (View.ld (arg2.view.read (Elt F) (harg2.unread x0)) rX) (View.ld (arg3.view.read (Elt F) (harg3.unread x1)) rG)⟩ : View.Piece (Elt F) S1024x2048 .bf16)] := by
  unfold kernelRun0_A
  dsimp only
  refine congrArg₂ List.cons (Sigma.ext rfl (heq_of_eq ?_)) rfl
  sl_unfold_words
  rfl
theorem piecesB (hc0 : ¬cond0_0 i) (xs0 : Vec F S1024x2048 .bf16) : (kernelRun0_B c i arg2 harg2 arg3 harg3 arg4 harg4 arg5 harg5 arg6 harg6 arg7 harg7 hc0 x0 x1 x2 x3 xs0).1 =
    [(⟨rO, heads (View.ld (arg7.view.read (Elt F) (harg7.unread xs0)) rX) (View.ld (arg4.view.read (Elt F) (harg4.unread x2)) rW) (View.ld (arg5.view.read (Elt F) (harg5.unread x3)) rH)⟩ : View.Piece (Elt F) S1024x1024 .f32)] := by
  unfold kernelRun0_B
  dsimp only
  refine congrArg₂ List.cons (Sigma.ext rfl (heq_of_eq ?_)) rfl
  sl_unfold_words
  sl_unfold_words
  rfl
end

/-- A row divided by its root mean square, times the gain. -/
def nrm (f g : Fin 2048 → EReal) (k : Fin 2048) : EReal :=
  f k * Ideal.rsqrt (Ideal.div (∑ x, f x * f x) (Ideal.ofBits FTy.f32 1157627904#32) + Ideal.ofBits FTy.f32 897988541#32) * g k
/-- A head's row divided by its root mean square, times the gain and the scale. -/
def hnrm (f g : Fin 128 → EReal) (l : Fin 128) : EReal :=
  f l * Ideal.rsqrt (Ideal.div (∑ x, f x * f x) (Ideal.ofBits FTy.f32 1124073472#32) + Ideal.ofBits FTy.f32 897988541#32) * g l * Ideal.ofBits FTy.f32 1035273459#32
/-- Column `l` of head `h` in a block. -/
def col (h : Fin 8) (l : Fin 128) : Fin 1024 := ⟨128 * h.val + l.val, by omega⟩

theorem xn_apply (x : Vec Ideal S1024x2048 .f32) (g : Vec Ideal S1x2048 .f32) (r : Fin 1024) (k : Fin 2048) :
    (k0_pay2 (F := Ideal) x g (ix2 r k) : EReal) = nrm (fun k => x (ix2 r k)) (fun k => g (ix2 0 k)) k := by
  unfold k0_pay2 nrm
  pointwise
theorem prod_apply (xn : Vec Ideal S1024x2048 .bf16) (w : Vec Ideal S2048x1024 .bf16) (r : Fin 1024) (j : Fin 1024) :
    (k0_pay3 (F := Ideal) xn w (ix2 r j) : EReal) = ∑ x : Fin 2048, (xn (ix2 r x) : EReal) * (w (ix2 x j) : EReal) := by
  unfold k0_pay3
  pointwise [dot_S1024x2048_S2048x1024_S1024x1024_1_0_0_1_n_n]

/-- A head's entry from its columns, however these are written. -/
theorem head_of (v : Fin 1024 → EReal) (g : Fin 128 → EReal) (h : Fin 8) (l : Fin 128) (e : Fin 1024) (p : Fin 128 → Fin 1024) (q : Fin 128)
    (he : e.val = 128 * h.val + l.val) (hp : ∀ x, (p x).val = 128 * h.val + x.val) (hq : q.val = l.val) :
    v e * Ideal.rsqrt (Ideal.div (∑ x, v (p x) * v (p x)) (Ideal.ofBits FTy.f32 1124073472#32) + Ideal.ofBits FTy.f32 897988541#32) * g q * Ideal.ofBits FTy.f32 1035273459#32 =
      hnrm (fun l => v (col h l)) g l := by
  obtain rfl : e = col h l := Fin.ext he
  obtain rfl : p = col h := funext fun x => Fin.ext (hp x)
  obtain rfl : q = l := Fin.ext hq
  rfl

theorem heads_apply (xn : Vec Ideal S1024x2048 .bf16) (w : Vec Ideal S2048x1024 .bf16) (g : Vec Ideal S1x128 .f32) (r : Fin 1024) (h : Fin 8) (l : Fin 128) :
    (heads (F := Ideal) xn w g (ix2 r (col h l)) : EReal) = hnrm (fun l => k0_pay3 (F := Ideal) xn w (ix2 r (col h l))) (fun l => g (ix2 0 l)) l := by
  unfold heads k0_pay1 k0_pay4 k0_pay5
  generalize k0_pay3 (F := Ideal) xn w = v
  unfold k0_pay6 k0_pay7 k0_pay8 k0_pay11 k0_pay10 k0_pay9 k0_pay12 k0_pay13 k0_pay15 k0_pay14
  pointwise
  have hc : (col h l).val = 128 * h.val + l.val := rfl
  have hl := l.isLt
  have hh := h.isLt
  split_ifs
  all_goals
    refine head_of (fun j => v (ix2 r j)) (fun l => g (ix2 0 l)) h l _ _ _ ?_ (fun x => ?_) ?_
    all_goals first | omega | (dsimp only; omega)

end Cert.Kernel6Ideal.Q
-- ==== Proof.QKer.lean ====
/-
  The queries' call: its result is the heads of the normalised rows' product with the weights, each normalised by its own
  root mean square and scaled.
-/
module

public import proofs.«01_k».proof.Proof.QVal

@[expose] public section

set_option maxRecDepth 65536

noncomputable section

namespace Cert.Kernel6Ideal.Q

open Idealize.ShloMosaic Idealize.ShloMosaic.TcCoe Idealize.ShloMosaic.Tactic
open Cert.Kernel6Ideal Cert.Kernel6Ideal.Gen Idealize.SL.Sem

theorem z2 : (![0, 0] : Fin 2 → ℕ) = fun _ => 0 := funext fun a => by fin_cases a <;> rfl

section
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x128 .f32) (harg5 : arg5.IsWhole) (arg6 : Memref sig .tc .vmem S1024x1024 .f32) (harg6 : arg6.IsWhole) (arg7 : Memref sig .tc .vmem S1024x2048 .bf16) (harg7 : arg7.IsWhole)
  (x0 : Vec Ideal S1024x2048 .f32) (x1 : Vec Ideal S1x2048 .f32) (x2 : Vec Ideal S2048x1024 .bf16) (x3 : Vec Ideal S1x128 .f32)
theorem out_first (hc0 : cond0_0 i) :
    View.canon (kernelRun0_A (F := Ideal) c i arg2 harg2 arg3 harg3 arg4 harg4 arg5 harg5 arg6 harg6 arg7 harg7 hc0 x0 x1 x2 x3).1 = heads (k0_pay2 x0 x1) x2 x3 := by
  rw [piecesA, View.canon_unit_zero (S := S1024x1024) z2]
  simp only [Memref.IsWhole.read_unread, View.ld_unit_zero (S := S1024x2048) z2, View.ld_unit_zero (S := S1x2048) z2, View.ld_unit_zero (S := S2048x1024) z2, View.ld_unit_zero (S := S1x128) z2]
theorem out_later (hc0 : ¬cond0_0 i) (xs0 : Vec Ideal S1024x2048 .bf16) :
    View.canon (kernelRun0_B (F := Ideal) c i arg2 harg2 arg3 harg3 arg4 harg4 arg5 harg5 arg6 harg6 arg7 harg7 hc0 x0 x1 x2 x3 xs0).1 = heads xs0 x2 x3 := by
  rw [piecesB, View.canon_unit_zero (S := S1024x1024) z2]
  simp only [Memref.IsWhole.read_unread, View.ld_unit_zero (S := S1024x2048) z2, View.ld_unit_zero (S := S2048x1024) z2, View.ld_unit_zero (S := S1x128) z2]
end

/-- Column `l` of head `H` in the result, and step `t` of sequence `b` among the rows of both. -/
def hcol (H : Fin 16) (l : Fin 128) : Fin 2048 := ⟨128 * H.val + l.val, by omega⟩
def rowOf (b : Fin 2) (t : Fin 4096) : Fin 8192 := ⟨4096 * b.val + t.val, by omega⟩
/-- The head of a column and its place in the head. -/
def hd (J : Fin 2048) : Fin 16 := ⟨J.val / 128, by omega⟩
def pl (J : Fin 2048) : Fin 128 := ⟨J.val % 128, by omega⟩
theorem hcol_hd (J : Fin 2048) : hcol (hd J) (pl J) = J := Fin.ext (by show 128 * (J.val / 128) + J.val % 128 = J.val; omega)
theorem hd_hcol (H : Fin 16) (l : Fin 128) : hd (hcol H l) = H := Fin.ext (by show (128 * H.val + l.val) / 128 = H.val; omega)
theorem pl_hcol (H : Fin 16) (l : Fin 128) : pl (hcol H l) = l := Fin.ext (by show (128 * H.val + l.val) % 128 = l.val; omega)

/-- A head's entry from a row, its gain, the weights and the head's gain. -/
def hdE (x g : Fin 2048 → EReal) (w : Fin 2048 → Fin 2048 → EReal) (hg : Fin 128 → EReal) (H : Fin 16) (l : Fin 128) : EReal :=
  hnrm (fun l => ∑ k : Fin 2048, nrm x g k * w k (hcol H l)) hg l
theorem hdE_congr {x x' g g' : Fin 2048 → EReal} {w w' : Fin 2048 → Fin 2048 → EReal} {hg hg' : Fin 128 → EReal} (hx : x = x') (hg₁ : g = g') (hw : w = w') (hh : hg = hg') (H : Fin 16) (l : Fin 128) :
    hdE x g w hg H l = hdE x' g' w' hg' H l := by
  subst hx hg₁ hw hh
  rfl
/-- The queries. -/
def res (x : Vec Ideal S2x4096x2048 .f32) (g : Vec Ideal S2048 .f32) (w : Vec Ideal S2048x2048 .f32) (hg : Vec Ideal S128 .f32) : Vec Ideal S2x4096x2048 .f32 :=
  fun i => hdE (fun k => x (ix3 (i 0) (i 1) k)) (fun k => g (ix1 k)) (fun k j => w (ix2 k j)) (fun l => hg (ix1 l)) (hd (i 2)) (pl (i 2))

section
variable (m : (ℓ : Loc nD τ sig) → Buf (Elt Ideal) ℓ) (c : Dev nD)

theorem lt16 (t : Fin cfg0.N) : t.val < 16 := t.isLt

theorem wx0 : ∀ t : Fin cfg0.N, win0_0.index t 0 = t.val / 2 ∧ win0_0.index t 1 = 0 := by decide +kernel
theorem wx1 : ∀ t : Fin cfg0.N, win0_1.index t 0 = 0 ∧ win0_1.index t 1 = 0 := by decide +kernel
theorem wx2 : ∀ t : Fin cfg0.N, win0_2.index t 0 = 0 ∧ win0_2.index t 1 = t.val % 2 := by decide +kernel
theorem wx3 : ∀ t : Fin cfg0.N, win0_3.index t 0 = 0 ∧ win0_3.index t 1 = 0 := by decide +kernel
theorem wx4 : ∀ t : Fin cfg0.N, win0_4.index t 0 = t.val / 2 ∧ win0_4.index t 1 = t.val % 2 := by decide +kernel

/-- Row and column of a place in point `t`'s block, and the head of a head there. -/
def rt (t : Fin cfg0.N) (r : Fin 1024) : Fin 8192 := ⟨1024 * (t.val / 2) + r.val, by have := lt16 t; omega⟩
def ct (t : Fin cfg0.N) (j : Fin 1024) : Fin 2048 := ⟨1024 * (t.val % 2) + j.val, by omega⟩
def ht (t : Fin cfg0.N) (h : Fin 8) : Fin 16 := ⟨8 * (t.val % 2) + h.val, by omega⟩
theorem ct_col (t : Fin cfg0.N) (h : Fin 8) (l : Fin 128) : ct t (col h l) = hcol (ht t h) l :=
  Fin.ext (by show 1024 * (t.val % 2) + (128 * h.val + l.val) = 128 * (8 * (t.val % 2) + h.val) + l.val; omega)

/-- The arguments. -/
abbrev a0 : Vec Ideal S2x4096x2048 .f32 := m ((c : Thread nD τ).loc main_arg0)
abbrev a1 : Vec Ideal S2048 .f32 := m ((c : Thread nD τ).loc main_arg1)
abbrev a2 : Vec Ideal S2048x2048 .f32 := m ((c : Thread nD τ).loc main_arg2)
abbrev a3 : Vec Ideal S128 .f32 := m ((c : Thread nD τ).loc main_arg3)
/-- The arrays the region reads. -/
abbrev vx : S8192x2048.Idx → EReal := (V m c main_v1 : Vec Ideal S8192x2048 .f32)
abbrev vg : S1x2048.Idx → EReal := (V m c main_v2 : Vec Ideal S1x2048 .f32)
abbrev vw : S2048x2048.Idx → EReal := (V m c main_v0 : Vec Ideal S2048x2048 .bf16)
abbrev vh : S1x128.Idx → EReal := (V m c main_v3 : Vec Ideal S1x128 .f32)

theorem iblk0 (t : Fin cfg0.N) (r : Fin 1024) (k : Fin 2048) : ((iblk m c 0 t : Vec Ideal S1024x2048 .f32) (ix2 r k) : EReal) = vx m c (ix2 (rt t r) k) := by
  obtain ⟨h0, h1⟩ := wx0 t
  unfold iblk
  rw [View.read_apply]
  refine congrArg (V m c main_v1 : Vec Ideal S8192x2048 .f32) (funext fun a => Fin.ext ?_)
  match a with
  | ⟨0, _⟩ => show win0_0.index t 0 * 1024 + 1 * r.val = 1024 * (t.val / 2) + r.val; omega
  | ⟨1, _⟩ => show win0_0.index t 1 * 2048 + 1 * k.val = k.val; omega
theorem iblk1 (t : Fin cfg0.N) (k : Fin 2048) : ((iblk m c 1 t : Vec Ideal S1x2048 .f32) (ix2 0 k) : EReal) = vg m c (ix2 0 k) := by
  obtain ⟨h0, h1⟩ := wx1 t
  unfold iblk
  rw [View.read_apply]
  refine congrArg (V m c main_v2 : Vec Ideal S1x2048 .f32) (funext fun a => Fin.ext ?_)
  match a with
  | ⟨0, _⟩ => show win0_1.index t 0 * 1 + 1 * 0 = 0; omega
  | ⟨1, _⟩ => show win0_1.index t 1 * 2048 + 1 * k.val = k.val; omega
theorem iblk2 (t : Fin cfg0.N) (k : Fin 2048) (j : Fin 1024) : ((iblk m c 2 t : Vec Ideal S2048x1024 .bf16) (ix2 k j) : EReal) = vw m c (ix2 k (ct t j)) := by
  obtain ⟨h0, h1⟩ := wx2 t
  unfold iblk
  rw [View.read_apply]
  refine congrArg (V m c main_v0 : Vec Ideal S2048x2048 .bf16) (funext fun a => Fin.ext ?_)
  match a with
  | ⟨0, _⟩ => show win0_2.index t 0 * 2048 + 1 * k.val = k.val; omega
  | ⟨1, _⟩ => show win0_2.index t 1 * 1024 + 1 * j.val = 1024 * (t.val % 2) + j.val; omega
theorem iblk3 (t : Fin cfg0.N) (l : Fin 128) : ((iblk m c 3 t : Vec Ideal S1x128 .f32) (ix2 0 l) : EReal) = vh m c (ix2 0 l) := by
  obtain ⟨h0, h1⟩ := wx3 t
  unfold iblk
  rw [View.read_apply]
  refine congrArg (V m c main_v3 : Vec Ideal S1x128 .f32) (funext fun a => Fin.ext ?_)
  match a with
  | ⟨0, _⟩ => show win0_3.index t 0 * 1 + 1 * 0 = 0; omega
  | ⟨1, _⟩ => show win0_3.index t 1 * 128 + 1 * l.val = l.val; omega

/-- What the output's buffer and the scratch memory hold after point `n`. -/
abbrev oA (n : ℕ) (hn : n < cfg0.N) : Vec Ideal S1024x1024 .f32 := (outsAt0 m c n hn).1
abbrev sN (n : ℕ) (hn : n < cfg0.N) : Vec Ideal S1024x2048 .bf16 := (outsAt0 m c n hn).2

theorem sN_first (t : Fin cfg0.N) (h0 : t.val % 2 = 0) : sN m c t.val t.isLt = k0_pay2 (F := Ideal) (iblk m c 0 t) (iblk m c 1 t) := by
  rw [sN, outsAt0_A m c t h0]
  dsimp only
  rw [sout0_A_0, View.read_writes_junk_eq_canon, piecesA_s, View.canon_unit_zero (S := S1024x2048) z2]
  simp only [Memref.IsWhole.read_unread, View.ld_unit_zero (S := S1024x2048) z2, View.ld_unit_zero (S := S1x2048) z2]
theorem sN_later (t : Fin cfg0.N) (h0 : ¬t.val % 2 = 0) : sN m c t.val t.isLt = sN m c (t.val - 1) (Nat.lt_of_le_of_lt (Nat.sub_le _ _) t.isLt) := by
  rw [sN, outsAt0_B m c t h0]
  rfl
theorem oA_eq (t : Fin cfg0.N) : oA m c t.val t.isLt = heads (F := Ideal) (sN m c t.val t.isLt) (iblk m c 2 t) (iblk m c 3 t) := by
  by_cases h0 : t.val % 2 = 0
  · rw [sN_first m c t h0, oA, outsAt0_A m c t h0]
    dsimp only
    rw [out0_A_4, View.read_writes_junk_eq_canon, out_first]
  · rw [sN_later m c t h0, oA, outsAt0_B m c t h0]
    dsimp only
    rw [out0_B_4, View.read_writes_junk_eq_canon, out_later]

/-- The scratch memory holds the row block's normalised rows at each of its points. -/
theorem sN_apply : ∀ (n : ℕ) (hn : n < cfg0.N) (r : Fin 1024) (k : Fin 2048), (sN m c n hn (ix2 r k) : EReal) = nrm (fun k => vx m c (ix2 (rt ⟨n, hn⟩ r) k)) (fun k => vg m c (ix2 0 k)) k
  | n, hn, r, k => by
    by_cases h0 : n % 2 = 0
    · rw [sN_first m c ⟨n, hn⟩ h0]
      refine (xn_apply _ _ r k).trans ?_
      simp only [iblk0, iblk1]
    · match n, hn, h0 with
      | 0, hn, h0 => exact absurd rfl h0
      | n + 1, hn, h0 =>
        rw [sN_later m c ⟨n + 1, hn⟩ h0]
        refine (sN_apply n (Nat.lt_of_succ_lt hn) r k).trans ?_
        rw [show rt ⟨n, Nat.lt_of_succ_lt hn⟩ r = rt ⟨n + 1, hn⟩ r from Fin.ext (by show 1024 * (n / 2) + r.val = 1024 * ((n + 1) / 2) + r.val; omega)]

/-- The result before its rows are split between the sequences. -/
def flat : Vec Ideal S8192x2048 .f32 := fun i =>
  hdE (fun k => vx m c (ix2 (i 0) k)) (fun k => vg m c (ix2 0 k)) (fun k j => vw m c (ix2 k j)) (fun l => vh m c (ix2 0 l)) (hd (i 1)) (pl (i 1))

theorem oA_at (t : Fin cfg0.N) (r : Fin 1024) (j : Fin 1024) : (oA m c t.val t.isLt (ix2 r j) : EReal) = flat m c (ix2 (rt t r) (ct t j)) := by
  obtain ⟨h, l, rfl⟩ : ∃ h l, j = col h l := ⟨⟨j.val / 128, by omega⟩, ⟨j.val % 128, by omega⟩, Fin.ext (by show j.val = 128 * (j.val / 128) + j.val % 128; omega)⟩
  rw [oA_eq, heads_apply]
  show _ = hdE _ _ _ _ (hd (ct t (col h l))) (pl (ct t (col h l)))
  rw [ct_col, hd_hcol, pl_hcol]
  unfold hdE
  refine congrArg₂ (fun f g => hnrm f g l) (funext fun l => ?_) (funext fun l => iblk3 m c t l)
  rw [prod_apply]
  exact Finset.sum_congr rfl fun k _ => congrArg₂ (· * ·) (sN_apply m c t.val t.isLt r k) ((iblk2 m c t k (col h l)).trans (congrArg (fun j => vw m c (ix2 k j)) (ct_col t h l)))

theorem final : (dats m 0 c).arrAt 4 cfg0.N = flat m c := by
  refine (dats m 0 c).arrAt_eq_of_covers 4 _ (by decide +kernel) fun t hf y => ?_
  have he : ((cfg0.win 4).blk t).view.emb y = (ix2 (rt t (y 0)) (ct t (y 1)) : S8192x2048.Idx) := funext fun a => Fin.ext (by
    obtain ⟨h0, h1⟩ := wx4 t
    match a with
    | ⟨0, _⟩ => show win0_4.index t 0 * 1024 + 1 * (y 0).val = 1024 * (t.val / 2) + (y 0).val; omega
    | ⟨1, _⟩ => show win0_4.index t 1 * 1024 + 1 * (y 1).val = 1024 * (t.val % 2) + (y 1).val; omega)
  rw [he]
  blk_simp
  rw [after0_4]
  have ey : y = (ix2 (y 0) (y 1) : S1024x1024.Idx) := funext fun a => by
    match a with
    | ⟨0, _⟩ => rfl
    | ⟨1, _⟩ => rfl
  exact (congrArg (oA m c t.val t.isLt) ey).trans (oA_at m c t (y 0) (y 1))

theorem V_v0 : (V m c main_v0 : Vec Ideal S2048x2048 .bf16) = (truncf (F := Ideal) .bf16 (a2 m c) bitsLt_bf16_f32 : Vec Ideal S2048x2048 .bf16) := by
  simp only [V, V0, hostOps0, List.flatten_cons, List.flatten_nil, List.append_nil, List.cons_append, List.nil_append]
  after_results
theorem V_v1 : (V m c main_v1 : Vec Ideal S8192x2048 .f32) = shapeCast S8192x2048 (a0 m c) shapeCasts_S2x4096x2048_S8192x2048 := by
  simp only [V, V0, hostOps0, List.flatten_cons, List.flatten_nil, List.append_nil, List.cons_append, List.nil_append]
  after_results
  rfl
theorem V_v2 : (V m c main_v2 : Vec Ideal S1x2048 .f32) = shapeCast S1x2048 (a1 m c) shapeCasts_S2048_S1x2048 := by
  simp only [V, V0, hostOps0, List.flatten_cons, List.flatten_nil, List.append_nil, List.cons_append, List.nil_append]
  after_results
  rfl
theorem V_v3 : (V m c main_v3 : Vec Ideal S1x128 .f32) = shapeCast S1x128 (a3 m c) shapeCasts_S128_S1x128 := by
  simp only [V, V0, hostOps0, List.flatten_cons, List.flatten_nil, List.append_nil, List.cons_append, List.nil_append]
  after_results
  rfl

theorem vw_at (k : Fin 2048) (j : Fin 2048) : vw m c (ix2 k j) = a2 m c (ix2 k j) := by
  unfold vw
  rw [V_v0]
  rfl
theorem vx_at (b : Fin 2) (t : Fin 4096) (j : Fin 2048) : vx m c (ix2 (rowOf b t) j) = a0 m c (ix3 b t j) := by
  unfold vx
  rw [V_v1]
  refine shapeCast_apply _ _ _ _ ?_
  rw [Shape.rowMajor_val_two, Shape.rowMajor_val_three]
  show (b.val * 4096 + t.val) * 2048 + j.val = (4096 * b.val + t.val) * 2048 + j.val
  omega
theorem vg_at (k : Fin 2048) : vg m c (ix2 0 k) = a1 m c (ix1 k) := by
  unfold vg
  rw [V_v2]
  refine shapeCast_apply _ _ _ _ ?_
  rw [Shape.rowMajor_val_two, Shape.rowMajor_val_one]
  show k.val = 0 * 2048 + k.val
  omega
theorem vh_at (l : Fin 128) : vh m c (ix2 0 l) = a3 m c (ix1 l) := by
  unfold vh
  rw [V_v3]
  refine shapeCast_apply _ _ _ _ ?_
  rw [Shape.rowMajor_val_two, Shape.rowMajor_val_one]
  show l.val = 0 * 128 + l.val
  omega

theorem flat_at (b : Fin 2) (t : Fin 4096) (j : Fin 2048) : (flat m c (ix2 (rowOf b t) j) : EReal) = res (a0 m c) (a1 m c) (a2 m c) (a3 m c) (ix3 b t j) := by
  show hdE (fun k => vx m c (ix2 (rowOf b t) k)) (fun k => vg m c (ix2 0 k)) (fun k j => vw m c (ix2 k j)) (fun l => vh m c (ix2 0 l)) (hd j) (pl j) =
    hdE (fun k => a0 m c (ix3 b t k)) (fun k => a1 m c (ix1 k)) (fun k j => a2 m c (ix2 k j)) (fun l => a3 m c (ix1 l)) (hd j) (pl j)
  exact hdE_congr (funext fun k => vx_at m c b t k) (funext fun k => vg_at m c k) (funext fun k => funext fun j => vw_at m c k j) (funext fun l => vh_at m c l) _ _

/-- The result array. -/
theorem tail : (Pipeline.afterTail₀ cfgs (dats m) 0 (V0 m) [hostOps1] c main_v5 : Vec Ideal S2x4096x2048 .f32) = res (a0 m c) (a1 m c) (a2 m c) (a3 m c) := by
  have e : (Pipeline.afterTail₀ cfgs (dats m) 0 (V0 m) [hostOps1] c main_v5 : Vec Ideal S2x4096x2048 .f32) = shapeCast S2x4096x2048 (flat m c) shapeCasts_S8192x2048_S2x4096x2048 := by
    unfold Pipeline.afterTail₀
    simp only [hostOps1, List.flatten_cons, List.flatten_nil, List.append_nil]
    after_results
    exact congrArg (fun x => shapeCast S2x4096x2048 x shapeCasts_S8192x2048_S2x4096x2048) ((Pipeline.withArrays_arr spec0 winFacts0.arr_inj c (V0 m c) _ 4).trans (final m c))
  rw [e]
  funext i
  obtain ⟨b, t, j, rfl⟩ : ∃ b t j, i = (ix3 b t j : S2x4096x2048.Idx) := ⟨i 0, i 1, i 2, funext fun a => by
    match a with
    | ⟨0, _⟩ => rfl
    | ⟨1, _⟩ => rfl
    | ⟨2, _⟩ => rfl⟩
  refine (shapeCast_apply _ _ _ (ix2 (rowOf b t) j) ?_).trans (flat_at m c b t j)
  rw [Shape.rowMajor_val_two, Shape.rowMajor_val_three]
  show (4096 * b.val + t.val) * 2048 + j.val = (b.val * 4096 + t.val) * 2048 + j.val
  omega

/-- After the kernel's run its result is the queries, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v5) = res (a0 m c) (a1 m c) (a2 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).2 main_v5 (Pipeline.mem_restRefs_of main_v5 (by decide) (by decide))).trans (tail m c), h.2 c⟩)
    (θ_run_and (run_main m ρ) (unchanged m ρ))
end

end Cert.Kernel6Ideal.Q
-- ==== Proof.QRef.lean ====
/-
  The queries' reference, entry by entry: the normalised steps times the weights, split into heads, each normalised by its
  own root mean square and scaled.
-/
module

public import proofs.«01_k».proof.Proof.QKer
public import proofs.«01_k».proof.Proof.Gen.Reference6Ideal.Run

@[expose] public section

set_option maxRecDepth 65536

noncomputable section

namespace Cert.Reference6Ideal.Q

open Idealize.ShloMosaic Idealize.ShloMosaic.TcCoe Idealize.ShloMosaic.Tactic
open Cert.Reference6Ideal Cert.Reference6Ideal.Gen Cert.Reference6Ideal.Value
open Idealize.SL.Sem
open Cert.Kernel6Ideal.Q (nrm hnrm hcol hd pl hcol_hd hdE res)

/-- The normalised steps, their product with the weights, its heads, and the heads normalised and scaled. -/
def xn (x : Vec Ideal S2x4096x2048 .f32) (g : Vec Ideal S2048 .f32) : FVec Ideal S2x4096x2048 .f32 :=
  mulf (F := Ideal) (mulf (F := Ideal) x (broadcastInDim S2x4096x2048 ![0, 1, 2] bcast_S2x4096x1_S2x4096x2048_0_1_2 (Host.rsqrt (addf (F := Ideal) (Host.divf (broadcastInDim S2x4096x1 ![0, 1] bcast_S2x4096_S2x4096x1_0_1 (Host.reduceAdd (F := Ideal) (mulf (F := Ideal) x x) (constant (F := Ideal) S_ .f32 0x00000000#32) reducesTo_S2x4096x2048_S2x4096_d2 h_S_)) (broadcastInDim S2x4096x1 ![] bcast_S_S2x4096x1 (constant (F := Ideal) S_ .f32 0x45000000#32))) (broadcastInDim S2x4096x1 ![] bcast_S_S2x4096x1 (constant (F := Ideal) S_ .f32 0x358637BD#32)))))) (broadcastInDim S2x4096x2048 ![0, 1, 2] bcast_S1x1x2048_S2x4096x2048_0_1_2 (broadcastInDim S1x1x2048 ![2] bcast_S2048_S1x1x2048_2 g))
def prod (n : FVec Ideal S2x4096x2048 .f32) (w : Vec Ideal S2048x2048 .f32) : FVec Ideal S2x4096x2048 .f32 :=
  Host.dotGeneral (F := Ideal) (φ₂ := .f32) dot_S2x4096x2048_S2048x2048_S2x4096x2048_2_0_01_1_n_n none n w
def split (n : FVec Ideal S2x4096x2048 .f32) : FVec Ideal S2x4096x16x128 .f32 := shapeCast _ n shapeCasts_S2x4096x2048_S2x4096x16x128
def normed (q : FVec Ideal S2x4096x16x128 .f32) (hg : Vec Ideal S128 .f32) : FVec Ideal S2x4096x16x128 .f32 :=
  mulf (F := Ideal) (mulf (F := Ideal) (mulf (F := Ideal) q (broadcastInDim S2x4096x16x128 ![0, 1, 2, 3] bcast_S2x4096x16x1_S2x4096x16x128_0_1_2_3 (Host.rsqrt (addf (F := Ideal) (Host.divf (broadcastInDim S2x4096x16x1 ![0, 1, 2] bcast_S2x4096x16_S2x4096x16x1_0_1_2 (Host.reduceAdd (F := Ideal) (mulf (F := Ideal) q q) (constant (F := Ideal) S_ .f32 0x00000000#32) reducesTo_S2x4096x16x128_S2x4096x16_d3 h_S_)) (broadcastInDim S2x4096x16x1 ![] bcast_S_S2x4096x16x1 (constant (F := Ideal) S_ .f32 0x43000000#32))) (broadcastInDim S2x4096x16x1 ![] bcast_S_S2x4096x16x1 (constant (F := Ideal) S_ .f32 0x358637BD#32)))))) (broadcastInDim S2x4096x16x128 ![0, 1, 2, 3] bcast_S1x1x1x128_S2x4096x16x128_0_1_2_3 (broadcastInDim S1x1x1x128 ![3] bcast_S128_S1x1x1x128_3 hg))) (broadcastInDim S2x4096x16x128 ![] bcast_S_S2x4096x16x128 (constant (F := Ideal) S_ .f32 0x3DB504F3#32))

theorem xn_apply (x : Vec Ideal S2x4096x2048 .f32) (g : Vec Ideal S2048 .f32) (b : Fin 2) (t : Fin 4096) (k : Fin 2048) :
    (xn x g (ix3 b t k) : EReal) = nrm (fun k => x (ix3 b t k)) (fun k => g (ix1 k)) k := by
  unfold xn nrm
  pointwise
theorem prod_apply (n : FVec Ideal S2x4096x2048 .f32) (w : Vec Ideal S2048x2048 .f32) (b : Fin 2) (t : Fin 4096) (J : Fin 2048) :
    (prod n w (ix3 b t J) : EReal) = ∑ k : Fin 2048, (n (ix3 b t k) : EReal) * (w (ix2 k J) : EReal) := by
  unfold prod
  pointwise [dot_S2x4096x2048_S2048x2048_S2x4096x2048_2_0_01_1_n_n]
theorem split_apply (n : FVec Ideal S2x4096x2048 .f32) (b : Fin 2) (t : Fin 4096) (H : Fin 16) (l : Fin 128) :
    (split n (ix4 b t H l) : EReal) = n (ix3 b t (hcol H l)) := by
  refine shapeCast_apply _ _ _ _ ?_
  rw [Shape.rowMajor_val_three, Shape.rowMajor_val_four]
  show (b.val * 4096 + t.val) * 2048 + (128 * H.val + l.val) = ((b.val * 4096 + t.val) * 16 + H.val) * 128 + l.val
  omega
theorem normed_apply (q : FVec Ideal S2x4096x16x128 .f32) (hg : Vec Ideal S128 .f32) (b : Fin 2) (t : Fin 4096) (H : Fin 16) (l : Fin 128) :
    (normed q hg (ix4 b t H l) : EReal) = hnrm (fun l => q (ix4 b t H l)) (fun l => hg (ix1 l)) l := by
  unfold normed hnrm
  pointwise

/-- The reference's result is the queries. -/
theorem ref (x : Vec Ideal S2x4096x2048 .f32) (g : Vec Ideal S2048 .f32) (w : Vec Ideal S2048x2048 .f32) (hg : Vec Ideal S128 .f32) :
    (shapeCast _ (normed (split (prod (xn x g) w)) hg) shapeCasts_S2x4096x16x128_S2x4096x2048 : Vec Ideal S2x4096x2048 .f32) = res x g w hg := by
  funext i
  obtain ⟨b, t, j, rfl⟩ : ∃ b t j, i = (ix3 b t j : S2x4096x2048.Idx) := ⟨i 0, i 1, i 2, funext fun a => by
    match a with
    | ⟨0, _⟩ => rfl
    | ⟨1, _⟩ => rfl
    | ⟨2, _⟩ => rfl⟩
  refine (shapeCast_apply _ _ _ (ix4 b t (hd j) (pl j)) ?_).trans ?_
  · rw [Shape.rowMajor_val_three, Shape.rowMajor_val_four]
    show ((b.val * 4096 + t.val) * 16 + j.val / 128) * 128 + j.val % 128 = (b.val * 4096 + t.val) * 2048 + j.val
    omega
  · refine (normed_apply _ _ b t (hd j) (pl j)).trans ?_
    show _ = hdE (fun k => x (ix3 b t k)) (fun k => g (ix1 k)) (fun k j => w (ix2 k j)) (fun l => hg (ix1 l)) (hd j) (pl j)
    unfold hdE
    refine congrArg (fun f => hnrm f _ _) (funext fun l => ?_)
    refine (split_apply _ b t (hd j) l).trans ((prod_apply _ w b t _).trans ?_)
    exact Finset.sum_congr rfl fun k _ => congrArg (· * _) (xn_apply x g b t k)

section
variable (m : (ℓ : Loc nD τ sig) → Buf (Elt Ideal) ℓ) (c : Dev nD)

abbrev b0 : Vec Ideal S2x4096x2048 .f32 := m ((c : Thread nD τ).loc main_arg0)
abbrev b1 : Vec Ideal S2048 .f32 := m ((c : Thread nD τ).loc main_arg1)
abbrev b2 : Vec Ideal S2048x2048 .f32 := m ((c : Thread nD τ).loc main_arg2)
abbrev b3 : Vec Ideal S128 .f32 := m ((c : Thread nD τ).loc main_arg3)

/-- After the reference's run its result is the queries. -/
theorem run (ρ : Dev nD → PrngReg) : θ_run defs (onTc (τ := τ) (main (F := Ideal))) ⟨m, fun _ => 0, ρ⟩ fun r => ∀ c : Dev nD,
      r.2.mem ((c : Thread nD τ).loc main_v30) = res (b0 m c) (b1 m c) (b2 m c) (b3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (ref (b0 m c) (b1 m c) (b2 m c) (b3 m c)), (h c).2⟩)
    (Cert.Reference6Ideal.Value.run m ρ)
end

end Cert.Reference6Ideal.Q
-- ==== Proof.KvRunsIdeal.lean ====
/-
  The keys' and values' call: a row block's first column tile normalises the rows, every tile multiplies them with its own
  columns; the keys' tiles normalise each head, and each tile is stored a second time, head by head.
-/
module

public import proofs.«01_k».proof.Proof.Gen.Kernel7Ideal.Frame
public import proofs.«01_k».proof.Proof.Gen.Kernel7Ideal.Skeleton
public import Idealize.ShloMosaic.Lib.Pipeline.TableIdle
public import Idealize.ShloMosaic.Lib.Claim

@[expose] public section

set_option maxRecDepth 16384

noncomputable section

namespace Cert.Kernel7Ideal.Kv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

/-- The first column tile of a row block; the tiles of keys; the tiles of values. -/
abbrev cond0_0 (i : grid0.Coords) : Prop := (Scalar.cmpi .ne (Scalar.extui (Scalar.cmpi .eq (BitVec.ofNat 32 (i 1).val) 0#32) : BitVec 32) 0#32 : BitVec 1) = 1#1
abbrev cond0_1 (i : grid0.Coords) : Prop := k0_cond2 i = 1#1
abbrev cond0_2 (i : grid0.Coords) : Prop := k0_cond3 i = 1#1
theorem hcond0_0 : ∀ t : Fin cfg0.N, cond0_0 (grid0.coords t) ↔ t.val % 4 = 0 := by decide +kernel
theorem hcond0_1 : ∀ t : Fin cfg0.N, cond0_1 (grid0.coords t) ↔ t.val % 4 < 2 := by decide +kernel
theorem hcond0_2 : ∀ t : Fin cfg0.N, cond0_2 (grid0.coords t) ↔ 2 ≤ t.val % 4 := by decide +kernel

section
variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x128 .f32) (harg5 : arg5.IsWhole) (arg6 : Memref sig .tc .vmem S512x1024 .f32) (harg6 : arg6.IsWhole) (arg7 : Memref sig .tc .vmem S512x8x128 .f32) (harg7 : arg7.IsWhole) (arg8 : Memref sig .tc .vmem S512x8x128 .f32) (harg8 : arg8.IsWhole) (arg9 : Memref sig .tc .vmem S512x2048 .bf16) (harg9 : arg9.IsWhole)
  (x0 : Vec F S512x2048 .f32) (x1 : Vec F S1x2048 .f32) (x2 : Vec F S2048x1024 .bf16) (x3 : Vec F S1x128 .f32)

set_option maxHeartbeats 2000000 in
/-- The body at a first column tile: it normalises the rows into the scratch memory, and stores the tile of keys twice. -/
noncomputable def kernelRun0_A (hc0 : cond0_0 i) (hc1 : cond0_1 i) (hc2 : ¬cond0_2 i) :
    Σ' (L4 : List (View.Piece (Elt F) S512x1024 .f32)), Σ' (L5 : List (View.Piece (Elt F) S512x8x128 .f32)), { LS0 : List (View.Piece (Elt F) S512x2048 .bf16) //
      ∀ (xo : Vec F S512x8x128 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xo ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xo ∗ (∃ f, arg9.view.loc (c : Thread nD τ) ↦[arg9.view.set]{fullShare} arg9.view.writes (Elt F) f LS0)) -∗ K ⟨⟩))
          ⊢ wp frame (wpE (defs₀ (F := F)) Variants.none c none) E (cc0_shared_kv_p i arg2 harg2 arg3 harg3 arg4 harg4 arg5 harg5 arg6 harg6 arg7 harg7 arg8 harg8 arg9 harg9) K } := by
  refine ⟨?_, ?_, ?_, fun xo E K => ?run⟩
  case run =>
    simp only [cc0_shared_kv_p_eq_skeleton]; unfold cc0_shared_kv_p_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%dS0, %fS0, -, HS0⟩, Hk⟩
    obtain rfl := harg2.eq_unread hf0; obtain rfl := harg3.eq_unread hf1; obtain rfl := harg4.eq_unread hf2; obtain rfl := harg5.eq_unread hf3; obtain rfl := harg8.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    iexists _; iexact HS0

set_option maxHeartbeats 2000000 in
/-- The body at the keys' other tile: the scratch memory stays as it was. -/
noncomputable def kernelRun0_B (hc0 : ¬cond0_0 i) (hc1 : cond0_1 i) (hc2 : ¬cond0_2 i) (xs0 : Vec F S512x2048 .bf16) :
    Σ' (L4 : List (View.Piece (Elt F) S512x1024 .f32)), { L5 : List (View.Piece (Elt F) S512x8x128 .f32) //
      ∀ (xo : Vec F S512x8x128 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xo ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xo ∗ owns (c : Thread nD τ) arg9 fullShare xs0) -∗ K ⟨⟩))
          ⊢ wp frame (wpE (defs₀ (F := F)) Variants.none c none) E (cc0_shared_kv_p i arg2 harg2 arg3 harg3 arg4 harg4 arg5 harg5 arg6 harg6 arg7 harg7 arg8 harg8 arg9 harg9) K } := by
  refine ⟨?_, ?_, fun xo E K => ?run⟩
  case run =>
    simp only [cc0_shared_kv_p_eq_skeleton]; unfold cc0_shared_kv_p_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%fS0, %hfS0, HS0⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hfS0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    iexists _; isplitr; · ipureintro; exact harg9.read_unread _
    iexact HS0

set_option maxHeartbeats 2000000 in
/-- The body at a tile of values: the keys' heads and the scratch memory stay as they were. -/
noncomputable def kernelRun0_C (hc0 : ¬cond0_0 i) (hc1 : ¬cond0_1 i) (hc2 : cond0_2 i) (xs0 : Vec F S512x2048 .bf16) :
    Σ' (L4 : List (View.Piece (Elt F) S512x1024 .f32)), { L6 : List (View.Piece (Elt F) S512x8x128 .f32) //
      ∀ (xo : Vec F S512x8x128 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xo ∗ (∃ f, arg8.view.loc (c : Thread nD τ) ↦[arg8.view.set]{fullShare} arg8.view.writes (Elt F) f L6) ∗ owns (c : Thread nD τ) arg9 fullShare xs0) -∗ K ⟨⟩))
          ⊢ wp frame (wpE (defs₀ (F := F)) Variants.none c none) E (cc0_shared_kv_p i arg2 harg2 arg3 harg3 arg4 harg4 arg5 harg5 arg6 harg6 arg7 harg7 arg8 harg8 arg9 harg9) K } := by
  refine ⟨?_, ?_, fun xo E K => ?run⟩
  case run =>
    simp only [cc0_shared_kv_p_eq_skeleton]; unfold cc0_shared_kv_p_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%fS0, %hfS0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg9.eq_unread hfS0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]; · iexists _; iexact H6
    iexists _; isplitr; · ipureintro; exact harg9.read_unread _
    iexact HS0

/-- The stores fill their blocks. -/
theorem cover0_A_4 (hc0 : cond0_0 i) (hc1 : cond0_1 i) (hc2 : ¬cond0_2 i) (y : S512x1024.Idx) : ∃ pc ∈ (kernelRun0_A c i arg2 harg2 arg3 harg3 arg4 harg4 arg5 harg5 arg6 harg6 arg7 harg7 arg8 harg8 arg9 harg9 x0 x1 x2 x3 hc0 hc1 hc2).1, y ∈ pc.1.set :=
  View.cover_of_tiledL (kernelRun0_A c i arg2 harg2 arg3 harg3 arg4 harg4 arg5 harg5 arg6 harg6 arg7 harg7 arg8 harg8 arg9 harg9 x0 x1 x2 x3 hc0 hc1 hc2).1 S512x1024.size (by sl_kernel_rfl) y
theorem cover0_A_5 (hc0 : cond0_0 i) (hc1 : cond0_1 i) (hc2 : ¬cond0_2 i) (y : S512x8x128.Idx) : ∃ pc ∈ (kernelRun0_A c i arg2 harg2 arg3 harg3 arg4 harg4 arg5 harg5 arg6 harg6 arg7 harg7 arg8 harg8 arg9 harg9 x0 x1 x2 x3 hc0 hc1 hc2).2.1, y ∈ pc.1.set :=
  View.cover_of_tiledL (kernelRun0_A c i arg2 harg2 arg3 harg3 arg4 harg4 arg5 harg5 arg6 harg6 arg7 harg7 arg8 harg8 arg9 harg9 x0 x1 x2 x3 hc0 hc1 hc2).2.1 S512x1x128.size (by sl_kernel_rfl) y
theorem scover0_A_0 (hc0 : cond0_0 i) (hc1 : cond0_1 i) (hc2 : ¬cond0_2 i) (y : S512x2048.Idx) : ∃ pc ∈ (kernelRun0_A c i arg2 harg2 arg3 harg3 arg4 harg4 arg5 harg5 arg6 harg6 arg7 harg7 arg8 harg8 arg9 harg9 x0 x1 x2 x3 hc0 hc1 hc2).2.2.1, y ∈ pc.1.set :=
  View.cover_of_tiledL (kernelRun0_A c i arg2 harg2 arg3 harg3 arg4 harg4 arg5 harg5 arg6 harg6 arg7 harg7 arg8 harg8 arg9 harg9 x0 x1 x2 x3 hc0 hc1 hc2).2.2.1 S512x2048.size (by sl_kernel_rfl) y
theorem cover0_B_4 (hc0 : ¬cond0_0 i) (hc1 : cond0_1 i) (hc2 : ¬cond0_2 i) (xs0 : Vec F S512x2048 .bf16) (y : S512x1024.Idx) : ∃ pc ∈ (kernelRun0_B c i arg2 harg2 arg3 harg3 arg4 harg4 arg5 harg5 arg6 harg6 arg7 harg7 arg8 harg8 arg9 harg9 x0 x1 x2 x3 hc0 hc1 hc2 xs0).1, y ∈ pc.1.set :=
  View.cover_of_tiledL (kernelRun0_B c i arg2 harg2 arg3 harg3 arg4 harg4 arg5 harg5 arg6 harg6 arg7 harg7 arg8 harg8 arg9 harg9 x0 x1 x2 x3 hc0 hc1 hc2 xs0).1 S512x1024.size (by sl_kernel_rfl) y
theorem cover0_B_5 (hc0 : ¬cond0_0 i) (hc1 : cond0_1 i) (hc2 : ¬cond0_2 i) (xs0 : Vec F S512x2048 .bf16) (y : S512x8x128.Idx) : ∃ pc ∈ (kernelRun0_B c i arg2 harg2 arg3 harg3 arg4 harg4 arg5 harg5 arg6 harg6 arg7 harg7 arg8 harg8 arg9 harg9 x0 x1 x2 x3 hc0 hc1 hc2 xs0).2.1, y ∈ pc.1.set :=
  View.cover_of_tiledL (kernelRun0_B c i arg2 harg2 arg3 harg3 arg4 harg4 arg5 harg5 arg6 harg6 arg7 harg7 arg8 harg8 arg9 harg9 x0 x1 x2 x3 hc0 hc1 hc2 xs0).2.1 S512x1x128.size (by sl_kernel_rfl) y
theorem cover0_C_4 (hc0 : ¬cond0_0 i) (hc1 : ¬cond0_1 i) (hc2 : cond0_2 i) (xs0 : Vec F S512x2048 .bf16) (y : S512x1024.Idx) : ∃ pc ∈ (kernelRun0_C c i arg2 harg2 arg3 harg3 arg4 harg4 arg5 harg5 arg6 harg6 arg7 harg7 arg8 harg8 arg9 harg9 x0 x1 x2 x3 hc0 hc1 hc2 xs0).1, y ∈ pc.1.set :=
  View.cover_of_tiledL (kernelRun0_C c i arg2 harg2 arg3 harg3 arg4 harg4 arg5 harg5 arg6 harg6 arg7 harg7 arg8 harg8 arg9 harg9 x0 x1 x2 x3 hc0 hc1 hc2 xs0).1 S512x1024.size (by sl_kernel_rfl) y
theorem cover0_C_6 (hc0 : ¬cond0_0 i) (hc1 : ¬cond0_1 i) (hc2 : cond0_2 i) (xs0 : Vec F S512x2048 .bf16) (y : S512x8x128.Idx) : ∃ pc ∈ (kernelRun0_C c i arg2 harg2 arg3 harg3 arg4 harg4 arg5 harg5 arg6 harg6 arg7 harg7 arg8 harg8 arg9 harg9 x0 x1 x2 x3 hc0 hc1 hc2 xs0).2.1, y ∈ pc.1.set :=
  View.cover_of_tiledL (kernelRun0_C c i arg2 harg2 arg3 harg3 arg4 harg4 arg5 harg5 arg6 harg6 arg7 harg7 arg8 harg8 arg9 harg9 x0 x1 x2 x3 hc0 hc1 hc2 xs0).2.1 S512x1x128.size (by sl_kernel_rfl) y

/-- A buffer of each output, and the scratch memory. -/
abbrev VO0_4 : View sig .tc .vmem S512x1024 .f32 := (Memref.whole cc0_stg4_0 : Memref sig .tc .vmem S512x1024 .f32).view
abbrev VO0_5 : View sig .tc .vmem S512x8x128 .f32 := (Memref.whole cc0_stg5_0 : Memref sig .tc .vmem S512x8x128 .f32).view
abbrev VO0_6 : View sig .tc .vmem S512x8x128 .f32 := (Memref.whole cc0_stg6_0 : Memref sig .tc .vmem S512x8x128 .f32).view
abbrev scM0_0 : Memref sig .tc .vmem S512x2048 .bf16 := Memref.whole cc0_scratch0
abbrev VS0_0 : View sig .tc .vmem S512x2048 .bf16 := scM0_0.view

/-- What the stores leave in the buffers. -/
def out0_A_4 (hc0 : cond0_0 i) (hc1 : cond0_1 i) (hc2 : ¬cond0_2 i) : Vec F S512x1024 .f32 := VO0_4.read (Elt F) (VO0_4.writes (Elt F) VO0_4.junk (kernelRun0_A c i arg2 harg2 arg3 harg3 arg4 harg4 arg5 harg5 arg6 harg6 arg7 harg7 arg8 harg8 arg9 harg9 x0 x1 x2 x3 hc0 hc1 hc2).1)
def out0_A_5 (hc0 : cond0_0 i) (hc1 : cond0_1 i) (hc2 : ¬cond0_2 i) : Vec F S512x8x128 .f32 := VO0_5.read (Elt F) (VO0_5.writes (Elt F) VO0_5.junk (kernelRun0_A c i arg2 harg2 arg3 harg3 arg4 harg4 arg5 harg5 arg6 harg6 arg7 harg7 arg8 harg8 arg9 harg9 x0 x1 x2 x3 hc0 hc1 hc2).2.1)
def sout0_A_0 (hc0 : cond0_0 i) (hc1 : cond0_1 i) (hc2 : ¬cond0_2 i) : Vec F S512x2048 .bf16 := VS0_0.read (Elt F) (VS0_0.writes (Elt F) VS0_0.junk (kernelRun0_A c i arg2 harg2 arg3 harg3 arg4 harg4 arg5 harg5 arg6 harg6 arg7 harg7 arg8 harg8 arg9 harg9 x0 x1 x2 x3 hc0 hc1 hc2).2.2.1)
def out0_B_4 (hc0 : ¬cond0_0 i) (hc1 : cond0_1 i) (hc2 : ¬cond0_2 i) (xs0 : Vec F S512x2048 .bf16) : Vec F S512x1024 .f32 := VO0_4.read (Elt F) (VO0_4.writes (Elt F) VO0_4.junk (kernelRun0_B c i arg2 harg2 arg3 harg3 arg4 harg4 arg5 harg5 arg6 harg6 arg7 harg7 arg8 harg8 arg9 harg9 x0 x1 x2 x3 hc0 hc1 hc2 xs0).1)
def out0_B_5 (hc0 : ¬cond0_0 i) (hc1 : cond0_1 i) (hc2 : ¬cond0_2 i) (xs0 : Vec F S512x2048 .bf16) : Vec F S512x8x128 .f32 := VO0_5.read (Elt F) (VO0_5.writes (Elt F) VO0_5.junk (kernelRun0_B c i arg2 harg2 arg3 harg3 arg4 harg4 arg5 harg5 arg6 harg6 arg7 harg7 arg8 harg8 arg9 harg9 x0 x1 x2 x3 hc0 hc1 hc2 xs0).2.1)
def out0_C_4 (hc0 : ¬cond0_0 i) (hc1 : ¬cond0_1 i) (hc2 : cond0_2 i) (xs0 : Vec F S512x2048 .bf16) : Vec F S512x1024 .f32 := VO0_4.read (Elt F) (VO0_4.writes (Elt F) VO0_4.junk (kernelRun0_C c i arg2 harg2 arg3 harg3 arg4 harg4 arg5 harg5 arg6 harg6 arg7 harg7 arg8 harg8 arg9 harg9 x0 x1 x2 x3 hc0 hc1 hc2 xs0).1)
def out0_C_6 (hc0 : ¬cond0_0 i) (hc1 : ¬cond0_1 i) (hc2 : cond0_2 i) (xs0 : Vec F S512x2048 .bf16) : Vec F S512x8x128 .f32 := VO0_6.read (Elt F) (VO0_6.writes (Elt F) VO0_6.junk (kernelRun0_C c i arg2 harg2 arg3 harg3 arg4 harg4 arg5 harg5 arg6 harg6 arg7 harg7 arg8 harg8 arg9 harg9 x0 x1 x2 x3 hc0 hc1 hc2 xs0).2.1)
end

end Cert.Kernel7Ideal.Kv
-- ==== Proof.KvFrameIdeal.lean ====
/-
  The keys' and values' call runs to an end with its arguments unchanged: what its buffers hold after each point.
-/
module

public import proofs.«01_k».proof.Proof.KvRunsIdeal
public import proofs.«01_k».proof.Proof.Gen.Kernel7Ideal.Skeleton
public import Idealize.ShloMosaic.Lib.Pipeline.TableIdle
public import Idealize.ShloMosaic.Lib.Claim

@[expose] public section

set_option maxRecDepth 16384

noncomputable section

namespace Cert.Kernel7Ideal.Kv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

variable (m : (ℓ : Loc nD τ sig) → Buf (Elt F) ℓ) (ρ : Dev nD → PrngReg)

/-- The buffers a point uses. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x8x128 .f32 := win0_6.stage (cfg0.slots t 6)
abbrev hs0_6 (t : Fin cfg0.N) : (ms0_6 t).IsWhole := hstage0_6 ((cfg0.slots t 6).cast nbuf0_6)

/-- What a point leaves in the buffers of the outputs and in the scratch memory, by its column tile: the first, the keys'
    other, the values'. The values' heads are not yet stored at the keys' tiles. -/
def atA (c : Dev nD) (t : Fin cfg0.N) (h : t.val % 4 = 0) : Vec F S512x1024 .f32 × Vec F S512x8x128 .f32 × Vec F S512x8x128 .f32 × Vec F S512x2048 .bf16 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) ((hcond0_0 t).mpr h) ((hcond0_1 t).mpr (by omega)) (fun e => absurd ((hcond0_2 t).mp e) (by omega)), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) ((hcond0_0 t).mpr h) ((hcond0_1 t).mpr (by omega)) (fun e => absurd ((hcond0_2 t).mp e) (by omega)), VO0_6.read (Elt F) VO0_6.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) ((hcond0_0 t).mpr h) ((hcond0_1 t).mpr (by omega)) (fun e => absurd ((hcond0_2 t).mp e) (by omega)))
def atB (c : Dev nD) (t : Fin cfg0.N) (h : t.val % 4 = 1) (p : Vec F S512x1024 .f32 × Vec F S512x8x128 .f32 × Vec F S512x8x128 .f32 × Vec F S512x2048 .bf16) : Vec F S512x1024 .f32 × Vec F S512x8x128 .f32 × Vec F S512x8x128 .f32 × Vec F S512x2048 .bf16 :=
  (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (fun e => absurd ((hcond0_0 t).mp e) (by omega)) ((hcond0_1 t).mpr (by omega)) (fun e => absurd ((hcond0_2 t).mp e) (by omega)) p.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (fun e => absurd ((hcond0_0 t).mp e) (by omega)) ((hcond0_1 t).mpr (by omega)) (fun e => absurd ((hcond0_2 t).mp e) (by omega)) p.2.2.2, VO0_6.read (Elt F) VO0_6.junk, p.2.2.2)
def atC (c : Dev nD) (t : Fin cfg0.N) (h : 2 ≤ t.val % 4) (p : Vec F S512x1024 .f32 × Vec F S512x8x128 .f32 × Vec F S512x8x128 .f32 × Vec F S512x2048 .bf16) : Vec F S512x1024 .f32 × Vec F S512x8x128 .f32 × Vec F S512x8x128 .f32 × Vec F S512x2048 .bf16 :=
  (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (fun e => absurd ((hcond0_0 t).mp e) (by omega)) (fun e => absurd ((hcond0_1 t).mp e) (by omega)) ((hcond0_2 t).mpr h) p.2.2.2, p.2.1, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (fun e => absurd ((hcond0_0 t).mp e) (by omega)) (fun e => absurd ((hcond0_1 t).mp e) (by omega)) ((hcond0_2 t).mpr h) p.2.2.2, p.2.2.2)

/-- The buffers after point `n`. -/
def outsAt0 (c : Dev nD) : (n : ℕ) → n < cfg0.N → Vec F S512x1024 .f32 × Vec F S512x8x128 .f32 × Vec F S512x8x128 .f32 × Vec F S512x2048 .bf16
  | 0, hn => atA m c ⟨0, hn⟩ (Nat.zero_mod _)
  | n + 1, hn =>
    if h0 : (n + 1) % 4 = 0 then atA m c ⟨n + 1, hn⟩ h0
    else if h1 : (n + 1) % 4 = 1 then atB m c ⟨n + 1, hn⟩ h1 (outsAt0 c n (Nat.lt_of_succ_lt hn))
    else atC m c ⟨n + 1, hn⟩ (by show 2 ≤ (n + 1) % 4; omega) (outsAt0 c n (Nat.lt_of_succ_lt hn))

theorem outsAt0_A (c : Dev nD) (t : Fin cfg0.N) (h : t.val % 4 = 0) : outsAt0 m c t.val t.isLt = atA m c t h := by
  obtain ⟨n, hn⟩ := t
  cases n with
  | zero => exact rfl
  | succ n => exact (dif_pos h).trans rfl
theorem outsAt0_B (c : Dev nD) (t : Fin cfg0.N) (h : t.val % 4 = 1) : outsAt0 m c t.val t.isLt = atB m c t h (outsAt0 m c (t.val - 1) (Nat.lt_of_le_of_lt (Nat.sub_le _ _) t.isLt)) := by
  obtain ⟨n, hn⟩ := t
  cases n with
  | zero => exact absurd h (show ¬(0 % 4 = 1) by decide)
  | succ n => exact (dif_neg (show ¬(n + 1) % 4 = 0 from fun e => by rw [show (n + 1) % 4 = 1 from h] at e; exact absurd e (by decide))).trans ((dif_pos h).trans rfl)
theorem outsAt0_C (c : Dev nD) (t : Fin cfg0.N) (h : 2 ≤ t.val % 4) : outsAt0 m c t.val t.isLt = atC m c t h (outsAt0 m c (t.val - 1) (Nat.lt_of_le_of_lt (Nat.sub_le _ _) t.isLt)) := by
  obtain ⟨n, hn⟩ := t
  cases n with
  | zero => exact absurd h (show ¬(2 ≤ 0 % 4) by decide)
  | succ n =>
    have h' : 2 ≤ (n + 1) % 4 := h
    exact (dif_neg (show ¬(n + 1) % 4 = 0 by omega)).trans ((dif_neg (show ¬(n + 1) % 4 = 1 by omega)).trans rfl)

theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

/-- Between points the scratch memory holds what the point before left there. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2)) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-- The arrays as the region finds them, and the buffers after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The keys' heads are idle at the values' tiles, the values' at the keys', before anything of theirs is stored. -/
theorem live0_4 : ∀ t : Fin cfg0.N, cfg0.idle 4 (grid0.coords t) = false := by decide +kernel
theorem idle0_5_A : ∀ t : Fin cfg0.N, t.val % 4 < 2 → cfg0.idle 5 (grid0.coords t) = false := by decide +kernel
theorem idle0_5_C : ∀ t : Fin cfg0.N, 2 ≤ t.val % 4 → cfg0.idle 5 (grid0.coords t) = true := by decide +kernel
theorem idle0_6_A : ∀ t : Fin cfg0.N, t.val % 4 < 2 → cfg0.idle 6 (grid0.coords t) = true := by decide +kernel
theorem flush0_6_A : ∀ t : Fin cfg0.N, t.val % 4 < 2 → (cfg0.win 6).flush t = false := by decide +kernel
theorem idle0_6_C : ∀ t : Fin cfg0.N, 2 ≤ t.val % 4 → cfg0.idle 6 (grid0.coords t) = false := by decide +kernel
/-- The points at which the keys' heads hold nothing stored. -/
def freshTab0_5 : ℕ → Bool := fun n => decide (n % 4 < 2)
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  rw [after0_5, after0_5]
  by_cases h0 : t.val % 4 < 2
  · rw [idle0_5_A t h0] at hi
    exact absurd hi Bool.false_ne_true
  · rw [outsAt0_C m c t (by omega)]
    rfl
/-- At a tile of values the keys' heads are still what the point before left there. -/
theorem before0_5_C (c : Dev nD) (t : Fin cfg0.N) (h : 2 ≤ t.val % 4) (d) :
    (dats m 0 c).before 5 t d = (outsAt0 m c (t.val - 1) (Nat.lt_of_le_of_lt (Nat.sub_le _ _) t.isLt)).2.1 := by
  rw [Dat.before_out_traj _ 5 rfl (fun _ _ => rfl) (hcarry0_5 m c) t.val t rfl d,
    if_neg (by rw [fresh0_5_eq]; simpa [freshTab0_5] using h)]
  dsimp only [dats]

/-- What the body is called with at a point, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 6400000 in
/-- The body keeps what is said of the buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [show cfg0.idle 0 (grid0.coords t) = false from rfl], after0_0]
  rw [show (dats m 0 c).leavesExact 1 t = owns (c : Thread nD τ) (ms0_1 t) fullShare ((dats m 0 c).after 1 t) from by
    unfold Dat.leavesExact; rw [show cfg0.idle 1 (grid0.coords t) = false from rfl], after0_1]
  rw [show (dats m 0 c).leavesExact 2 t = owns (c : Thread nD τ) (ms0_2 t) fullShare ((dats m 0 c).after 2 t) from by
    unfold Dat.leavesExact; rw [show cfg0.idle 2 (grid0.coords t) = false from rfl], after0_2]
  rw [show (dats m 0 c).leavesExact 3 t = owns (c : Thread nD τ) (ms0_3 t) fullShare ((dats m 0 c).after 3 t) from by
    unfold Dat.leavesExact; rw [show cfg0.idle 3 (grid0.coords t) = false from rfl], after0_3]
  rw [show (dats m 0 c).leavesExact 4 t = owns (c : Thread nD τ) (ms0_4 t) fullShare ((dats m 0 c).after 4 t) from by
    unfold Dat.leavesExact; rw [live0_4 t], after0_4]
  rcases (by omega : t.val % 4 = 0 ∨ t.val % 4 = 1 ∨ 2 ≤ t.val % 4) with h | h | h
  · rw [show (dats m 0 c).leavesExact 5 t = owns (c : Thread nD τ) (ms0_5 t) fullShare ((dats m 0 c).after 5 t) from by
      unfold Dat.leavesExact; rw [idle0_5_A t (by omega)], after0_5]
    have hl : iprop(∃ d, owns (c : Thread nD τ) (ms0_6 t) fullShare ((dats m 0 c).before 6 t d)) ⊢ (dats m 0 c).leavesExact 6 t := by
      rw [Dat.leavesExact_idle _ 6 t (idle0_6_A t (by omega)) (flush0_6_A t (by omega))]
    by_cases hz : t.val = 0
    · rw [PhiS_castSucc m c t, PhiS_zero m c _ _ hz, PhiA0_eq]
      rw [outsAt0_A m c t h]
      unfold atA out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ (iblk m c 0 t) (iblk m c 1 t) (iblk m c 2 t) (iblk m c 3 t) ((hcond0_0 t).mpr h) ((hcond0_1 t).mpr (by omega)) (fun e => absurd ((hcond0_2 t).mp e) (by omega))).2.2.2 _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [HS0]; · iexact HS0
      iintro ⟨H0, H1, H2, H3, ⟨%e4, H4⟩, ⟨%e5, H5⟩, H6, ⟨%eS0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      iapply hl
      iexists d6
      iexact H6
    · rw [PhiS_castSucc m c t, PhiS_pos m c _ _ hz]
      rw [outsAt0_A m c t h]
      unfold atA out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ (iblk m c 0 t) (iblk m c 1 t) (iblk m c 2 t) (iblk m c 3 t) ((hcond0_0 t).mpr h) ((hcond0_1 t).mpr (by omega)) (fun e => absurd ((hcond0_2 t).mp e) (by omega))).2.2.2 _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [HS0]; · iexists _; iexact HS0
      iintro ⟨H0, H1, H2, H3, ⟨%e4, H4⟩, ⟨%e5, H5⟩, H6, ⟨%eS0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      iapply hl
      iexists d6
      iexact H6
  · rw [show (dats m 0 c).leavesExact 5 t = owns (c : Thread nD τ) (ms0_5 t) fullShare ((dats m 0 c).after 5 t) from by
      unfold Dat.leavesExact; rw [idle0_5_A t (by omega)], after0_5]
    have hl : iprop(∃ d, owns (c : Thread nD τ) (ms0_6 t) fullShare ((dats m 0 c).before 6 t d)) ⊢ (dats m 0 c).leavesExact 6 t := by
      rw [Dat.leavesExact_idle _ 6 t (idle0_6_A t (by omega)) (flush0_6_A t (by omega))]
    have hz : t.val ≠ 0 := fun e => by rw [e] at h; exact absurd h (by decide)
    rw [PhiS_castSucc m c t, PhiS_pos m c _ _ hz]
    rw [outsAt0_B m c t h]
    unfold atB out0_B_4 out0_B_5; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ (iblk m c 0 t) (iblk m c 1 t) (iblk m c 2 t) (iblk m c 3 t) (fun e => absurd ((hcond0_0 t).mp e) (by omega)) ((hcond0_1 t).mpr (by omega)) (fun e => absurd ((hcond0_2 t).mp e) (by omega)) _).2.2 _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [HS0]; · iexact HS0
    iintro ⟨H0, H1, H2, H3, ⟨%e4, H4⟩, ⟨%e5, H5⟩, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _)
    iapply hl
    iexists d6
    iexact H6
  · rw [show (dats m 0 c).leavesExact 6 t = owns (c : Thread nD τ) (ms0_6 t) fullShare ((dats m 0 c).after 6 t) from by
      unfold Dat.leavesExact; rw [idle0_6_C t h], after0_6]
    have hl : owns (c : Thread nD τ) (ms0_5 t) fullShare (outsAt0 m c (t.val - 1) (Nat.lt_of_le_of_lt (Nat.sub_le _ _) t.isLt)).2.1 ⊢ (dats m 0 c).leavesExact 5 t := by
      cases hf : (cfg0.win 5).flush t with
      | false =>
        rw [Dat.leavesExact_idle _ 5 t (idle0_5_C t h) hf]
        simp only [before0_5_C m c t h]
        iintro H
        iexists (outsAt0 m c (t.val - 1) (Nat.lt_of_le_of_lt (Nat.sub_le _ _) t.isLt)).2.1
        iexact H
      | true =>
        rw [show (dats m 0 c).leavesExact 5 t = owns (c : Thread nD τ) (ms0_5 t) fullShare ((dats m 0 c).after 5 t) from by
          unfold Dat.leavesExact; rw [idle0_5_C t h, hf], after0_5, outsAt0_C m c t h]
        exact Idealize.SL.BI.Entails.refl _
    have hz : t.val ≠ 0 := fun e => by rw [e] at h; exact absurd h (by decide)
    rw [PhiS_castSucc m c t, PhiS_pos m c _ _ hz]
    rw [outsAt0_C m c t h]
    simp only [before0_5_C m c t h]
    unfold atC out0_C_4 out0_C_6; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_C c (grid0.coords t) _ _ _ _ _ _ _ _ _ _ _ _ _ _ _ _ (iblk m c 0 t) (iblk m c 1 t) (iblk m c 2 t) (iblk m c 3 t) (fun e => absurd ((hcond0_0 t).mp e) (by omega)) (fun e => absurd ((hcond0_1 t).mp e) (by omega)) ((hcond0_2 t).mpr h) _).2.2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexists _; iexact H6
    isplitl [HS0]; · iexact HS0
    iintro ⟨H0, H1, H2, H3, ⟨%e4, H4⟩, H5, ⟨%e6, H6⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_C_4 c _ _ _ _ _ _ _ _ _ _ _ _ _ _ _ _ _ _ _ _ _ _ _ _ _)
    isplitl [H5]
    · iapply hl
      iexact H5
    unfold owns; iexists _; isplitr
    swap; · iexact H6
    ipureintro; exact View.read_writes_of_cover _ _ _ _ _ (cover0_C_6 c _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

set_option backward.isDefEq.respectTransparency.types false in
set_option maxHeartbeats 800000 in
/-- The program runs to an end, its arrays as the points leave them, every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)
/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel7Ideal.Kv
-- ==== Proof.KvVal.lean ====
/-
  The keys' and values' call, a block: the normalised rows times a block of columns; a block of keys normalises each head of
  the product by its own root mean square, and either block is stored twice, the second time head by head.
-/
module

public import proofs.«01_k».proof.Proof.KvFrameIdeal
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.Routing.OpsPair
public import Idealize.ShloMosaic.Lib.Routing.OpsOne

@[expose] public section

set_option maxRecDepth 65536

noncomputable section

namespace Cert.Kernel7Ideal.Kv

open Idealize.ShloMosaic Idealize.ShloMosaic.TcCoe Idealize.ShloMosaic.Tactic
open Cert.Kernel7Ideal Cert.Kernel7Ideal.Gen Idealize.SL.Sem

theorem z2 : (![0, 0] : Fin 2 → ℕ) = fun _ => 0 := funext fun a => by fin_cases a <;> rfl

/-- The eight normalised heads of a product, side by side. -/
def heads {F : FTy → Type} [FloatOps F] (v : FVec F S512x1024 .f32) (g : Vec F S1x128 .f32) : FVec F S512x1024 .f32 :=
  k0_pay16 v (k0_pay10 v g) (k0_pay11 v g) (k0_pay12 v g) (k0_pay13 v g) (k0_pay14 v g) (k0_pay15 v g) g g

/-- The whole of a block, and a head's place in a block of heads. -/
abbrev rX : Rect S512x2048 := Rect.unit ![0, 0] S512x2048.size inb_S512x2048_S512x2048_0_0
abbrev rG : Rect S1x2048 := Rect.unit ![0, 0] S1x2048.size inb_S1x2048_S1x2048_0_0
abbrev rW : Rect S2048x1024 := Rect.unit ![0, 0] S2048x1024.size inb_S2048x1024_S2048x1024_0_0
abbrev rH : Rect S1x128 := Rect.unit ![0, 0] S1x128.size inb_S1x128_S1x128_0_0
abbrev rO : Rect S512x1024 := Rect.unit ![0, 0] S512x1024.size inb_S512x1024_S512x1024_0_0

/-- A block stored head by head. -/
def hdPieces {F : FTy → Type} [FloatOps F] (v : FVec F S512x1024 .f32) : List (View.Piece (Elt F) S512x8x128 .f32) :=
  [⟨Rect.unit ![0, 7, 0] S512x1x128.size inb_S512x8x128_S512x1x128_0_7_0, k0_pay8 v⟩,
   ⟨Rect.unit ![0, 6, 0] S512x1x128.size inb_S512x8x128_S512x1x128_0_6_0, k0_pay25 v⟩,
   ⟨Rect.unit ![0, 5, 0] S512x1x128.size inb_S512x8x128_S512x1x128_0_5_0, k0_pay24 v⟩,
   ⟨Rect.unit ![0, 4, 0] S512x1x128.size inb_S512x8x128_S512x1x128_0_4_0, k0_pay23 v⟩,
   ⟨Rect.unit ![0, 3, 0] S512x1x128.size inb_S512x8x128_S512x1x128_0_3_0, k0_pay22 v⟩,
   ⟨Rect.unit ![0, 2, 0] S512x1x128.size inb_S512x8x128_S512x1x128_0_2_0, k0_pay21 v⟩,
   ⟨Rect.unit ![0, 1, 0] S512x1x128.size inb_S512x8x128_S512x1x128_0_1_0, k0_pay20 v⟩,
   ⟨Rect.unit ![0, 0, 0] S512x1x128.size inb_S512x8x128_S512x1x128_0_0_0, k0_pay19 v⟩]

/-- Column `l` of head `h` in a block. -/
def col (h : Fin 8) (l : Fin 128) : Fin 1024 := ⟨128 * h.val + l.val, by omega⟩
/-- A block seen head by head. -/
def byHead {F : FTy → Type} [FloatOps F] (v : FVec F S512x1024 .f32) : Vec F S512x8x128 .f32 := fun y => v (ix2 (y 0) (col (y 1) (y 2)))

theorem head_piece {F : FTy → Type} [FloatOps F] (v : FVec F S512x1024 .f32) (h o : ℕ) (ho : o = 128 * h) (inb : ∀ a, (![0, h, 0] : Fin 3 → ℕ) a + S512x1x128.size a ≤ S512x8x128.size a)
    (hs : S512x1024.Slices ![0, o] S512x128) (hc : S512x128.ShapeCasts S512x1x128) (x : S512x1x128.Idx) :
    shapeCast S512x1x128 (extractStridedSlice S512x128 ![0, o] v hs) hc x = byHead v ((Rect.unit (s := S512x8x128) ![0, h, 0] S512x1x128.size inb).emb x) := by
  have h1 : (x 1).val = 0 := by have := (x 1).isLt; have e : S512x1x128.size 1 = 1 := rfl; omega
  refine (shapeCast_apply _ _ _ (ix2 (x 0) (x 2) : S512x128.Idx) ?_).trans (extractStridedSlice_apply _ _ _ _ _ (fun a => ?_))
  · rw [Shape.rowMajor_val_two, Shape.rowMajor_val_three]
    show (x 0).val * 128 + (x 2).val = ((x 0).val * 1 + (x 1).val) * 128 + (x 2).val
    omega
  · match a with
    | ⟨0, _⟩ => show 0 + 1 * (x 0).val = 0 + (x 0).val; omega
    | ⟨1, _⟩ => show 128 * (h + 1 * (x 1).val) + (0 + 1 * (x 2).val) = o + (x 2).val; omega

theorem hd_canon {F : FTy → Type} [FloatOps F] (v : FVec F S512x1024 .f32) : View.canon (hdPieces v) = byHead v := by
  funext y
  refine View.canon_apply_of_pieces (byHead v) (hdPieces v) (fun p hp x => ?_) y (View.cover_of_tiledL (hdPieces v) S512x1x128.size (by sl_kernel_rfl) y)
  unfold hdPieces at hp
  simp only [List.mem_cons, List.not_mem_nil, or_false] at hp
  rcases hp with rfl | rfl | rfl | rfl | rfl | rfl | rfl | rfl
  · exact head_piece v 7 896 rfl inb_S512x8x128_S512x1x128_0_7_0 slices_S512x1024_o0_896_S512x128 shapeCasts_S512x128_S512x1x128 x
  · exact head_piece v 6 768 rfl inb_S512x8x128_S512x1x128_0_6_0 slices_S512x1024_o0_768_S512x128 shapeCasts_S512x128_S512x1x128 x
  · exact head_piece v 5 640 rfl inb_S512x8x128_S512x1x128_0_5_0 slices_S512x1024_o0_640_S512x128 shapeCasts_S512x128_S512x1x128 x
  · exact head_piece v 4 512 rfl inb_S512x8x128_S512x1x128_0_4_0 slices_S512x1024_o0_512_S512x128 shapeCasts_S512x128_S512x1x128 x
  · exact head_piece v 3 384 rfl inb_S512x8x128_S512x1x128_0_3_0 slices_S512x1024_o0_384_S512x128 shapeCasts_S512x128_S512x1x128 x
  · exact head_piece v 2 256 rfl inb_S512x8x128_S512x1x128_0_2_0 slices_S512x1024_o0_256_S512x128 shapeCasts_S512x128_S512x1x128 x
  · exact head_piece v 1 128 rfl inb_S512x8x128_S512x1x128_0_1_0 slices_S512x1024_o0_128_S512x128 shapeCasts_S512x128_S512x1x128 x
  · exact head_piece v 0 0 rfl inb_S512x8x128_S512x1x128_0_0_0 slices_S512x1024_o0_0_S512x128 shapeCasts_S512x128_S512x1x128 x

section
variable {F : FTy → Type} [FloatOps F] (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x128 .f32) (harg5 : arg5.IsWhole) (arg6 : Memref sig .tc .vmem S512x1024 .f32) (harg6 : arg6.IsWhole) (arg7 : Memref sig .tc .vmem S512x8x128 .f32) (harg7 : arg7.IsWhole) (arg8 : Memref sig .tc .vmem S512x8x128 .f32) (harg8 : arg8.IsWhole) (arg9 : Memref sig .tc .vmem S512x2048 .bf16) (harg9 : arg9.IsWhole)
  (x0 : Vec F S512x2048 .f32) (x1 : Vec F S1x2048 .f32) (x2 : Vec F S2048x1024 .bf16) (x3 : Vec F S1x128 .f32)

section
variable (hc0 : cond0_0 i) (hc1 : cond0_1 i) (hc2 : ¬cond0_2 i)
theorem piecesA_s : (kernelRun0_A c i arg2 harg2 arg3 harg3 arg4 harg4 arg5 harg5 arg6 harg6 arg7 harg7 arg8 harg8 arg9 harg9 x0 x1 x2 x3 hc0 hc1 hc2).2.2.1 =
    [(⟨rX, k0_pay1 (View.ld (arg2.view.read (Elt F) (harg2.unread x0)) rX) (View.ld (arg3.view.read (Elt F) (harg3.unread x1)) rG)⟩ : View.Piece (Elt F) S512x2048 .bf16)] := by
  unfold kernelRun0_A
  dsimp only
  refine congrArg₂ List.cons (Sigma.ext rfl (heq_of_eq ?_)) rfl
  sl_unfold_words
  rfl
theorem piecesA : (kernelRun0_A c i arg2 harg2 arg3 harg3 arg4 harg4 arg5 harg5 arg6 harg6 arg7 harg7 arg8 harg8 arg9 harg9 x0 x1 x2 x3 hc0 hc1 hc2).1 =
    [(⟨rO, heads (k0_pay2 (View.ld (k0_pay1 (View.ld (arg2.view.read (Elt F) (harg2.unread x0)) rX) (View.ld (arg3.view.read (Elt F) (harg3.unread x1)) rG)) rX) (View.ld (arg4.view.read (Elt F) (harg4.unread x2)) rW)) (View.ld (arg5.view.read (Elt F) (harg5.unread x3)) rH)⟩ : View.Piece (Elt F) S512x1024 .f32)] := by
  unfold kernelRun0_A
  dsimp only
  refine congrArg₂ List.cons (Sigma.ext rfl (heq_of_eq ?_)) rfl
  sl_unfold_words
  sl_unfold_words
  simp (disch := decide) only [↓ View.readCov_skip, ↓ View.readCov_fill]
  rfl
theorem piecesA_h : (kernelRun0_A c i arg2 harg2 arg3 harg3 arg4 harg4 arg5 harg5 arg6 harg6 arg7 harg7 arg8 harg8 arg9 harg9 x0 x1 x2 x3 hc0 hc1 hc2).2.1 =
    hdPieces (heads (k0_pay2 (View.ld (k0_pay1 (View.ld (arg2.view.read (Elt F) (harg2.unread x0)) rX) (View.ld (arg3.view.read (Elt F) (harg3.unread x1)) rG)) rX) (View.ld (arg4.view.read (Elt F) (harg4.unread x2)) rW)) (View.ld (arg5.view.read (Elt F) (harg5.unread x3)) rH)) := by
  unfold kernelRun0_A hdPieces
  dsimp only
  refine congrArg₂ List.cons (Sigma.ext rfl (heq_of_eq ?_)) (congrArg₂ List.cons (Sigma.ext rfl (heq_of_eq ?_)) (congrArg₂ List.cons (Sigma.ext rfl (heq_of_eq ?_)) (congrArg₂ List.cons (Sigma.ext rfl (heq_of_eq ?_)) (congrArg₂ List.cons (Sigma.ext rfl (heq_of_eq ?_)) (congrArg₂ List.cons (Sigma.ext rfl (heq_of_eq ?_)) (congrArg₂ List.cons (Sigma.ext rfl (heq_of_eq ?_)) (congrArg₂ List.cons (Sigma.ext rfl (heq_of_eq ?_)) rfl))))))) <;> (
    sl_unfold_words
    sl_unfold_words
    simp (disch := decide) only [↓ View.readCov_skip, ↓ View.readCov_fill]
    rfl)
theorem rows_first : View.canon (kernelRun0_A c i arg2 harg2 arg3 harg3 arg4 harg4 arg5 harg5 arg6 harg6 arg7 harg7 arg8 harg8 arg9 harg9 x0 x1 x2 x3 hc0 hc1 hc2).2.2.1 = k0_pay1 x0 x1 := by
  rw [piecesA_s, View.canon_unit_zero (S := S512x2048) z2]
  simp only [Memref.IsWhole.read_unread, View.ld_unit_zero (S := S512x2048) z2, View.ld_unit_zero (S := S1x2048) z2]
theorem out_first : View.canon (kernelRun0_A c i arg2 harg2 arg3 harg3 arg4 harg4 arg5 harg5 arg6 harg6 arg7 harg7 arg8 harg8 arg9 harg9 x0 x1 x2 x3 hc0 hc1 hc2).1 = heads (k0_pay2 (k0_pay1 x0 x1) x2) x3 := by
  rw [piecesA, View.canon_unit_zero (S := S512x1024) z2]
  simp only [Memref.IsWhole.read_unread, View.ld_unit_zero (S := S512x2048) z2, View.ld_unit_zero (S := S1x2048) z2, View.ld_unit_zero (S := S2048x1024) z2, View.ld_unit_zero (S := S1x128) z2]
theorem hds_first : View.canon (kernelRun0_A c i arg2 harg2 arg3 harg3 arg4 harg4 arg5 harg5 arg6 harg6 arg7 harg7 arg8 harg8 arg9 harg9 x0 x1 x2 x3 hc0 hc1 hc2).2.1 = byHead (heads (k0_pay2 (k0_pay1 x0 x1) x2) x3) := by
  rw [piecesA_h, hd_canon]
  simp only [Memref.IsWhole.read_unread, View.ld_unit_zero (S := S512x2048) z2, View.ld_unit_zero (S := S1x2048) z2, View.ld_unit_zero (S := S2048x1024) z2, View.ld_unit_zero (S := S1x128) z2]
end

section
variable (hc0 : ¬cond0_0 i) (hc1 : cond0_1 i) (hc2 : ¬cond0_2 i) (xs0 : Vec F S512x2048 .bf16)
theorem piecesB : (kernelRun0_B c i arg2 harg2 arg3 harg3 arg4 harg4 arg5 harg5 arg6 harg6 arg7 harg7 arg8 harg8 arg9 harg9 x0 x1 x2 x3 hc0 hc1 hc2 xs0).1 =
    [(⟨rO, heads (k0_pay2 (View.ld (arg9.view.read (Elt F) (harg9.unread xs0)) rX) (View.ld (arg4.view.read (Elt F) (harg4.unread x2)) rW)) (View.ld (arg5.view.read (Elt F) (harg5.unread x3)) rH)⟩ : View.Piece (Elt F) S512x1024 .f32)] := by
  unfold kernelRun0_B
  dsimp only
  refine congrArg₂ List.cons (Sigma.ext rfl (heq_of_eq ?_)) rfl
  sl_unfold_words
  sl_unfold_words
  rfl
theorem piecesB_h : (kernelRun0_B c i arg2 harg2 arg3 harg3 arg4 harg4 arg5 harg5 arg6 harg6 arg7 harg7 arg8 harg8 arg9 harg9 x0 x1 x2 x3 hc0 hc1 hc2 xs0).2.1 =
    hdPieces (heads (k0_pay2 (View.ld (arg9.view.read (Elt F) (harg9.unread xs0)) rX) (View.ld (arg4.view.read (Elt F) (harg4.unread x2)) rW)) (View.ld (arg5.view.read (Elt F) (harg5.unread x3)) rH)) := by
  unfold kernelRun0_B hdPieces
  dsimp only
  refine congrArg₂ List.cons (Sigma.ext rfl (heq_of_eq ?_)) (congrArg₂ List.cons (Sigma.ext rfl (heq_of_eq ?_)) (congrArg₂ List.cons (Sigma.ext rfl (heq_of_eq ?_)) (congrArg₂ List.cons (Sigma.ext rfl (heq_of_eq ?_)) (congrArg₂ List.cons (Sigma.ext rfl (heq_of_eq ?_)) (congrArg₂ List.cons (Sigma.ext rfl (heq_of_eq ?_)) (congrArg₂ List.cons (Sigma.ext rfl (heq_of_eq ?_)) (congrArg₂ List.cons (Sigma.ext rfl (heq_of_eq ?_)) rfl))))))) <;> (
    sl_unfold_words
    sl_unfold_words
    rfl)
theorem out_later : View.canon (kernelRun0_B c i arg2 harg2 arg3 harg3 arg4 harg4 arg5 harg5 arg6 harg6 arg7 harg7 arg8 harg8 arg9 harg9 x0 x1 x2 x3 hc0 hc1 hc2 xs0).1 = heads (k0_pay2 xs0 x2) x3 := by
  rw [piecesB, View.canon_unit_zero (S := S512x1024) z2]
  simp only [Memref.IsWhole.read_unread, View.ld_unit_zero (S := S512x2048) z2, View.ld_unit_zero (S := S2048x1024) z2, View.ld_unit_zero (S := S1x128) z2]
theorem hds_later : View.canon (kernelRun0_B c i arg2 harg2 arg3 harg3 arg4 harg4 arg5 harg5 arg6 harg6 arg7 harg7 arg8 harg8 arg9 harg9 x0 x1 x2 x3 hc0 hc1 hc2 xs0).2.1 = byHead (heads (k0_pay2 xs0 x2) x3) := by
  rw [piecesB_h, hd_canon]
  simp only [Memref.IsWhole.read_unread, View.ld_unit_zero (S := S512x2048) z2, View.ld_unit_zero (S := S2048x1024) z2, View.ld_unit_zero (S := S1x128) z2]
end

section
variable (hc0 : ¬cond0_0 i) (hc1 : ¬cond0_1 i) (hc2 : cond0_2 i) (xs0 : Vec F S512x2048 .bf16)
theorem piecesC : (kernelRun0_C c i arg2 harg2 arg3 harg3 arg4 harg4 arg5 harg5 arg6 harg6 arg7 harg7 arg8 harg8 arg9 harg9 x0 x1 x2 x3 hc0 hc1 hc2 xs0).1 =
    [(⟨rO, k0_pay2 (View.ld (arg9.view.read (Elt F) (harg9.unread xs0)) rX) (View.ld (arg4.view.read (Elt F) (harg4.unread x2)) rW)⟩ : View.Piece (Elt F) S512x1024 .f32)] := by
  unfold kernelRun0_C
  dsimp only
  refine congrArg₂ List.cons (Sigma.ext rfl (heq_of_eq ?_)) rfl
  sl_unfold_words
  sl_unfold_words
  rfl
theorem piecesC_h : (kernelRun0_C c i arg2 harg2 arg3 harg3 arg4 harg4 arg5 harg5 arg6 harg6 arg7 harg7 arg8 harg8 arg9 harg9 x0 x1 x2 x3 hc0 hc1 hc2 xs0).2.1 =
    hdPieces (k0_pay2 (View.ld (arg9.view.read (Elt F) (harg9.unread xs0)) rX) (View.ld (arg4.view.read (Elt F) (harg4.unread x2)) rW)) := by
  unfold kernelRun0_C hdPieces
  dsimp only
  refine congrArg₂ List.cons (Sigma.ext rfl (heq_of_eq ?_)) (congrArg₂ List.cons (Sigma.ext rfl (heq_of_eq ?_)) (congrArg₂ List.cons (Sigma.ext rfl (heq_of_eq ?_)) (congrArg₂ List.cons (Sigma.ext rfl (heq_of_eq ?_)) (congrArg₂ List.cons (Sigma.ext rfl (heq_of_eq ?_)) (congrArg₂ List.cons (Sigma.ext rfl (heq_of_eq ?_)) (congrArg₂ List.cons (Sigma.ext rfl (heq_of_eq ?_)) (congrArg₂ List.cons (Sigma.ext rfl (heq_of_eq ?_)) rfl))))))) <;> (
    sl_unfold_words
    sl_unfold_words
    rfl)
theorem out_last : View.canon (kernelRun0_C c i arg2 harg2 arg3 harg3 arg4 harg4 arg5 harg5 arg6 harg6 arg7 harg7 arg8 harg8 arg9 harg9 x0 x1 x2 x3 hc0 hc1 hc2 xs0).1 = k0_pay2 xs0 x2 := by
  rw [piecesC, View.canon_unit_zero (S := S512x1024) z2]
  simp only [Memref.IsWhole.read_unread, View.ld_unit_zero (S := S512x2048) z2, View.ld_unit_zero (S := S2048x1024) z2]
theorem hds_last : View.canon (kernelRun0_C c i arg2 harg2 arg3 harg3 arg4 harg4 arg5 harg5 arg6 harg6 arg7 harg7 arg8 harg8 arg9 harg9 x0 x1 x2 x3 hc0 hc1 hc2 xs0).2.1 = byHead (k0_pay2 xs0 x2) := by
  rw [piecesC_h, hd_canon]
  simp only [Memref.IsWhole.read_unread, View.ld_unit_zero (S := S512x2048) z2, View.ld_unit_zero (S := S2048x1024) z2]
end
end

/-- A row divided by its root mean square, times the gain. -/
def nrm (f g : Fin 2048 → EReal) (k : Fin 2048) : EReal :=
  f k * Ideal.rsqrt (Ideal.div (∑ x, f x * f x) (Ideal.ofBits FTy.f32 1157627904#32) + Ideal.ofBits FTy.f32 897988541#32) * g k
/-- A head's row divided by its root mean square, times the gain. -/
def hnrm (f g : Fin 128 → EReal) (l : Fin 128) : EReal :=
  f l * Ideal.rsqrt (Ideal.div (∑ x, f x * f x) (Ideal.ofBits FTy.f32 1124073472#32) + Ideal.ofBits FTy.f32 897988541#32) * g l

theorem xn_apply (x : Vec Ideal S512x2048 .f32) (g : Vec Ideal S1x2048 .f32) (r : Fin 512) (k : Fin 2048) :
    (k0_pay1 (F := Ideal) x g (ix2 r k) : EReal) = nrm (fun k => x (ix2 r k)) (fun k => g (ix2 0 k)) k := by
  unfold k0_pay1 nrm
  pointwise
theorem prod_apply (xn : Vec Ideal S512x2048 .bf16) (w : Vec Ideal S2048x1024 .bf16) (r : Fin 512) (j : Fin 1024) :
    (k0_pay2 (F := Ideal) xn w (ix2 r j) : EReal) = ∑ x : Fin 2048, (xn (ix2 r x) : EReal) * (w (ix2 x j) : EReal) := by
  unfold k0_pay2
  pointwise [dot_S512x2048_S2048x1024_S512x1024_1_0_0_1_n_n]

/-- A head's entry from its columns, however these are written. -/
theorem head_of (v : Fin 1024 → EReal) (g : Fin 128 → EReal) (h : Fin 8) (l : Fin 128) (e : Fin 1024) (p : Fin 128 → Fin 1024) (q : Fin 128)
    (he : e.val = 128 * h.val + l.val) (hp : ∀ x, (p x).val = 128 * h.val + x.val) (hq : q.val = l.val) :
    v e * Ideal.rsqrt (Ideal.div (∑ x, v (p x) * v (p x)) (Ideal.ofBits FTy.f32 1124073472#32) + Ideal.ofBits FTy.f32 897988541#32) * g q =
      hnrm (fun l => v (col h l)) g l := by
  obtain rfl : e = col h l := Fin.ext he
  obtain rfl : p = col h := funext fun x => Fin.ext (hp x)
  obtain rfl : q = l := Fin.ext hq
  rfl

theorem heads_apply (v : FVec Ideal S512x1024 .f32) (g : Vec Ideal S1x128 .f32) (r : Fin 512) (h : Fin 8) (l : Fin 128) :
    (heads (F := Ideal) v g (ix2 r (col h l)) : EReal) = hnrm (fun l => v (ix2 r (col h l))) (fun l => g (ix2 0 l)) l := by
  unfold heads k0_pay16 k0_pay10 k0_pay11 k0_pay12 k0_pay13 k0_pay14 k0_pay15
  pointwise
  have hc : (col h l).val = 128 * h.val + l.val := rfl
  have hl := l.isLt
  have hh := h.isLt
  split_ifs
  all_goals
    refine head_of (fun j => v (ix2 r j)) (fun l => g (ix2 0 l)) h l _ _ _ ?_ (fun x => ?_) ?_
    all_goals first | omega | (dsimp only; omega)

end Cert.Kernel7Ideal.Kv
-- ==== Proof.KvKer.lean ====
/-
  The keys' and values' call: its results are the normalised rows' product with the weights, the keys' heads each
  normalised by its own root mean square, and the keys and the values again, head by head.
-/
module

public import proofs.«01_k».proof.Proof.KvVal

@[expose] public section

set_option maxRecDepth 65536

noncomputable section

namespace Cert.Kernel7Ideal.Kv

open Idealize.ShloMosaic Idealize.ShloMosaic.TcCoe Idealize.ShloMosaic.Tactic
open Cert.Kernel7Ideal Cert.Kernel7Ideal.Gen Idealize.SL.Sem

/-- The columns of the weights: those of the keys' heads, then those of the values'. -/
def kcol (H : Fin 16) (l : Fin 128) : Fin 4096 := ⟨128 * H.val + l.val, by omega⟩
def vcol (H : Fin 16) (l : Fin 128) : Fin 4096 := ⟨2048 + (128 * H.val + l.val), by omega⟩
/-- Step `t` of sequence `b` among the rows of both. -/
def rowOf (b : Fin 2) (t : Fin 4096) : Fin 8192 := ⟨4096 * b.val + t.val, by omega⟩
/-- A column's head and its place there, for a column of the keys. -/
def hd (J : Fin 4096) (h : J.val < 2048) : Fin 16 := ⟨J.val / 128, by omega⟩
def pl (J : Fin 4096) : Fin 128 := ⟨J.val % 128, by omega⟩

/-- An entry of the product, a normalised entry of the keys, and an entry of the joined keys and values. -/
def ent (x g : Fin 2048 → EReal) (w : Fin 2048 → Fin 4096 → EReal) (J : Fin 4096) : EReal := ∑ k : Fin 2048, nrm x g k * w k J
def keyE (x g : Fin 2048 → EReal) (w : Fin 2048 → Fin 4096 → EReal) (hg : Fin 128 → EReal) (H : Fin 16) (l : Fin 128) : EReal :=
  hnrm (fun l => ent x g w (kcol H l)) hg l
def kvE (x g : Fin 2048 → EReal) (w : Fin 2048 → Fin 4096 → EReal) (hg : Fin 128 → EReal) (J : Fin 4096) : EReal :=
  if h : J.val < 2048 then keyE x g w hg (hd J h) (pl J) else ent x g w J

/-- The results: keys and values side by side, the keys, and the values. -/
def resKV (x : Vec Ideal S2x4096x2048 .f32) (g : Vec Ideal S2048 .f32) (w : Vec Ideal S2048x4096 .f32) (hg : Vec Ideal S128 .f32) : Vec Ideal S2x4096x4096 .f32 :=
  fun i => kvE (fun k => x (ix3 (i 0) (i 1) k)) (fun k => g (ix1 k)) (fun k j => w (ix2 k j)) (fun l => hg (ix1 l)) (i 2)
def resK (x : Vec Ideal S2x4096x2048 .f32) (g : Vec Ideal S2048 .f32) (w : Vec Ideal S2048x4096 .f32) (hg : Vec Ideal S128 .f32) : Vec Ideal S2x4096x16x128 .f32 :=
  fun i => keyE (fun k => x (ix3 (i 0) (i 1) k)) (fun k => g (ix1 k)) (fun k j => w (ix2 k j)) (fun l => hg (ix1 l)) (i 2) (i 3)
def resV (x : Vec Ideal S2x4096x2048 .f32) (g : Vec Ideal S2048 .f32) (w : Vec Ideal S2048x4096 .f32) : Vec Ideal S2x4096x16x128 .f32 :=
  fun i => ent (fun k => x (ix3 (i 0) (i 1) k)) (fun k => g (ix1 k)) (fun k j => w (ix2 k j)) (vcol (i 2) (i 3))

section
variable (m : (ℓ : Loc nD τ sig) → Buf (Elt Ideal) ℓ) (c : Dev nD)

theorem lt64 (t : Fin cfg0.N) : t.val < 64 := t.isLt

theorem wx0 : ∀ t : Fin cfg0.N, win0_0.index t 0 = t.val / 4 ∧ win0_0.index t 1 = 0 := by decide +kernel
theorem wx1 : ∀ t : Fin cfg0.N, win0_1.index t 0 = 0 ∧ win0_1.index t 1 = 0 := by decide +kernel
theorem wx2 : ∀ t : Fin cfg0.N, win0_2.index t 0 = 0 ∧ win0_2.index t 1 = t.val % 4 := by decide +kernel
theorem wx3 : ∀ t : Fin cfg0.N, win0_3.index t 0 = 0 ∧ win0_3.index t 1 = 0 := by decide +kernel
theorem wx4 : ∀ t : Fin cfg0.N, win0_4.index t 0 = t.val / 4 ∧ win0_4.index t 1 = t.val % 4 := by decide +kernel
theorem wx5 : ∀ t : Fin cfg0.N, win0_5.index t 0 = t.val / 4 ∧ win0_5.index t 1 = min (t.val % 4) 1 ∧ win0_5.index t 2 = 0 := by decide +kernel
theorem wx6 : ∀ t : Fin cfg0.N, win0_6.index t 0 = t.val / 4 ∧ win0_6.index t 1 = t.val % 4 - 2 ∧ win0_6.index t 2 = 0 := by decide +kernel
/-- The values' heads are written back only from the tiles of values. -/
theorem flush6 : ∀ t : Fin cfg0.N, (cfg0.win 6).flush t = true → 2 ≤ t.val % 4 := by decide +kernel

/-- Row and column of a place in point `t`'s block, and the heads of a block of heads. -/
def rt (t : Fin cfg0.N) (r : Fin 512) : Fin 8192 := ⟨512 * (t.val / 4) + r.val, by have := lt64 t; omega⟩
def ct (t : Fin cfg0.N) (j : Fin 1024) : Fin 4096 := ⟨1024 * (t.val % 4) + j.val, by omega⟩
def ht (t : Fin cfg0.N) (h : Fin 8) : Fin 16 := ⟨8 * min (t.val % 4) 1 + h.val, by omega⟩
def hv (t : Fin cfg0.N) (h : Fin 8) : Fin 16 := ⟨8 * (t.val % 4 - 2) + h.val, by omega⟩
theorem ct_key (t : Fin cfg0.N) (ht1 : t.val % 4 < 2) (h : Fin 8) (l : Fin 128) : ct t (col h l) = kcol (ht t h) l :=
  Fin.ext (by show 1024 * (t.val % 4) + (128 * h.val + l.val) = 128 * (8 * min (t.val % 4) 1 + h.val) + l.val; omega)
theorem ct_val (t : Fin cfg0.N) (ht2 : 2 ≤ t.val % 4) (h : Fin 8) (l : Fin 128) : ct t (col h l) = vcol (hv t h) l :=
  Fin.ext (by show 1024 * (t.val % 4) + (128 * h.val + l.val) = 2048 + (128 * (8 * (t.val % 4 - 2) + h.val) + l.val); omega)

/-- The arguments. -/
abbrev a0 : Vec Ideal S2x4096x2048 .f32 := m ((c : Thread nD τ).loc main_arg0)
abbrev a1 : Vec Ideal S2048 .f32 := m ((c : Thread nD τ).loc main_arg1)
abbrev a2 : Vec Ideal S2048x4096 .f32 := m ((c : Thread nD τ).loc main_arg2)
abbrev a3 : Vec Ideal S128 .f32 := m ((c : Thread nD τ).loc main_arg3)
/-- The arrays the region reads. -/
abbrev vx : S8192x2048.Idx → EReal := (V m c main_v1 : Vec Ideal S8192x2048 .f32)
abbrev vg : S1x2048.Idx → EReal := (V m c main_v2 : Vec Ideal S1x2048 .f32)
abbrev vw : S2048x4096.Idx → EReal := (V m c main_v0 : Vec Ideal S2048x4096 .bf16)
abbrev vh : S1x128.Idx → EReal := (V m c main_v3 : Vec Ideal S1x128 .f32)
/-- A row of the first, and the others as functions. -/
abbrev fx (R : Fin 8192) : Fin 2048 → EReal := fun k => vx m c (ix2 R k)
abbrev fg : Fin 2048 → EReal := fun k => vg m c (ix2 0 k)
abbrev fw : Fin 2048 → Fin 4096 → EReal := fun k j => vw m c (ix2 k j)
abbrev fh : Fin 128 → EReal := fun l => vh m c (ix2 0 l)

theorem iblk0 (t : Fin cfg0.N) (r : Fin 512) (k : Fin 2048) : ((iblk m c 0 t : Vec Ideal S512x2048 .f32) (ix2 r k) : EReal) = vx m c (ix2 (rt t r) k) := by
  obtain ⟨h0, h1⟩ := wx0 t
  unfold iblk
  rw [View.read_apply]
  refine congrArg (V m c main_v1 : Vec Ideal S8192x2048 .f32) (funext fun a => Fin.ext ?_)
  match a with
  | ⟨0, _⟩ => show win0_0.index t 0 * 512 + 1 * r.val = 512 * (t.val / 4) + r.val; omega
  | ⟨1, _⟩ => show win0_0.index t 1 * 2048 + 1 * k.val = k.val; omega
theorem iblk1 (t : Fin cfg0.N) (k : Fin 2048) : ((iblk m c 1 t : Vec Ideal S1x2048 .f32) (ix2 0 k) : EReal) = vg m c (ix2 0 k) := by
  obtain ⟨h0, h1⟩ := wx1 t
  unfold iblk
  rw [View.read_apply]
  refine congrArg (V m c main_v2 : Vec Ideal S1x2048 .f32) (funext fun a => Fin.ext ?_)
  match a with
  | ⟨0, _⟩ => show win0_1.index t 0 * 1 + 1 * 0 = 0; omega
  | ⟨1, _⟩ => show win0_1.index t 1 * 2048 + 1 * k.val = k.val; omega
theorem iblk2 (t : Fin cfg0.N) (k : Fin 2048) (j : Fin 1024) : ((iblk m c 2 t : Vec Ideal S2048x1024 .bf16) (ix2 k j) : EReal) = vw m c (ix2 k (ct t j)) := by
  obtain ⟨h0, h1⟩ := wx2 t
  unfold iblk
  rw [View.read_apply]
  refine congrArg (V m c main_v0 : Vec Ideal S2048x4096 .bf16) (funext fun a => Fin.ext ?_)
  match a with
  | ⟨0, _⟩ => show win0_2.index t 0 * 2048 + 1 * k.val = k.val; omega
  | ⟨1, _⟩ => show win0_2.index t 1 * 1024 + 1 * j.val = 1024 * (t.val % 4) + j.val; omega
theorem iblk3 (t : Fin cfg0.N) (l : Fin 128) : ((iblk m c 3 t : Vec Ideal S1x128 .f32) (ix2 0 l) : EReal) = vh m c (ix2 0 l) := by
  obtain ⟨h0, h1⟩ := wx3 t
  unfold iblk
  rw [View.read_apply]
  refine congrArg (V m c main_v3 : Vec Ideal S1x128 .f32) (funext fun a => Fin.ext ?_)
  match a with
  | ⟨0, _⟩ => show win0_3.index t 0 * 1 + 1 * 0 = 0; omega
  | ⟨1, _⟩ => show win0_3.index t 1 * 128 + 1 * l.val = l.val; omega

/-- What the outputs' buffers and the scratch memory hold after point `n`. -/
abbrev oN (n : ℕ) (hn : n < cfg0.N) : Vec Ideal S512x1024 .f32 := (outsAt0 m c n hn).1
abbrev kN (n : ℕ) (hn : n < cfg0.N) : Vec Ideal S512x8x128 .f32 := (outsAt0 m c n hn).2.1
abbrev vN (n : ℕ) (hn : n < cfg0.N) : Vec Ideal S512x8x128 .f32 := (outsAt0 m c n hn).2.2.1
abbrev sN (n : ℕ) (hn : n < cfg0.N) : Vec Ideal S512x2048 .bf16 := (outsAt0 m c n hn).2.2.2
/-- The product at a point. -/
abbrev pN (t : Fin cfg0.N) : FVec Ideal S512x1024 .f32 := k0_pay2 (F := Ideal) (sN m c t.val t.isLt) (iblk m c 2 t)

theorem sN_first (t : Fin cfg0.N) (h0 : t.val % 4 = 0) : sN m c t.val t.isLt = k0_pay1 (F := Ideal) (iblk m c 0 t) (iblk m c 1 t) := by
  rw [sN, outsAt0_A m c t h0]
  dsimp only [atA]
  rw [sout0_A_0, View.read_writes_junk_eq_canon, rows_first]
theorem sN_later (t : Fin cfg0.N) (h0 : ¬t.val % 4 = 0) : sN m c t.val t.isLt = sN m c (t.val - 1) (Nat.lt_of_le_of_lt (Nat.sub_le _ _) t.isLt) := by
  by_cases h1 : t.val % 4 = 1
  · rw [sN, outsAt0_B m c t h1]
    rfl
  · rw [sN, outsAt0_C m c t (by omega)]
    rfl
theorem oN_key (t : Fin cfg0.N) (h : t.val % 4 < 2) : oN m c t.val t.isLt = heads (F := Ideal) (pN m c t) (iblk m c 3 t) := by
  by_cases h0 : t.val % 4 = 0
  · rw [pN, sN_first m c t h0, oN, outsAt0_A m c t h0]
    dsimp only [atA]
    rw [out0_A_4, View.read_writes_junk_eq_canon, out_first]
  · rw [pN, sN_later m c t h0, oN, outsAt0_B m c t (by omega)]
    dsimp only [atB]
    rw [out0_B_4, View.read_writes_junk_eq_canon, out_later]
theorem oN_val (t : Fin cfg0.N) (h : 2 ≤ t.val % 4) : oN m c t.val t.isLt = pN m c t := by
  rw [pN, sN_later m c t (by omega), oN, outsAt0_C m c t h]
  dsimp only [atC]
  rw [out0_C_4, View.read_writes_junk_eq_canon, out_last]
theorem kN_key (t : Fin cfg0.N) (h : t.val % 4 < 2) : kN m c t.val t.isLt = byHead (heads (F := Ideal) (pN m c t) (iblk m c 3 t)) := by
  by_cases h0 : t.val % 4 = 0
  · rw [pN, sN_first m c t h0, kN, outsAt0_A m c t h0]
    dsimp only [atA]
    rw [out0_A_5, View.read_writes_junk_eq_canon, hds_first]
  · rw [pN, sN_later m c t h0, kN, outsAt0_B m c t (by omega)]
    dsimp only [atB]
    rw [out0_B_5, View.read_writes_junk_eq_canon, hds_later]
theorem kN_later (t : Fin cfg0.N) (h : 2 ≤ t.val % 4) : kN m c t.val t.isLt = kN m c (t.val - 1) (Nat.lt_of_le_of_lt (Nat.sub_le _ _) t.isLt) := by
  rw [kN, outsAt0_C m c t h]
  rfl
theorem vN_val (t : Fin cfg0.N) (h : 2 ≤ t.val % 4) : vN m c t.val t.isLt = byHead (pN m c t) := by
  rw [pN, sN_later m c t (by omega), vN, outsAt0_C m c t h]
  dsimp only [atC]
  rw [out0_C_6, View.read_writes_junk_eq_canon, hds_last]

/-- The row of a place does not change from a point to the next in a row block. -/
theorem rt_succ (n : ℕ) (hn : n + 1 < cfg0.N) (h0 : ¬(n + 1) % 4 = 0) (r : Fin 512) : rt ⟨n, Nat.lt_of_succ_lt hn⟩ r = rt ⟨n + 1, hn⟩ r :=
  Fin.ext (by show 512 * (n / 4) + r.val = 512 * ((n + 1) / 4) + r.val; omega)
/-- The keys' block of heads stays the second one over the tiles of values. -/
theorem ht_succ (n : ℕ) (hn : n + 1 < cfg0.N) (h0 : 2 ≤ (n + 1) % 4) (h : Fin 8) : ht ⟨n, Nat.lt_of_succ_lt hn⟩ h = ht ⟨n + 1, hn⟩ h :=
  Fin.ext (by show 8 * min (n % 4) 1 + h.val = 8 * min ((n + 1) % 4) 1 + h.val; omega)
/-- The scratch memory holds the row block's normalised rows at each of its points. -/
theorem sN_apply : ∀ (n : ℕ) (hn : n < cfg0.N) (r : Fin 512) (k : Fin 2048), (sN m c n hn (ix2 r k) : EReal) = nrm (fx m c (rt ⟨n, hn⟩ r)) (fg m c) k
  | n, hn, r, k => by
    by_cases h0 : n % 4 = 0
    · rw [sN_first m c ⟨n, hn⟩ h0]
      refine (xn_apply _ _ r k).trans ?_
      simp only [iblk0, iblk1]
    · match n, hn, h0 with
      | 0, hn, h0 => exact absurd rfl h0
      | n + 1, hn, h0 =>
        rw [sN_later m c ⟨n + 1, hn⟩ h0]
        refine (sN_apply n (Nat.lt_of_succ_lt hn) r k).trans ?_
        rw [rt_succ n hn h0 r]
theorem pN_apply (t : Fin cfg0.N) (r : Fin 512) (j : Fin 1024) : (pN m c t (ix2 r j) : EReal) = ent (fx m c (rt t r)) (fg m c) (fw m c) (ct t j) := by
  refine (prod_apply _ _ r j).trans ?_
  unfold ent
  exact Finset.sum_congr rfl fun k _ => congrArg₂ (· * ·) (sN_apply m c t.val t.isLt r k) (iblk2 m c t k j)
theorem key_apply (t : Fin cfg0.N) (ht1 : t.val % 4 < 2) (r : Fin 512) (h : Fin 8) (l : Fin 128) :
    (heads (F := Ideal) (pN m c t) (iblk m c 3 t) (ix2 r (col h l)) : EReal) = keyE (fx m c (rt t r)) (fg m c) (fw m c) (fh m c) (ht t h) l := by
  refine (heads_apply _ _ r h l).trans ?_
  unfold keyE
  refine congrArg₂ (fun f g => hnrm f g l) (funext fun l => ?_) (funext fun l => iblk3 m c t l)
  rw [pN_apply, ct_key t ht1]
/-- The keys' buffer holds the block of heads of its row block's last tile of keys. -/
theorem kN_apply : ∀ (n : ℕ) (hn : n < cfg0.N) (r : Fin 512) (h : Fin 8) (l : Fin 128), (kN m c n hn (ix3 r h l) : EReal) = keyE (fx m c (rt ⟨n, hn⟩ r)) (fg m c) (fw m c) (fh m c) (ht ⟨n, hn⟩ h) l
  | n, hn, r, h, l => by
    by_cases h0 : n % 4 < 2
    · rw [kN_key m c ⟨n, hn⟩ h0]
      exact key_apply m c ⟨n, hn⟩ h0 r h l
    · match n, hn, h0 with
      | 0, hn, h0 => exact absurd (show 0 % 4 < 2 by decide) h0
      | n + 1, hn, h0 =>
        rw [kN_later m c ⟨n + 1, hn⟩ (by show 2 ≤ (n + 1) % 4; omega)]
        refine (kN_apply n (Nat.lt_of_succ_lt hn) r h l).trans ?_
        rw [rt_succ n hn (by omega) r, ht_succ n hn (by omega) h]

/-- The results before their rows are split between the sequences. -/
def flatKV : Vec Ideal S8192x4096 .f32 := fun i => kvE (fx m c (i 0)) (fg m c) (fw m c) (fh m c) (i 1)
def flatK : Vec Ideal S8192x16x128 .f32 := fun i => keyE (fx m c (i 0)) (fg m c) (fw m c) (fh m c) (i 1) (i 2)
def flatV : Vec Ideal S8192x16x128 .f32 := fun i => ent (fx m c (i 0)) (fg m c) (fw m c) (vcol (i 1) (i 2))

theorem kvE_key (x g : Fin 2048 → EReal) (w : Fin 2048 → Fin 4096 → EReal) (hg : Fin 128 → EReal) (H : Fin 16) (l : Fin 128) : kvE x g w hg (kcol H l) = keyE x g w hg H l := by
  have hH := H.isLt
  have hl := l.isLt
  have h : (kcol H l).val < 2048 := by show 128 * H.val + l.val < 2048; omega
  unfold kvE
  rw [dif_pos h]
  exact congrArg₂ (keyE x g w hg) (Fin.ext (by show (128 * H.val + l.val) / 128 = H.val; omega)) (Fin.ext (by show (128 * H.val + l.val) % 128 = l.val; omega))
theorem oN_at (t : Fin cfg0.N) (r : Fin 512) (j : Fin 1024) : (oN m c t.val t.isLt (ix2 r j) : EReal) = flatKV m c (ix2 (rt t r) (ct t j)) := by
  show _ = kvE (fx m c (rt t r)) (fg m c) (fw m c) (fh m c) (ct t j)
  by_cases h : t.val % 4 < 2
  · obtain ⟨h', l, rfl⟩ : ∃ h l, j = col h l := ⟨⟨j.val / 128, by omega⟩, ⟨j.val % 128, by omega⟩, Fin.ext (by show j.val = 128 * (j.val / 128) + j.val % 128; omega)⟩
    rw [oN_key m c t h, ct_key t h, kvE_key]
    exact key_apply m c t h r h' l
  · rw [oN_val m c t (by omega), pN_apply]
    unfold kvE
    rw [dif_neg (show ¬(ct t j).val < 2048 by show ¬1024 * (t.val % 4) + j.val < 2048; omega)]

theorem finalKV : (dats m 0 c).arrAt 4 cfg0.N = flatKV m c := by
  refine (dats m 0 c).arrAt_eq_of_covers 4 _ (by decide +kernel) fun t hf y => ?_
  have he : ((cfg0.win 4).blk t).view.emb y = (ix2 (rt t (y 0)) (ct t (y 1)) : S8192x4096.Idx) := funext fun a => Fin.ext (by
    obtain ⟨h0, h1⟩ := wx4 t
    match a with
    | ⟨0, _⟩ => show win0_4.index t 0 * 512 + 1 * (y 0).val = 512 * (t.val / 4) + (y 0).val; omega
    | ⟨1, _⟩ => show win0_4.index t 1 * 1024 + 1 * (y 1).val = 1024 * (t.val % 4) + (y 1).val; omega)
  rw [he]
  blk_simp
  rw [after0_4]
  have ey : y = (ix2 (y 0) (y 1) : S512x1024.Idx) := funext fun a => by
    match a with
    | ⟨0, _⟩ => rfl
    | ⟨1, _⟩ => rfl
  exact (congrArg (oN m c t.val t.isLt) ey).trans (oN_at m c t (y 0) (y 1))
theorem finalK : (dats m 0 c).arrAt 5 cfg0.N = flatK m c := by
  refine (dats m 0 c).arrAt_eq_of_covers 5 _ (by decide +kernel) fun t hf y => ?_
  have he : ((cfg0.win 5).blk t).view.emb y = (ix3 (rt t (y 0)) (ht t (y 1)) (y 2) : S8192x16x128.Idx) := funext fun a => Fin.ext (by
    obtain ⟨h0, h1, h2⟩ := wx5 t
    match a with
    | ⟨0, _⟩ => show win0_5.index t 0 * 512 + 1 * (y 0).val = 512 * (t.val / 4) + (y 0).val; omega
    | ⟨1, _⟩ => show win0_5.index t 1 * 8 + 1 * (y 1).val = 8 * min (t.val % 4) 1 + (y 1).val; omega
    | ⟨2, _⟩ => show win0_5.index t 2 * 128 + 1 * (y 2).val = (y 2).val; omega)
  rw [he]
  blk_simp
  rw [after0_5]
  have ey : y = (ix3 (y 0) (y 1) (y 2) : S512x8x128.Idx) := funext fun a => by
    match a with
    | ⟨0, _⟩ => rfl
    | ⟨1, _⟩ => rfl
    | ⟨2, _⟩ => rfl
  exact (congrArg (kN m c t.val t.isLt) ey).trans (kN_apply m c t.val t.isLt (y 0) (y 1) (y 2))
theorem finalV : (dats m 0 c).arrAt 6 cfg0.N = flatV m c := by
  refine (dats m 0 c).arrAt_eq_of_covers 6 _ (by decide +kernel) fun t hf y => ?_
  have h2 : 2 ≤ t.val % 4 := flush6 t hf
  have he : ((cfg0.win 6).blk t).view.emb y = (ix3 (rt t (y 0)) (hv t (y 1)) (y 2) : S8192x16x128.Idx) := funext fun a => Fin.ext (by
    obtain ⟨h0, h1, h2⟩ := wx6 t
    match a with
    | ⟨0, _⟩ => show win0_6.index t 0 * 512 + 1 * (y 0).val = 512 * (t.val / 4) + (y 0).val; omega
    | ⟨1, _⟩ => show win0_6.index t 1 * 8 + 1 * (y 1).val = 8 * (t.val % 4 - 2) + (y 1).val; omega
    | ⟨2, _⟩ => show win0_6.index t 2 * 128 + 1 * (y 2).val = (y 2).val; omega)
  rw [he]
  blk_simp
  rw [after0_6]
  refine (congrFun (vN_val m c t h2) y).trans ?_
  show _ = ent (fx m c (rt t (y 0))) (fg m c) (fw m c) (vcol (hv t (y 1)) (y 2))
  exact (pN_apply m c t (y 0) (col (y 1) (y 2))).trans (congrArg (ent (fx m c (rt t (y 0))) (fg m c) (fw m c)) (ct_val t h2 (y 1) (y 2)))

theorem V_v0 : (V m c main_v0 : Vec Ideal S2048x4096 .bf16) = (truncf (F := Ideal) .bf16 (a2 m c) bitsLt_bf16_f32 : Vec Ideal S2048x4096 .bf16) := by
  simp only [V, V0, hostOps0, List.flatten_cons, List.flatten_nil, List.append_nil, List.cons_append, List.nil_append]
  after_results
theorem V_v1 : (V m c main_v1 : Vec Ideal S8192x2048 .f32) = shapeCast S8192x2048 (a0 m c) shapeCasts_S2x4096x2048_S8192x2048 := by
  simp only [V, V0, hostOps0, List.flatten_cons, List.flatten_nil, List.append_nil, List.cons_append, List.nil_append]
  after_results
  rfl
theorem V_v2 : (V m c main_v2 : Vec Ideal S1x2048 .f32) = shapeCast S1x2048 (a1 m c) shapeCasts_S2048_S1x2048 := by
  simp only [V, V0, hostOps0, List.flatten_cons, List.flatten_nil, List.append_nil, List.cons_append, List.nil_append]
  after_results
  rfl
theorem V_v3 : (V m c main_v3 : Vec Ideal S1x128 .f32) = shapeCast S1x128 (a3 m c) shapeCasts_S128_S1x128 := by
  simp only [V, V0, hostOps0, List.flatten_cons, List.flatten_nil, List.append_nil, List.cons_append, List.nil_append]
  after_results
  rfl

theorem vw_at (k : Fin 2048) (j : Fin 4096) : vw m c (ix2 k j) = a2 m c (ix2 k j) := by
  unfold vw
  rw [V_v0]
  rfl
theorem vx_at (b : Fin 2) (t : Fin 4096) (j : Fin 2048) : vx m c (ix2 (rowOf b t) j) = a0 m c (ix3 b t j) := by
  unfold vx
  rw [V_v1]
  refine shapeCast_apply _ _ _ _ ?_
  rw [Shape.rowMajor_val_two, Shape.rowMajor_val_three]
  show (b.val * 4096 + t.val) * 2048 + j.val = (4096 * b.val + t.val) * 2048 + j.val
  omega
theorem vg_at (k : Fin 2048) : vg m c (ix2 0 k) = a1 m c (ix1 k) := by
  unfold vg
  rw [V_v2]
  refine shapeCast_apply _ _ _ _ ?_
  rw [Shape.rowMajor_val_two, Shape.rowMajor_val_one]
  show k.val = 0 * 2048 + k.val
  omega
theorem vh_at (l : Fin 128) : vh m c (ix2 0 l) = a3 m c (ix1 l) := by
  unfold vh
  rw [V_v3]
  refine shapeCast_apply _ _ _ _ ?_
  rw [Shape.rowMajor_val_two, Shape.rowMajor_val_one]
  show l.val = 0 * 128 + l.val
  omega
theorem fx_at (b : Fin 2) (t : Fin 4096) : fx m c (rowOf b t) = fun k => a0 m c (ix3 b t k) := funext fun k => vx_at m c b t k
theorem fg_at : fg m c = fun k => a1 m c (ix1 k) := funext fun k => vg_at m c k
theorem fw_at : fw m c = fun k j => a2 m c (ix2 k j) := funext fun k => funext fun j => vw_at m c k j
theorem fh_at : fh m c = fun l => a3 m c (ix1 l) := funext fun l => vh_at m c l

theorem flatKV_at (b : Fin 2) (t : Fin 4096) (j : Fin 4096) : (flatKV m c (ix2 (rowOf b t) j) : EReal) = resKV (a0 m c) (a1 m c) (a2 m c) (a3 m c) (ix3 b t j) := by
  show kvE (fx m c (rowOf b t)) (fg m c) (fw m c) (fh m c) j = kvE (fun k => a0 m c (ix3 b t k)) (fun k => a1 m c (ix1 k)) (fun k j => a2 m c (ix2 k j)) (fun l => a3 m c (ix1 l)) j
  rw [fx_at, fg_at, fw_at, fh_at]
theorem flatK_at (b : Fin 2) (t : Fin 4096) (H : Fin 16) (l : Fin 128) : (flatK m c (ix3 (rowOf b t) H l) : EReal) = resK (a0 m c) (a1 m c) (a2 m c) (a3 m c) (ix4 b t H l) := by
  show keyE (fx m c (rowOf b t)) (fg m c) (fw m c) (fh m c) H l = keyE (fun k => a0 m c (ix3 b t k)) (fun k => a1 m c (ix1 k)) (fun k j => a2 m c (ix2 k j)) (fun l => a3 m c (ix1 l)) H l
  rw [fx_at, fg_at, fw_at, fh_at]
theorem flatV_at (b : Fin 2) (t : Fin 4096) (H : Fin 16) (l : Fin 128) : (flatV m c (ix3 (rowOf b t) H l) : EReal) = resV (a0 m c) (a1 m c) (a2 m c) (ix4 b t H l) := by
  show ent (fx m c (rowOf b t)) (fg m c) (fw m c) (vcol H l) = ent (fun k => a0 m c (ix3 b t k)) (fun k => a1 m c (ix1 k)) (fun k j => a2 m c (ix2 k j)) (vcol H l)
  rw [fx_at, fg_at, fw_at]

/-- The result arrays. -/
theorem tailKV : (Pipeline.afterTail₀ cfgs (dats m) 0 (V0 m) [hostOps1] c main_v5 : Vec Ideal S2x4096x4096 .f32) = resKV (a0 m c) (a1 m c) (a2 m c) (a3 m c) := by
  have e : (Pipeline.afterTail₀ cfgs (dats m) 0 (V0 m) [hostOps1] c main_v5 : Vec Ideal S2x4096x4096 .f32) = shapeCast S2x4096x4096 (flatKV m c) shapeCasts_S8192x4096_S2x4096x4096 := by
    unfold Pipeline.afterTail₀
    simp only [hostOps1, List.flatten_cons, List.flatten_nil, List.append_nil]
    after_results
    have e2 := (Pipeline.withArrays_arr spec0 winFacts0.arr_inj c (V0 m c) (fun w => (dats m 0 c).arrAt w cfg0.N) 4).trans (finalKV m c)
    rw [← e2]
    rfl
  rw [e]
  funext i
  obtain ⟨b, t, j, rfl⟩ : ∃ b t j, i = (ix3 b t j : S2x4096x4096.Idx) := ⟨i 0, i 1, i 2, funext fun a => by
    match a with
    | ⟨0, _⟩ => rfl
    | ⟨1, _⟩ => rfl
    | ⟨2, _⟩ => rfl⟩
  refine (shapeCast_apply _ _ _ (ix2 (rowOf b t) j) ?_).trans (flatKV_at m c b t j)
  rw [Shape.rowMajor_val_two, Shape.rowMajor_val_three]
  show (4096 * b.val + t.val) * 4096 + j.val = (b.val * 4096 + t.val) * 4096 + j.val
  omega
/-- Splitting the rows of an array of heads between the sequences. -/
theorem split_heads (n : Vec Ideal S8192x16x128 .f32) (b : Fin 2) (t : Fin 4096) (H : Fin 16) (l : Fin 128) :
    (shapeCast S2x4096x16x128 n shapeCasts_S8192x16x128_S2x4096x16x128 : Vec Ideal S2x4096x16x128 .f32) (ix4 b t H l) = n (ix3 (rowOf b t) H l) := by
  refine shapeCast_apply _ _ _ _ ?_
  rw [Shape.rowMajor_val_three, Shape.rowMajor_val_four]
  show ((4096 * b.val + t.val) * 16 + H.val) * 128 + l.val = ((b.val * 4096 + t.val) * 16 + H.val) * 128 + l.val
  omega
theorem idx4 (i : S2x4096x16x128.Idx) : ∃ b t H l, i = (ix4 b t H l : S2x4096x16x128.Idx) := ⟨i 0, i 1, i 2, i 3, funext fun a => by
    match a with
    | ⟨0, _⟩ => rfl
    | ⟨1, _⟩ => rfl
    | ⟨2, _⟩ => rfl
    | ⟨3, _⟩ => rfl⟩
theorem tailK : (Pipeline.afterTail₀ cfgs (dats m) 0 (V0 m) [hostOps1] c main_v6 : Vec Ideal S2x4096x16x128 .f32) = resK (a0 m c) (a1 m c) (a2 m c) (a3 m c) := by
  have e : (Pipeline.afterTail₀ cfgs (dats m) 0 (V0 m) [hostOps1] c main_v6 : Vec Ideal S2x4096x16x128 .f32) = shapeCast S2x4096x16x128 (flatK m c) shapeCasts_S8192x16x128_S2x4096x16x128 := by
    unfold Pipeline.afterTail₀
    simp only [hostOps1, List.flatten_cons, List.flatten_nil, List.append_nil]
    after_results
    have e2 := (Pipeline.withArrays_arr spec0 winFacts0.arr_inj c (V0 m c) (fun w => (dats m 0 c).arrAt w cfg0.N) 5).trans (finalK m c)
    rw [← e2]
    rfl
  rw [e]
  funext i
  obtain ⟨b, t, H, l, rfl⟩ := idx4 i
  exact (split_heads _ b t H l).trans (flatK_at m c b t H l)
theorem tailV : (Pipeline.afterTail₀ cfgs (dats m) 0 (V0 m) [hostOps1] c main_v7 : Vec Ideal S2x4096x16x128 .f32) = resV (a0 m c) (a1 m c) (a2 m c) := by
  have e : (Pipeline.afterTail₀ cfgs (dats m) 0 (V0 m) [hostOps1] c main_v7 : Vec Ideal S2x4096x16x128 .f32) = shapeCast S2x4096x16x128 (flatV m c) shapeCasts_S8192x16x128_S2x4096x16x128 := by
    unfold Pipeline.afterTail₀
    simp only [hostOps1, List.flatten_cons, List.flatten_nil, List.append_nil]
    after_results
    have e2 := (Pipeline.withArrays_arr spec0 winFacts0.arr_inj c (V0 m c) (fun w => (dats m 0 c).arrAt w cfg0.N) 6).trans (finalV m c)
    rw [← e2]
    rfl
  rw [e]
  funext i
  obtain ⟨b, t, H, l, rfl⟩ := idx4 i
  exact (split_heads _ b t H l).trans (flatV_at m c b t H l)

/-- After the kernel's run its results are keys and values side by side, the keys and the values, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v5) = resKV (a0 m c) (a1 m c) (a2 m c) (a3 m c)
      ∧ r.2.mem ((c : Thread nD τ).loc main_v6) = resK (a0 m c) (a1 m c) (a2 m c) (a3 m c)
      ∧ r.2.mem ((c : Thread nD τ).loc main_v7) = resV (a0 m c) (a1 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).2 main_v5 (Pipeline.mem_restRefs_of main_v5 (by decide) (by decide))).trans (tailKV m c),
      ((h.1 c).2 main_v6 (Pipeline.mem_restRefs_of main_v6 (by decide) (by decide))).trans (tailK m c),
      ((h.1 c).2 main_v7 (Pipeline.mem_restRefs_of main_v7 (by decide) (by decide))).trans (tailV m c), h.2 c⟩)
    (θ_run_and (run_main m ρ) (unchanged m ρ))
end

end Cert.Kernel7Ideal.Kv
-- ==== Proof.KvRef.lean ====
/-
  The keys' and values' reference, entry by entry: the normalised steps times the weights, whose first half is split into heads
  and each normalised by its own root mean square, whose second half is only split; and the two joined again.
-/
module

public import proofs.«01_k».proof.Proof.KvKer
public import proofs.«01_k».proof.Proof.Gen.Reference7Ideal.Run

@[expose] public section

set_option maxRecDepth 65536

noncomputable section

namespace Cert.Reference7Ideal.Kv

open Idealize.ShloMosaic Idealize.ShloMosaic.TcCoe Idealize.ShloMosaic.Tactic
open Cert.Reference7Ideal Cert.Reference7Ideal.Gen Cert.Reference7Ideal.Value
open Idealize.SL.Sem
open Cert.Kernel7Ideal.Kv (nrm hnrm kcol vcol hd pl ent keyE kvE resKV resK resV)

/-- The normalised steps, their product with the weights, its halves' heads, the keys' heads normalised, and the two joined. -/
def xn (x : Vec Ideal S2x4096x2048 .f32) (g : Vec Ideal S2048 .f32) : FVec Ideal S2x4096x2048 .f32 :=
  mulf (F := Ideal) (mulf (F := Ideal) x (broadcastInDim S2x4096x2048 ![0, 1, 2] bcast_S2x4096x1_S2x4096x2048_0_1_2 (Host.rsqrt (addf (F := Ideal) (Host.divf (broadcastInDim S2x4096x1 ![0, 1] bcast_S2x4096_S2x4096x1_0_1 (Host.reduceAdd (F := Ideal) (mulf (F := Ideal) x x) (constant (F := Ideal) S_ .f32 0x00000000#32) reducesTo_S2x4096x2048_S2x4096_d2 h_S_)) (broadcastInDim S2x4096x1 ![] bcast_S_S2x4096x1 (constant (F := Ideal) S_ .f32 0x45000000#32))) (broadcastInDim S2x4096x1 ![] bcast_S_S2x4096x1 (constant (F := Ideal) S_ .f32 0x358637BD#32)))))) (broadcastInDim S2x4096x2048 ![0, 1, 2] bcast_S1x1x2048_S2x4096x2048_0_1_2 (broadcastInDim S1x1x2048 ![2] bcast_S2048_S1x1x2048_2 g))
def prod (n : FVec Ideal S2x4096x2048 .f32) (w : Vec Ideal S2048x4096 .f32) : FVec Ideal S2x4096x4096 .f32 :=
  Host.dotGeneral (F := Ideal) (φ₂ := .f32) dot_S2x4096x2048_S2048x4096_S2x4096x4096_2_0_01_1_n_n none n w
def left (n : FVec Ideal S2x4096x4096 .f32) : FVec Ideal S2x4096x16x128 .f32 := shapeCast _ (extractStridedSlice S2x4096x2048 ![0, 0, 0] n slices_S2x4096x4096_S2x4096x2048_0_0_0) shapeCasts_S2x4096x2048_S2x4096x16x128
def right (n : FVec Ideal S2x4096x4096 .f32) : FVec Ideal S2x4096x16x128 .f32 := shapeCast _ (extractStridedSlice S2x4096x2048 ![0, 0, 2048] n slices_S2x4096x4096_S2x4096x2048_0_0_2048) shapeCasts_S2x4096x2048_S2x4096x16x128
def normed (q : FVec Ideal S2x4096x16x128 .f32) (hg : Vec Ideal S128 .f32) : FVec Ideal S2x4096x16x128 .f32 :=
  mulf (F := Ideal) (mulf (F := Ideal) q (broadcastInDim S2x4096x16x128 ![0, 1, 2, 3] bcast_S2x4096x16x1_S2x4096x16x128_0_1_2_3 (Host.rsqrt (addf (F := Ideal) (Host.divf (broadcastInDim S2x4096x16x1 ![0, 1, 2] bcast_S2x4096x16_S2x4096x16x1_0_1_2 (Host.reduceAdd (F := Ideal) (mulf (F := Ideal) q q) (constant (F := Ideal) S_ .f32 0x00000000#32) reducesTo_S2x4096x16x128_S2x4096x16_d3 h_S_)) (broadcastInDim S2x4096x16x1 ![] bcast_S_S2x4096x16x1 (constant (F := Ideal) S_ .f32 0x43000000#32))) (broadcastInDim S2x4096x16x1 ![] bcast_S_S2x4096x16x1 (constant (F := Ideal) S_ .f32 0x358637BD#32)))))) (broadcastInDim S2x4096x16x128 ![0, 1, 2, 3] bcast_S1x1x1x128_S2x4096x16x128_0_1_2_3 (broadcastInDim S1x1x1x128 ![3] bcast_S128_S1x1x1x128_3 hg))
def joined (k v : FVec Ideal S2x4096x16x128 .f32) : FVec Ideal S2x4096x4096 .f32 :=
  concatenate S2x4096x4096 2 [⟨S2x4096x2048, shapeCast _ k shapeCasts_S2x4096x16x128_S2x4096x2048⟩, ⟨S2x4096x2048, shapeCast _ v shapeCasts_S2x4096x16x128_S2x4096x2048⟩] concatenates_S2x4096x2048_S2x4096x2048_S2x4096x4096_d2

theorem xn_apply (x : Vec Ideal S2x4096x2048 .f32) (g : Vec Ideal S2048 .f32) (b : Fin 2) (t : Fin 4096) (k : Fin 2048) :
    (xn x g (ix3 b t k) : EReal) = nrm (fun k => x (ix3 b t k)) (fun k => g (ix1 k)) k := by
  unfold xn nrm
  pointwise
theorem prod_apply (x : Vec Ideal S2x4096x2048 .f32) (g : Vec Ideal S2048 .f32) (w : Vec Ideal S2048x4096 .f32) (b : Fin 2) (t : Fin 4096) (J : Fin 4096) :
    (prod (xn x g) w (ix3 b t J) : EReal) = ent (fun k => x (ix3 b t k)) (fun k => g (ix1 k)) (fun k j => w (ix2 k j)) J := by
  have e : ∀ n : FVec Ideal S2x4096x2048 .f32, (prod n w (ix3 b t J) : EReal) = ∑ k : Fin 2048, (n (ix3 b t k) : EReal) * (w (ix2 k J) : EReal) := fun n => by
    unfold prod
    pointwise [dot_S2x4096x2048_S2048x4096_S2x4096x4096_2_0_01_1_n_n]
  refine (e _).trans ?_
  unfold ent
  exact Finset.sum_congr rfl fun k _ => congrArg (· * _) (xn_apply x g b t k)
theorem left_apply (n : FVec Ideal S2x4096x4096 .f32) (b : Fin 2) (t : Fin 4096) (H : Fin 16) (l : Fin 128) :
    (left n (ix4 b t H l) : EReal) = n (ix3 b t (kcol H l)) := by
  refine (shapeCast_apply _ _ _ (ix3 b t ⟨128 * H.val + l.val, by omega⟩ : S2x4096x2048.Idx) ?_).trans (extractStridedSlice_apply _ _ _ _ _ (fun a => ?_))
  · rw [Shape.rowMajor_val_three, Shape.rowMajor_val_four]
    show (b.val * 4096 + t.val) * 2048 + (128 * H.val + l.val) = ((b.val * 4096 + t.val) * 16 + H.val) * 128 + l.val
    omega
  · match a with
    | ⟨0, _⟩ => exact (Nat.zero_add _).symm
    | ⟨1, _⟩ => exact (Nat.zero_add _).symm
    | ⟨2, _⟩ => exact (Nat.zero_add _).symm
theorem right_apply (n : FVec Ideal S2x4096x4096 .f32) (b : Fin 2) (t : Fin 4096) (H : Fin 16) (l : Fin 128) :
    (right n (ix4 b t H l) : EReal) = n (ix3 b t (vcol H l)) := by
  refine (shapeCast_apply _ _ _ (ix3 b t ⟨128 * H.val + l.val, by omega⟩ : S2x4096x2048.Idx) ?_).trans (extractStridedSlice_apply _ _ _ _ _ (fun a => ?_))
  · rw [Shape.rowMajor_val_three, Shape.rowMajor_val_four]
    show (b.val * 4096 + t.val) * 2048 + (128 * H.val + l.val) = ((b.val * 4096 + t.val) * 16 + H.val) * 128 + l.val
    omega
  · match a with
    | ⟨0, _⟩ => exact (Nat.zero_add _).symm
    | ⟨1, _⟩ => exact (Nat.zero_add _).symm
    | ⟨2, _⟩ => rfl
theorem normed_apply (q : FVec Ideal S2x4096x16x128 .f32) (hg : Vec Ideal S128 .f32) (b : Fin 2) (t : Fin 4096) (H : Fin 16) (l : Fin 128) :
    (normed q hg (ix4 b t H l) : EReal) = hnrm (fun l => q (ix4 b t H l)) (fun l => hg (ix1 l)) l := by
  unfold normed hnrm
  pointwise
/-- A column of heads laid side by side. -/
theorem merge_apply (n : FVec Ideal S2x4096x16x128 .f32) (b : Fin 2) (t : Fin 4096) (j : Fin 2048) :
    (shapeCast S2x4096x2048 n shapeCasts_S2x4096x16x128_S2x4096x2048 : Vec Ideal S2x4096x2048 .f32) (ix3 b t j) = n (ix4 b t ⟨j.val / 128, by omega⟩ ⟨j.val % 128, by omega⟩) := by
  refine shapeCast_apply _ _ _ _ ?_
  rw [Shape.rowMajor_val_three, Shape.rowMajor_val_four]
  show ((b.val * 4096 + t.val) * 16 + j.val / 128) * 128 + j.val % 128 = (b.val * 4096 + t.val) * 2048 + j.val
  omega

section
variable (x : Vec Ideal S2x4096x2048 .f32) (g : Vec Ideal S2048 .f32) (w : Vec Ideal S2048x4096 .f32) (hg : Vec Ideal S128 .f32)

theorem key_at (b : Fin 2) (t : Fin 4096) (H : Fin 16) (l : Fin 128) : (normed (left (prod (xn x g) w)) hg (ix4 b t H l) : EReal) =
    keyE (fun k => x (ix3 b t k)) (fun k => g (ix1 k)) (fun k j => w (ix2 k j)) (fun l => hg (ix1 l)) H l := by
  refine (normed_apply _ _ b t H l).trans ?_
  unfold keyE
  exact congrArg (fun f => hnrm f _ _) (funext fun l => (left_apply _ b t H l).trans (prod_apply x g w b t _))
theorem val_at (b : Fin 2) (t : Fin 4096) (H : Fin 16) (l : Fin 128) : (right (prod (xn x g) w) (ix4 b t H l) : EReal) =
    ent (fun k => x (ix3 b t k)) (fun k => g (ix1 k)) (fun k j => w (ix2 k j)) (vcol H l) :=
  (right_apply _ b t H l).trans (prod_apply x g w b t _)

/-- The reference's results are the keys, the values, and the two side by side. -/
theorem refK : (normed (left (prod (xn x g) w)) hg : Vec Ideal S2x4096x16x128 .f32) = resK x g w hg := by
  funext i
  obtain ⟨b, t, H, l, rfl⟩ := Cert.Kernel7Ideal.Kv.idx4 i
  exact key_at x g w hg b t H l
theorem refV : (right (prod (xn x g) w) : Vec Ideal S2x4096x16x128 .f32) = resV x g w := by
  funext i
  obtain ⟨b, t, H, l, rfl⟩ := Cert.Kernel7Ideal.Kv.idx4 i
  exact val_at x g w b t H l
theorem refKV : (joined (normed (left (prod (xn x g) w)) hg) (right (prod (xn x g) w)) : Vec Ideal S2x4096x4096 .f32) = resKV x g w hg := by
  funext i
  obtain ⟨b, t, j, rfl⟩ : ∃ b t j, i = (ix3 b t j : S2x4096x4096.Idx) := ⟨i 0, i 1, i 2, funext fun a => by
    match a with
    | ⟨0, _⟩ => rfl
    | ⟨1, _⟩ => rfl
    | ⟨2, _⟩ => rfl⟩
  show _ = kvE (fun k => x (ix3 b t k)) (fun k => g (ix1 k)) (fun k j => w (ix2 k j)) (fun l => hg (ix1 l)) j
  unfold joined kvE
  by_cases h : j.val < 2048
  · rw [dif_pos h]
    refine (concatenate_pair_apply_left (t := S2x4096x4096) (s₁ := S2x4096x2048) (s₂ := S2x4096x2048) (2 : Fin 3) _ _ concatenates_S2x4096x2048_S2x4096x2048_S2x4096x4096_d2 (ix3 b t j) rfl (ix3 b t ⟨j.val, h⟩ : S2x4096x2048.Idx) (fun a => ?_)).trans ?_
    · match a with
      | ⟨0, _⟩ => rfl
      | ⟨1, _⟩ => rfl
      | ⟨2, _⟩ => rfl
    · exact (merge_apply _ b t ⟨j.val, h⟩).trans (key_at x g w hg b t _ _)
  · rw [dif_neg h]
    have hj := j.isLt
    refine (concatenate_pair_apply_right (t := S2x4096x4096) (s₁ := S2x4096x2048) (s₂ := S2x4096x2048) (2 : Fin 3) _ _ concatenates_S2x4096x2048_S2x4096x2048_S2x4096x4096_d2 (ix3 b t j) rfl rfl (ix3 b t ⟨j.val - 2048, by omega⟩ : S2x4096x2048.Idx) (fun a ha => ?_) ?_).trans ?_
    · match a, ha with
      | ⟨0, _⟩, _ => rfl
      | ⟨1, _⟩, _ => rfl
      | ⟨2, _⟩, ha => exact absurd rfl ha
    · show j.val - 2048 + 2048 = j.val
      omega
    · refine (merge_apply _ b t _).trans ((val_at x g w b t _ _).trans (congrArg (ent _ _ _) (Fin.ext ?_)))
      show 2048 + (128 * ((j.val - 2048) / 128) + (j.val - 2048) % 128) = j.val
      omega
end

section
variable (m : (ℓ : Loc nD τ sig) → Buf (Elt Ideal) ℓ) (c : Dev nD)

abbrev b0 : Vec Ideal S2x4096x2048 .f32 := m ((c : Thread nD τ).loc main_arg0)
abbrev b1 : Vec Ideal S2048 .f32 := m ((c : Thread nD τ).loc main_arg1)
abbrev b2 : Vec Ideal S2048x4096 .f32 := m ((c : Thread nD τ).loc main_arg2)
abbrev b3 : Vec Ideal S128 .f32 := m ((c : Thread nD τ).loc main_arg3)

/-- After the reference's run its results are keys and values side by side, the keys and the values. -/
theorem run (ρ : Dev nD → PrngReg) : θ_run defs (onTc (τ := τ) (main (F := Ideal))) ⟨m, fun _ => 0, ρ⟩ fun r => ∀ c : Dev nD,
      r.2.mem ((c : Thread nD τ).loc main_v33) = resKV (b0 m c) (b1 m c) (b2 m c) (b3 m c)
      ∧ r.2.mem ((c : Thread nD τ).loc main_v28) = resK (b0 m c) (b1 m c) (b2 m c) (b3 m c)
      ∧ r.2.mem ((c : Thread nD τ).loc main_v30) = resV (b0 m c) (b1 m c) (b2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (refKV (b0 m c) (b1 m c) (b2 m c) (b3 m c)), (h c).2.1.trans (refK (b0 m c) (b1 m c) (b2 m c) (b3 m c)),
      (h c).2.2.1.trans (refV (b0 m c) (b1 m c) (b2 m c)), (h c).2.2.2⟩)
    (Cert.Reference7Ideal.Value.run m ρ)
end

end Cert.Reference7Ideal.Kv
-- ==== Proof.lean ====
/-
  The claim: frames as generated, nothing rewritten, and the kernels' results equal the references': the first's being the
  recurrence's in numbers (Spec.lean, Chain.lean), the others' the layers'
  projections and the feed-forward layer (the modules imported last).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.RefOut
public import proofs.«01_k».proof.Proof.Down
public import proofs.«01_k».proof.Proof.UpRef
public import proofs.«01_k».proof.Proof.InFrame
public import proofs.«01_k».proof.Proof.InRef
public import proofs.«01_k».proof.Proof.MixOut
public import proofs.«01_k».proof.Proof.QRef
public import proofs.«01_k».proof.Proof.KvFrame
public import proofs.«01_k».proof.Proof.KvRef
public import Idealize.ShloMosaic.Adequacy
public import Idealize.ShloMosaic.Init

@[expose] public section

noncomputable section

namespace Cert.Proof

open Idealize.ShloMosaic Idealize.SL.Sem Cert.Kernel

/-- The two programs' arguments in numbers are the same where their memories agree. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Read.margs m' c = Cert.KernelIdeal.Core.args m c := by
  obtain ⟨h0, h1, h2, h3, h4, h5, h6⟩ := h
  unfold Cert.ReferenceIdeal.Read.margs
  rw [h0, h1, h2, h3, h4, h5, h6]
  rfl

/-- The plain text of the second product runs, to the layer's result. -/
theorem run3 (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => ∀ c : Dev Cert.Reference3Ideal.nD,
      r.2.mem ((c.tc : Thread Cert.Reference3Ideal.nD Cert.Reference3Ideal.τ).loc Cert.Reference3Ideal.main_v4)
        = Cert.Kernel3Ideal.Down.res (m ((c.tc : Thread Cert.Reference3Ideal.nD Cert.Reference3Ideal.τ).loc Cert.Reference3Ideal.main_arg0))
            (m ((c.tc : Thread Cert.Reference3Ideal.nD Cert.Reference3Ideal.τ).loc Cert.Reference3Ideal.main_arg1))
            (m ((c.tc : Thread Cert.Reference3Ideal.nD Cert.Reference3Ideal.τ).loc Cert.Reference3Ideal.main_arg2))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)) :=
  (θ_run _ _ _).mono (fun r h c => ⟨(h c).1.trans (Cert.Reference3Ideal.Down.ref _ _ _), (h c).2⟩) (Cert.Reference3Ideal.Value.run m ρ)

/-- The plain text of the product that ends a mixer runs, to the sum. -/
theorem run5 (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => ∀ c : Dev Cert.Reference5Ideal.nD,
      r.2.mem ((c.tc : Thread Cert.Reference5Ideal.nD Cert.Reference5Ideal.τ).loc Cert.Reference5Ideal.main_v2)
        = Cert.Kernel5Ideal.MixOut.res (m ((c.tc : Thread Cert.Reference5Ideal.nD Cert.Reference5Ideal.τ).loc Cert.Reference5Ideal.main_arg0))
            (m ((c.tc : Thread Cert.Reference5Ideal.nD Cert.Reference5Ideal.τ).loc Cert.Reference5Ideal.main_arg1))
            (m ((c.tc : Thread Cert.Reference5Ideal.nD Cert.Reference5Ideal.τ).loc Cert.Reference5Ideal.main_arg2))
      ∧ r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)) :=
  (θ_run _ _ _).mono (fun r h c => ⟨(h c).1.trans (Cert.Reference5Ideal.MixOut.ref _ _ _), (h c).2⟩) (Cert.Reference5Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  fun m ρ _ => Cert.Kernel.Gen.frame m ρ, fun m ρ _ => Cert.KernelIdeal.Gen.frame m ρ,
  fun m ρ _ => (θ_run _ _ _).mono (fun r h => ⟨fun c => by
    obtain ⟨_, _, _, _, h5⟩ := h c
    exact h5, sem_eq_zero_of_no_sems (by decide) r.2⟩) (Cert.ReferenceIdeal.Read.run m ρ),
  fun m ρ _ => Cert.Kernel2.Gen.frame m ρ, fun m ρ _ => Cert.Kernel2Ideal.Gen.frame m ρ,
  fun m ρ _ => (θ_run _ _ _).mono (fun r h => ⟨fun c => (h c).2.2, sem_eq_zero_of_no_sems (by decide) r.2⟩) (Cert.Reference2Ideal.Value.run m ρ),
  fun m ρ _ => Cert.Kernel3.Gen.frame m ρ, fun m ρ _ => Cert.Kernel3Ideal.Gen.frame m ρ,
  fun m ρ _ => (θ_run _ _ _).mono (fun r h => ⟨fun c => (h c).2, sem_eq_zero_of_no_sems (by decide) r.2⟩) (Cert.Reference3Ideal.Value.run m ρ),
  fun m ρ _ => Cert.Kernel4.In.frame m ρ, fun m ρ _ => Cert.Kernel4Ideal.In.frame m ρ,
  fun m ρ _ => (θ_run _ _ _).mono (fun r h => ⟨fun c => (h c).2.2, sem_eq_zero_of_no_sems (by decide) r.2⟩) (Cert.Reference4Ideal.Value.run m ρ),
  fun m ρ _ => Cert.Kernel5.Gen.frame m ρ, fun m ρ _ => Cert.Kernel5Ideal.Gen.frame m ρ,
  fun m ρ _ => (θ_run _ _ _).mono (fun r h => ⟨fun c => (h c).2, sem_eq_zero_of_no_sems (by decide) r.2⟩) (Cert.Reference5Ideal.Value.run m ρ),
  fun m ρ _ => Cert.Kernel6.Gen.frame m ρ, fun m ρ _ => Cert.Kernel6Ideal.Gen.frame m ρ,
  fun m ρ _ => (θ_run _ _ _).mono (fun r h => ⟨fun c => (h c).2, sem_eq_zero_of_no_sems (by decide) r.2⟩) (Cert.Reference6Ideal.Value.run m ρ),
  fun m ρ _ => Cert.Kernel7.Kv.frame m ρ, fun m ρ _ => Cert.Kernel7Ideal.Kv.frame m ρ,
  fun m ρ _ => (θ_run _ _ _).mono (fun r h => ⟨fun c => (h c).2.2.2, sem_eq_zero_of_no_sems (by decide) r.2⟩) (Cert.Reference7Ideal.Value.run m ρ),
  trivial,
  fun m ρ m' ρ' _ hargs => ⟨fun c => Cert.KernelIdeal.Core.resH (Cert.KernelIdeal.Core.args m c), fun c => Cert.KernelIdeal.Core.resC (Cert.KernelIdeal.Core.args m c),
    fun c => Cert.KernelIdeal.Core.resN (Cert.KernelIdeal.Core.args m c), fun c => Cert.KernelIdeal.Core.resM (Cert.KernelIdeal.Core.args m c),
    Cert.KernelIdeal.Core.run m ρ,
    (θ_run _ _ _).mono (fun _ h c => by
      have e := args_eq m m' c (hargs c)
      obtain ⟨h1, h2, h3, h4, h5⟩ := h c
      rw [e] at h1 h2 h3 h4
      exact ⟨h1, h2, h3, h4, h5⟩) (Cert.ReferenceIdeal.Read.run m' ρ')⟩,
  trivial,
  fun m ρ m' ρ' _ hargs => ⟨fun c => Cert.Kernel2Ideal.Up.act (Cert.Kernel2Ideal.Up.a0 m c) (Cert.Kernel2Ideal.Up.a1 m c) (Cert.Kernel2Ideal.Up.a2 m c) (Cert.Kernel2Ideal.Up.a3 m c) (Cert.Kernel2Ideal.Up.a4 m c),
    fun c => Cert.Kernel2Ideal.Up.state (Cert.Kernel2Ideal.Up.a0 m c) (Cert.Kernel2Ideal.Up.a1 m c) (Cert.Kernel2Ideal.Up.a2 m c),
    Cert.Kernel2Ideal.Up.run m ρ,
    (θ_run _ _ _).mono (fun _ h c => by
      obtain ⟨h1, h2, h3⟩ := h c
      obtain ⟨e0, e1, e2, e3, e4⟩ := hargs c
      rw [show Cert.Reference2Ideal.Up.b0 m' c = Cert.Kernel2Ideal.Up.a0 m c from e0, show Cert.Reference2Ideal.Up.b1 m' c = Cert.Kernel2Ideal.Up.a1 m c from e1,
        show Cert.Reference2Ideal.Up.b2 m' c = Cert.Kernel2Ideal.Up.a2 m c from e2] at h1 h2
      rw [show Cert.Reference2Ideal.Up.b3 m' c = Cert.Kernel2Ideal.Up.a3 m c from e3, show Cert.Reference2Ideal.Up.b4 m' c = Cert.Kernel2Ideal.Up.a4 m c from e4] at h1
      exact ⟨h1, h2, h3⟩) (Cert.Reference2Ideal.Up.run m' ρ')⟩,
  trivial,
  fun m ρ m' ρ' _ hargs => ⟨fun c => Cert.Kernel3Ideal.Down.res (Cert.Kernel3Ideal.Down.a0 m c) (Cert.Kernel3Ideal.Down.a1 m c) (Cert.Kernel3Ideal.Down.a2 m c),
    Cert.Kernel3Ideal.Down.run m ρ,
    (θ_run _ _ _).mono (fun _ h c => by
      obtain ⟨h1, h2⟩ := h c
      obtain ⟨e0, e1, e2⟩ := hargs c
      rw [e0, e1, e2] at h1
      exact ⟨h1, h2⟩) (run3 m' ρ')⟩,
  trivial,
  fun m ρ m' ρ' _ hargs => ⟨fun c => Cert.Kernel4Ideal.In.resP (Cert.Kernel4Ideal.In.a0 m c) (Cert.Kernel4Ideal.In.a1 m c) (Cert.Kernel4Ideal.In.a2 m c),
    fun c => Cert.Kernel4Ideal.In.resG (Cert.Kernel4Ideal.In.a0 m c) (Cert.Kernel4Ideal.In.a1 m c) (Cert.Kernel4Ideal.In.a2 m c),
    Cert.Kernel4Ideal.In.run m ρ,
    (θ_run _ _ _).mono (fun _ h c => by
      obtain ⟨h1, h2, h3⟩ := h c
      obtain ⟨e0, e1, e2⟩ := hargs c
      rw [show Cert.Reference4Ideal.In.b0 m' c = Cert.Kernel4Ideal.In.a0 m c from e0, show Cert.Reference4Ideal.In.b1 m' c = Cert.Kernel4Ideal.In.a1 m c from e1,
        show Cert.Reference4Ideal.In.b2 m' c = Cert.Kernel4Ideal.In.a2 m c from e2] at h1 h2
      exact ⟨h1, h2, h3⟩) (Cert.Reference4Ideal.In.run m' ρ')⟩,
  trivial,
  fun m ρ m' ρ' _ hargs => ⟨fun c => Cert.Kernel5Ideal.MixOut.res (Cert.Kernel5Ideal.MixOut.a0 m c) (Cert.Kernel5Ideal.MixOut.a1 m c) (Cert.Kernel5Ideal.MixOut.a2 m c),
    Cert.Kernel5Ideal.MixOut.run m ρ,
    (θ_run _ _ _).mono (fun _ h c => by
      obtain ⟨h1, h2⟩ := h c
      obtain ⟨e0, e1, e2⟩ := hargs c
      rw [e0, e1, e2] at h1
      exact ⟨h1, h2⟩) (run5 m' ρ')⟩,
  trivial,
  fun m ρ m' ρ' _ hargs => ⟨fun c => Cert.Kernel6Ideal.Q.res (Cert.Kernel6Ideal.Q.a0 m c) (Cert.Kernel6Ideal.Q.a1 m c) (Cert.Kernel6Ideal.Q.a2 m c) (Cert.Kernel6Ideal.Q.a3 m c),
    Cert.Kernel6Ideal.Q.run m ρ,
    (θ_run _ _ _).mono (fun _ h c => by
      obtain ⟨h1, h2⟩ := h c
      obtain ⟨e0, e1, e2, e3⟩ := hargs c
      rw [show Cert.Reference6Ideal.Q.b0 m' c = Cert.Kernel6Ideal.Q.a0 m c from e0, show Cert.Reference6Ideal.Q.b1 m' c = Cert.Kernel6Ideal.Q.a1 m c from e1,
        show Cert.Reference6Ideal.Q.b2 m' c = Cert.Kernel6Ideal.Q.a2 m c from e2, show Cert.Reference6Ideal.Q.b3 m' c = Cert.Kernel6Ideal.Q.a3 m c from e3] at h1
      exact ⟨h1, h2⟩) (Cert.Reference6Ideal.Q.run m' ρ')⟩,
  trivial,
  fun m ρ m' ρ' _ hargs => ⟨fun c => Cert.Kernel7Ideal.Kv.resKV (Cert.Kernel7Ideal.Kv.a0 m c) (Cert.Kernel7Ideal.Kv.a1 m c) (Cert.Kernel7Ideal.Kv.a2 m c) (Cert.Kernel7Ideal.Kv.a3 m c),
    fun c => Cert.Kernel7Ideal.Kv.resK (Cert.Kernel7Ideal.Kv.a0 m c) (Cert.Kernel7Ideal.Kv.a1 m c) (Cert.Kernel7Ideal.Kv.a2 m c) (Cert.Kernel7Ideal.Kv.a3 m c),
    fun c => Cert.Kernel7Ideal.Kv.resV (Cert.Kernel7Ideal.Kv.a0 m c) (Cert.Kernel7Ideal.Kv.a1 m c) (Cert.Kernel7Ideal.Kv.a2 m c),
    Cert.Kernel7Ideal.Kv.run m ρ,
    (θ_run _ _ _).mono (fun _ h c => by
      obtain ⟨h1, h2, h3, h4⟩ := h c
      obtain ⟨e0, e1, e2, e3⟩ := hargs c
      rw [show Cert.Reference7Ideal.Kv.b0 m' c = Cert.Kernel7Ideal.Kv.a0 m c from e0, show Cert.Reference7Ideal.Kv.b1 m' c = Cert.Kernel7Ideal.Kv.a1 m c from e1,
        show Cert.Reference7Ideal.Kv.b2 m' c = Cert.Kernel7Ideal.Kv.a2 m c from e2] at h1 h2 h3
      rw [show Cert.Reference7Ideal.Kv.b3 m' c = Cert.Kernel7Ideal.Kv.a3 m c from e3] at h1 h2
      exact ⟨h1, h2, h3, h4⟩) (Cert.Reference7Ideal.Kv.run m' ρ')⟩⟩

end Cert.Proof

end
